-- ==== Defs.lean ====
def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_ReferenceMlpIdeal (m : (ℓ : Loc Cert.ReferenceMlpIdeal.nD Cert.ReferenceMlpIdeal.τ Cert.ReferenceMlpIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_ReferenceAttnIdeal (m : (ℓ : Loc Cert.ReferenceAttnIdeal.nD Cert.ReferenceAttnIdeal.τ Cert.ReferenceAttnIdeal.sig) → Buf (Elt Ideal) ℓ) : Prop :=
  True

def Pre_KernelWin (m : (ℓ : Loc Cert.KernelWin.nD Cert.KernelWin.τ Cert.KernelWin.sig) → Buf (Elt Bits) ℓ) : Prop :=
  True

def Pre_KernelWinIdeal (m : (ℓ : Loc Cert.KernelWinIdeal.nD Cert.KernelWinIdeal.τ Cert.KernelWinIdeal.sig) → Buf (Elt Ideal) ℓ) : Prop :=
  True

def Pre_KernelWinIdeal_windows [hPre_windows : Cert.Pre_windows.Facts] (m : (ℓ : Loc Cert.KernelWinIdeal.nD Cert.KernelWinIdeal.τ Cert.KernelWinIdeal.sig) → Buf (Elt Ideal) ℓ) : Prop :=
  ∀ c : Dev Cert.KernelWinIdeal.nD,
    (Cert.Pre_windows.fn (F := Ideal) (m ((c.tc : Thread Cert.KernelWinIdeal.nD Cert.KernelWinIdeal.τ).loc Cert.KernelWinIdeal.main_arg0)) (m ((c.tc : Thread Cert.KernelWinIdeal.nD Cert.KernelWinIdeal.τ).loc Cert.KernelWinIdeal.main_arg1)) (m ((c.tc : Thread Cert.KernelWinIdeal.nD Cert.KernelWinIdeal.τ).loc Cert.KernelWinIdeal.main_arg2)) (m ((c.tc : Thread Cert.KernelWinIdeal.nD Cert.KernelWinIdeal.τ).loc Cert.KernelWinIdeal.main_arg3)) (m ((c.tc : Thread Cert.KernelWinIdeal.nD Cert.KernelWinIdeal.τ).loc Cert.KernelWinIdeal.main_arg4))) = (fun _ => 1#1)

def Pre_ReferenceWinIdeal (m : (ℓ : Loc Cert.ReferenceWinIdeal.nD Cert.ReferenceWinIdeal.τ Cert.ReferenceWinIdeal.sig) → Buf (Elt Ideal) ℓ) : Prop :=
  True

def Pre_ReferenceWinIdeal_windows [hPre_windows : Cert.Pre_windows.Facts] (m : (ℓ : Loc Cert.ReferenceWinIdeal.nD Cert.ReferenceWinIdeal.τ Cert.ReferenceWinIdeal.sig) → Buf (Elt Ideal) ℓ) : Prop :=
  ∀ c : Dev Cert.ReferenceWinIdeal.nD,
    (Cert.Pre_windows.fn (F := Ideal) (m ((c.tc : Thread Cert.ReferenceWinIdeal.nD Cert.ReferenceWinIdeal.τ).loc Cert.ReferenceWinIdeal.main_arg0)) (m ((c.tc : Thread Cert.ReferenceWinIdeal.nD Cert.ReferenceWinIdeal.τ).loc Cert.ReferenceWinIdeal.main_arg1)) (m ((c.tc : Thread Cert.ReferenceWinIdeal.nD Cert.ReferenceWinIdeal.τ).loc Cert.ReferenceWinIdeal.main_arg2)) (m ((c.tc : Thread Cert.ReferenceWinIdeal.nD Cert.ReferenceWinIdeal.τ).loc Cert.ReferenceWinIdeal.main_arg3)) (m ((c.tc : Thread Cert.ReferenceWinIdeal.nD Cert.ReferenceWinIdeal.τ).loc Cert.ReferenceWinIdeal.main_arg4))) = (fun _ => 1#1)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3)
      ∧ r.2.mem ((c.tc : Thread Cert.KernelO.nD Cert.KernelO.τ).loc Cert.KernelO.main_arg4) = m ((c.tc : Thread Cert.KernelO.nD Cert.KernelO.τ).loc Cert.KernelO.main_arg4)
      ∧ r.2.mem ((c.tc : Thread Cert.KernelO.nD Cert.KernelO.τ).loc Cert.KernelO.main_arg5) = m ((c.tc : Thread Cert.KernelO.nD Cert.KernelO.τ).loc Cert.KernelO.main_arg5)
      ∧ r.2.mem ((c.tc : Thread Cert.KernelO.nD Cert.KernelO.τ).loc Cert.KernelO.main_arg6) = m ((c.tc : Thread Cert.KernelO.nD Cert.KernelO.τ).loc Cert.KernelO.main_arg6)
      ∧ r.2.mem ((c.tc : Thread Cert.KernelO.nD Cert.KernelO.τ).loc Cert.KernelO.main_arg7) = m ((c.tc : Thread Cert.KernelO.nD Cert.KernelO.τ).loc Cert.KernelO.main_arg7)
      ∧ r.2.mem ((c.tc : Thread Cert.KernelO.nD Cert.KernelO.τ).loc Cert.KernelO.main_arg8) = m ((c.tc : Thread Cert.KernelO.nD Cert.KernelO.τ).loc Cert.KernelO.main_arg8))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
      ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
      ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5)
      ∧ r.2.mem ((c.tc : Thread Cert.KernelOIdeal.nD Cert.KernelOIdeal.τ).loc Cert.KernelOIdeal.main_arg6) = m ((c.tc : Thread Cert.KernelOIdeal.nD Cert.KernelOIdeal.τ).loc Cert.KernelOIdeal.main_arg6)
      ∧ r.2.mem ((c.tc : Thread Cert.KernelOIdeal.nD Cert.KernelOIdeal.τ).loc Cert.KernelOIdeal.main_arg7) = m ((c.tc : Thread Cert.KernelOIdeal.nD Cert.KernelOIdeal.τ).loc Cert.KernelOIdeal.main_arg7)
      ∧ r.2.mem ((c.tc : Thread Cert.KernelOIdeal.nD Cert.KernelOIdeal.τ).loc Cert.KernelOIdeal.main_arg8) = m ((c.tc : Thread Cert.KernelOIdeal.nD Cert.KernelOIdeal.τ).loc Cert.KernelOIdeal.main_arg8))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3)
      ∧ r.2.mem ((c.tc : Thread Cert.ReferenceOIdeal.nD Cert.ReferenceOIdeal.τ).loc Cert.ReferenceOIdeal.main_arg4) = m ((c.tc : Thread Cert.ReferenceOIdeal.nD Cert.ReferenceOIdeal.τ).loc Cert.ReferenceOIdeal.main_arg4)
      ∧ r.2.mem ((c.tc : Thread Cert.ReferenceOIdeal.nD Cert.ReferenceOIdeal.τ).loc Cert.ReferenceOIdeal.main_arg5) = m ((c.tc : Thread Cert.ReferenceOIdeal.nD Cert.ReferenceOIdeal.τ).loc Cert.ReferenceOIdeal.main_arg5)
      ∧ r.2.mem ((c.tc : Thread Cert.ReferenceOIdeal.nD Cert.ReferenceOIdeal.τ).loc Cert.ReferenceOIdeal.main_arg6) = m ((c.tc : Thread Cert.ReferenceOIdeal.nD Cert.ReferenceOIdeal.τ).loc Cert.ReferenceOIdeal.main_arg6)
      ∧ r.2.mem ((c.tc : Thread Cert.ReferenceOIdeal.nD Cert.ReferenceOIdeal.τ).loc Cert.ReferenceOIdeal.main_arg7) = m ((c.tc : Thread Cert.ReferenceOIdeal.nD Cert.ReferenceOIdeal.τ).loc Cert.ReferenceOIdeal.main_arg7)
      ∧ r.2.mem ((c.tc : Thread Cert.ReferenceOIdeal.nD Cert.ReferenceOIdeal.τ).loc Cert.ReferenceOIdeal.main_arg8) = m ((c.tc : Thread Cert.ReferenceOIdeal.nD Cert.ReferenceOIdeal.τ).loc Cert.ReferenceOIdeal.main_arg8))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3)
      ∧ r.2.mem ((c.tc : Thread Cert.KernelMlp.nD Cert.KernelMlp.τ).loc Cert.KernelMlp.main_arg4) = m ((c.tc : Thread Cert.KernelMlp.nD Cert.KernelMlp.τ).loc Cert.KernelMlp.main_arg4)
      ∧ r.2.mem ((c.tc : Thread Cert.KernelMlp.nD Cert.KernelMlp.τ).loc Cert.KernelMlp.main_arg5) = m ((c.tc : Thread Cert.KernelMlp.nD Cert.KernelMlp.τ).loc Cert.KernelMlp.main_arg5)
      ∧ r.2.mem ((c.tc : Thread Cert.KernelMlp.nD Cert.KernelMlp.τ).loc Cert.KernelMlp.main_arg6) = m ((c.tc : Thread Cert.KernelMlp.nD Cert.KernelMlp.τ).loc Cert.KernelMlp.main_arg6)
      ∧ r.2.mem ((c.tc : Thread Cert.KernelMlp.nD Cert.KernelMlp.τ).loc Cert.KernelMlp.main_arg7) = m ((c.tc : Thread Cert.KernelMlp.nD Cert.KernelMlp.τ).loc Cert.KernelMlp.main_arg7)
      ∧ r.2.mem ((c.tc : Thread Cert.KernelMlp.nD Cert.KernelMlp.τ).loc Cert.KernelMlp.main_arg8) = m ((c.tc : Thread Cert.KernelMlp.nD Cert.KernelMlp.τ).loc Cert.KernelMlp.main_arg8)
      ∧ r.2.mem ((c.tc : Thread Cert.KernelMlp.nD Cert.KernelMlp.τ).loc Cert.KernelMlp.main_arg9) = m ((c.tc : Thread Cert.KernelMlp.nD Cert.KernelMlp.τ).loc Cert.KernelMlp.main_arg9)
      ∧ r.2.mem ((c.tc : Thread Cert.KernelMlp.nD Cert.KernelMlp.τ).loc Cert.KernelMlp.main_arg10) = m ((c.tc : Thread Cert.KernelMlp.nD Cert.KernelMlp.τ).loc Cert.KernelMlp.main_arg10)
      ∧ r.2.mem ((c.tc : Thread Cert.KernelMlp.nD Cert.KernelMlp.τ).loc Cert.KernelMlp.main_arg11) = m ((c.tc : Thread Cert.KernelMlp.nD Cert.KernelMlp.τ).loc Cert.KernelMlp.main_arg11)
      ∧ r.2.mem ((c.tc : Thread Cert.KernelMlp.nD Cert.KernelMlp.τ).loc Cert.KernelMlp.main_arg12) = m ((c.tc : Thread Cert.KernelMlp.nD Cert.KernelMlp.τ).loc Cert.KernelMlp.main_arg12))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
      ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5)
      ∧ r.2.mem ((c.tc : Thread Cert.KernelMlpIdeal.nD Cert.KernelMlpIdeal.τ).loc Cert.KernelMlpIdeal.main_arg6) = m ((c.tc : Thread Cert.KernelMlpIdeal.nD Cert.KernelMlpIdeal.τ).loc Cert.KernelMlpIdeal.main_arg6)
      ∧ r.2.mem ((c.tc : Thread Cert.KernelMlpIdeal.nD Cert.KernelMlpIdeal.τ).loc Cert.KernelMlpIdeal.main_arg7) = m ((c.tc : Thread Cert.KernelMlpIdeal.nD Cert.KernelMlpIdeal.τ).loc Cert.KernelMlpIdeal.main_arg7)
      ∧ r.2.mem ((c.tc : Thread Cert.KernelMlpIdeal.nD Cert.KernelMlpIdeal.τ).loc Cert.KernelMlpIdeal.main_arg8) = m ((c.tc : Thread Cert.KernelMlpIdeal.nD Cert.KernelMlpIdeal.τ).loc Cert.KernelMlpIdeal.main_arg8)
      ∧ r.2.mem ((c.tc : Thread Cert.KernelMlpIdeal.nD Cert.KernelMlpIdeal.τ).loc Cert.KernelMlpIdeal.main_arg9) = m ((c.tc : Thread Cert.KernelMlpIdeal.nD Cert.KernelMlpIdeal.τ).loc Cert.KernelMlpIdeal.main_arg9)
      ∧ r.2.mem ((c.tc : Thread Cert.KernelMlpIdeal.nD Cert.KernelMlpIdeal.τ).loc Cert.KernelMlpIdeal.main_arg10) = m ((c.tc : Thread Cert.KernelMlpIdeal.nD Cert.KernelMlpIdeal.τ).loc Cert.KernelMlpIdeal.main_arg10)
      ∧ r.2.mem ((c.tc : Thread Cert.KernelMlpIdeal.nD Cert.KernelMlpIdeal.τ).loc Cert.KernelMlpIdeal.main_arg11) = m ((c.tc : Thread Cert.KernelMlpIdeal.nD Cert.KernelMlpIdeal.τ).loc Cert.KernelMlpIdeal.main_arg11)
      ∧ r.2.mem ((c.tc : Thread Cert.KernelMlpIdeal.nD Cert.KernelMlpIdeal.τ).loc Cert.KernelMlpIdeal.main_arg12) = m ((c.tc : Thread Cert.KernelMlpIdeal.nD Cert.KernelMlpIdeal.τ).loc Cert.KernelMlpIdeal.main_arg12))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4)
      ∧ r.2.mem ((c.tc : Thread Cert.ReferenceMlpIdeal.nD Cert.ReferenceMlpIdeal.τ).loc Cert.ReferenceMlpIdeal.main_arg5) = m ((c.tc : Thread Cert.ReferenceMlpIdeal.nD Cert.ReferenceMlpIdeal.τ).loc Cert.ReferenceMlpIdeal.main_arg5)
      ∧ r.2.mem ((c.tc : Thread Cert.ReferenceMlpIdeal.nD Cert.ReferenceMlpIdeal.τ).loc Cert.ReferenceMlpIdeal.main_arg6) = m ((c.tc : Thread Cert.ReferenceMlpIdeal.nD Cert.ReferenceMlpIdeal.τ).loc Cert.ReferenceMlpIdeal.main_arg6)
      ∧ r.2.mem ((c.tc : Thread Cert.ReferenceMlpIdeal.nD Cert.ReferenceMlpIdeal.τ).loc Cert.ReferenceMlpIdeal.main_arg7) = m ((c.tc : Thread Cert.ReferenceMlpIdeal.nD Cert.ReferenceMlpIdeal.τ).loc Cert.ReferenceMlpIdeal.main_arg7)
      ∧ r.2.mem ((c.tc : Thread Cert.ReferenceMlpIdeal.nD Cert.ReferenceMlpIdeal.τ).loc Cert.ReferenceMlpIdeal.main_arg8) = m ((c.tc : Thread Cert.ReferenceMlpIdeal.nD Cert.ReferenceMlpIdeal.τ).loc Cert.ReferenceMlpIdeal.main_arg8)
      ∧ r.2.mem ((c.tc : Thread Cert.ReferenceMlpIdeal.nD Cert.ReferenceMlpIdeal.τ).loc Cert.ReferenceMlpIdeal.main_arg9) = m ((c.tc : Thread Cert.ReferenceMlpIdeal.nD Cert.ReferenceMlpIdeal.τ).loc Cert.ReferenceMlpIdeal.main_arg9)
      ∧ r.2.mem ((c.tc : Thread Cert.ReferenceMlpIdeal.nD Cert.ReferenceMlpIdeal.τ).loc Cert.ReferenceMlpIdeal.main_arg10) = m ((c.tc : Thread Cert.ReferenceMlpIdeal.nD Cert.ReferenceMlpIdeal.τ).loc Cert.ReferenceMlpIdeal.main_arg10)
      ∧ r.2.mem ((c.tc : Thread Cert.ReferenceMlpIdeal.nD Cert.ReferenceMlpIdeal.τ).loc Cert.ReferenceMlpIdeal.main_arg11) = m ((c.tc : Thread Cert.ReferenceMlpIdeal.nD Cert.ReferenceMlpIdeal.τ).loc Cert.ReferenceMlpIdeal.main_arg11)
      ∧ r.2.mem ((c.tc : Thread Cert.ReferenceMlpIdeal.nD Cert.ReferenceMlpIdeal.τ).loc Cert.ReferenceMlpIdeal.main_arg12) = m ((c.tc : Thread Cert.ReferenceMlpIdeal.nD Cert.ReferenceMlpIdeal.τ).loc Cert.ReferenceMlpIdeal.main_arg12))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3)
      ∧ r.2.mem ((c.tc : Thread Cert.KernelQkv.nD Cert.KernelQkv.τ).loc Cert.KernelQkv.main_arg4) = m ((c.tc : Thread Cert.KernelQkv.nD Cert.KernelQkv.τ).loc Cert.KernelQkv.main_arg4)
      ∧ r.2.mem ((c.tc : Thread Cert.KernelQkv.nD Cert.KernelQkv.τ).loc Cert.KernelQkv.main_arg5) = m ((c.tc : Thread Cert.KernelQkv.nD Cert.KernelQkv.τ).loc Cert.KernelQkv.main_arg5)
      ∧ r.2.mem ((c.tc : Thread Cert.KernelQkv.nD Cert.KernelQkv.τ).loc Cert.KernelQkv.main_arg6) = m ((c.tc : Thread Cert.KernelQkv.nD Cert.KernelQkv.τ).loc Cert.KernelQkv.main_arg6)
      ∧ r.2.mem ((c.tc : Thread Cert.KernelQkv.nD Cert.KernelQkv.τ).loc Cert.KernelQkv.main_arg7) = m ((c.tc : Thread Cert.KernelQkv.nD Cert.KernelQkv.τ).loc Cert.KernelQkv.main_arg7)
      ∧ r.2.mem ((c.tc : Thread Cert.KernelQkv.nD Cert.KernelQkv.τ).loc Cert.KernelQkv.main_arg8) = m ((c.tc : Thread Cert.KernelQkv.nD Cert.KernelQkv.τ).loc Cert.KernelQkv.main_arg8))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
      ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
      ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6)
      ∧ r.2.mem ((c.tc : Thread Cert.KernelQkvIdeal.nD Cert.KernelQkvIdeal.τ).loc Cert.KernelQkvIdeal.main_arg7) = m ((c.tc : Thread Cert.KernelQkvIdeal.nD Cert.KernelQkvIdeal.τ).loc Cert.KernelQkvIdeal.main_arg7)
      ∧ r.2.mem ((c.tc : Thread Cert.KernelQkvIdeal.nD Cert.KernelQkvIdeal.τ).loc Cert.KernelQkvIdeal.main_arg8) = m ((c.tc : Thread Cert.KernelQkvIdeal.nD Cert.KernelQkvIdeal.τ).loc Cert.KernelQkvIdeal.main_arg8))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4)
      ∧ r.2.mem ((c.tc : Thread Cert.ReferenceQkvIdeal.nD Cert.ReferenceQkvIdeal.τ).loc Cert.ReferenceQkvIdeal.main_arg5) = m ((c.tc : Thread Cert.ReferenceQkvIdeal.nD Cert.ReferenceQkvIdeal.τ).loc Cert.ReferenceQkvIdeal.main_arg5)
      ∧ r.2.mem ((c.tc : Thread Cert.ReferenceQkvIdeal.nD Cert.ReferenceQkvIdeal.τ).loc Cert.ReferenceQkvIdeal.main_arg6) = m ((c.tc : Thread Cert.ReferenceQkvIdeal.nD Cert.ReferenceQkvIdeal.τ).loc Cert.ReferenceQkvIdeal.main_arg6)
      ∧ r.2.mem ((c.tc : Thread Cert.ReferenceQkvIdeal.nD Cert.ReferenceQkvIdeal.τ).loc Cert.ReferenceQkvIdeal.main_arg7) = m ((c.tc : Thread Cert.ReferenceQkvIdeal.nD Cert.ReferenceQkvIdeal.τ).loc Cert.ReferenceQkvIdeal.main_arg7)
      ∧ r.2.mem ((c.tc : Thread Cert.ReferenceQkvIdeal.nD Cert.ReferenceQkvIdeal.τ).loc Cert.ReferenceQkvIdeal.main_arg8) = m ((c.tc : Thread Cert.ReferenceQkvIdeal.nD Cert.ReferenceQkvIdeal.τ).loc Cert.ReferenceQkvIdeal.main_arg8))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2))
      ∧ r.2.sem = fun _ => 0)

def quiescent_KernelWin [hKernelWin : Cert.KernelWin.Facts] : Prop :=
  ∀ (m : (ℓ : Loc Cert.KernelWin.nD Cert.KernelWin.τ Cert.KernelWin.sig) → Buf (Elt Bits) ℓ) (g : Dev Cert.KernelWin.nD → PrngReg), Pre_KernelWin m →
    θ_run (Cert.KernelWin.defs (F := Bits)) (onTc (τ := Cert.KernelWin.τ) (Cert.KernelWin.main (F := Bits))) ⟨m, fun _ => 0, g⟩ (fun r => (∀ c : Dev Cert.KernelWin.nD,
      r.2.mem ((c.tc : Thread Cert.KernelWin.nD Cert.KernelWin.τ).loc Cert.KernelWin.main_arg0) = m ((c.tc : Thread Cert.KernelWin.nD Cert.KernelWin.τ).loc Cert.KernelWin.main_arg0)
      ∧ r.2.mem ((c.tc : Thread Cert.KernelWin.nD Cert.KernelWin.τ).loc Cert.KernelWin.main_arg1) = m ((c.tc : Thread Cert.KernelWin.nD Cert.KernelWin.τ).loc Cert.KernelWin.main_arg1)
      ∧ r.2.mem ((c.tc : Thread Cert.KernelWin.nD Cert.KernelWin.τ).loc Cert.KernelWin.main_arg2) = m ((c.tc : Thread Cert.KernelWin.nD Cert.KernelWin.τ).loc Cert.KernelWin.main_arg2)
      ∧ r.2.mem ((c.tc : Thread Cert.KernelWin.nD Cert.KernelWin.τ).loc Cert.KernelWin.main_arg3) = m ((c.tc : Thread Cert.KernelWin.nD Cert.KernelWin.τ).loc Cert.KernelWin.main_arg3)
      ∧ r.2.mem ((c.tc : Thread Cert.KernelWin.nD Cert.KernelWin.τ).loc Cert.KernelWin.main_arg4) = m ((c.tc : Thread Cert.KernelWin.nD Cert.KernelWin.τ).loc Cert.KernelWin.main_arg4))
      ∧ r.2.sem = fun _ => 0)

def quiescent_KernelWinIdeal [hKernelWinIdeal : Cert.KernelWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg), Pre_KernelWinIdeal m →
    θ_run (Cert.KernelWinIdeal.defs (F := Ideal)) (onTc (τ := Cert.KernelWinIdeal.τ) (Cert.KernelWinIdeal.main (F := Ideal))) ⟨m, fun _ => 0, g⟩ (fun r => (∀ c : Dev Cert.KernelWinIdeal.nD,
      r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
      ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1)
      ∧ r.2.mem ((c.tc : Thread Cert.KernelWinIdeal.nD Cert.KernelWinIdeal.τ).loc Cert.KernelWinIdeal.main_arg2) = m ((c.tc : Thread Cert.KernelWinIdeal.nD Cert.KernelWinIdeal.τ).loc Cert.KernelWinIdeal.main_arg2)
      ∧ r.2.mem ((c.tc : Thread Cert.KernelWinIdeal.nD Cert.KernelWinIdeal.τ).loc Cert.KernelWinIdeal.main_arg3) = m ((c.tc : Thread Cert.KernelWinIdeal.nD Cert.KernelWinIdeal.τ).loc Cert.KernelWinIdeal.main_arg3)
      ∧ r.2.mem ((c.tc : Thread Cert.KernelWinIdeal.nD Cert.KernelWinIdeal.τ).loc Cert.KernelWinIdeal.main_arg4) = m ((c.tc : Thread Cert.KernelWinIdeal.nD Cert.KernelWinIdeal.τ).loc Cert.KernelWinIdeal.main_arg4))
      ∧ r.2.sem = fun _ => 0)

def quiescent_KernelWinIdeal_pre_windows [hKernelWinIdeal : Cert.KernelWinIdeal.Facts] [hPre_windows : Cert.Pre_windows.Facts] : Prop :=
  ∀ (m : (ℓ : Loc Cert.KernelWinIdeal.nD Cert.KernelWinIdeal.τ Cert.KernelWinIdeal.sig) → Buf (Elt Ideal) ℓ) (g : Dev Cert.KernelWinIdeal.nD → PrngReg), Pre_KernelWinIdeal_windows m →
    θ_run (Cert.KernelWinIdeal.defs (F := Ideal)) (onTc (τ := Cert.KernelWinIdeal.τ) (Cert.KernelWinIdeal.main (F := Ideal))) ⟨m, fun _ => 0, g⟩ (fun r => (∀ c : Dev Cert.KernelWinIdeal.nD,
      r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
      ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1)
      ∧ r.2.mem ((c.tc : Thread Cert.KernelWinIdeal.nD Cert.KernelWinIdeal.τ).loc Cert.KernelWinIdeal.main_arg2) = m ((c.tc : Thread Cert.KernelWinIdeal.nD Cert.KernelWinIdeal.τ).loc Cert.KernelWinIdeal.main_arg2)
      ∧ r.2.mem ((c.tc : Thread Cert.KernelWinIdeal.nD Cert.KernelWinIdeal.τ).loc Cert.KernelWinIdeal.main_arg3) = m ((c.tc : Thread Cert.KernelWinIdeal.nD Cert.KernelWinIdeal.τ).loc Cert.KernelWinIdeal.main_arg3)
      ∧ r.2.mem ((c.tc : Thread Cert.KernelWinIdeal.nD Cert.KernelWinIdeal.τ).loc Cert.KernelWinIdeal.main_arg4) = m ((c.tc : Thread Cert.KernelWinIdeal.nD Cert.KernelWinIdeal.τ).loc Cert.KernelWinIdeal.main_arg4))
      ∧ r.2.sem = fun _ => 0)

def quiescent_ReferenceWinIdeal [hReferenceWinIdeal : Cert.ReferenceWinIdeal.Facts] : Prop :=
  ∀ (m : (ℓ : Loc Cert.ReferenceWinIdeal.nD Cert.ReferenceWinIdeal.τ Cert.ReferenceWinIdeal.sig) → Buf (Elt Ideal) ℓ) (g : Dev Cert.ReferenceWinIdeal.nD → PrngReg), Pre_ReferenceWinIdeal m →
    θ_run (Cert.ReferenceWinIdeal.defs (F := Ideal)) (onTc (τ := Cert.ReferenceWinIdeal.τ) (Cert.ReferenceWinIdeal.main (F := Ideal))) ⟨m, fun _ => 0, g⟩ (fun r => (∀ c : Dev Cert.ReferenceWinIdeal.nD,
      r.2.mem ((c.tc : Thread Cert.ReferenceWinIdeal.nD Cert.ReferenceWinIdeal.τ).loc Cert.ReferenceWinIdeal.main_arg0) = m ((c.tc : Thread Cert.ReferenceWinIdeal.nD Cert.ReferenceWinIdeal.τ).loc Cert.ReferenceWinIdeal.main_arg0)
      ∧ r.2.mem ((c.tc : Thread Cert.ReferenceWinIdeal.nD Cert.ReferenceWinIdeal.τ).loc Cert.ReferenceWinIdeal.main_arg1) = m ((c.tc : Thread Cert.ReferenceWinIdeal.nD Cert.ReferenceWinIdeal.τ).loc Cert.ReferenceWinIdeal.main_arg1)
      ∧ r.2.mem ((c.tc : Thread Cert.ReferenceWinIdeal.nD Cert.ReferenceWinIdeal.τ).loc Cert.ReferenceWinIdeal.main_arg2) = m ((c.tc : Thread Cert.ReferenceWinIdeal.nD Cert.ReferenceWinIdeal.τ).loc Cert.ReferenceWinIdeal.main_arg2)
      ∧ r.2.mem ((c.tc : Thread Cert.ReferenceWinIdeal.nD Cert.ReferenceWinIdeal.τ).loc Cert.ReferenceWinIdeal.main_arg3) = m ((c.tc : Thread Cert.ReferenceWinIdeal.nD Cert.ReferenceWinIdeal.τ).loc Cert.ReferenceWinIdeal.main_arg3)
      ∧ r.2.mem ((c.tc : Thread Cert.ReferenceWinIdeal.nD Cert.ReferenceWinIdeal.τ).loc Cert.ReferenceWinIdeal.main_arg4) = m ((c.tc : Thread Cert.ReferenceWinIdeal.nD Cert.ReferenceWinIdeal.τ).loc Cert.ReferenceWinIdeal.main_arg4))
      ∧ r.2.sem = fun _ => 0)

def quiescent_ReferenceWinIdeal_pre_windows [hReferenceWinIdeal : Cert.ReferenceWinIdeal.Facts] [hPre_windows : Cert.Pre_windows.Facts] : Prop :=
  ∀ (m : (ℓ : Loc Cert.ReferenceWinIdeal.nD Cert.ReferenceWinIdeal.τ Cert.ReferenceWinIdeal.sig) → Buf (Elt Ideal) ℓ) (g : Dev Cert.ReferenceWinIdeal.nD → PrngReg), Pre_ReferenceWinIdeal_windows m →
    θ_run (Cert.ReferenceWinIdeal.defs (F := Ideal)) (onTc (τ := Cert.ReferenceWinIdeal.τ) (Cert.ReferenceWinIdeal.main (F := Ideal))) ⟨m, fun _ => 0, g⟩ (fun r => (∀ c : Dev Cert.ReferenceWinIdeal.nD,
      r.2.mem ((c.tc : Thread Cert.ReferenceWinIdeal.nD Cert.ReferenceWinIdeal.τ).loc Cert.ReferenceWinIdeal.main_arg0) = m ((c.tc : Thread Cert.ReferenceWinIdeal.nD Cert.ReferenceWinIdeal.τ).loc Cert.ReferenceWinIdeal.main_arg0)
      ∧ r.2.mem ((c.tc : Thread Cert.ReferenceWinIdeal.nD Cert.ReferenceWinIdeal.τ).loc Cert.ReferenceWinIdeal.main_arg1) = m ((c.tc : Thread Cert.ReferenceWinIdeal.nD Cert.ReferenceWinIdeal.τ).loc Cert.ReferenceWinIdeal.main_arg1)
      ∧ r.2.mem ((c.tc : Thread Cert.ReferenceWinIdeal.nD Cert.ReferenceWinIdeal.τ).loc Cert.ReferenceWinIdeal.main_arg2) = m ((c.tc : Thread Cert.ReferenceWinIdeal.nD Cert.ReferenceWinIdeal.τ).loc Cert.ReferenceWinIdeal.main_arg2)
      ∧ r.2.mem ((c.tc : Thread Cert.ReferenceWinIdeal.nD Cert.ReferenceWinIdeal.τ).loc Cert.ReferenceWinIdeal.main_arg3) = m ((c.tc : Thread Cert.ReferenceWinIdeal.nD Cert.ReferenceWinIdeal.τ).loc Cert.ReferenceWinIdeal.main_arg3)
      ∧ r.2.mem ((c.tc : Thread Cert.ReferenceWinIdeal.nD Cert.ReferenceWinIdeal.τ).loc Cert.ReferenceWinIdeal.main_arg4) = m ((c.tc : Thread Cert.ReferenceWinIdeal.nD Cert.ReferenceWinIdeal.τ).loc Cert.ReferenceWinIdeal.main_arg4))
      ∧ r.2.sem = fun _ => 0)

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)
      ∧ m' ((c.tc : Thread Cert.ReferenceOIdeal.nD Cert.ReferenceOIdeal.τ).loc Cert.ReferenceOIdeal.main_arg4) = m ((c.tc : Thread Cert.KernelOIdeal.nD Cert.KernelOIdeal.τ).loc Cert.KernelOIdeal.main_arg4)
      ∧ m' ((c.tc : Thread Cert.ReferenceOIdeal.nD Cert.ReferenceOIdeal.τ).loc Cert.ReferenceOIdeal.main_arg5) = m ((c.tc : Thread Cert.KernelOIdeal.nD Cert.KernelOIdeal.τ).loc Cert.KernelOIdeal.main_arg5)
      ∧ m' ((c.tc : Thread Cert.ReferenceOIdeal.nD Cert.ReferenceOIdeal.τ).loc Cert.ReferenceOIdeal.main_arg6) = m ((c.tc : Thread Cert.KernelOIdeal.nD Cert.KernelOIdeal.τ).loc Cert.KernelOIdeal.main_arg6)
      ∧ m' ((c.tc : Thread Cert.ReferenceOIdeal.nD Cert.ReferenceOIdeal.τ).loc Cert.ReferenceOIdeal.main_arg7) = m ((c.tc : Thread Cert.KernelOIdeal.nD Cert.KernelOIdeal.τ).loc Cert.KernelOIdeal.main_arg7)
      ∧ m' ((c.tc : Thread Cert.ReferenceOIdeal.nD Cert.ReferenceOIdeal.τ).loc Cert.ReferenceOIdeal.main_arg8) = m ((c.tc : Thread Cert.KernelOIdeal.nD Cert.KernelOIdeal.τ).loc Cert.KernelOIdeal.main_arg8)) →
    ∃ (v0 : (c : Dev Cert.KernelOIdeal.nD) → Buf (Elt Ideal) ((c.tc : Thread Cert.KernelOIdeal.nD Cert.KernelOIdeal.τ).loc Cert.KernelOIdeal.main_v6_0)) (v1 : (c : Dev Cert.KernelOIdeal.nD) → Buf (Elt Ideal) ((c.tc : Thread Cert.KernelOIdeal.nD Cert.KernelOIdeal.τ).loc Cert.KernelOIdeal.main_v6_1)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v6_0) = v0 c
          ∧ r.2.mem ((c.tc : Thread Cert.KernelOIdeal.nD Cert.KernelOIdeal.τ).loc Cert.KernelOIdeal.main_v6_1) = v1 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
          ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
          ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5)
          ∧ r.2.mem ((c.tc : Thread Cert.KernelOIdeal.nD Cert.KernelOIdeal.τ).loc Cert.KernelOIdeal.main_arg6) = m ((c.tc : Thread Cert.KernelOIdeal.nD Cert.KernelOIdeal.τ).loc Cert.KernelOIdeal.main_arg6)
          ∧ r.2.mem ((c.tc : Thread Cert.KernelOIdeal.nD Cert.KernelOIdeal.τ).loc Cert.KernelOIdeal.main_arg7) = m ((c.tc : Thread Cert.KernelOIdeal.nD Cert.KernelOIdeal.τ).loc Cert.KernelOIdeal.main_arg7)
          ∧ r.2.mem ((c.tc : Thread Cert.KernelOIdeal.nD Cert.KernelOIdeal.τ).loc Cert.KernelOIdeal.main_arg8) = m ((c.tc : Thread Cert.KernelOIdeal.nD Cert.KernelOIdeal.τ).loc Cert.KernelOIdeal.main_arg8))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v6_0) = v0 c
          ∧ r.2.mem ((c.tc : Thread Cert.ReferenceOIdeal.nD Cert.ReferenceOIdeal.τ).loc Cert.ReferenceOIdeal.main_v6_1) = v1 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3)
          ∧ r.2.mem ((c.tc : Thread Cert.ReferenceOIdeal.nD Cert.ReferenceOIdeal.τ).loc Cert.ReferenceOIdeal.main_arg4) = m' ((c.tc : Thread Cert.ReferenceOIdeal.nD Cert.ReferenceOIdeal.τ).loc Cert.ReferenceOIdeal.main_arg4)
          ∧ r.2.mem ((c.tc : Thread Cert.ReferenceOIdeal.nD Cert.ReferenceOIdeal.τ).loc Cert.ReferenceOIdeal.main_arg5) = m' ((c.tc : Thread Cert.ReferenceOIdeal.nD Cert.ReferenceOIdeal.τ).loc Cert.ReferenceOIdeal.main_arg5)
          ∧ r.2.mem ((c.tc : Thread Cert.ReferenceOIdeal.nD Cert.ReferenceOIdeal.τ).loc Cert.ReferenceOIdeal.main_arg6) = m' ((c.tc : Thread Cert.ReferenceOIdeal.nD Cert.ReferenceOIdeal.τ).loc Cert.ReferenceOIdeal.main_arg6)
          ∧ r.2.mem ((c.tc : Thread Cert.ReferenceOIdeal.nD Cert.ReferenceOIdeal.τ).loc Cert.ReferenceOIdeal.main_arg7) = m' ((c.tc : Thread Cert.ReferenceOIdeal.nD Cert.ReferenceOIdeal.τ).loc Cert.ReferenceOIdeal.main_arg7)
          ∧ r.2.mem ((c.tc : Thread Cert.ReferenceOIdeal.nD Cert.ReferenceOIdeal.τ).loc Cert.ReferenceOIdeal.main_arg8) = m' ((c.tc : Thread Cert.ReferenceOIdeal.nD Cert.ReferenceOIdeal.τ).loc Cert.ReferenceOIdeal.main_arg8))

def preserves_KernelMlp_KernelMlpIdeal : Prop :=
  True

def algebraic_KernelMlpIdeal_ReferenceMlpIdeal [hKernelMlpIdeal : Cert.KernelMlpIdeal.Facts] [hReferenceMlpIdeal : Cert.ReferenceMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)
      ∧ m' ((c.tc : Thread Cert.ReferenceMlpIdeal.nD Cert.ReferenceMlpIdeal.τ).loc Cert.ReferenceMlpIdeal.main_arg4) = m ((c.tc : Thread Cert.KernelMlpIdeal.nD Cert.KernelMlpIdeal.τ).loc Cert.KernelMlpIdeal.main_arg4)
      ∧ m' ((c.tc : Thread Cert.ReferenceMlpIdeal.nD Cert.ReferenceMlpIdeal.τ).loc Cert.ReferenceMlpIdeal.main_arg5) = m ((c.tc : Thread Cert.KernelMlpIdeal.nD Cert.KernelMlpIdeal.τ).loc Cert.KernelMlpIdeal.main_arg5)
      ∧ m' ((c.tc : Thread Cert.ReferenceMlpIdeal.nD Cert.ReferenceMlpIdeal.τ).loc Cert.ReferenceMlpIdeal.main_arg6) = m ((c.tc : Thread Cert.KernelMlpIdeal.nD Cert.KernelMlpIdeal.τ).loc Cert.KernelMlpIdeal.main_arg6)
      ∧ m' ((c.tc : Thread Cert.ReferenceMlpIdeal.nD Cert.ReferenceMlpIdeal.τ).loc Cert.ReferenceMlpIdeal.main_arg7) = m ((c.tc : Thread Cert.KernelMlpIdeal.nD Cert.KernelMlpIdeal.τ).loc Cert.KernelMlpIdeal.main_arg7)
      ∧ m' ((c.tc : Thread Cert.ReferenceMlpIdeal.nD Cert.ReferenceMlpIdeal.τ).loc Cert.ReferenceMlpIdeal.main_arg8) = m ((c.tc : Thread Cert.KernelMlpIdeal.nD Cert.KernelMlpIdeal.τ).loc Cert.KernelMlpIdeal.main_arg8)
      ∧ m' ((c.tc : Thread Cert.ReferenceMlpIdeal.nD Cert.ReferenceMlpIdeal.τ).loc Cert.ReferenceMlpIdeal.main_arg9) = m ((c.tc : Thread Cert.KernelMlpIdeal.nD Cert.KernelMlpIdeal.τ).loc Cert.KernelMlpIdeal.main_arg9)
      ∧ m' ((c.tc : Thread Cert.ReferenceMlpIdeal.nD Cert.ReferenceMlpIdeal.τ).loc Cert.ReferenceMlpIdeal.main_arg10) = m ((c.tc : Thread Cert.KernelMlpIdeal.nD Cert.KernelMlpIdeal.τ).loc Cert.KernelMlpIdeal.main_arg10)
      ∧ m' ((c.tc : Thread Cert.ReferenceMlpIdeal.nD Cert.ReferenceMlpIdeal.τ).loc Cert.ReferenceMlpIdeal.main_arg11) = m ((c.tc : Thread Cert.KernelMlpIdeal.nD Cert.KernelMlpIdeal.τ).loc Cert.KernelMlpIdeal.main_arg11)
      ∧ m' ((c.tc : Thread Cert.ReferenceMlpIdeal.nD Cert.ReferenceMlpIdeal.τ).loc Cert.ReferenceMlpIdeal.main_arg12) = m ((c.tc : Thread Cert.KernelMlpIdeal.nD Cert.KernelMlpIdeal.τ).loc Cert.KernelMlpIdeal.main_arg12)) →
    ∃ (v0 : (c : Dev Cert.KernelMlpIdeal.nD) → Buf (Elt Ideal) ((c.tc : Thread Cert.KernelMlpIdeal.nD Cert.KernelMlpIdeal.τ).loc Cert.KernelMlpIdeal.main_v8_0)) (v1 : (c : Dev Cert.KernelMlpIdeal.nD) → Buf (Elt Ideal) ((c.tc : Thread Cert.KernelMlpIdeal.nD Cert.KernelMlpIdeal.τ).loc Cert.KernelMlpIdeal.main_v8_1)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v8_0) = v0 c
          ∧ r.2.mem ((c.tc : Thread Cert.KernelMlpIdeal.nD Cert.KernelMlpIdeal.τ).loc Cert.KernelMlpIdeal.main_v8_1) = v1 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
          ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
          ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5)
          ∧ r.2.mem ((c.tc : Thread Cert.KernelMlpIdeal.nD Cert.KernelMlpIdeal.τ).loc Cert.KernelMlpIdeal.main_arg6) = m ((c.tc : Thread Cert.KernelMlpIdeal.nD Cert.KernelMlpIdeal.τ).loc Cert.KernelMlpIdeal.main_arg6)
          ∧ r.2.mem ((c.tc : Thread Cert.KernelMlpIdeal.nD Cert.KernelMlpIdeal.τ).loc Cert.KernelMlpIdeal.main_arg7) = m ((c.tc : Thread Cert.KernelMlpIdeal.nD Cert.KernelMlpIdeal.τ).loc Cert.KernelMlpIdeal.main_arg7)
          ∧ r.2.mem ((c.tc : Thread Cert.KernelMlpIdeal.nD Cert.KernelMlpIdeal.τ).loc Cert.KernelMlpIdeal.main_arg8) = m ((c.tc : Thread Cert.KernelMlpIdeal.nD Cert.KernelMlpIdeal.τ).loc Cert.KernelMlpIdeal.main_arg8)
          ∧ r.2.mem ((c.tc : Thread Cert.KernelMlpIdeal.nD Cert.KernelMlpIdeal.τ).loc Cert.KernelMlpIdeal.main_arg9) = m ((c.tc : Thread Cert.KernelMlpIdeal.nD Cert.KernelMlpIdeal.τ).loc Cert.KernelMlpIdeal.main_arg9)
          ∧ r.2.mem ((c.tc : Thread Cert.KernelMlpIdeal.nD Cert.KernelMlpIdeal.τ).loc Cert.KernelMlpIdeal.main_arg10) = m ((c.tc : Thread Cert.KernelMlpIdeal.nD Cert.KernelMlpIdeal.τ).loc Cert.KernelMlpIdeal.main_arg10)
          ∧ r.2.mem ((c.tc : Thread Cert.KernelMlpIdeal.nD Cert.KernelMlpIdeal.τ).loc Cert.KernelMlpIdeal.main_arg11) = m ((c.tc : Thread Cert.KernelMlpIdeal.nD Cert.KernelMlpIdeal.τ).loc Cert.KernelMlpIdeal.main_arg11)
          ∧ r.2.mem ((c.tc : Thread Cert.KernelMlpIdeal.nD Cert.KernelMlpIdeal.τ).loc Cert.KernelMlpIdeal.main_arg12) = m ((c.tc : Thread Cert.KernelMlpIdeal.nD Cert.KernelMlpIdeal.τ).loc Cert.KernelMlpIdeal.main_arg12))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v8_0) = v0 c
          ∧ r.2.mem ((c.tc : Thread Cert.ReferenceMlpIdeal.nD Cert.ReferenceMlpIdeal.τ).loc Cert.ReferenceMlpIdeal.main_v8_1) = v1 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3)
          ∧ r.2.mem ((c.tc : Thread Cert.ReferenceMlpIdeal.nD Cert.ReferenceMlpIdeal.τ).loc Cert.ReferenceMlpIdeal.main_arg4) = m' ((c.tc : Thread Cert.ReferenceMlpIdeal.nD Cert.ReferenceMlpIdeal.τ).loc Cert.ReferenceMlpIdeal.main_arg4)
          ∧ r.2.mem ((c.tc : Thread Cert.ReferenceMlpIdeal.nD Cert.ReferenceMlpIdeal.τ).loc Cert.ReferenceMlpIdeal.main_arg5) = m' ((c.tc : Thread Cert.ReferenceMlpIdeal.nD Cert.ReferenceMlpIdeal.τ).loc Cert.ReferenceMlpIdeal.main_arg5)
          ∧ r.2.mem ((c.tc : Thread Cert.ReferenceMlpIdeal.nD Cert.ReferenceMlpIdeal.τ).loc Cert.ReferenceMlpIdeal.main_arg6) = m' ((c.tc : Thread Cert.ReferenceMlpIdeal.nD Cert.ReferenceMlpIdeal.τ).loc Cert.ReferenceMlpIdeal.main_arg6)
          ∧ r.2.mem ((c.tc : Thread Cert.ReferenceMlpIdeal.nD Cert.ReferenceMlpIdeal.τ).loc Cert.ReferenceMlpIdeal.main_arg7) = m' ((c.tc : Thread Cert.ReferenceMlpIdeal.nD Cert.ReferenceMlpIdeal.τ).loc Cert.ReferenceMlpIdeal.main_arg7)
          ∧ r.2.mem ((c.tc : Thread Cert.ReferenceMlpIdeal.nD Cert.ReferenceMlpIdeal.τ).loc Cert.ReferenceMlpIdeal.main_arg8) = m' ((c.tc : Thread Cert.ReferenceMlpIdeal.nD Cert.ReferenceMlpIdeal.τ).loc Cert.ReferenceMlpIdeal.main_arg8)
          ∧ r.2.mem ((c.tc : Thread Cert.ReferenceMlpIdeal.nD Cert.ReferenceMlpIdeal.τ).loc Cert.ReferenceMlpIdeal.main_arg9) = m' ((c.tc : Thread Cert.ReferenceMlpIdeal.nD Cert.ReferenceMlpIdeal.τ).loc Cert.ReferenceMlpIdeal.main_arg9)
          ∧ r.2.mem ((c.tc : Thread Cert.ReferenceMlpIdeal.nD Cert.ReferenceMlpIdeal.τ).loc Cert.ReferenceMlpIdeal.main_arg10) = m' ((c.tc : Thread Cert.ReferenceMlpIdeal.nD Cert.ReferenceMlpIdeal.τ).loc Cert.ReferenceMlpIdeal.main_arg10)
          ∧ r.2.mem ((c.tc : Thread Cert.ReferenceMlpIdeal.nD Cert.ReferenceMlpIdeal.τ).loc Cert.ReferenceMlpIdeal.main_arg11) = m' ((c.tc : Thread Cert.ReferenceMlpIdeal.nD Cert.ReferenceMlpIdeal.τ).loc Cert.ReferenceMlpIdeal.main_arg11)
          ∧ r.2.mem ((c.tc : Thread Cert.ReferenceMlpIdeal.nD Cert.ReferenceMlpIdeal.τ).loc Cert.ReferenceMlpIdeal.main_arg12) = m' ((c.tc : Thread Cert.ReferenceMlpIdeal.nD Cert.ReferenceMlpIdeal.τ).loc Cert.ReferenceMlpIdeal.main_arg12))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)
      ∧ m' ((c.tc : Thread Cert.ReferenceQkvIdeal.nD Cert.ReferenceQkvIdeal.τ).loc Cert.ReferenceQkvIdeal.main_arg3) = m ((c.tc : Thread Cert.KernelQkvIdeal.nD Cert.KernelQkvIdeal.τ).loc Cert.KernelQkvIdeal.main_arg3)
      ∧ m' ((c.tc : Thread Cert.ReferenceQkvIdeal.nD Cert.ReferenceQkvIdeal.τ).loc Cert.ReferenceQkvIdeal.main_arg4) = m ((c.tc : Thread Cert.KernelQkvIdeal.nD Cert.KernelQkvIdeal.τ).loc Cert.KernelQkvIdeal.main_arg4)
      ∧ m' ((c.tc : Thread Cert.ReferenceQkvIdeal.nD Cert.ReferenceQkvIdeal.τ).loc Cert.ReferenceQkvIdeal.main_arg5) = m ((c.tc : Thread Cert.KernelQkvIdeal.nD Cert.KernelQkvIdeal.τ).loc Cert.KernelQkvIdeal.main_arg5)
      ∧ m' ((c.tc : Thread Cert.ReferenceQkvIdeal.nD Cert.ReferenceQkvIdeal.τ).loc Cert.ReferenceQkvIdeal.main_arg6) = m ((c.tc : Thread Cert.KernelQkvIdeal.nD Cert.KernelQkvIdeal.τ).loc Cert.KernelQkvIdeal.main_arg6)
      ∧ m' ((c.tc : Thread Cert.ReferenceQkvIdeal.nD Cert.ReferenceQkvIdeal.τ).loc Cert.ReferenceQkvIdeal.main_arg7) = m ((c.tc : Thread Cert.KernelQkvIdeal.nD Cert.KernelQkvIdeal.τ).loc Cert.KernelQkvIdeal.main_arg7)
      ∧ m' ((c.tc : Thread Cert.ReferenceQkvIdeal.nD Cert.ReferenceQkvIdeal.τ).loc Cert.ReferenceQkvIdeal.main_arg8) = m ((c.tc : Thread Cert.KernelQkvIdeal.nD Cert.KernelQkvIdeal.τ).loc Cert.KernelQkvIdeal.main_arg8)) →
    ∃ (v0 : (c : Dev Cert.KernelQkvIdeal.nD) → Buf (Elt Ideal) ((c.tc : Thread Cert.KernelQkvIdeal.nD Cert.KernelQkvIdeal.τ).loc Cert.KernelQkvIdeal.main_v19_0)) (v1 : (c : Dev Cert.KernelQkvIdeal.nD) → Buf (Elt Ideal) ((c.tc : Thread Cert.KernelQkvIdeal.nD Cert.KernelQkvIdeal.τ).loc Cert.KernelQkvIdeal.main_v19_1)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v19_0) = v0 c
          ∧ r.2.mem ((c.tc : Thread Cert.KernelQkvIdeal.nD Cert.KernelQkvIdeal.τ).loc Cert.KernelQkvIdeal.main_v19_1) = v1 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
          ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
          ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
          ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
          ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6)
          ∧ r.2.mem ((c.tc : Thread Cert.KernelQkvIdeal.nD Cert.KernelQkvIdeal.τ).loc Cert.KernelQkvIdeal.main_arg7) = m ((c.tc : Thread Cert.KernelQkvIdeal.nD Cert.KernelQkvIdeal.τ).loc Cert.KernelQkvIdeal.main_arg7)
          ∧ r.2.mem ((c.tc : Thread Cert.KernelQkvIdeal.nD Cert.KernelQkvIdeal.τ).loc Cert.KernelQkvIdeal.main_arg8) = m ((c.tc : Thread Cert.KernelQkvIdeal.nD Cert.KernelQkvIdeal.τ).loc Cert.KernelQkvIdeal.main_arg8))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v5_0) = v0 c
          ∧ r.2.mem ((c.tc : Thread Cert.ReferenceQkvIdeal.nD Cert.ReferenceQkvIdeal.τ).loc Cert.ReferenceQkvIdeal.main_v5_1) = v1 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3)
          ∧ r.2.mem ((c.tc : Thread Cert.ReferenceQkvIdeal.nD Cert.ReferenceQkvIdeal.τ).loc Cert.ReferenceQkvIdeal.main_arg4) = m' ((c.tc : Thread Cert.ReferenceQkvIdeal.nD Cert.ReferenceQkvIdeal.τ).loc Cert.ReferenceQkvIdeal.main_arg4)
          ∧ r.2.mem ((c.tc : Thread Cert.ReferenceQkvIdeal.nD Cert.ReferenceQkvIdeal.τ).loc Cert.ReferenceQkvIdeal.main_arg5) = m' ((c.tc : Thread Cert.ReferenceQkvIdeal.nD Cert.ReferenceQkvIdeal.τ).loc Cert.ReferenceQkvIdeal.main_arg5)
          ∧ r.2.mem ((c.tc : Thread Cert.ReferenceQkvIdeal.nD Cert.ReferenceQkvIdeal.τ).loc Cert.ReferenceQkvIdeal.main_arg6) = m' ((c.tc : Thread Cert.ReferenceQkvIdeal.nD Cert.ReferenceQkvIdeal.τ).loc Cert.ReferenceQkvIdeal.main_arg6)
          ∧ r.2.mem ((c.tc : Thread Cert.ReferenceQkvIdeal.nD Cert.ReferenceQkvIdeal.τ).loc Cert.ReferenceQkvIdeal.main_arg7) = m' ((c.tc : Thread Cert.ReferenceQkvIdeal.nD Cert.ReferenceQkvIdeal.τ).loc Cert.ReferenceQkvIdeal.main_arg7)
          ∧ r.2.mem ((c.tc : Thread Cert.ReferenceQkvIdeal.nD Cert.ReferenceQkvIdeal.τ).loc Cert.ReferenceQkvIdeal.main_arg8) = m' ((c.tc : Thread Cert.ReferenceQkvIdeal.nD Cert.ReferenceQkvIdeal.τ).loc Cert.ReferenceQkvIdeal.main_arg8))

def preserves_KernelAttn_KernelAttnIdeal : Prop :=
  True

def algebraic_KernelAttnIdeal_ReferenceAttnIdeal [hKernelAttnIdeal : Cert.KernelAttnIdeal.Facts] [hReferenceAttnIdeal : Cert.ReferenceAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)) →
    ∃ (v0 : (c : Dev Cert.KernelAttnIdeal.nD) → Buf (Elt Ideal) ((c.tc : Thread Cert.KernelAttnIdeal.nD Cert.KernelAttnIdeal.τ).loc Cert.KernelAttnIdeal.main_v3_0)) (v1 : (c : Dev Cert.KernelAttnIdeal.nD) → Buf (Elt Ideal) ((c.tc : Thread Cert.KernelAttnIdeal.nD Cert.KernelAttnIdeal.τ).loc Cert.KernelAttnIdeal.main_v3_1)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v3_0) = v0 c
          ∧ r.2.mem ((c.tc : Thread Cert.KernelAttnIdeal.nD Cert.KernelAttnIdeal.τ).loc Cert.KernelAttnIdeal.main_v3_1) = v1 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v3_0) = v0 c
          ∧ r.2.mem ((c.tc : Thread Cert.ReferenceAttnIdeal.nD Cert.ReferenceAttnIdeal.τ).loc Cert.ReferenceAttnIdeal.main_v3_1) = v1 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2))

def preserves_KernelWin_KernelWinIdeal : Prop :=
  True

def algebraic_KernelWinIdeal_ReferenceWinIdeal_pre_windows [hKernelWinIdeal : Cert.KernelWinIdeal.Facts] [hReferenceWinIdeal : Cert.ReferenceWinIdeal.Facts] [hPre_windows : Cert.Pre_windows.Facts] : Prop :=
  ∀ (m : (ℓ : Loc Cert.KernelWinIdeal.nD Cert.KernelWinIdeal.τ Cert.KernelWinIdeal.sig) → Buf (Elt Ideal) ℓ) (g : Dev Cert.KernelWinIdeal.nD → PrngReg)
    (m' : (ℓ : Loc Cert.ReferenceWinIdeal.nD Cert.ReferenceWinIdeal.τ Cert.ReferenceWinIdeal.sig) → Buf (Elt Ideal) ℓ) (g' : Dev Cert.ReferenceWinIdeal.nD → PrngReg), Pre_KernelWinIdeal_windows m →
    (∀ c : Dev Cert.KernelWinIdeal.nD,
      m' ((c.tc : Thread Cert.ReferenceWinIdeal.nD Cert.ReferenceWinIdeal.τ).loc Cert.ReferenceWinIdeal.main_arg0) = m ((c.tc : Thread Cert.KernelWinIdeal.nD Cert.KernelWinIdeal.τ).loc Cert.KernelWinIdeal.main_arg0)
      ∧ m' ((c.tc : Thread Cert.ReferenceWinIdeal.nD Cert.ReferenceWinIdeal.τ).loc Cert.ReferenceWinIdeal.main_arg1) = m ((c.tc : Thread Cert.KernelWinIdeal.nD Cert.KernelWinIdeal.τ).loc Cert.KernelWinIdeal.main_arg1)
      ∧ m' ((c.tc : Thread Cert.ReferenceWinIdeal.nD Cert.ReferenceWinIdeal.τ).loc Cert.ReferenceWinIdeal.main_arg2) = m ((c.tc : Thread Cert.KernelWinIdeal.nD Cert.KernelWinIdeal.τ).loc Cert.KernelWinIdeal.main_arg2)
      ∧ m' ((c.tc : Thread Cert.ReferenceWinIdeal.nD Cert.ReferenceWinIdeal.τ).loc Cert.ReferenceWinIdeal.main_arg3) = m ((c.tc : Thread Cert.KernelWinIdeal.nD Cert.KernelWinIdeal.τ).loc Cert.KernelWinIdeal.main_arg3)
      ∧ m' ((c.tc : Thread Cert.ReferenceWinIdeal.nD Cert.ReferenceWinIdeal.τ).loc Cert.ReferenceWinIdeal.main_arg4) = m ((c.tc : Thread Cert.KernelWinIdeal.nD Cert.KernelWinIdeal.τ).loc Cert.KernelWinIdeal.main_arg4)) →
    ∃ (v0 : (c : Dev Cert.KernelWinIdeal.nD) → Buf (Elt Ideal) ((c.tc : Thread Cert.KernelWinIdeal.nD Cert.KernelWinIdeal.τ).loc Cert.KernelWinIdeal.main_v22_0)) (v1 : (c : Dev Cert.KernelWinIdeal.nD) → Buf (Elt Ideal) ((c.tc : Thread Cert.KernelWinIdeal.nD Cert.KernelWinIdeal.τ).loc Cert.KernelWinIdeal.main_v22_1)),
      θ_run (Cert.KernelWinIdeal.defs (F := Ideal)) (onTc (τ := Cert.KernelWinIdeal.τ) (Cert.KernelWinIdeal.main (F := Ideal))) ⟨m, fun _ => 0, g⟩ (fun r => ∀ c : Dev Cert.KernelWinIdeal.nD,
          r.2.mem ((c.tc : Thread Cert.KernelWinIdeal.nD Cert.KernelWinIdeal.τ).loc Cert.KernelWinIdeal.main_v22_0) = v0 c
          ∧ r.2.mem ((c.tc : Thread Cert.KernelWinIdeal.nD Cert.KernelWinIdeal.τ).loc Cert.KernelWinIdeal.main_v22_1) = v1 c
          ∧ r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
          ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1)
          ∧ r.2.mem ((c.tc : Thread Cert.KernelWinIdeal.nD Cert.KernelWinIdeal.τ).loc Cert.KernelWinIdeal.main_arg2) = m ((c.tc : Thread Cert.KernelWinIdeal.nD Cert.KernelWinIdeal.τ).loc Cert.KernelWinIdeal.main_arg2)
          ∧ r.2.mem ((c.tc : Thread Cert.KernelWinIdeal.nD Cert.KernelWinIdeal.τ).loc Cert.KernelWinIdeal.main_arg3) = m ((c.tc : Thread Cert.KernelWinIdeal.nD Cert.KernelWinIdeal.τ).loc Cert.KernelWinIdeal.main_arg3)
          ∧ r.2.mem ((c.tc : Thread Cert.KernelWinIdeal.nD Cert.KernelWinIdeal.τ).loc Cert.KernelWinIdeal.main_arg4) = m ((c.tc : Thread Cert.KernelWinIdeal.nD Cert.KernelWinIdeal.τ).loc Cert.KernelWinIdeal.main_arg4))
      ∧ θ_run (Cert.ReferenceWinIdeal.defs (F := Ideal)) (onTc (τ := Cert.ReferenceWinIdeal.τ) (Cert.ReferenceWinIdeal.main (F := Ideal))) ⟨m', fun _ => 0, g'⟩ (fun r => ∀ c : Dev Cert.ReferenceWinIdeal.nD,
          r.2.mem ((c.tc : Thread Cert.ReferenceWinIdeal.nD Cert.ReferenceWinIdeal.τ).loc Cert.ReferenceWinIdeal.main_v24) = v0 c
          ∧ r.2.mem ((c.tc : Thread Cert.ReferenceWinIdeal.nD Cert.ReferenceWinIdeal.τ).loc Cert.ReferenceWinIdeal.main_v32) = v1 c
          ∧ r.2.mem ((c.tc : Thread Cert.ReferenceWinIdeal.nD Cert.ReferenceWinIdeal.τ).loc Cert.ReferenceWinIdeal.main_arg0) = m' ((c.tc : Thread Cert.ReferenceWinIdeal.nD Cert.ReferenceWinIdeal.τ).loc Cert.ReferenceWinIdeal.main_arg0)
          ∧ r.2.mem ((c.tc : Thread Cert.ReferenceWinIdeal.nD Cert.ReferenceWinIdeal.τ).loc Cert.ReferenceWinIdeal.main_arg1) = m' ((c.tc : Thread Cert.ReferenceWinIdeal.nD Cert.ReferenceWinIdeal.τ).loc Cert.ReferenceWinIdeal.main_arg1)
          ∧ r.2.mem ((c.tc : Thread Cert.ReferenceWinIdeal.nD Cert.ReferenceWinIdeal.τ).loc Cert.ReferenceWinIdeal.main_arg2) = m' ((c.tc : Thread Cert.ReferenceWinIdeal.nD Cert.ReferenceWinIdeal.τ).loc Cert.ReferenceWinIdeal.main_arg2)
          ∧ r.2.mem ((c.tc : Thread Cert.ReferenceWinIdeal.nD Cert.ReferenceWinIdeal.τ).loc Cert.ReferenceWinIdeal.main_arg3) = m' ((c.tc : Thread Cert.ReferenceWinIdeal.nD Cert.ReferenceWinIdeal.τ).loc Cert.ReferenceWinIdeal.main_arg3)
          ∧ r.2.mem ((c.tc : Thread Cert.ReferenceWinIdeal.nD Cert.ReferenceWinIdeal.τ).loc Cert.ReferenceWinIdeal.main_arg4) = m' ((c.tc : Thread Cert.ReferenceWinIdeal.nD Cert.ReferenceWinIdeal.τ).loc Cert.ReferenceWinIdeal.main_arg4))

def Claim : Prop :=
  ∃ (hKernelO : Cert.KernelO.Facts) (hKernelOIdeal : Cert.KernelOIdeal.Facts) (hReferenceOIdeal : Cert.ReferenceOIdeal.Facts) (hKernelMlp : Cert.KernelMlp.Facts) (hKernelMlpIdeal : Cert.KernelMlpIdeal.Facts) (hReferenceMlpIdeal : Cert.ReferenceMlpIdeal.Facts) (hKernelQkv : Cert.KernelQkv.Facts) (hKernelQkvIdeal : Cert.KernelQkvIdeal.Facts) (hReferenceQkvIdeal : Cert.ReferenceQkvIdeal.Facts) (hKernelAttn : Cert.KernelAttn.Facts) (hKernelAttnIdeal : Cert.KernelAttnIdeal.Facts) (hReferenceAttnIdeal : Cert.ReferenceAttnIdeal.Facts) (hKernelWin : Cert.KernelWin.Facts) (hKernelWinIdeal : Cert.KernelWinIdeal.Facts) (hReferenceWinIdeal : Cert.ReferenceWinIdeal.Facts) (hPre_windows : Cert.Pre_windows.Facts),
    quiescent_KernelO (hKernelO := hKernelO)
    ∧ quiescent_KernelOIdeal (hKernelOIdeal := hKernelOIdeal)
    ∧ quiescent_ReferenceOIdeal (hReferenceOIdeal := hReferenceOIdeal)
    ∧ quiescent_KernelMlp (hKernelMlp := hKernelMlp)
    ∧ quiescent_KernelMlpIdeal (hKernelMlpIdeal := hKernelMlpIdeal)
    ∧ quiescent_ReferenceMlpIdeal (hReferenceMlpIdeal := hReferenceMlpIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelAttn (hKernelAttn := hKernelAttn)
    ∧ quiescent_KernelAttnIdeal (hKernelAttnIdeal := hKernelAttnIdeal)
    ∧ quiescent_ReferenceAttnIdeal (hReferenceAttnIdeal := hReferenceAttnIdeal)
    ∧ quiescent_KernelWin (hKernelWin := hKernelWin)
    ∧ quiescent_KernelWinIdeal (hKernelWinIdeal := hKernelWinIdeal)
    ∧ quiescent_KernelWinIdeal_pre_windows (hKernelWinIdeal := hKernelWinIdeal) (hPre_windows := hPre_windows)
    ∧ quiescent_ReferenceWinIdeal (hReferenceWinIdeal := hReferenceWinIdeal)
    ∧ quiescent_ReferenceWinIdeal_pre_windows (hReferenceWinIdeal := hReferenceWinIdeal) (hPre_windows := hPre_windows)
    ∧ preserves_KernelO_KernelOIdeal
    ∧ algebraic_KernelOIdeal_ReferenceOIdeal (hKernelOIdeal := hKernelOIdeal) (hReferenceOIdeal := hReferenceOIdeal)
    ∧ preserves_KernelMlp_KernelMlpIdeal
    ∧ algebraic_KernelMlpIdeal_ReferenceMlpIdeal (hKernelMlpIdeal := hKernelMlpIdeal) (hReferenceMlpIdeal := hReferenceMlpIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelAttn_KernelAttnIdeal
    ∧ algebraic_KernelAttnIdeal_ReferenceAttnIdeal (hKernelAttnIdeal := hKernelAttnIdeal) (hReferenceAttnIdeal := hReferenceAttnIdeal)
    ∧ preserves_KernelWin_KernelWinIdeal
    ∧ algebraic_KernelWinIdeal_ReferenceWinIdeal_pre_windows (hKernelWinIdeal := hKernelWinIdeal) (hReferenceWinIdeal := hReferenceWinIdeal) (hPre_windows := hPre_windows)
-- ==== Pre_windows.lean ====
abbrev S1024x3840 : Shape := ⟨2, ![1024, 3840]⟩
abbrev S22x64 : Shape := ⟨2, ![22, 64]⟩
abbrev S22 : Shape := ⟨1, ![22]⟩
abbrev S1024 : Shape := ⟨1, ![1024]⟩
abbrev S1 : Shape := ⟨1, ![1]⟩
abbrev S1024x1x1 : Shape := ⟨3, ![1024, 1, 1]⟩
abbrev S64 : Shape := ⟨1, ![64]⟩
abbrev S1x64 : Shape := ⟨2, ![1, 64]⟩
abbrev S22x1 : Shape := ⟨2, ![22, 1]⟩
abbrev S_ : Shape := ⟨0, ![]⟩
abbrev S1x22x64 : Shape := ⟨3, ![1, 22, 64]⟩
abbrev S1024x22x64 : Shape := ⟨3, ![1024, 22, 64]⟩

class Facts : Prop where
  bcast_S1024_S1024x1x1_0 : S1024.BroadcastsInDim S1024x1x1 (![0] : Fin 1 → Fin S1024x1x1.rank)
  bcast_S64_S1x64_1 : S64.BroadcastsInDim S1x64 (![1] : Fin 1 → Fin S1x64.rank)
  bcast_S22_S22x1_0 : S22.BroadcastsInDim S22x1 (![0] : Fin 1 → Fin S22x1.rank)
  bcast_S_S22x1 : S_.BroadcastsInDim S22x1 (![] : Fin 0 → Fin S22x1.rank)
  bcast_S22x1_S22x64_0_1 : S22x1.BroadcastsInDim S22x64 (![0, 1] : Fin 2 → Fin S22x64.rank)
  bcast_S1x64_S22x64_0_1 : S1x64.BroadcastsInDim S22x64 (![0, 1] : Fin 2 → Fin S22x64.rank)
  bcast_S22x64_S1x22x64_1_2 : S22x64.BroadcastsInDim S1x22x64 (![1, 2] : Fin 2 → Fin S1x22x64.rank)
  bcast_S1024x1x1_S1024x22x64_0_1_2 : S1024x1x1.BroadcastsInDim S1024x22x64 (![0, 1, 2] : Fin 3 → Fin S1024x22x64.rank)
  bcast_S1x22x64_S1024x22x64_0_1_2 : S1x22x64.BroadcastsInDim S1024x22x64 (![0, 1, 2] : Fin 3 → Fin S1024x22x64.rank)
  bcast_S_S1024 : S_.BroadcastsInDim S1024 (![] : Fin 0 → Fin S1024.rank)
  bcast_S_S22x64 : S_.BroadcastsInDim S22x64 (![] : Fin 0 → Fin S22x64.rank)
  slices_S22x64_S22x1_0_0 : S22x64.Slices ![0, 0] S22x1

variable [Facts]

def fn_part2 {F : FTy → Type} [FloatOps F] (main_arg1 : IVec S22x64 32) (main_v27 : IVec S1024x22x64 1) (main_v32 : IVec S1024 1) (main_v33 : IVec S22x64 1) (main_v38 : IVec S22x64 1) (main_v42 : IVec S22x64 32) : IVec S1024x22x64 1 :=
  let main_v43 : IVec S22x64 1 := cmpi .eq main_arg1 main_v42
  let main_v44 : IVec S22x64 1 := andi main_v38 main_v43
  let main_v45 : IVec S22x64 1 := ori main_v33 main_v44
  let main_v46 : IVec S1024x1x1 1 := broadcastInDim S1024x1x1 ![0] bcast_S1024_S1024x1x1_0 main_v32
  let main_v47 : IVec S1024x22x64 1 := broadcastInDim S1024x22x64 ![0, 1, 2] bcast_S1024x1x1_S1024x22x64_0_1_2 main_v46
  let main_v48 : IVec S1024x22x64 1 := andi main_v27 main_v47
  let main_v49 : IVec S1x22x64 1 := broadcastInDim S1x22x64 ![1, 2] bcast_S22x64_S1x22x64_1_2 main_v45
  let main_v50 : IVec S1024x22x64 1 := broadcastInDim S1024x22x64 ![0, 1, 2] bcast_S1x22x64_S1024x22x64_0_1_2 main_v49
  let main_v51 : IVec S1024x22x64 1 := andi main_v48 main_v50
  main_v51

def fn_part1 {F : FTy → Type} [FloatOps F] (main_arg1 : IVec S22x64 32) (main_arg3 : IVec S1024 32) (main_v3 : IVec S1x64 32) (main_v14 : IVec S22x64 1) (main_v19 : IVec S1024x22x64 1) (main_v21 : IVec S1024x22x64 32) (main_v22 : IVec S1024x22x64 32) : IVec S1024x22x64 1 :=
  let main_v23 : IVec S1024x22x64 1 := cmpi .eq main_v21 main_v22
  let main_v24 : IVec S1x22x64 1 := broadcastInDim S1x22x64 ![1, 2] bcast_S22x64_S1x22x64_1_2 main_v14
  let main_v25 : IVec S1024x22x64 1 := broadcastInDim S1024x22x64 ![0, 1, 2] bcast_S1x22x64_S1024x22x64_0_1_2 main_v24
  let main_v26 : IVec S1024x22x64 1 := andi main_v25 main_v23
  let main_v27 : IVec S1024x22x64 1 := cmpi .eq main_v19 main_v26
  let main_c_0 : IVec S_ 32 := constantI S_ 32 0#32
  let main_v28 : IVec S1024 32 := broadcastInDim S1024 ![] bcast_S_S1024 main_c_0
  let main_v29 : IVec S1024 1 := cmpi .sge main_arg3 main_v28
  let main_c_1 : IVec S_ 32 := constantI S_ 32 1408#32
  let main_v30 : IVec S1024 32 := broadcastInDim S1024 ![] bcast_S_S1024 main_c_1
  let main_v31 : IVec S1024 1 := cmpi .slt main_arg3 main_v30
  let main_v32 : IVec S1024 1 := andi main_v29 main_v31
  let main_v33 : IVec S22x64 1 := noti main_v14
  let main_c_2 : IVec S_ 32 := constantI S_ 32 0#32
  let main_v34 : IVec S22x64 32 := broadcastInDim S22x64 ![] bcast_S_S22x64 main_c_2
  let main_v35 : IVec S22x64 1 := cmpi .sge main_arg1 main_v34
  let main_c_3 : IVec S_ 32 := constantI S_ 32 1024#32
  let main_v36 : IVec S22x64 32 := broadcastInDim S22x64 ![] bcast_S_S22x64 main_c_3
  let main_v37 : IVec S22x64 1 := cmpi .slt main_arg1 main_v36
  let main_v38 : IVec S22x64 1 := andi main_v35 main_v37
  let main_v39 : IVec S22x1 32 := (extractStridedSlice S22x1 ![0, 0] · slices_S22x64_S22x1_0_0) main_arg1
  let main_v40 : IVec S22x64 32 := broadcastInDim S22x64 ![0, 1] bcast_S22x1_S22x64_0_1 main_v39
  let main_v41 : IVec S22x64 32 := broadcastInDim S22x64 ![0, 1] bcast_S1x64_S22x64_0_1 main_v3
  let main_v42 : IVec S22x64 32 := addi main_v40 main_v41
  fn_part2 (F := F) main_arg1 main_v27 main_v32 main_v33 main_v38 main_v42

def fn {F : FTy → Type} [FloatOps F] (main_arg0 : FVec F S1024x3840 .bf16) (main_arg1 : IVec S22x64 32) (main_arg2 : IVec S22 32) (main_arg3 : IVec S1024 32) (main_arg4 : FVec F S1 .f32) : IVec S1024x22x64 1 :=
  let main_v0 : IVec S1024 32 := iotaInDim S1024 32 0
  let main_v1 : IVec S1024x1x1 32 := broadcastInDim S1024x1x1 ![0] bcast_S1024_S1024x1x1_0 main_v0
  let main_v2 : IVec S64 32 := iotaInDim S64 32 0
  let main_v3 : IVec S1x64 32 := broadcastInDim S1x64 ![1] bcast_S64_S1x64_1 main_v2
  let main_v4 : IVec S22 32 := iotaInDim S22 32 0
  let main_v5 : IVec S22x1 32 := broadcastInDim S22x1 ![0] bcast_S22_S22x1_0 main_v4
  let main_c : IVec S_ 32 := constantI S_ 32 64#32
  let main_v6 : IVec S22x1 32 := broadcastInDim S22x1 ![] bcast_S_S22x1 main_c
  let main_v7 : IVec S22x1 32 := muli main_v6 main_v5
  let main_v8 : IVec S22x64 32 := broadcastInDim S22x64 ![0, 1] bcast_S22x1_S22x64_0_1 main_v7
  let main_v9 : IVec S22x64 32 := broadcastInDim S22x64 ![0, 1] bcast_S1x64_S22x64_0_1 main_v3
  let main_v10 : IVec S22x64 32 := addi main_v8 main_v9
  let main_v11 : IVec S22x1 32 := broadcastInDim S22x1 ![0] bcast_S22_S22x1_0 main_arg2
  let main_v12 : IVec S22x64 32 := broadcastInDim S22x64 ![0, 1] bcast_S1x64_S22x64_0_1 main_v3
  let main_v13 : IVec S22x64 32 := broadcastInDim S22x64 ![0, 1] bcast_S22x1_S22x64_0_1 main_v11
  let main_v14 : IVec S22x64 1 := cmpi .slt main_v12 main_v13
  let main_v15 : IVec S1024x1x1 32 := broadcastInDim S1024x1x1 ![0] bcast_S1024_S1024x1x1_0 main_arg3
  let main_v16 : IVec S1x22x64 32 := broadcastInDim S1x22x64 ![1, 2] bcast_S22x64_S1x22x64_1_2 main_v10
  let main_v17 : IVec S1024x22x64 32 := broadcastInDim S1024x22x64 ![0, 1, 2] bcast_S1024x1x1_S1024x22x64_0_1_2 main_v15
  let main_v18 : IVec S1024x22x64 32 := broadcastInDim S1024x22x64 ![0, 1, 2] bcast_S1x22x64_S1024x22x64_0_1_2 main_v16
  let main_v19 : IVec S1024x22x64 1 := cmpi .eq main_v17 main_v18
  let main_v20 : IVec S1x22x64 32 := broadcastInDim S1x22x64 ![1, 2] bcast_S22x64_S1x22x64_1_2 main_arg1
  let main_v21 : IVec S1024x22x64 32 := broadcastInDim S1024x22x64 ![0, 1, 2] bcast_S1x22x64_S1024x22x64_0_1_2 main_v20
  let main_v22 : IVec S1024x22x64 32 := broadcastInDim S1024x22x64 ![0, 1, 2] bcast_S1024x1x1_S1024x22x64_0_1_2 main_v1
  fn_part1 (F := F) main_arg1 main_arg3 main_v3 main_v14 main_v19 main_v21 main_v22
-- ==== KernelO.lean ====
abbrev S1024x1280 : Shape := ⟨2, ![1024, 1280]⟩
abbrev S1280x1280 : Shape := ⟨2, ![1280, 1280]⟩
abbrev S1280 : Shape := ⟨1, ![1280]⟩
abbrev S1 : Shape := ⟨1, ![1]⟩
abbrev S1x1280 : Shape := ⟨2, ![1, 1280]⟩
abbrev S1x1 : Shape := ⟨2, ![1, 1]⟩
abbrev S256x1280 : Shape := ⟨2, ![256, 1280]⟩
abbrev S256 : Shape := ⟨1, ![256]⟩
abbrev S256x1 : Shape := ⟨2, ![256, 1]⟩

abbrev nBuf : Space → Nat
  | .hbm => 17
  | .vmem => 15
  | .smem => 0
  | _ => 0

abbrev bufTy : (tb : Table) → Fin (tcTables nBuf tb) → BufTy
  | .hbm, ⟨0, _⟩ => ⟨S1024x1280, .i8⟩
  | .hbm, ⟨1, _⟩ => ⟨S1280x1280, .i8⟩
  | .hbm, ⟨2, _⟩ => ⟨S1280, .f32⟩
  | .hbm, ⟨3, _⟩ => ⟨S1, .f32⟩
  | .hbm, ⟨4, _⟩ => ⟨S1280, .f32⟩
  | .hbm, ⟨5, _⟩ => ⟨S1024x1280, .bf16⟩
  | .hbm, ⟨6, _⟩ => ⟨S1280, .f32⟩
  | .hbm, ⟨7, _⟩ => ⟨S1280, .f32⟩
  | .hbm, ⟨8, _⟩ => ⟨S1, .f32⟩
  | .hbm, ⟨9, _⟩ => ⟨S1x1280, .f32⟩
  | .hbm, ⟨10, _⟩ => ⟨S1x1, .f32⟩
  | .hbm, ⟨11, _⟩ => ⟨S1x1280, .f32⟩
  | .hbm, ⟨12, _⟩ => ⟨S1x1280, .f32⟩
  | .hbm, ⟨13, _⟩ => ⟨S1x1280, .f32⟩
  | .hbm, ⟨14, _⟩ => ⟨S1x1, .f32⟩
  | .hbm, ⟨15, _⟩ => ⟨S1024x1280, .bf16⟩
  | .hbm, ⟨16, _⟩ => ⟨S1024x1280, .i8⟩
  | .local _ .vmem, ⟨0, _⟩ => ⟨S256x1280, .i8⟩
  | .local _ .vmem, ⟨1, _⟩ => ⟨S256x1280, .i8⟩
  | .local _ .vmem, ⟨2, _⟩ => ⟨S1280x1280, .i8⟩
  | .local _ .vmem, ⟨3, _⟩ => ⟨S1x1280, .f32⟩
  | .local _ .vmem, ⟨4, _⟩ => ⟨S1x1, .f32⟩
  | .local _ .vmem, ⟨5, _⟩ => ⟨S1x1280, .f32⟩
  | .local _ .vmem, ⟨6, _⟩ => ⟨S256x1280, .bf16⟩
  | .local _ .vmem, ⟨7, _⟩ => ⟨S256x1280, .bf16⟩
  | .local _ .vmem, ⟨8, _⟩ => ⟨S1x1280, .f32⟩
  | .local _ .vmem, ⟨9, _⟩ => ⟨S1x1280, .f32⟩
  | .local _ .vmem, ⟨10, _⟩ => ⟨S1x1, .f32⟩
  | .local _ .vmem, ⟨11, _⟩ => ⟨S256x1280, .bf16⟩
  | .local _ .vmem, ⟨12, _⟩ => ⟨S256x1280, .bf16⟩
  | .local _ .vmem, ⟨13, _⟩ => ⟨S256x1280, .i8⟩
  | .local _ .vmem, ⟨14, _⟩ => ⟨S256x1280, .i8⟩
  | _, _ => ⟨S1024x1280, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1280 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1280 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1280 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceOIdeal.lean ====
abbrev S1024x1280 : Shape := ⟨2, ![1024, 1280]⟩
abbrev S1280x1280 : Shape := ⟨2, ![1280, 1280]⟩
abbrev S1280 : Shape := ⟨1, ![1280]⟩
abbrev S1 : Shape := ⟨1, ![1]⟩
abbrev S1x1280 : Shape := ⟨2, ![1, 1280]⟩
abbrev S1x1 : Shape := ⟨2, ![1, 1]⟩
abbrev S1024 : Shape := ⟨1, ![1024]⟩
abbrev S1024x1 : Shape := ⟨2, ![1024, 1]⟩

abbrev nBuf : Space → Nat
  | .hbm => 17
  | .vmem => 11
  | .smem => 0
  | _ => 0

abbrev bufTy : (tb : Table) → Fin (tcTables nBuf tb) → BufTy
  | .hbm, ⟨0, _⟩ => ⟨S1024x1280, .i8⟩
  | .hbm, ⟨1, _⟩ => ⟨S1280x1280, .i8⟩
  | .hbm, ⟨2, _⟩ => ⟨S1280, .f32⟩
  | .hbm, ⟨3, _⟩ => ⟨S1, .f32⟩
  | .hbm, ⟨4, _⟩ => ⟨S1280, .f32⟩
  | .hbm, ⟨5, _⟩ => ⟨S1024x1280, .bf16⟩
  | .hbm, ⟨6, _⟩ => ⟨S1280, .f32⟩
  | .hbm, ⟨7, _⟩ => ⟨S1280, .f32⟩
  | .hbm, ⟨8, _⟩ => ⟨S1, .f32⟩
  | .hbm, ⟨9, _⟩ => ⟨S1x1280, .f32⟩
  | .hbm, ⟨10, _⟩ => ⟨S1x1, .f32⟩
  | .hbm, ⟨11, _⟩ => ⟨S1x1280, .f32⟩
  | .hbm, ⟨12, _⟩ => ⟨S1x1280, .f32⟩
  | .hbm, ⟨13, _⟩ => ⟨S1x1280, .f32⟩
  | .hbm, ⟨14, _⟩ => ⟨S1x1, .f32⟩
  | .hbm, ⟨15, _⟩ => ⟨S1024x1280, .bf16⟩
  | .hbm, ⟨16, _⟩ => ⟨S1024x1280, .i8⟩
  | .local _ .vmem, ⟨0, _⟩ => ⟨S1024x1280, .i8⟩
  | .local _ .vmem, ⟨1, _⟩ => ⟨S1280x1280, .i8⟩
  | .local _ .vmem, ⟨2, _⟩ => ⟨S1x1280, .f32⟩
  | .local _ .vmem, ⟨3, _⟩ => ⟨S1x1, .f32⟩
  | .local _ .vmem, ⟨4, _⟩ => ⟨S1x1280, .f32⟩
  | .local _ .vmem, ⟨5, _⟩ => ⟨S1024x1280, .bf16⟩
  | .local _ .vmem, ⟨6, _⟩ => ⟨S1x1280, .f32⟩
  | .local _ .vmem, ⟨7, _⟩ => ⟨S1x1280, .f32⟩
  | .local _ .vmem, ⟨8, _⟩ => ⟨S1x1, .f32⟩
  | .local _ .vmem, ⟨9, _⟩ => ⟨S1024x1280, .bf16⟩
  | .local _ .vmem, ⟨10, _⟩ => ⟨S1024x1280, .i8⟩
  | _, _ => ⟨S1024x1280, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1024x1280 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x1280 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1280 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x1280 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== KernelMlp.lean ====
abbrev S1024x1280 : Shape := ⟨2, ![1024, 1280]⟩
abbrev S1280x3420 : Shape := ⟨2, ![1280, 3420]⟩
abbrev S3420 : Shape := ⟨1, ![3420]⟩
abbrev S1 : Shape := ⟨1, ![1]⟩
abbrev S3420x1280 : Shape := ⟨2, ![3420, 1280]⟩
abbrev S1280 : Shape := ⟨1, ![1280]⟩
abbrev S1x3420 : Shape := ⟨2, ![1, 3420]⟩
abbrev S1x1 : Shape := ⟨2, ![1, 1]⟩
abbrev S1x1280 : Shape := ⟨2, ![1, 1280]⟩
abbrev S1024x3420 : Shape := ⟨2, ![1024, 3420]⟩
abbrev S1280x256 : Shape := ⟨2, ![1280, 256]⟩
abbrev S1x256 : Shape := ⟨2, ![1, 256]⟩
abbrev S256x1280 : Shape := ⟨2, ![256, 1280]⟩
abbrev S1024x256 : Shape := ⟨2, ![1024, 256]⟩
abbrev S256x256 : Shape := ⟨2, ![256, 256]⟩

abbrev nBuf : Space → Nat
  | .hbm => 23
  | .vmem => 25
  | .smem => 0
  | _ => 0

abbrev bufTy : (tb : Table) → Fin (tcTables nBuf tb) → BufTy
  | .hbm, ⟨0, _⟩ => ⟨S1024x1280, .i8⟩
  | .hbm, ⟨1, _⟩ => ⟨S1280x3420, .i8⟩
  | .hbm, ⟨2, _⟩ => ⟨S3420, .f32⟩
  | .hbm, ⟨3, _⟩ => ⟨S3420, .f32⟩
  | .hbm, ⟨4, _⟩ => ⟨S1280x3420, .i8⟩
  | .hbm, ⟨5, _⟩ => ⟨S3420, .f32⟩
  | .hbm, ⟨6, _⟩ => ⟨S3420, .f32⟩
  | .hbm, ⟨7, _⟩ => ⟨S1, .f32⟩
  | .hbm, ⟨8, _⟩ => ⟨S3420x1280, .i8⟩
  | .hbm, ⟨9, _⟩ => ⟨S1280, .f32⟩
  | .hbm, ⟨10, _⟩ => ⟨S1280, .f32⟩
  | .hbm, ⟨11, _⟩ => ⟨S1, .f32⟩
  | .hbm, ⟨12, _⟩ => ⟨S1024x1280, .bf16⟩
  | .hbm, ⟨13, _⟩ => ⟨S1x3420, .f32⟩
  | .hbm, ⟨14, _⟩ => ⟨S1x3420, .f32⟩
  | .hbm, ⟨15, _⟩ => ⟨S1x3420, .f32⟩
  | .hbm, ⟨16, _⟩ => ⟨S1x3420, .f32⟩
  | .hbm, ⟨17, _⟩ => ⟨S1x1, .f32⟩
  | .hbm, ⟨18, _⟩ => ⟨S1x1280, .f32⟩
  | .hbm, ⟨19, _⟩ => ⟨S1x1280, .f32⟩
  | .hbm, ⟨20, _⟩ => ⟨S1x1, .f32⟩
  | .hbm, ⟨21, _⟩ => ⟨S1024x3420, .i8⟩
  | .hbm, ⟨22, _⟩ => ⟨S1024x1280, .bf16⟩
  | .local _ .vmem, ⟨0, _⟩ => ⟨S1024x1280, .i8⟩
  | .local _ .vmem, ⟨1, _⟩ => ⟨S1280x256, .i8⟩
  | .local _ .vmem, ⟨2, _⟩ => ⟨S1280x256, .i8⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1280x256, .i8⟩
  | .local _ .vmem, ⟨8, _⟩ => ⟨S1280x256, .i8⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x1, .f32⟩
  | .local _ .vmem, ⟨14, _⟩ => ⟨S256x1280, .i8⟩
  | .local _ .vmem, ⟨15, _⟩ => ⟨S256x1280, .i8⟩
  | .local _ .vmem, ⟨16, _⟩ => ⟨S1x1280, .f32⟩
  | .local _ .vmem, ⟨17, _⟩ => ⟨S1x1280, .f32⟩
  | .local _ .vmem, ⟨18, _⟩ => ⟨S1x1, .f32⟩
  | .local _ .vmem, ⟨19, _⟩ => ⟨S1024x1280, .bf16⟩
  | .local _ .vmem, ⟨20, _⟩ => ⟨S1024x256, .i8⟩
  | .local _ .vmem, ⟨21, _⟩ => ⟨S1024x256, .i8⟩
  | .local _ .vmem, ⟨22, _⟩ => ⟨S1024x1280, .bf16⟩
  | .local _ .vmem, ⟨23, _⟩ => ⟨S1024x1280, .bf16⟩
  | .local _ .vmem, ⟨24, _⟩ => ⟨S1024x1280, .f32⟩
  | _, _ => ⟨S1024x1280, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![14], ![false]⟩

def k0_cond2 (i : grid0.Coords) : BitVec 1 :=
  let arg0 : BitVec 32 := BitVec.ofNat 32 (i 0).val
  let c13_i32 : BitVec 32 := 13#32
  let v207 : BitVec 1 := Scalar.cmpi .eq arg0 c13_i32
  let v208 : BitVec 32 := Scalar.extui v207
  let c0_i32_103 : BitVec 32 := 0#32
  let v209 : BitVec 1 := Scalar.cmpi .ne v208 c0_i32_103
  v209

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1280 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1280 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1280 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x256 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1280 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceMlpIdeal.lean ====
abbrev S1024x1280 : Shape := ⟨2, ![1024, 1280]⟩
abbrev S1280x3420 : Shape := ⟨2, ![1280, 3420]⟩
abbrev S3420 : Shape := ⟨1, ![3420]⟩
abbrev S1 : Shape := ⟨1, ![1]⟩
abbrev S3420x1280 : Shape := ⟨2, ![3420, 1280]⟩
abbrev S1280 : Shape := ⟨1, ![1280]⟩
abbrev S1x3420 : Shape := ⟨2, ![1, 3420]⟩
abbrev S1x1 : Shape := ⟨2, ![1, 1]⟩
abbrev S1x1280 : Shape := ⟨2, ![1, 1280]⟩
abbrev S1024x3420 : Shape := ⟨2, ![1024, 3420]⟩

abbrev nBuf : Space → Nat
  | .hbm => 23
  | .vmem => 15
  | .smem => 0
  | _ => 0

abbrev bufTy : (tb : Table) → Fin (tcTables nBuf tb) → BufTy
  | .hbm, ⟨0, _⟩ => ⟨S1024x1280, .i8⟩
  | .hbm, ⟨1, _⟩ => ⟨S1280x3420, .i8⟩
  | .hbm, ⟨2, _⟩ => ⟨S3420, .f32⟩
  | .hbm, ⟨3, _⟩ => ⟨S3420, .f32⟩
  | .hbm, ⟨4, _⟩ => ⟨S1280x3420, .i8⟩
  | .hbm, ⟨5, _⟩ => ⟨S3420, .f32⟩
  | .hbm, ⟨6, _⟩ => ⟨S3420, .f32⟩
  | .hbm, ⟨7, _⟩ => ⟨S1, .f32⟩
  | .hbm, ⟨8, _⟩ => ⟨S3420x1280, .i8⟩
  | .hbm, ⟨9, _⟩ => ⟨S1280, .f32⟩
  | .hbm, ⟨10, _⟩ => ⟨S1280, .f32⟩
  | .hbm, ⟨11, _⟩ => ⟨S1, .f32⟩
  | .hbm, ⟨12, _⟩ => ⟨S1024x1280, .bf16⟩
  | .hbm, ⟨13, _⟩ => ⟨S1x3420, .f32⟩
  | .hbm, ⟨14, _⟩ => ⟨S1x3420, .f32⟩
  | .hbm, ⟨15, _⟩ => ⟨S1x3420, .f32⟩
  | .hbm, ⟨16, _⟩ => ⟨S1x3420, .f32⟩
  | .hbm, ⟨17, _⟩ => ⟨S1x1, .f32⟩
  | .hbm, ⟨18, _⟩ => ⟨S1x1280, .f32⟩
  | .hbm, ⟨19, _⟩ => ⟨S1x1280, .f32⟩
  | .hbm, ⟨20, _⟩ => ⟨S1x1, .f32⟩
  | .hbm, ⟨21, _⟩ => ⟨S1024x3420, .i8⟩
  | .hbm, ⟨22, _⟩ => ⟨S1024x1280, .bf16⟩
  | .local _ .vmem, ⟨0, _⟩ => ⟨S1024x1280, .i8⟩
  | .local _ .vmem, ⟨1, _⟩ => ⟨S1280x3420, .i8⟩
  | .local _ .vmem, ⟨2, _⟩ => ⟨S1x3420, .f32⟩
  | .local _ .vmem, ⟨3, _⟩ => ⟨S1x3420, .f32⟩
  | .local _ .vmem, ⟨4, _⟩ => ⟨S1280x3420, .i8⟩
  | .local _ .vmem, ⟨5, _⟩ => ⟨S1x3420, .f32⟩
  | .local _ .vmem, ⟨6, _⟩ => ⟨S1x3420, .f32⟩
  | .local _ .vmem, ⟨7, _⟩ => ⟨S1x1, .f32⟩
  | .local _ .vmem, ⟨8, _⟩ => ⟨S3420x1280, .i8⟩
  | .local _ .vmem, ⟨9, _⟩ => ⟨S1x1280, .f32⟩
  | .local _ .vmem, ⟨10, _⟩ => ⟨S1x1280, .f32⟩
  | .local _ .vmem, ⟨11, _⟩ => ⟨S1x1, .f32⟩
  | .local _ .vmem, ⟨12, _⟩ => ⟨S1024x1280, .bf16⟩
  | .local _ .vmem, ⟨13, _⟩ => ⟨S1024x3420, .i8⟩
  | .local _ .vmem, ⟨14, _⟩ => ⟨S1024x1280, .bf16⟩
  | _, _ => ⟨S1024x1280, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S1024x1280 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x3420 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3420 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3420 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x3420 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3420 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3420 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3420x1280 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x1280 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x3420 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x1280 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== KernelQkv.lean ====
abbrev S1024x1280 : Shape := ⟨2, ![1024, 1280]⟩
abbrev S1024x80 : Shape := ⟨2, ![1024, 80]⟩
abbrev S1280 : Shape := ⟨1, ![1280]⟩
abbrev S1280x3840 : Shape := ⟨2, ![1280, 3840]⟩
abbrev S3840 : Shape := ⟨1, ![3840]⟩
abbrev S1 : Shape := ⟨1, ![1]⟩
abbrev S80 : Shape := ⟨1, ![80]⟩
abbrev S_ : Shape := ⟨0, ![]⟩
abbrev S1x1024x1x80 : Shape := ⟨4, ![1, 1024, 1, 80]⟩
abbrev S1x1024x8x80 : Shape := ⟨4, ![1, 1024, 8, 80]⟩
abbrev S1024x640 : Shape := ⟨2, ![1024, 640]⟩
abbrev S1x80 : Shape := ⟨2, ![1, 80]⟩
abbrev S1x1280 : Shape := ⟨2, ![1, 1280]⟩
abbrev S1x1 : Shape := ⟨2, ![1, 1]⟩
abbrev S1x3840 : Shape := ⟨2, ![1, 3840]⟩
abbrev S1024x3840 : Shape := ⟨2, ![1024, 3840]⟩
abbrev S1280x1280 : Shape := ⟨2, ![1280, 1280]⟩
abbrev S256x1280 : Shape := ⟨2, ![256, 1280]⟩
abbrev S256 : Shape := ⟨1, ![256]⟩
abbrev S256x1 : Shape := ⟨2, ![256, 1]⟩
abbrev S256x640 : Shape := ⟨2, ![256, 640]⟩

abbrev nBuf : Space → Nat
  | .hbm => 35
  | .vmem => 16
  | .smem => 0
  | _ => 0

abbrev bufTy : (tb : Table) → Fin (tcTables nBuf tb) → BufTy
  | .hbm, ⟨0, _⟩ => ⟨S1024x1280, .bf16⟩
  | .hbm, ⟨1, _⟩ => ⟨S1024x80, .f32⟩
  | .hbm, ⟨2, _⟩ => ⟨S1024x80, .f32⟩
  | .hbm, ⟨3, _⟩ => ⟨S1280, .f32⟩
  | .hbm, ⟨4, _⟩ => ⟨S1280, .f32⟩
  | .hbm, ⟨5, _⟩ => ⟨S1280x3840, .i8⟩
  | .hbm, ⟨6, _⟩ => ⟨S3840, .f32⟩
  | .hbm, ⟨7, _⟩ => ⟨S1, .f32⟩
  | .hbm, ⟨8, _⟩ => ⟨S3840, .f32⟩
  | .hbm, ⟨9, _⟩ => ⟨S80, .i32⟩
  | .hbm, ⟨10, _⟩ => ⟨S_, .i32⟩
  | .hbm, ⟨11, _⟩ => ⟨S80, .i32⟩
  | .hbm, ⟨12, _⟩ => ⟨S80, .i1⟩
  | .hbm, ⟨13, _⟩ => ⟨S_, .f32⟩
  | .hbm, ⟨14, _⟩ => ⟨S_, .f32⟩
  | .hbm, ⟨15, _⟩ => ⟨S80, .f32⟩
  | .hbm, ⟨16, _⟩ => ⟨S80, .f32⟩
  | .hbm, ⟨17, _⟩ => ⟨S80, .f32⟩
  | .hbm, ⟨18, _⟩ => ⟨S80, .f32⟩
  | .hbm, ⟨19, _⟩ => ⟨S1x1024x1x80, .f32⟩
  | .hbm, ⟨20, _⟩ => ⟨S1x1024x8x80, .f32⟩
  | .hbm, ⟨21, _⟩ => ⟨S1024x640, .f32⟩
  | .hbm, ⟨22, _⟩ => ⟨S1x80, .f32⟩
  | .hbm, ⟨23, _⟩ => ⟨S1024x80, .f32⟩
  | .hbm, ⟨24, _⟩ => ⟨S1024x80, .f32⟩
  | .hbm, ⟨25, _⟩ => ⟨S1x1024x1x80, .f32⟩
  | .hbm, ⟨26, _⟩ => ⟨S1x1024x8x80, .f32⟩
  | .hbm, ⟨27, _⟩ => ⟨S1024x640, .f32⟩
  | .hbm, ⟨28, _⟩ => ⟨S1x1280, .f32⟩
  | .hbm, ⟨29, _⟩ => ⟨S1x1280, .f32⟩
  | .hbm, ⟨30, _⟩ => ⟨S1x1, .f32⟩
  | .hbm, ⟨31, _⟩ => ⟨S1x3840, .f32⟩
  | .hbm, ⟨32, _⟩ => ⟨S1x3840, .f32⟩
  | .hbm, ⟨33, _⟩ => ⟨S1024x1280, .i8⟩
  | .hbm, ⟨34, _⟩ => ⟨S1024x3840, .bf16⟩
  | .local _ .vmem, ⟨0, _⟩ => ⟨S1024x1280, .bf16⟩
  | .local _ .vmem, ⟨1, _⟩ => ⟨S1x1280, .f32⟩
  | .local _ .vmem, ⟨2, _⟩ => ⟨S1x1280, .f32⟩
  | .local _ .vmem, ⟨3, _⟩ => ⟨S1x1, .f32⟩
  | .local _ .vmem, ⟨4, _⟩ => ⟨S1280x1280, .i8⟩
  | .local _ .vmem, ⟨5, _⟩ => ⟨S1280x1280, .i8⟩
  | .local _ .vmem, ⟨6, _⟩ => ⟨S1x1280, .f32⟩
  | .local _ .vmem, ⟨7, _⟩ => ⟨S1x1280, .f32⟩
  | .local _ .vmem, ⟨8, _⟩ => ⟨S1x1280, .f32⟩
  | .local _ .vmem, ⟨9, _⟩ => ⟨S1x1280, .f32⟩
  | .local _ .vmem, ⟨10, _⟩ => ⟨S1024x640, .f32⟩
  | .local _ .vmem, ⟨11, _⟩ => ⟨S1024x640, .f32⟩
  | .local _ .vmem, ⟨12, _⟩ => ⟨S1024x1280, .i8⟩
  | .local _ .vmem, ⟨13, _⟩ => ⟨S1024x1280, .bf16⟩
  | .local _ .vmem, ⟨14, _⟩ => ⟨S1024x1280, .bf16⟩
  | .local _ .vmem, ⟨15, _⟩ => ⟨S1024x1280, .bf16⟩
  | _, _ => ⟨S1024x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c2_i32 : BitVec 32 := 2#32
  let v24 : BitVec 1 := Scalar.cmpi .slt arg0 c2_i32
  let v25 : BitVec 32 := Scalar.extui v24
  let c0_i32_10 : BitVec 32 := 0#32
  let v26 : BitVec 1 := Scalar.cmpi .ne v25 c0_i32_10
  v26

def k0_cond3 (i : grid0.Coords) : BitVec 1 :=
  let arg0 : BitVec 32 := BitVec.ofNat 32 (i 0).val
  let c2_i32_11 : BitVec 32 := 2#32
  let v27 : BitVec 1 := Scalar.cmpi .eq arg0 c2_i32_11
  let v28 : BitVec 32 := Scalar.extui v27
  let c0_i32_12 : BitVec 32 := 0#32
  let v29 : BitVec 1 := Scalar.cmpi .ne v28 c0_i32_12
  v29

def k0_cond4 (i : grid0.Coords) : BitVec 1 :=
  let arg0 : BitVec 32 := BitVec.ofNat 32 (i 0).val
  let c2_i32_17 : BitVec 32 := 2#32
  let v38 : BitVec 1 := Scalar.cmpi .slt arg0 c2_i32_17
  let v39 : BitVec 32 := Scalar.extui v38
  let c0_i32_18 : BitVec 32 := 0#32
  let v40 : BitVec 1 := Scalar.cmpi .ne v39 c0_i32_18
  v40

def k0_cond5 (i : grid0.Coords) : BitVec 1 :=
  let arg0 : BitVec 32 := BitVec.ofNat 32 (i 0).val
  let c2_i32_19 : BitVec 32 := 2#32
  let v41 : BitVec 1 := Scalar.cmpi .eq arg0 c2_i32_19
  let v42 : BitVec 32 := Scalar.extui v41
  let c0_i32_20 : BitVec 32 := 0#32
  let v43 : BitVec 1 := Scalar.cmpi .ne v42 c0_i32_20
  v43

def k0_cond6 (i : grid0.Coords) : BitVec 1 :=
  let arg0 : BitVec 32 := BitVec.ofNat 32 (i 0).val
  let c2_i32_25 : BitVec 32 := 2#32
  let v52 : BitVec 1 := Scalar.cmpi .slt arg0 c2_i32_25
  let v53 : BitVec 32 := Scalar.extui v52
  let c0_i32_26 : BitVec 32 := 0#32
  let v54 : BitVec 1 := Scalar.cmpi .ne v53 c0_i32_26
  v54

def k0_cond7 (i : grid0.Coords) : BitVec 1 :=
  let arg0 : BitVec 32 := BitVec.ofNat 32 (i 0).val
  let c2_i32_27 : BitVec 32 := 2#32
  let v55 : BitVec 1 := Scalar.cmpi .eq arg0 c2_i32_27
  let v56 : BitVec 32 := Scalar.extui v55
  let c0_i32_28 : BitVec 32 := 0#32
  let v57 : BitVec 1 := Scalar.cmpi .ne v56 c0_i32_28
  v57

def k0_cond8 (i : grid0.Coords) : BitVec 1 :=
  let arg0 : BitVec 32 := BitVec.ofNat 32 (i 0).val
  let c2_i32_33 : BitVec 32 := 2#32
  let v66 : BitVec 1 := Scalar.cmpi .slt arg0 c2_i32_33
  let v67 : BitVec 32 := Scalar.extui v66
  let c0_i32_34 : BitVec 32 := 0#32
  let v68 : BitVec 1 := Scalar.cmpi .ne v67 c0_i32_34
  v68

def k0_cond9 (i : grid0.Coords) : BitVec 1 :=
  let arg0 : BitVec 32 := BitVec.ofNat 32 (i 0).val
  let c2_i32_35 : BitVec 32 := 2#32
  let v69 : BitVec 1 := Scalar.cmpi .eq arg0 c2_i32_35
  let v70 : BitVec 32 := Scalar.extui v69
  let c0_i32_36 : BitVec 32 := 0#32
  let v71 : BitVec 1 := Scalar.cmpi .ne v70 c0_i32_36
  v71

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1280x1280 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1280 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1280 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceQkvIdeal.lean ====
abbrev S1024x1280 : Shape := ⟨2, ![1024, 1280]⟩
abbrev S1024x80 : Shape := ⟨2, ![1024, 80]⟩
abbrev S1280 : Shape := ⟨1, ![1280]⟩
abbrev S1280x3840 : Shape := ⟨2, ![1280, 3840]⟩
abbrev S3840 : Shape := ⟨1, ![3840]⟩
abbrev S1 : Shape := ⟨1, ![1]⟩
abbrev S1x1280 : Shape := ⟨2, ![1, 1280]⟩
abbrev S1x3840 : Shape := ⟨2, ![1, 3840]⟩
abbrev S1x1 : Shape := ⟨2, ![1, 1]⟩
abbrev S1024x3840 : Shape := ⟨2, ![1024, 3840]⟩
abbrev S1024 : Shape := ⟨1, ![1024]⟩
abbrev S1024x1 : Shape := ⟨2, ![1024, 1]⟩
abbrev S1024x3x16x80 : Shape := ⟨4, ![1024, 3, 16, 80]⟩
abbrev S1024x2x16x80 : Shape := ⟨4, ![1024, 2, 16, 80]⟩
abbrev S1024x2x16x40 : Shape := ⟨4, ![1024, 2, 16, 40]⟩
abbrev S1024x1x1x80 : Shape := ⟨4, ![1024, 1, 1, 80]⟩
abbrev S1024x1x16x80 : Shape := ⟨4, ![1024, 1, 16, 80]⟩

abbrev nBuf : Space → Nat
  | .hbm => 16
  | .vmem => 11
  | .smem => 0
  | _ => 0

abbrev bufTy : (tb : Table) → Fin (tcTables nBuf tb) → BufTy
  | .hbm, ⟨0, _⟩ => ⟨S1024x1280, .bf16⟩
  | .hbm, ⟨1, _⟩ => ⟨S1024x80, .f32⟩
  | .hbm, ⟨2, _⟩ => ⟨S1024x80, .f32⟩
  | .hbm, ⟨3, _⟩ => ⟨S1280, .f32⟩
  | .hbm, ⟨4, _⟩ => ⟨S1280, .f32⟩
  | .hbm, ⟨5, _⟩ => ⟨S1280x3840, .i8⟩
  | .hbm, ⟨6, _⟩ => ⟨S3840, .f32⟩
  | .hbm, ⟨7, _⟩ => ⟨S1, .f32⟩
  | .hbm, ⟨8, _⟩ => ⟨S3840, .f32⟩
  | .hbm, ⟨9, _⟩ => ⟨S1x1280, .f32⟩
  | .hbm, ⟨10, _⟩ => ⟨S1x1280, .f32⟩
  | .hbm, ⟨11, _⟩ => ⟨S1x3840, .f32⟩
  | .hbm, ⟨12, _⟩ => ⟨S1x1, .f32⟩
  | .hbm, ⟨13, _⟩ => ⟨S1x3840, .f32⟩
  | .hbm, ⟨14, _⟩ => ⟨S1024x1280, .i8⟩
  | .hbm, ⟨15, _⟩ => ⟨S1024x3840, .bf16⟩
  | .local _ .vmem, ⟨0, _⟩ => ⟨S1024x1280, .bf16⟩
  | .local _ .vmem, ⟨1, _⟩ => ⟨S1024x80, .f32⟩
  | .local _ .vmem, ⟨2, _⟩ => ⟨S1024x80, .f32⟩
  | .local _ .vmem, ⟨3, _⟩ => ⟨S1x1280, .f32⟩
  | .local _ .vmem, ⟨4, _⟩ => ⟨S1x1280, .f32⟩
  | .local _ .vmem, ⟨5, _⟩ => ⟨S1280x3840, .i8⟩
  | .local _ .vmem, ⟨6, _⟩ => ⟨S1x3840, .f32⟩
  | .local _ .vmem, ⟨7, _⟩ => ⟨S1x1, .f32⟩
  | .local _ .vmem, ⟨8, _⟩ => ⟨S1x3840, .f32⟩
  | .local _ .vmem, ⟨9, _⟩ => ⟨S1024x1280, .i8⟩
  | .local _ .vmem, ⟨10, _⟩ => ⟨S1024x3840, .bf16⟩
  | _, _ => ⟨S1024x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1024x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280x3840 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3840 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x3840 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1280 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x3840 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== KernelAttn.lean ====
abbrev S1024x3840 : Shape := ⟨2, ![1024, 3840]⟩
abbrev S1024 : Shape := ⟨1, ![1024]⟩
abbrev S1 : Shape := ⟨1, ![1]⟩
abbrev S1024x1 : Shape := ⟨2, ![1024, 1]⟩
abbrev S1x1024 : Shape := ⟨2, ![1, 1024]⟩
abbrev S1x1 : Shape := ⟨2, ![1, 1]⟩
abbrev S1024x1280 : Shape := ⟨2, ![1024, 1280]⟩
abbrev S128x1280 : Shape := ⟨2, ![128, 1280]⟩
abbrev S128x1 : Shape := ⟨2, ![128, 1]⟩
abbrev S128x1024 : Shape := ⟨2, ![128, 1024]⟩
abbrev S128x256 : Shape := ⟨2, ![128, 256]⟩
abbrev S128x128 : Shape := ⟨2, ![128, 128]⟩
abbrev S1024x256 : Shape := ⟨2, ![1024, 256]⟩
abbrev S128 : Shape := ⟨1, ![128]⟩

abbrev nBuf : Space → Nat
  | .hbm => 8
  | .vmem => 11
  | .smem => 0
  | _ => 0

abbrev bufTy : (tb : Table) → Fin (tcTables nBuf tb) → BufTy
  | .hbm, ⟨0, _⟩ => ⟨S1024x3840, .bf16⟩
  | .hbm, ⟨1, _⟩ => ⟨S1024, .i32⟩
  | .hbm, ⟨2, _⟩ => ⟨S1, .f32⟩
  | .hbm, ⟨3, _⟩ => ⟨S1024x1, .i32⟩
  | .hbm, ⟨4, _⟩ => ⟨S1x1024, .i32⟩
  | .hbm, ⟨5, _⟩ => ⟨S1x1, .f32⟩
  | .hbm, ⟨6, _⟩ => ⟨S1024x1280, .f32⟩
  | .hbm, ⟨7, _⟩ => ⟨S1024x1280, .i8⟩
  | .local _ .vmem, ⟨0, _⟩ => ⟨S128x1280, .bf16⟩
  | .local _ .vmem, ⟨1, _⟩ => ⟨S128x1280, .bf16⟩
  | .local _ .vmem, ⟨2, _⟩ => ⟨S1024x3840, .bf16⟩
  | .local _ .vmem, ⟨3, _⟩ => ⟨S128x1, .i32⟩
  | .local _ .vmem, ⟨4, _⟩ => ⟨S128x1, .i32⟩
  | .local _ .vmem, ⟨5, _⟩ => ⟨S1x1024, .i32⟩
  | .local _ .vmem, ⟨6, _⟩ => ⟨S1x1, .f32⟩
  | .local _ .vmem, ⟨7, _⟩ => ⟨S128x1280, .f32⟩
  | .local _ .vmem, ⟨8, _⟩ => ⟨S128x1280, .f32⟩
  | .local _ .vmem, ⟨9, _⟩ => ⟨S128x1280, .i8⟩
  | .local _ .vmem, ⟨10, _⟩ => ⟨S128x1280, .i8⟩
  | _, _ => ⟨S1024x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1280 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAttnIdeal.lean ====
abbrev S1024x3840 : Shape := ⟨2, ![1024, 3840]⟩
abbrev S1024 : Shape := ⟨1, ![1024]⟩
abbrev S1 : Shape := ⟨1, ![1]⟩
abbrev S1024x1 : Shape := ⟨2, ![1024, 1]⟩
abbrev S1x1024 : Shape := ⟨2, ![1, 1024]⟩
abbrev S1x1 : Shape := ⟨2, ![1, 1]⟩
abbrev S1024x1280 : Shape := ⟨2, ![1024, 1280]⟩
abbrev S1024x3x16x80 : Shape := ⟨4, ![1024, 3, 16, 80]⟩
abbrev S1024x1x16x80 : Shape := ⟨4, ![1024, 1, 16, 80]⟩
abbrev S1024x16x80 : Shape := ⟨3, ![1024, 16, 80]⟩
abbrev S16x1024x1024 : Shape := ⟨3, ![16, 1024, 1024]⟩
abbrev S1024x1024 : Shape := ⟨2, ![1024, 1024]⟩
abbrev S1x1024x1024 : Shape := ⟨3, ![1, 1024, 1024]⟩
abbrev S16x1024 : Shape := ⟨2, ![16, 1024]⟩
abbrev S16x1024x1 : Shape := ⟨3, ![16, 1024, 1]⟩
abbrev S16x1024x80 : Shape := ⟨3, ![16, 1024, 80]⟩

abbrev nBuf : Space → Nat
  | .hbm => 8
  | .vmem => 6
  | .smem => 0
  | _ => 0

abbrev bufTy : (tb : Table) → Fin (tcTables nBuf tb) → BufTy
  | .hbm, ⟨0, _⟩ => ⟨S1024x3840, .bf16⟩
  | .hbm, ⟨1, _⟩ => ⟨S1024, .i32⟩
  | .hbm, ⟨2, _⟩ => ⟨S1, .f32⟩
  | .hbm, ⟨3, _⟩ => ⟨S1024x1, .i32⟩
  | .hbm, ⟨4, _⟩ => ⟨S1x1024, .i32⟩
  | .hbm, ⟨5, _⟩ => ⟨S1x1, .f32⟩
  | .hbm, ⟨6, _⟩ => ⟨S1024x1280, .f32⟩
  | .hbm, ⟨7, _⟩ => ⟨S1024x1280, .i8⟩
  | .local _ .vmem, ⟨0, _⟩ => ⟨S1024x3840, .bf16⟩
  | .local _ .vmem, ⟨1, _⟩ => ⟨S1024x1, .i32⟩
  | .local _ .vmem, ⟨2, _⟩ => ⟨S1x1024, .i32⟩
  | .local _ .vmem, ⟨3, _⟩ => ⟨S1x1, .f32⟩
  | .local _ .vmem, ⟨4, _⟩ => ⟨S1024x1280, .f32⟩
  | .local _ .vmem, ⟨5, _⟩ => ⟨S1024x1280, .i8⟩
  | _, _ => ⟨S1024x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1024x3840 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1280 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelWin.lean ====
abbrev S1024x3840 : Shape := ⟨2, ![1024, 3840]⟩
abbrev S22x64 : Shape := ⟨2, ![22, 64]⟩
abbrev S22 : Shape := ⟨1, ![22]⟩
abbrev S1024 : Shape := ⟨1, ![1024]⟩
abbrev S1 : Shape := ⟨1, ![1]⟩
abbrev S_ : Shape := ⟨0, ![]⟩
abbrev S256 : Shape := ⟨1, ![256]⟩
abbrev S1x256 : Shape := ⟨2, ![1, 256]⟩
abbrev S8x256 : Shape := ⟨2, ![8, 256]⟩
abbrev S8x1x256 : Shape := ⟨3, ![8, 1, 256]⟩
abbrev S1024x1 : Shape := ⟨2, ![1024, 1]⟩
abbrev S1x1 : Shape := ⟨2, ![1, 1]⟩
abbrev S1024x1280 : Shape := ⟨2, ![1024, 1280]⟩
abbrev S128x1280 : Shape := ⟨2, ![128, 1280]⟩
abbrev S128x1 : Shape := ⟨2, ![128, 1]⟩
abbrev S1x1x256 : Shape := ⟨3, ![1, 1, 256]⟩
abbrev S128x256 : Shape := ⟨2, ![128, 256]⟩
abbrev S128x128 : Shape := ⟨2, ![128, 128]⟩
abbrev S256x256 : Shape := ⟨2, ![256, 256]⟩
abbrev S128 : Shape := ⟨1, ![128]⟩

abbrev nBuf : Space → Nat
  | .hbm => 30
  | .vmem => 11
  | .smem => 0
  | _ => 0

abbrev bufTy : (tb : Table) → Fin (tcTables nBuf tb) → BufTy
  | .hbm, ⟨0, _⟩ => ⟨S1024x3840, .bf16⟩
  | .hbm, ⟨1, _⟩ => ⟨S22x64, .i32⟩
  | .hbm, ⟨2, _⟩ => ⟨S22, .i32⟩
  | .hbm, ⟨3, _⟩ => ⟨S1024, .i32⟩
  | .hbm, ⟨4, _⟩ => ⟨S1, .f32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S256, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S256, .i32⟩
  | .hbm, ⟨15, _⟩ => ⟨S256, .i32⟩
  | .hbm, ⟨16, _⟩ => ⟨S1x256, .i32⟩
  | .hbm, ⟨17, _⟩ => ⟨S1x256, .i32⟩
  | .hbm, ⟨18, _⟩ => ⟨S1x256, .i32⟩
  | .hbm, ⟨19, _⟩ => ⟨S1x256, .i32⟩
  | .hbm, ⟨20, _⟩ => ⟨S1x256, .i32⟩
  | .hbm, ⟨21, _⟩ => ⟨S1x256, .i32⟩
  | .hbm, ⟨22, _⟩ => ⟨S1x256, .i32⟩
  | .hbm, ⟨23, _⟩ => ⟨S1x256, .i32⟩
  | .hbm, ⟨24, _⟩ => ⟨S8x256, .i32⟩
  | .hbm, ⟨25, _⟩ => ⟨S8x1x256, .i32⟩
  | .hbm, ⟨26, _⟩ => ⟨S1024x1, .i32⟩
  | .hbm, ⟨27, _⟩ => ⟨S1x1, .f32⟩
  | .hbm, ⟨28, _⟩ => ⟨S1024x1280, .f32⟩
  | .hbm, ⟨29, _⟩ => ⟨S1024x1280, .i8⟩
  | .local _ .vmem, ⟨0, _⟩ => ⟨S128x1280, .bf16⟩
  | .local _ .vmem, ⟨1, _⟩ => ⟨S128x1280, .bf16⟩
  | .local _ .vmem, ⟨2, _⟩ => ⟨S1024x3840, .bf16⟩
  | .local _ .vmem, ⟨3, _⟩ => ⟨S128x1, .i32⟩
  | .local _ .vmem, ⟨4, _⟩ => ⟨S128x1, .i32⟩
  | .local _ .vmem, ⟨5, _⟩ => ⟨S8x1x256, .i32⟩
  | .local _ .vmem, ⟨6, _⟩ => ⟨S1x1, .f32⟩
  | .local _ .vmem, ⟨7, _⟩ => ⟨S128x1280, .f32⟩
  | .local _ .vmem, ⟨8, _⟩ => ⟨S128x1280, .f32⟩
  | .local _ .vmem, ⟨9, _⟩ => ⟨S128x1280, .i8⟩
  | .local _ .vmem, ⟨10, _⟩ => ⟨S128x1280, .i8⟩
  | _, _ => ⟨S1024x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22_0 : Ref sig .tc := ⟨.hbm, 28, rfl⟩
abbrev main_v22_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def k0_mult1 (i : grid0.Coords) : BitVec 32 :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  v3
def k0_off1 (i : grid0.Coords) : Fin 3 → Nat :=
  let arg0 : BitVec 32 := BitVec.ofNat 32 (i 0).val
  let v5 : Index := Scalar.indexCast arg0
  let c0 : Index := 0#32
  let c0_0 : Index := 0#32
  ![v5.toNat, 0, 0]
def k0_off2 (i : grid0.Coords) : Fin 2 → Nat :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v34 : Index := Scalar.indexCast v4
  let c1280 : Index := 1280#32
  ![v34.toNat, 1280]
def k0_off3 (i : grid0.Coords) : Fin 2 → Nat :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v36 : Index := Scalar.indexCast v4
  let c2560 : Index := 2560#32
  ![v36.toNat, 2560]
def k0_off4 (i : grid0.Coords) : Fin 2 → Nat :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v112 : Index := Scalar.indexCast v4
  let c1408 : Index := 1408#32
  ![v112.toNat, 1408]
def k0_off5 (i : grid0.Coords) : Fin 2 → Nat :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v114 : Index := Scalar.indexCast v4
  let c2688 : Index := 2688#32
  ![v114.toNat, 2688]
def k0_off6 (i : grid0.Coords) : Fin 2 → Nat :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v190 : Index := Scalar.indexCast v4
  let c1536 : Index := 1536#32
  ![v190.toNat, 1536]
def k0_off7 (i : grid0.Coords) : Fin 2 → Nat :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v192 : Index := Scalar.indexCast v4
  let c2816 : Index := 2816#32
  ![v192.toNat, 2816]
def k0_off8 (i : grid0.Coords) : Fin 2 → Nat :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v229 : Index := Scalar.indexCast v4
  let c1664 : Index := 1664#32
  ![v229.toNat, 1664]
def k0_off9 (i : grid0.Coords) : Fin 2 → Nat :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v231 : Index := Scalar.indexCast v4
  let c2944 : Index := 2944#32
  ![v231.toNat, 2944]
def k0_off10 (i : grid0.Coords) : Fin 2 → Nat :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v307 : Index := Scalar.indexCast v4
  let c1792 : Index := 1792#32
  ![v307.toNat, 1792]
def k0_off11 (i : grid0.Coords) : Fin 2 → Nat :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v309 : Index := Scalar.indexCast v4
  let c3072 : Index := 3072#32
  ![v309.toNat, 3072]
def k0_off12 (i : grid0.Coords) : Fin 2 → Nat :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v346 : Index := Scalar.indexCast v4
  let c1920 : Index := 1920#32
  ![v346.toNat, 1920]
def k0_off13 (i : grid0.Coords) : Fin 2 → Nat :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v348 : Index := Scalar.indexCast v4
  let c3200 : Index := 3200#32
  ![v348.toNat, 3200]
def k0_off14 (i : grid0.Coords) : Fin 2 → Nat :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v424 : Index := Scalar.indexCast v4
  let c2048 : Index := 2048#32
  ![v424.toNat, 2048]
def k0_off15 (i : grid0.Coords) : Fin 2 → Nat :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v426 : Index := Scalar.indexCast v4
  let c3328 : Index := 3328#32
  ![v426.toNat, 3328]
def k0_off16 (i : grid0.Coords) : Fin 2 → Nat :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v502 : Index := Scalar.indexCast v4
  let c2176 : Index := 2176#32
  ![v502.toNat, 2176]
def k0_off17 (i : grid0.Coords) : Fin 2 → Nat :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v504 : Index := Scalar.indexCast v4
  let c3456 : Index := 3456#32
  ![v504.toNat, 3456]
def k0_off18 (i : grid0.Coords) : Fin 2 → Nat :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v541 : Index := Scalar.indexCast v4
  let c2304 : Index := 2304#32
  ![v541.toNat, 2304]
def k0_off19 (i : grid0.Coords) : Fin 2 → Nat :=
  let c768_i32 : BitVec 32 := 768#32
  let c0_i32 : BitVec 32 := 0#32
  let arg0 : BitVec 32 := BitVec.ofNat 32 (i 0).val
  let c128_i32 : BitVec 32 := 128#32
  let v0 : BitVec 32 := Scalar.muli arg0 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v543 : Index := Scalar.indexCast v4
  let c3584 : Index := 3584#32
  ![v543.toNat, 3584]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1280 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceWinIdeal.lean ====
abbrev S1024x3840 : Shape := ⟨2, ![1024, 3840]⟩
abbrev S22x64 : Shape := ⟨2, ![22, 64]⟩
abbrev S22 : Shape := ⟨1, ![22]⟩
abbrev S1024 : Shape := ⟨1, ![1024]⟩
abbrev S1 : Shape := ⟨1, ![1]⟩
abbrev S1024x3x16x80 : Shape := ⟨4, ![1024, 3, 16, 80]⟩
abbrev S_ : Shape := ⟨0, ![]⟩
abbrev S22x64x1 : Shape := ⟨3, ![22, 64, 1]⟩
abbrev S22x64x3x16x80 : Shape := ⟨5, ![22, 64, 3, 16, 80]⟩
abbrev S22x64x1x16x80 : Shape := ⟨5, ![22, 64, 1, 16, 80]⟩
abbrev S22x64x16x80 : Shape := ⟨4, ![22, 64, 16, 80]⟩
abbrev S22x1 : Shape := ⟨2, ![22, 1]⟩
abbrev S1x1x1x1 : Shape := ⟨4, ![1, 1, 1, 1]⟩
abbrev S22x16x64x64 : Shape := ⟨4, ![22, 16, 64, 64]⟩
abbrev S22x1x1x64 : Shape := ⟨4, ![22, 1, 1, 64]⟩
abbrev S22x16x64 : Shape := ⟨3, ![22, 16, 64]⟩
abbrev S22x16x64x1 : Shape := ⟨4, ![22, 16, 64, 1]⟩
abbrev S22x16x64x80 : Shape := ⟨4, ![22, 16, 64, 80]⟩
abbrev S1408x1280 : Shape := ⟨2, ![1408, 1280]⟩
abbrev S1024x1 : Shape := ⟨2, ![1024, 1]⟩
abbrev S1024x1280 : Shape := ⟨2, ![1024, 1280]⟩

abbrev nBuf : Space → Nat
  | .hbm => 45
  | .vmem => 7
  | .smem => 0
  | _ => 0

abbrev bufTy : (tb : Table) → Fin (tcTables nBuf tb) → BufTy
  | .hbm, ⟨0, _⟩ => ⟨S1024x3840, .bf16⟩
  | .hbm, ⟨1, _⟩ => ⟨S22x64, .i32⟩
  | .hbm, ⟨2, _⟩ => ⟨S22, .i32⟩
  | .hbm, ⟨3, _⟩ => ⟨S1024, .i32⟩
  | .hbm, ⟨4, _⟩ => ⟨S1, .f32⟩
  | .hbm, ⟨5, _⟩ => ⟨S1024x3x16x80, .bf16⟩
  | .hbm, ⟨6, _⟩ => ⟨S_, .i32⟩
  | .hbm, ⟨7, _⟩ => ⟨S22x64, .i32⟩
  | .hbm, ⟨8, _⟩ => ⟨S22x64, .i1⟩
  | .hbm, ⟨9, _⟩ => ⟨S_, .i32⟩
  | .hbm, ⟨10, _⟩ => ⟨S22x64, .i32⟩
  | .hbm, ⟨11, _⟩ => ⟨S22x64, .i32⟩
  | .hbm, ⟨12, _⟩ => ⟨S22x64, .i32⟩
  | .hbm, ⟨13, _⟩ => ⟨S22x64x1, .i32⟩
  | .hbm, ⟨14, _⟩ => ⟨S22x64x3x16x80, .bf16⟩
  | .hbm, ⟨15, _⟩ => ⟨S22x64x1x16x80, .bf16⟩
  | .hbm, ⟨16, _⟩ => ⟨S22x64x16x80, .bf16⟩
  | .hbm, ⟨17, _⟩ => ⟨S22x64x1x16x80, .bf16⟩
  | .hbm, ⟨18, _⟩ => ⟨S22x64x16x80, .bf16⟩
  | .hbm, ⟨19, _⟩ => ⟨S22x64x1x16x80, .bf16⟩
  | .hbm, ⟨20, _⟩ => ⟨S22x64x16x80, .bf16⟩
  | .hbm, ⟨21, _⟩ => ⟨S22x1, .i32⟩
  | .hbm, ⟨22, _⟩ => ⟨S1x1x1x1, .f32⟩
  | .hbm, ⟨23, _⟩ => ⟨S22x64x16x80, .f32⟩
  | .hbm, ⟨24, _⟩ => ⟨S22x64x16x80, .i8⟩
  | .hbm, ⟨25, _⟩ => ⟨S1408x1280, .f32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S1024x1, .i32⟩
  | .hbm, ⟨34, _⟩ => ⟨S1024x1280, .f32⟩
  | .hbm, ⟨35, _⟩ => ⟨S1408x1280, .i8⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S_, .i32⟩
  | .hbm, ⟨40, _⟩ => ⟨S1024, .i32⟩
  | .hbm, ⟨41, _⟩ => ⟨S1024, .i32⟩
  | .hbm, ⟨42, _⟩ => ⟨S1024, .i32⟩
  | .hbm, ⟨43, _⟩ => ⟨S1024x1, .i32⟩
  | .hbm, ⟨44, _⟩ => ⟨S1024x1280, .i8⟩
  | .local _ .vmem, ⟨0, _⟩ => ⟨S22x64x16x80, .bf16⟩
  | .local _ .vmem, ⟨1, _⟩ => ⟨S22x64x16x80, .bf16⟩
  | .local _ .vmem, ⟨2, _⟩ => ⟨S22x64x16x80, .bf16⟩
  | .local _ .vmem, ⟨3, _⟩ => ⟨S22x1, .i32⟩
  | .local _ .vmem, ⟨4, _⟩ => ⟨S1x1x1x1, .f32⟩
  | .local _ .vmem, ⟨5, _⟩ => ⟨S22x64x16x80, .f32⟩
  | .local _ .vmem, ⟨6, _⟩ => ⟨S22x64x16x80, .i8⟩
  | _, _ => ⟨S1024x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S22x64x16x80 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S22x64x16x80 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S22x64x16x80 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S22x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S22x64x16x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S22x64x16x80 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.RefO.lean ====
module

public import proofs.«01_k».proof.Proof.Gen.ReferenceOIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceOIdeal.RefValue

open Cert.ReferenceOIdeal Cert.ReferenceOIdeal.Gen

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

/-- A vector of 1280 numbers as one row. -/
abbrev row (x : Vec Ideal S1280 .f32) : Vec Ideal S1x1280 .f32 := broadcastInDim S1x1280 ![1] bcast_S1280_S1x1280_1 x

/-- One number as a 1 by 1 array. -/
abbrev one (x : Vec Ideal S1 .f32) : Vec Ideal S1x1 .f32 := broadcastInDim S1x1 ![1] bcast_S1_S1x1_1 x

/-- The residual stream after the output projection, as the reference computes it from its arguments. -/
abbrev H1 (co : Vec Ideal S1024x1280 .i8) (w : Vec Ideal S1280x1280 .i8) (s : Vec Ideal S1280 .f32) (sa : Vec Ideal S1 .f32)
    (b : Vec Ideal S1280 .f32) (h : Vec Ideal S1024x1280 .bf16) : Vec Ideal S1024x1280 .bf16 :=
  k0_pay2 (F := Ideal) h co w (row s) (one sa) (row b)

/-- The codes of the normalised residual stream, as the reference computes them from its arguments. -/
abbrev Codes (co : Vec Ideal S1024x1280 .i8) (w : Vec Ideal S1280x1280 .i8) (s : Vec Ideal S1280 .f32) (sa : Vec Ideal S1 .f32)
    (b : Vec Ideal S1280 .f32) (h : Vec Ideal S1024x1280 .bf16) (g : Vec Ideal S1280 .f32) (sm : Vec Ideal S1280 .f32)
    (asg : Vec Ideal S1 .f32) : Vec Ideal S1024x1280 .i8 :=
  k0_pay1 (F := Ideal) (k0_pay3 (F := Ideal) h co w (row s) (one sa) (row b) (row g)) (row sm) (one asg)

/-- After the reference's run its first result is `H1` of the arguments. -/
theorem final9 (c : Dev nD) : (dats m 0 c).arrAt 9 (cfgs 0).N
    = H1 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_after_last 9 t0_0 (by decide +kernel) _ fun j => ?_
  blk_simp
  rw [after0_9]
  frame_out
  pointwise [k0_pay2, H1, row, one]
  blk_point [iblk, idx t0_0]

/-- After the reference's run its second result is `Codes` of the arguments. -/
theorem final10 (c : Dev nD) : (dats m 0 c).arrAt 10 (cfgs 0).N
    = Codes (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m 0 c).arrAt_eq_of_after_last 10 t0_0 (by decide +kernel) _ fun j => ?_
  blk_simp
  rw [after0_10]
  frame_out
  pointwise [k0_pay1, k0_pay2, k0_pay3, Codes, row, one]
  blk_point [iblk, idx t0_0]

end Cert.ReferenceOIdeal.RefValue
-- ==== Proof.ValO.lean ====
module

public import proofs.«01_k».proof.Proof.Gen.KernelOIdeal.Frame
public import proofs.«01_k».proof.Proof.RefO
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelOIdeal.RefValue

open Cert.KernelOIdeal Cert.KernelOIdeal.Gen
open Cert.ReferenceOIdeal.RefValue (H1 Codes)

variable (m : (ℓ : Loc nD τ sig) → Buf (Elt Ideal) ℓ)

/-- Which block of its array each window holds at grid point `t`: the codes, the residual and the results move down by
    256 rows a point, the rest is whole. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![0, 0] ∧ win0_7.index t = ![0, 0] ∧ win0_8.index t = ![0, 0]
    ∧ win0_9.index t = ![t.val, 0] ∧ win0_10.index t = ![t.val, 0] :=
  (by decide +kernel : ∀ t : Fin grid0.N, _)

/-- Point `t`'s block of the first result is that block of `H1`. -/
theorem final9 (c : Dev nD) : (dats m 0 c).arrAt 9 (cfgs 0).N
    = H1 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  frame_out
  pointwise [k0_pay2, H1, Cert.ReferenceOIdeal.RefValue.row, Cert.ReferenceOIdeal.RefValue.one, Cert.ReferenceOIdeal.Gen.k0_pay2]
  blk_point [iblk, idx t]

/-- Point `t`'s block of the second result is that block of `Codes`. -/
theorem final10 (c : Dev nD) : (dats m 0 c).arrAt 10 (cfgs 0).N
    = Codes (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after0_10]
  frame_out
  pointwise [k0_pay1, k0_pay2, k0_pay3, Codes, Cert.ReferenceOIdeal.RefValue.row, Cert.ReferenceOIdeal.RefValue.one, Cert.ReferenceOIdeal.Gen.k0_pay1, Cert.ReferenceOIdeal.Gen.k0_pay2, Cert.ReferenceOIdeal.Gen.k0_pay3]
  blk_point [iblk, idx t]

end Cert.KernelOIdeal.RefValue
-- ==== Proof.ClaimO.lean ====
module

public import proofs.«01_k».proof.Defs
public import proofs.«01_k».proof.Proof.Gen.KernelOIdeal.Value
public import proofs.«01_k».proof.Proof.Gen.ReferenceOIdeal.Value
public import proofs.«01_k».proof.Proof.ValO

@[expose] public section

set_option maxRecDepth 16384

noncomputable section

open Idealize.ShloMosaic Idealize.ShloMosaic.TcCoe Idealize.SL.Sem

namespace Cert.ClaimO

open Cert.ReferenceOIdeal.RefValue (H1 Codes)

/-- The output-projection call and its reference, from equal arguments, both run and end with equal results: the new
    residual stream and the codes the MLP call reads. -/
theorem algebraic : Cert.algebraic_KernelOIdeal_ReferenceOIdeal
    (hKernelOIdeal := Cert.KernelOIdeal.Gen.facts) (hReferenceOIdeal := Cert.ReferenceOIdeal.Gen.facts) := by
  intro m g m' g' _ hargs
  refine ⟨fun c => H1 (m (c.tc.loc Cert.KernelOIdeal.main_arg0)) (m (c.tc.loc Cert.KernelOIdeal.main_arg1))
      (m (c.tc.loc Cert.KernelOIdeal.main_arg2)) (m (c.tc.loc Cert.KernelOIdeal.main_arg3))
      (m (c.tc.loc Cert.KernelOIdeal.main_arg4)) (m (c.tc.loc Cert.KernelOIdeal.main_arg5)),
    fun c => Codes (m (c.tc.loc Cert.KernelOIdeal.main_arg0)) (m (c.tc.loc Cert.KernelOIdeal.main_arg1))
      (m (c.tc.loc Cert.KernelOIdeal.main_arg2)) (m (c.tc.loc Cert.KernelOIdeal.main_arg3))
      (m (c.tc.loc Cert.KernelOIdeal.main_arg4)) (m (c.tc.loc Cert.KernelOIdeal.main_arg5))
      (m (c.tc.loc Cert.KernelOIdeal.main_arg6)) (m (c.tc.loc Cert.KernelOIdeal.main_arg7))
      (m (c.tc.loc Cert.KernelOIdeal.main_arg8)), ?_, ?_⟩
  · refine (θ_run Cert.KernelOIdeal.defs _ _).mono ?_ (Cert.KernelOIdeal.Value.run_blocks m g)
    intro r h c
    obtain ⟨h0, h1, h⟩ := h c
    exact ⟨h0.trans (Cert.KernelOIdeal.RefValue.final9 m c), h1.trans (Cert.KernelOIdeal.RefValue.final10 m c), h⟩
  · refine (θ_run Cert.ReferenceOIdeal.defs _ _).mono ?_ (Cert.ReferenceOIdeal.Value.run_blocks m' g')
    intro r h c
    obtain ⟨h0, h1, h⟩ := h c
    obtain ⟨a0, a1, a2, a3, a4, a5, a6, a7, a8⟩ := hargs c
    refine ⟨h0.trans ((Cert.ReferenceOIdeal.RefValue.final9 m' c).trans ?_),
      h1.trans ((Cert.ReferenceOIdeal.RefValue.final10 m' c).trans ?_), h⟩
    · rw [a0, a1, a2, a3, a4, a5]
    · rw [a0, a1, a2, a3, a4, a5, a6, a7, a8]

end Cert.ClaimO
-- ==== Proof.MlpRunsBits.lean ====
/-
  What the runs of the MLP body are stated over: the branch conditions in closed form over the points, where the
  second result's window is idle, and the staging and scratch buffers.
-/
module

public import proofs.«01_k».proof.Proof.Gen.KernelMlp.Frame
public import proofs.«01_k».proof.Proof.Gen.KernelMlp.Launch
public import proofs.«01_k».proof.Proof.Gen.KernelMlp.Skeleton
public import proofs.«01_k».proof.Proof.Gen.KernelMlp.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelMlp.Body

open Cert.KernelMlp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-! ## The body's branch conditions -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

abbrev cond0_1 (i : grid0.Coords) : Prop := k0_cond2 i = 1#1
theorem hcond0_1 : ∀ t : Fin cfg0.N, cond0_1 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_1, k0_cond2, e0]
    word_cmp
   : ∀ t : Fin grid0.N, cond0_1 (grid0.coords t) ↔ t.val % 14 = 13)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem idleAt0_14_A : ∀ t : Fin cfg0.N, cond0_0 (grid0.coords t) → ¬cond0_1 (grid0.coords t) → cfg0.idle 14 (grid0.coords t) = true := by decide +kernel
theorem noFlush0_14_A : ∀ t : Fin cfg0.N, cond0_0 (grid0.coords t) → ¬cond0_1 (grid0.coords t) → (cfg0.win 14).flush t = false := by decide +kernel
theorem idleAt0_14_B : ∀ t : Fin cfg0.N, ¬cond0_0 (grid0.coords t) → ¬cond0_1 (grid0.coords t) → cfg0.idle 14 (grid0.coords t) = true := by decide +kernel
theorem noFlush0_14_B : ∀ t : Fin cfg0.N, ¬cond0_0 (grid0.coords t) → ¬cond0_1 (grid0.coords t) → (cfg0.win 14).flush t = false := by decide +kernel
theorem liveAt0_14_C : ∀ t : Fin cfg0.N, ¬cond0_0 (grid0.coords t) → cond0_1 (grid0.coords t) → cfg0.idle 14 (grid0.coords t) = false := by decide +kernel

/-! ## The kernel body on any staging memrefs: a subtype the run finds -/

abbrev VO0_13 : View sig .tc .vmem S1024x256 .i8 := (Memref.whole cc0_stg13_0 : Memref sig .tc .vmem S1024x256 .i8).view
abbrev VO0_14 : View sig .tc .vmem S1024x1280 .bf16 := (Memref.whole cc0_stg14_0 : Memref sig .tc .vmem S1024x1280 .bf16).view
abbrev ms0_0 (t : Fin cfg0.N) : Memref sig .tc .vmem S1024x1280 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1280 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1280 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1280 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x1280 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x256 .i8 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x1280 .bf16 := win0_14.stage (cfg0.slots t 14)
abbrev hs0_14 (t : Fin cfg0.N) : (ms0_14 t).IsWhole := hstage0_14 ((cfg0.slots t 14).cast nbuf0_14)
abbrev scM0_0 : Memref sig .tc .vmem S1024x1280 .bf16 := Memref.whole cc0_scratch0
abbrev scM0_1 : Memref sig .tc .vmem S1024x1280 .f32 := Memref.whole cc0_scratch1
abbrev VS0_0 : View sig .tc .vmem S1024x1280 .bf16 := scM0_0.view
abbrev VS0_1 : View sig .tc .vmem S1024x1280 .f32 := scM0_1.view

theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelMlp.Body

end
-- ==== Proof.MlpRunABits.lean ====
/-
  The MLP body run at the first point.
-/
module

public import proofs.«01_k».proof.Proof.MlpRunsBits

@[expose] public section

set_option maxRecDepth 16384

noncomputable section

namespace Cert.KernelMlp.Body

open Cert.KernelMlp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
noncomputable def kernelRun0_A (c : Dev nD) (i : grid0.Coords) (arg1 : Memref sig .tc .vmem S1024x1280 .i8) (harg1 : arg1.IsWhole) (arg2 : Memref sig .tc .vmem S1280x256 .i8) (harg2 : arg2.IsWhole) (arg3 : Memref sig .tc .vmem S1x256 .f32) (harg3 : arg3.IsWhole) (arg4 : Memref sig .tc .vmem S1x256 .f32) (harg4 : arg4.IsWhole) (arg5 : Memref sig .tc .vmem S1280x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S256x1280 .i8) (harg9 : arg9.IsWhole) (arg10 : Memref sig .tc .vmem S1x1280 .f32) (harg10 : arg10.IsWhole) (arg11 : Memref sig .tc .vmem S1x1280 .f32) (harg11 : arg11.IsWhole) (arg12 : Memref sig .tc .vmem S1x1 .f32) (harg12 : arg12.IsWhole) (arg13 : Memref sig .tc .vmem S1024x1280 .bf16) (harg13 : arg13.IsWhole) (arg14 : Memref sig .tc .vmem S1024x256 .i8) (harg14 : arg14.IsWhole) (arg15 : Memref sig .tc .vmem S1024x1280 .bf16) (harg15 : arg15.IsWhole) (arg16 : Memref sig .tc .vmem S1024x1280 .bf16) (harg16 : arg16.IsWhole) (arg17 : Memref sig .tc .vmem S1024x1280 .f32) (harg17 : arg17.IsWhole) (hc0 : cond0_0 i) (hc1 : ¬cond0_1 i)
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) :
    Σ' (L13 : List (View.Piece (Elt F) S1024x256 .i8)), Σ' (L14 : List (View.Piece (Elt F) S1024x1280 .bf16)), Σ' (LS0 : List (View.Piece (Elt F) S1024x1280 .bf16)), { LS1 : List (View.Piece (Elt F) S1024x1280 .f32) //
      ∀ (xi14 : Vec F S1024x1280 .bf16) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare xi14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ owns (c : Thread nD τ) arg15 fullShare xi14 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, [], ?_, ?_, fun xi14 E K => ?run⟩
  case run =>
    simp only [cc0_mlp_eq_skeleton]; unfold cc0_mlp_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg15.eq_unread hf14
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]
    · iexists _; isplitr; · ipureintro; exact harg15.read_unread _
      iexact H14
    isplitl [HS0]; · iexists _; iexact HS0
    iexists _; iexact HS1

end Cert.KernelMlp.Body

end
-- ==== Proof.MlpRunBBits.lean ====
/-
  The MLP body run at a middle point.
-/
module

public import proofs.«01_k».proof.Proof.MlpRunABits

@[expose] public section

set_option maxRecDepth 16384

noncomputable section

namespace Cert.KernelMlp.Body

open Cert.KernelMlp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
noncomputable def kernelRun0_B (c : Dev nD) (i : grid0.Coords) (arg1 : Memref sig .tc .vmem S1024x1280 .i8) (harg1 : arg1.IsWhole) (arg2 : Memref sig .tc .vmem S1280x256 .i8) (harg2 : arg2.IsWhole) (arg3 : Memref sig .tc .vmem S1x256 .f32) (harg3 : arg3.IsWhole) (arg4 : Memref sig .tc .vmem S1x256 .f32) (harg4 : arg4.IsWhole) (arg5 : Memref sig .tc .vmem S1280x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S256x1280 .i8) (harg9 : arg9.IsWhole) (arg10 : Memref sig .tc .vmem S1x1280 .f32) (harg10 : arg10.IsWhole) (arg11 : Memref sig .tc .vmem S1x1280 .f32) (harg11 : arg11.IsWhole) (arg12 : Memref sig .tc .vmem S1x1 .f32) (harg12 : arg12.IsWhole) (arg13 : Memref sig .tc .vmem S1024x1280 .bf16) (harg13 : arg13.IsWhole) (arg14 : Memref sig .tc .vmem S1024x256 .i8) (harg14 : arg14.IsWhole) (arg15 : Memref sig .tc .vmem S1024x1280 .bf16) (harg15 : arg15.IsWhole) (arg16 : Memref sig .tc .vmem S1024x1280 .bf16) (harg16 : arg16.IsWhole) (arg17 : Memref sig .tc .vmem S1024x1280 .f32) (harg17 : arg17.IsWhole) (hc0 : ¬cond0_0 i) (hc1 : ¬cond0_1 i)
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) :
    Σ' (L13 : List (View.Piece (Elt F) S1024x256 .i8)), Σ' (L14 : List (View.Piece (Elt F) S1024x1280 .bf16)), Σ' (LS0 : List (View.Piece (Elt F) S1024x1280 .bf16)), { LS1 : List (View.Piece (Elt F) S1024x1280 .f32) //
      ∀ (xi14 : Vec F S1024x1280 .bf16) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare xi14 ∗ owns (c : Thread nD τ) arg16 fullShare xs0 ∗ owns (c : Thread nD τ) arg17 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ owns (c : Thread nD τ) arg15 fullShare xi14 ∗ owns (c : Thread nD τ) arg16 fullShare xs0 ∗ (∃ f, arg17.view.loc (c : Thread nD τ) ↦[arg17.view.set]{fullShare} arg17.view.writes (Elt F) f LS1)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, [], [], ?_, fun xi14 E K => ?run⟩
  case run =>
    simp only [cc0_mlp_eq_skeleton]; unfold cc0_mlp_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg15.eq_unread hf14; obtain rfl := harg16.eq_unread hfs0; obtain rfl := harg17.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]
    · iexists _; isplitr; · ipureintro; exact harg15.read_unread _
      iexact H14
    isplitl [HS0]
    · iexists _; isplitr; · ipureintro; exact harg16.read_unread _
      iexact HS0
    iexists _; iexact HS1

end Cert.KernelMlp.Body

end
-- ==== Proof.MlpRunCBits.lean ====
/-
  The MLP body run at the last point.
-/
module

public import proofs.«01_k».proof.Proof.MlpRunBBits

@[expose] public section

set_option maxRecDepth 16384

noncomputable section

namespace Cert.KernelMlp.Body

open Cert.KernelMlp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
noncomputable def kernelRun0_C (c : Dev nD) (i : grid0.Coords) (arg1 : Memref sig .tc .vmem S1024x1280 .i8) (harg1 : arg1.IsWhole) (arg2 : Memref sig .tc .vmem S1280x256 .i8) (harg2 : arg2.IsWhole) (arg3 : Memref sig .tc .vmem S1x256 .f32) (harg3 : arg3.IsWhole) (arg4 : Memref sig .tc .vmem S1x256 .f32) (harg4 : arg4.IsWhole) (arg5 : Memref sig .tc .vmem S1280x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S256x1280 .i8) (harg9 : arg9.IsWhole) (arg10 : Memref sig .tc .vmem S1x1280 .f32) (harg10 : arg10.IsWhole) (arg11 : Memref sig .tc .vmem S1x1280 .f32) (harg11 : arg11.IsWhole) (arg12 : Memref sig .tc .vmem S1x1 .f32) (harg12 : arg12.IsWhole) (arg13 : Memref sig .tc .vmem S1024x1280 .bf16) (harg13 : arg13.IsWhole) (arg14 : Memref sig .tc .vmem S1024x256 .i8) (harg14 : arg14.IsWhole) (arg15 : Memref sig .tc .vmem S1024x1280 .bf16) (harg15 : arg15.IsWhole) (arg16 : Memref sig .tc .vmem S1024x1280 .bf16) (harg16 : arg16.IsWhole) (arg17 : Memref sig .tc .vmem S1024x1280 .f32) (harg17 : arg17.IsWhole) (hc0 : ¬cond0_0 i) (hc1 : cond0_1 i)
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) :
    Σ' (L13 : List (View.Piece (Elt F) S1024x256 .i8)), Σ' (L14 : List (View.Piece (Elt F) S1024x1280 .bf16)), Σ' (LS0 : List (View.Piece (Elt F) S1024x1280 .bf16)), { LS1 : List (View.Piece (Elt F) S1024x1280 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare xs0 ∗ owns (c : Thread nD τ) arg17 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ owns (c : Thread nD τ) arg16 fullShare xs0 ∗ (∃ f, arg17.view.loc (c : Thread nD τ) ↦[arg17.view.set]{fullShare} arg17.view.writes (Elt F) f LS1)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, [], ?_, fun E K => ?run⟩
  case run =>
    simp only [cc0_mlp_eq_skeleton]; unfold cc0_mlp_skel
    simp only [k0_part3_eq_skeleton, k0_part4_eq_skeleton, k0_part5_eq_skeleton, k0_part6_eq_skeleton, k0_part7_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg16.eq_unread hfs0; obtain rfl := harg17.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [HS0]
    · iexists _; isplitr; · ipureintro; exact harg16.read_unread _
      iexact HS0
    iexists _; iexact HS1

end Cert.KernelMlp.Body

end
-- ==== Proof.MlpTriBits.lean ====
/-
  The MLP body's three cases — the first point, a middle point, the last point — as triples on a point's own buffers:
  what each leaves in the codes' buffer, in the second result's and in the two scratch buffers.
-/
module

public import proofs.«01_k».proof.Proof.MlpRunCBits

@[expose] public section

set_option maxRecDepth 16384

noncomputable section

namespace Cert.KernelMlp.Body

open Cert.KernelMlp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

def insOwn (c : Dev nD) (t : Fin cfg0.N) (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) : sProp (MT nD τ sig Unit (Elt F) ℕ (UR sig nD τ) ℕ) :=
  iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ owns (c : Thread nD τ) (ms0_6 t) fullShare x6 ∗ owns (c : Thread nD τ) (ms0_7 t) fullShare x7 ∗ owns (c : Thread nD τ) (ms0_8 t) fullShare x8 ∗ owns (c : Thread nD τ) (ms0_9 t) fullShare x9 ∗ owns (c : Thread nD τ) (ms0_10 t) fullShare x10 ∗ owns (c : Thread nD τ) (ms0_11 t) fullShare x11 ∗ owns (c : Thread nD τ) (ms0_12 t) fullShare x12)

abbrev runA (c : Dev nD) (t : Fin cfg0.N) (hc0 : cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc0 hc1 x0 x1 x2 x3 x4 x5 x6 x7 x8 x9 x10 x11 x12

def cdA (c : Dev nD) (t : Fin cfg0.N) (hc0 : cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) : Vec F S1024x256 .i8 :=
  VO0_13.read (Elt F) (VO0_13.writes (Elt F) VO0_13.junk (runA c t hc0 hc1 x0 x1 x2 x3 x4 x5 x6 x7 x8 x9 x10 x11 x12).1)

theorem coverA_13 (c : Dev nD) (t : Fin cfg0.N) (hc0 : cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (y : S1024x256.Idx) : ∃ pc ∈ (runA c t hc0 hc1 x0 x1 x2 x3 x4 x5 x6 x7 x8 x9 x10 x11 x12).1, y ∈ pc.1.set :=
  View.cover_of_tiledL (runA c t hc0 hc1 x0 x1 x2 x3 x4 x5 x6 x7 x8 x9 x10 x11 x12).1 S256x256.size (by sl_kernel_rfl) y

def csA (c : Dev nD) (t : Fin cfg0.N) (hc0 : cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) : Vec F S1024x1280 .bf16 :=
  VS0_0.read (Elt F) (VS0_0.writes (Elt F) VS0_0.junk (runA c t hc0 hc1 x0 x1 x2 x3 x4 x5 x6 x7 x8 x9 x10 x11 x12).2.2.1)

theorem scoverA_0 (c : Dev nD) (t : Fin cfg0.N) (hc0 : cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (y : S1024x1280.Idx) : ∃ pc ∈ (runA c t hc0 hc1 x0 x1 x2 x3 x4 x5 x6 x7 x8 x9 x10 x11 x12).2.2.1, y ∈ pc.1.set :=
  View.cover_of_tiledL (runA c t hc0 hc1 x0 x1 x2 x3 x4 x5 x6 x7 x8 x9 x10 x11 x12).2.2.1 S1024x1280.size (by sl_kernel_rfl) y

def accA (c : Dev nD) (t : Fin cfg0.N) (hc0 : cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) : Vec F S1024x1280 .f32 :=
  VS0_1.read (Elt F) (VS0_1.writes (Elt F) VS0_1.junk (runA c t hc0 hc1 x0 x1 x2 x3 x4 x5 x6 x7 x8 x9 x10 x11 x12).2.2.2.1)

theorem scoverA_1 (c : Dev nD) (t : Fin cfg0.N) (hc0 : cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (y : S1024x1280.Idx) : ∃ pc ∈ (runA c t hc0 hc1 x0 x1 x2 x3 x4 x5 x6 x7 x8 x9 x10 x11 x12).2.2.2.1, y ∈ pc.1.set :=
  View.cover_of_wholeMem (runA c t hc0 hc1 x0 x1 x2 x3 x4 x5 x6 x7 x8 x9 x10 x11 x12).2.2.2.1 (by sl_whole_mem) y

set_option maxHeartbeats 4000000 in
theorem triA (c : Dev nD) (t : Fin cfg0.N) (hc0 : cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xi14 : Vec F S1024x1280 .bf16) (K : PUnit → sProp (MT nD τ sig Unit (Elt F) ℕ (UR sig nD τ) ℕ)) :
    iprop(insOwn c t x0 x1 x2 x3 x4 x5 x6 x7 x8 x9 x10 x11 x12 ∗ (∃ d, owns (c : Thread nD τ) (ms0_13 t) fullShare d) ∗ owns (c : Thread nD τ) (ms0_14 t) fullShare xi14 ∗ (∃ d, owns (c : Thread nD τ) scM0_0 fullShare d) ∗ (∃ d, owns (c : Thread nD τ) scM0_1 fullShare d)
        ∗ (iprop(insOwn c t x0 x1 x2 x3 x4 x5 x6 x7 x8 x9 x10 x11 x12 ∗ owns (c : Thread nD τ) (ms0_13 t) fullShare (cdA c t hc0 hc1 x0 x1 x2 x3 x4 x5 x6 x7 x8 x9 x10 x11 x12) ∗ owns (c : Thread nD τ) (ms0_14 t) fullShare xi14 ∗ owns (c : Thread nD τ) scM0_0 fullShare (csA c t hc0 hc1 x0 x1 x2 x3 x4 x5 x6 x7 x8 x9 x10 x11 x12)
            ∗ owns (c : Thread nD τ) scM0_1 fullShare (accA c t hc0 hc1 x0 x1 x2 x3 x4 x5 x6 x7 x8 x9 x10 x11 x12)) -∗ K ⟨⟩))
      ⊢ wp frame (wpE (defs₀ (F := F)) Variants.none c none) Set.univ (bodyAt0 t) K := by
  unfold bodyAt0 insOwn
  iintro ⟨⟨H0, H1, H2, H3, H4, H5, H6, H7, H8, H9, H10, H11, H12⟩, ⟨%d13, H13⟩, H14, HS0, HS1, Hk⟩
  iapply ((runA c t hc0 hc1 x0 x1 x2 x3 x4 x5 x6 x7 x8 x9 x10 x11 x12).2.2.2.2 xi14 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexact H14
  isplitl [HS0]; · iexact HS0
  isplitl [HS1]; · iexact HS1
  iintro ⟨H0, H1, H2, H3, H4, H5, H6, H7, H8, H9, H10, H11, H12, ⟨%e13, H13⟩, H14, ⟨%es0, HS0⟩, ⟨%es1, HS1⟩⟩
  iapply Hk
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]
  · unfold owns; iexists _; isplitr
    swap; · iexact H13
    ipureintro; exact View.read_writes_of_cover _ _ _ _ _ (coverA_13 c t hc0 hc1 x0 x1 x2 x3 x4 x5 x6 x7 x8 x9 x10 x11 x12)
  isplitl [H14]; · iexact H14
  isplitl [HS0]
  · unfold owns; iexists _; isplitr
    swap; · iexact HS0
    ipureintro; exact View.read_writes_of_cover _ _ _ _ _ (scoverA_0 c t hc0 hc1 x0 x1 x2 x3 x4 x5 x6 x7 x8 x9 x10 x11 x12)
  unfold owns; iexists _; isplitr
  swap; · iexact HS1
  ipureintro; exact View.read_writes_of_cover _ _ _ _ _ (scoverA_1 c t hc0 hc1 x0 x1 x2 x3 x4 x5 x6 x7 x8 x9 x10 x11 x12)

abbrev runB (c : Dev nD) (t : Fin cfg0.N) (hc0 : ¬cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc0 hc1 x0 x1 x2 x3 x4 x5 x6 x7 x8 x9 x10 x11 x12 xs0 xs1

def cdB (c : Dev nD) (t : Fin cfg0.N) (hc0 : ¬cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) : Vec F S1024x256 .i8 :=
  VO0_13.read (Elt F) (VO0_13.writes (Elt F) VO0_13.junk (runB c t hc0 hc1 x0 x1 x2 x3 x4 x5 x6 x7 x8 x9 x10 x11 x12 xs0 xs1).1)

theorem coverB_13 (c : Dev nD) (t : Fin cfg0.N) (hc0 : ¬cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) (y : S1024x256.Idx) : ∃ pc ∈ (runB c t hc0 hc1 x0 x1 x2 x3 x4 x5 x6 x7 x8 x9 x10 x11 x12 xs0 xs1).1, y ∈ pc.1.set :=
  View.cover_of_tiledL (runB c t hc0 hc1 x0 x1 x2 x3 x4 x5 x6 x7 x8 x9 x10 x11 x12 xs0 xs1).1 S256x256.size (by sl_kernel_rfl) y

def accB (c : Dev nD) (t : Fin cfg0.N) (hc0 : ¬cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) : Vec F S1024x1280 .f32 :=
  VS0_1.read (Elt F) (VS0_1.writes (Elt F) VS0_1.junk (runB c t hc0 hc1 x0 x1 x2 x3 x4 x5 x6 x7 x8 x9 x10 x11 x12 xs0 xs1).2.2.2.1)

theorem scoverB_1 (c : Dev nD) (t : Fin cfg0.N) (hc0 : ¬cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) (y : S1024x1280.Idx) : ∃ pc ∈ (runB c t hc0 hc1 x0 x1 x2 x3 x4 x5 x6 x7 x8 x9 x10 x11 x12 xs0 xs1).2.2.2.1, y ∈ pc.1.set :=
  View.cover_of_tiledL (runB c t hc0 hc1 x0 x1 x2 x3 x4 x5 x6 x7 x8 x9 x10 x11 x12 xs0 xs1).2.2.2.1 S256x1280.size (by sl_kernel_rfl) y

set_option maxHeartbeats 4000000 in
theorem triB (c : Dev nD) (t : Fin cfg0.N) (hc0 : ¬cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) (xi14 : Vec F S1024x1280 .bf16) (K : PUnit → sProp (MT nD τ sig Unit (Elt F) ℕ (UR sig nD τ) ℕ)) :
    iprop(insOwn c t x0 x1 x2 x3 x4 x5 x6 x7 x8 x9 x10 x11 x12 ∗ (∃ d, owns (c : Thread nD τ) (ms0_13 t) fullShare d) ∗ owns (c : Thread nD τ) (ms0_14 t) fullShare xi14 ∗ owns (c : Thread nD τ) scM0_0 fullShare xs0 ∗ owns (c : Thread nD τ) scM0_1 fullShare xs1
        ∗ (iprop(insOwn c t x0 x1 x2 x3 x4 x5 x6 x7 x8 x9 x10 x11 x12 ∗ owns (c : Thread nD τ) (ms0_13 t) fullShare (cdB c t hc0 hc1 x0 x1 x2 x3 x4 x5 x6 x7 x8 x9 x10 x11 x12 xs0 xs1) ∗ owns (c : Thread nD τ) (ms0_14 t) fullShare xi14 ∗ owns (c : Thread nD τ) scM0_0 fullShare xs0
            ∗ owns (c : Thread nD τ) scM0_1 fullShare (accB c t hc0 hc1 x0 x1 x2 x3 x4 x5 x6 x7 x8 x9 x10 x11 x12 xs0 xs1)) -∗ K ⟨⟩))
      ⊢ wp frame (wpE (defs₀ (F := F)) Variants.none c none) Set.univ (bodyAt0 t) K := by
  unfold bodyAt0 insOwn
  iintro ⟨⟨H0, H1, H2, H3, H4, H5, H6, H7, H8, H9, H10, H11, H12⟩, ⟨%d13, H13⟩, H14, HS0, HS1, Hk⟩
  iapply ((runB c t hc0 hc1 x0 x1 x2 x3 x4 x5 x6 x7 x8 x9 x10 x11 x12 xs0 xs1).2.2.2.2 xi14 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexact H14
  isplitl [HS0]; · iexact HS0
  isplitl [HS1]; · iexact HS1
  iintro ⟨H0, H1, H2, H3, H4, H5, H6, H7, H8, H9, H10, H11, H12, ⟨%e13, H13⟩, H14, HS0, ⟨%es1, HS1⟩⟩
  iapply Hk
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]
  · unfold owns; iexists _; isplitr
    swap; · iexact H13
    ipureintro; exact View.read_writes_of_cover _ _ _ _ _ (coverB_13 c t hc0 hc1 x0 x1 x2 x3 x4 x5 x6 x7 x8 x9 x10 x11 x12 xs0 xs1)
  isplitl [H14]; · iexact H14
  isplitl [HS0]; · iexact HS0
  unfold owns; iexists _; isplitr
  swap; · iexact HS1
  ipureintro; exact View.read_writes_of_cover _ _ _ _ _ (scoverB_1 c t hc0 hc1 x0 x1 x2 x3 x4 x5 x6 x7 x8 x9 x10 x11 x12 xs0 xs1)

abbrev runC (c : Dev nD) (t : Fin cfg0.N) (hc0 : ¬cond0_0 (grid0.coords t)) (hc1 : cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc0 hc1 x0 x1 x2 x3 x4 x5 x6 x7 x8 x9 x10 x11 x12 xs0 xs1

def cdC (c : Dev nD) (t : Fin cfg0.N) (hc0 : ¬cond0_0 (grid0.coords t)) (hc1 : cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) : Vec F S1024x256 .i8 :=
  VO0_13.read (Elt F) (VO0_13.writes (Elt F) VO0_13.junk (runC c t hc0 hc1 x0 x1 x2 x3 x4 x5 x6 x7 x8 x9 x10 x11 x12 xs0 xs1).1)

theorem coverC_13 (c : Dev nD) (t : Fin cfg0.N) (hc0 : ¬cond0_0 (grid0.coords t)) (hc1 : cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) (y : S1024x256.Idx) : ∃ pc ∈ (runC c t hc0 hc1 x0 x1 x2 x3 x4 x5 x6 x7 x8 x9 x10 x11 x12 xs0 xs1).1, y ∈ pc.1.set :=
  View.cover_of_tiledL (runC c t hc0 hc1 x0 x1 x2 x3 x4 x5 x6 x7 x8 x9 x10 x11 x12 xs0 xs1).1 S256x256.size (by sl_kernel_rfl) y

def yC (c : Dev nD) (t : Fin cfg0.N) (hc0 : ¬cond0_0 (grid0.coords t)) (hc1 : cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) : Vec F S1024x1280 .bf16 :=
  VO0_14.read (Elt F) (VO0_14.writes (Elt F) VO0_14.junk (runC c t hc0 hc1 x0 x1 x2 x3 x4 x5 x6 x7 x8 x9 x10 x11 x12 xs0 xs1).2.1)

theorem coverC_14 (c : Dev nD) (t : Fin cfg0.N) (hc0 : ¬cond0_0 (grid0.coords t)) (hc1 : cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) (y : S1024x1280.Idx) : ∃ pc ∈ (runC c t hc0 hc1 x0 x1 x2 x3 x4 x5 x6 x7 x8 x9 x10 x11 x12 xs0 xs1).2.1, y ∈ pc.1.set :=
  View.cover_of_tiledL (runC c t hc0 hc1 x0 x1 x2 x3 x4 x5 x6 x7 x8 x9 x10 x11 x12 xs0 xs1).2.1 S256x1280.size (by sl_kernel_rfl) y

def accC (c : Dev nD) (t : Fin cfg0.N) (hc0 : ¬cond0_0 (grid0.coords t)) (hc1 : cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) : Vec F S1024x1280 .f32 :=
  VS0_1.read (Elt F) (VS0_1.writes (Elt F) VS0_1.junk (runC c t hc0 hc1 x0 x1 x2 x3 x4 x5 x6 x7 x8 x9 x10 x11 x12 xs0 xs1).2.2.2.1)

theorem scoverC_1 (c : Dev nD) (t : Fin cfg0.N) (hc0 : ¬cond0_0 (grid0.coords t)) (hc1 : cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) (y : S1024x1280.Idx) : ∃ pc ∈ (runC c t hc0 hc1 x0 x1 x2 x3 x4 x5 x6 x7 x8 x9 x10 x11 x12 xs0 xs1).2.2.2.1, y ∈ pc.1.set :=
  View.cover_of_tiledL (runC c t hc0 hc1 x0 x1 x2 x3 x4 x5 x6 x7 x8 x9 x10 x11 x12 xs0 xs1).2.2.2.1 S256x1280.size (by sl_kernel_rfl) y

set_option maxHeartbeats 4000000 in
theorem triC (c : Dev nD) (t : Fin cfg0.N) (hc0 : ¬cond0_0 (grid0.coords t)) (hc1 : cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) (K : PUnit → sProp (MT nD τ sig Unit (Elt F) ℕ (UR sig nD τ) ℕ)) :
    iprop(insOwn c t x0 x1 x2 x3 x4 x5 x6 x7 x8 x9 x10 x11 x12 ∗ (∃ d, owns (c : Thread nD τ) (ms0_13 t) fullShare d) ∗ (∃ d, owns (c : Thread nD τ) (ms0_14 t) fullShare d) ∗ owns (c : Thread nD τ) scM0_0 fullShare xs0 ∗ owns (c : Thread nD τ) scM0_1 fullShare xs1
        ∗ (iprop(insOwn c t x0 x1 x2 x3 x4 x5 x6 x7 x8 x9 x10 x11 x12 ∗ owns (c : Thread nD τ) (ms0_13 t) fullShare (cdC c t hc0 hc1 x0 x1 x2 x3 x4 x5 x6 x7 x8 x9 x10 x11 x12 xs0 xs1) ∗ owns (c : Thread nD τ) (ms0_14 t) fullShare (yC c t hc0 hc1 x0 x1 x2 x3 x4 x5 x6 x7 x8 x9 x10 x11 x12 xs0 xs1) ∗ owns (c : Thread nD τ) scM0_0 fullShare xs0
            ∗ owns (c : Thread nD τ) scM0_1 fullShare (accC c t hc0 hc1 x0 x1 x2 x3 x4 x5 x6 x7 x8 x9 x10 x11 x12 xs0 xs1)) -∗ K ⟨⟩))
      ⊢ wp frame (wpE (defs₀ (F := F)) Variants.none c none) Set.univ (bodyAt0 t) K := by
  unfold bodyAt0 insOwn
  iintro ⟨⟨H0, H1, H2, H3, H4, H5, H6, H7, H8, H9, H10, H11, H12⟩, ⟨%d13, H13⟩, H14, HS0, HS1, Hk⟩
  iapply ((runC c t hc0 hc1 x0 x1 x2 x3 x4 x5 x6 x7 x8 x9 x10 x11 x12 xs0 xs1).2.2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexact H14
  isplitl [HS0]; · iexact HS0
  isplitl [HS1]; · iexact HS1
  iintro ⟨H0, H1, H2, H3, H4, H5, H6, H7, H8, H9, H10, H11, H12, ⟨%e13, H13⟩, ⟨%e14, H14⟩, HS0, ⟨%es1, HS1⟩⟩
  iapply Hk
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]
  · unfold owns; iexists _; isplitr
    swap; · iexact H13
    ipureintro; exact View.read_writes_of_cover _ _ _ _ _ (coverC_13 c t hc0 hc1 x0 x1 x2 x3 x4 x5 x6 x7 x8 x9 x10 x11 x12 xs0 xs1)
  isplitl [H14]
  · unfold owns; iexists _; isplitr
    swap; · iexact H14
    ipureintro; exact View.read_writes_of_cover _ _ _ _ _ (coverC_14 c t hc0 hc1 x0 x1 x2 x3 x4 x5 x6 x7 x8 x9 x10 x11 x12 xs0 xs1)
  isplitl [HS0]; · iexact HS0
  unfold owns; iexists _; isplitr
  swap; · iexact HS1
  ipureintro; exact View.read_writes_of_cover _ _ _ _ _ (scoverC_1 c t hc0 hc1 x0 x1 x2 x3 x4 x5 x6 x7 x8 x9 x10 x11 x12 xs0 xs1)

end Cert.KernelMlp.Body

end
-- ==== Proof.MlpFrameBits.lean ====
/-
  The frame of the MLP kernel: at every point the body keeps its inputs' buffers and leaves something in the others, so the
  program terminates with its arguments as they were. The blocks of the gate, up and down weights overhang their arrays at
  the last point, so an input's buffer there is its block filled out with whatever the fetch left beyond the array.
-/
module

public import proofs.«01_k».proof.Proof.MlpTriBits

@[expose] public section

set_option maxRecDepth 16384

noncomputable section

namespace Cert.KernelMlp.Body

open Cert.KernelMlp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

def xf1 (c : Dev nD) (t : Fin cfg0.N) (d : Vec F S1280x256 .i8) : Vec F S1280x256 .i8 := win0_1.fill (grid0.coords t) d (iblk m c 1 t)

def xf2 (c : Dev nD) (t : Fin cfg0.N) (d : Vec F S1x256 .f32) : Vec F S1x256 .f32 := win0_2.fill (grid0.coords t) d (iblk m c 2 t)

def xf3 (c : Dev nD) (t : Fin cfg0.N) (d : Vec F S1x256 .f32) : Vec F S1x256 .f32 := win0_3.fill (grid0.coords t) d (iblk m c 3 t)

def xf4 (c : Dev nD) (t : Fin cfg0.N) (d : Vec F S1280x256 .i8) : Vec F S1280x256 .i8 := win0_4.fill (grid0.coords t) d (iblk m c 4 t)

def xf5 (c : Dev nD) (t : Fin cfg0.N) (d : Vec F S1x256 .f32) : Vec F S1x256 .f32 := win0_5.fill (grid0.coords t) d (iblk m c 5 t)

def xf6 (c : Dev nD) (t : Fin cfg0.N) (d : Vec F S1x256 .f32) : Vec F S1x256 .f32 := win0_6.fill (grid0.coords t) d (iblk m c 6 t)

def xf8 (c : Dev nD) (t : Fin cfg0.N) (d : Vec F S256x1280 .i8) : Vec F S256x1280 .i8 := win0_8.fill (grid0.coords t) d (iblk m c 8 t)

def fgt : Fin cfg0.W → Bool := fun w => decide (13 ≤ w.val)

def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => xf1 m c t (fun _ => (0#8 : BitVec 8))
    | ⟨2, _⟩ => xf2 m c t (fun _ => Scalar.ofBits .f32 0#32)
    | ⟨3, _⟩ => xf3 m c t (fun _ => Scalar.ofBits .f32 0#32)
    | ⟨4, _⟩ => xf4 m c t (fun _ => (0#8 : BitVec 8))
    | ⟨5, _⟩ => xf5 m c t (fun _ => Scalar.ofBits .f32 0#32)
    | ⟨6, _⟩ => xf6 m c t (fun _ => Scalar.ofBits .f32 0#32)
    | ⟨7, _⟩ => iblk m c 7 t
    | ⟨8, _⟩ => xf8 m c t (fun _ => (0#8 : BitVec 8))
    | ⟨9, _⟩ => iblk m c 9 t
    | ⟨10, _⟩ => iblk m c 10 t
    | ⟨11, _⟩ => iblk m c 11 t
    | ⟨12, _⟩ => iblk m c 12 t
    | ⟨13, _⟩ => fun _ => (0#8 : BitVec 8)
    | ⟨14, _⟩ => fun _ => Scalar.ofBits .bf16 0#16
  Φ _ := Pipeline.ΦA spec0 c
  q _ := fullShare
  owed _ := 0

theorem AF_eq (c : Dev nD) (w : Fin cfg0.W) : (datsF m 0 c).A w = V m c (Pipeline.arrRef spec0 w) := by dsimp only [datsF]

theorem afterF_0 (c : Dev nD) (t : Fin cfg0.N) : (datsF m 0 c).after 0 t = iblk m c 0 t := by dsimp only [datsF]
theorem afterF_1 (c : Dev nD) (t : Fin cfg0.N) : (datsF m 0 c).after 1 t = xf1 m c t (fun _ => (0#8 : BitVec 8)) := by dsimp only [datsF]
theorem afterF_2 (c : Dev nD) (t : Fin cfg0.N) : (datsF m 0 c).after 2 t = xf2 m c t (fun _ => Scalar.ofBits .f32 0#32) := by dsimp only [datsF]
theorem afterF_3 (c : Dev nD) (t : Fin cfg0.N) : (datsF m 0 c).after 3 t = xf3 m c t (fun _ => Scalar.ofBits .f32 0#32) := by dsimp only [datsF]
theorem afterF_4 (c : Dev nD) (t : Fin cfg0.N) : (datsF m 0 c).after 4 t = xf4 m c t (fun _ => (0#8 : BitVec 8)) := by dsimp only [datsF]
theorem afterF_5 (c : Dev nD) (t : Fin cfg0.N) : (datsF m 0 c).after 5 t = xf5 m c t (fun _ => Scalar.ofBits .f32 0#32) := by dsimp only [datsF]
theorem afterF_6 (c : Dev nD) (t : Fin cfg0.N) : (datsF m 0 c).after 6 t = xf6 m c t (fun _ => Scalar.ofBits .f32 0#32) := by dsimp only [datsF]
theorem afterF_7 (c : Dev nD) (t : Fin cfg0.N) : (datsF m 0 c).after 7 t = iblk m c 7 t := by dsimp only [datsF]
theorem afterF_8 (c : Dev nD) (t : Fin cfg0.N) : (datsF m 0 c).after 8 t = xf8 m c t (fun _ => (0#8 : BitVec 8)) := by dsimp only [datsF]
theorem afterF_9 (c : Dev nD) (t : Fin cfg0.N) : (datsF m 0 c).after 9 t = iblk m c 9 t := by dsimp only [datsF]
theorem afterF_10 (c : Dev nD) (t : Fin cfg0.N) : (datsF m 0 c).after 10 t = iblk m c 10 t := by dsimp only [datsF]
theorem afterF_11 (c : Dev nD) (t : Fin cfg0.N) : (datsF m 0 c).after 11 t = iblk m c 11 t := by dsimp only [datsF]
theorem afterF_12 (c : Dev nD) (t : Fin cfg0.N) : (datsF m 0 c).after 12 t = iblk m c 12 t := by dsimp only [datsF]
theorem beforeF_0 (c : Dev nD) (t : Fin cfg0.N) (d) : (datsF m 0 c).before 0 t d = iblk m c 0 t :=
  before0_0_of m (datsF m 0 c) (AF_eq m c 0) (afterF_0 m c) t d
theorem beforeF_7 (c : Dev nD) (t : Fin cfg0.N) (d) : (datsF m 0 c).before 7 t d = iblk m c 7 t :=
  before0_7_of m (datsF m 0 c) (AF_eq m c 7) (afterF_7 m c) t d
theorem beforeF_9 (c : Dev nD) (t : Fin cfg0.N) (d) : (datsF m 0 c).before 9 t d = iblk m c 9 t :=
  before0_9_of m (datsF m 0 c) (AF_eq m c 9) (afterF_9 m c) t d
theorem beforeF_10 (c : Dev nD) (t : Fin cfg0.N) (d) : (datsF m 0 c).before 10 t d = iblk m c 10 t :=
  before0_10_of m (datsF m 0 c) (AF_eq m c 10) (afterF_10 m c) t d
theorem beforeF_11 (c : Dev nD) (t : Fin cfg0.N) (d) : (datsF m 0 c).before 11 t d = iblk m c 11 t :=
  before0_11_of m (datsF m 0 c) (AF_eq m c 11) (afterF_11 m c) t d
theorem beforeF_12 (c : Dev nD) (t : Fin cfg0.N) (d) : (datsF m 0 c).before 12 t d = iblk m c 12 t :=
  before0_12_of m (datsF m 0 c) (AF_eq m c 12) (afterF_12 m c) t d
theorem beforeF_1 (c : Dev nD) (t : Fin cfg0.N) (d) : (datsF m 0 c).before 1 t d = xf1 m c t d := by
  unfold Dat.before; rw [if_pos (fetch0_1 t)]; rfl
theorem beforeF_2 (c : Dev nD) (t : Fin cfg0.N) (d) : (datsF m 0 c).before 2 t d = xf2 m c t d := by
  unfold Dat.before; rw [if_pos (fetch0_2 t)]; rfl
theorem beforeF_3 (c : Dev nD) (t : Fin cfg0.N) (d) : (datsF m 0 c).before 3 t d = xf3 m c t d := by
  unfold Dat.before; rw [if_pos (fetch0_3 t)]; rfl
theorem beforeF_4 (c : Dev nD) (t : Fin cfg0.N) (d) : (datsF m 0 c).before 4 t d = xf4 m c t d := by
  unfold Dat.before; rw [if_pos (fetch0_4 t)]; rfl
theorem beforeF_5 (c : Dev nD) (t : Fin cfg0.N) (d) : (datsF m 0 c).before 5 t d = xf5 m c t d := by
  unfold Dat.before; rw [if_pos (fetch0_5 t)]; rfl
theorem beforeF_6 (c : Dev nD) (t : Fin cfg0.N) (d) : (datsF m 0 c).before 6 t d = xf6 m c t d := by
  unfold Dat.before; rw [if_pos (fetch0_6 t)]; rfl
theorem beforeF_8 (c : Dev nD) (t : Fin cfg0.N) (d) : (datsF m 0 c).before 8 t d = xf8 m c t d := by
  unfold Dat.before; rw [if_pos (fetch0_8 t)]; rfl
theorem leavesF_1 (c : Dev nD) (t : Fin cfg0.N) : (datsF m 0 c).leaves 1 t = iprop(∃ d, owns (c : Thread nD τ) (ms0_1 t) fullShare (xf1 m c t d)) := by
  unfold Dat.leaves; rw [liveAt0_1 t, afterF_1]; unfold xf1
  show iprop(∃ d, owns (c : Thread nD τ) (ms0_1 t) fullShare (win0_1.fill (grid0.coords t) d (win0_1.cut (grid0.coords t) _))) = _
  simp only [Window.cut_fill]; rfl
theorem leavesF_2 (c : Dev nD) (t : Fin cfg0.N) : (datsF m 0 c).leaves 2 t = iprop(∃ d, owns (c : Thread nD τ) (ms0_2 t) fullShare (xf2 m c t d)) := by
  unfold Dat.leaves; rw [liveAt0_2 t, afterF_2]; unfold xf2
  show iprop(∃ d, owns (c : Thread nD τ) (ms0_2 t) fullShare (win0_2.fill (grid0.coords t) d (win0_2.cut (grid0.coords t) _))) = _
  simp only [Window.cut_fill]; rfl
theorem leavesF_3 (c : Dev nD) (t : Fin cfg0.N) : (datsF m 0 c).leaves 3 t = iprop(∃ d, owns (c : Thread nD τ) (ms0_3 t) fullShare (xf3 m c t d)) := by
  unfold Dat.leaves; rw [liveAt0_3 t, afterF_3]; unfold xf3
  show iprop(∃ d, owns (c : Thread nD τ) (ms0_3 t) fullShare (win0_3.fill (grid0.coords t) d (win0_3.cut (grid0.coords t) _))) = _
  simp only [Window.cut_fill]; rfl
theorem leavesF_4 (c : Dev nD) (t : Fin cfg0.N) : (datsF m 0 c).leaves 4 t = iprop(∃ d, owns (c : Thread nD τ) (ms0_4 t) fullShare (xf4 m c t d)) := by
  unfold Dat.leaves; rw [liveAt0_4 t, afterF_4]; unfold xf4
  show iprop(∃ d, owns (c : Thread nD τ) (ms0_4 t) fullShare (win0_4.fill (grid0.coords t) d (win0_4.cut (grid0.coords t) _))) = _
  simp only [Window.cut_fill]; rfl
theorem leavesF_5 (c : Dev nD) (t : Fin cfg0.N) : (datsF m 0 c).leaves 5 t = iprop(∃ d, owns (c : Thread nD τ) (ms0_5 t) fullShare (xf5 m c t d)) := by
  unfold Dat.leaves; rw [liveAt0_5 t, afterF_5]; unfold xf5
  show iprop(∃ d, owns (c : Thread nD τ) (ms0_5 t) fullShare (win0_5.fill (grid0.coords t) d (win0_5.cut (grid0.coords t) _))) = _
  simp only [Window.cut_fill]; rfl
theorem leavesF_6 (c : Dev nD) (t : Fin cfg0.N) : (datsF m 0 c).leaves 6 t = iprop(∃ d, owns (c : Thread nD τ) (ms0_6 t) fullShare (xf6 m c t d)) := by
  unfold Dat.leaves; rw [liveAt0_6 t, afterF_6]; unfold xf6
  show iprop(∃ d, owns (c : Thread nD τ) (ms0_6 t) fullShare (win0_6.fill (grid0.coords t) d (win0_6.cut (grid0.coords t) _))) = _
  simp only [Window.cut_fill]; rfl
theorem leavesF_8 (c : Dev nD) (t : Fin cfg0.N) : (datsF m 0 c).leaves 8 t = iprop(∃ d, owns (c : Thread nD τ) (ms0_8 t) fullShare (xf8 m c t d)) := by
  unfold Dat.leaves; rw [liveAt0_8 t, afterF_8]; unfold xf8
  show iprop(∃ d, owns (c : Thread nD τ) (ms0_8 t) fullShare (win0_8.fill (grid0.coords t) d (win0_8.cut (grid0.coords t) _))) = _
  simp only [Window.cut_fill]; rfl
theorem leavesF_0 (c : Dev nD) (t : Fin cfg0.N) : (datsF m 0 c).leaves 0 t = owns (c : Thread nD τ) (ms0_0 t) fullShare (iblk m c 0 t) := by
  unfold Dat.leaves; rw [liveAt0_0 t, afterF_0]
theorem leavesF_7 (c : Dev nD) (t : Fin cfg0.N) : (datsF m 0 c).leaves 7 t = owns (c : Thread nD τ) (ms0_7 t) fullShare (iblk m c 7 t) := by
  unfold Dat.leaves; rw [liveAt0_7 t, afterF_7]
theorem leavesF_9 (c : Dev nD) (t : Fin cfg0.N) : (datsF m 0 c).leaves 9 t = owns (c : Thread nD τ) (ms0_9 t) fullShare (iblk m c 9 t) := by
  unfold Dat.leaves; rw [liveAt0_9 t, afterF_9]
theorem leavesF_10 (c : Dev nD) (t : Fin cfg0.N) : (datsF m 0 c).leaves 10 t = owns (c : Thread nD τ) (ms0_10 t) fullShare (iblk m c 10 t) := by
  unfold Dat.leaves; rw [liveAt0_10 t, afterF_10]
theorem leavesF_11 (c : Dev nD) (t : Fin cfg0.N) : (datsF m 0 c).leaves 11 t = owns (c : Thread nD τ) (ms0_11 t) fullShare (iblk m c 11 t) := by
  unfold Dat.leaves; rw [liveAt0_11 t, afterF_11]
theorem leavesF_12 (c : Dev nD) (t : Fin cfg0.N) : (datsF m 0 c).leaves 12 t = owns (c : Thread nD τ) (ms0_12 t) fullShare (iblk m c 12 t) := by
  unfold Dat.leaves; rw [liveAt0_12 t, afterF_12]
def preF (c : Dev nD) (t : Fin cfg0.N) : sProp (MT nD τ sig Unit (Elt F) ℕ (UR sig nD τ) ℕ) :=
  iprop((datsF m 0 c).Φ t.castSucc ∗ (datsF m 0 c).owesAt () t.castSucc
    ∗ (∃ d, owns (c : Thread nD τ) (ms0_0 t) fullShare ((datsF m 0 c).before 0 t d))
    ∗ (∃ d, owns (c : Thread nD τ) (ms0_1 t) fullShare ((datsF m 0 c).before 1 t d))
    ∗ (∃ d, owns (c : Thread nD τ) (ms0_2 t) fullShare ((datsF m 0 c).before 2 t d))
    ∗ (∃ d, owns (c : Thread nD τ) (ms0_3 t) fullShare ((datsF m 0 c).before 3 t d))
    ∗ (∃ d, owns (c : Thread nD τ) (ms0_4 t) fullShare ((datsF m 0 c).before 4 t d))
    ∗ (∃ d, owns (c : Thread nD τ) (ms0_5 t) fullShare ((datsF m 0 c).before 5 t d))
    ∗ (∃ d, owns (c : Thread nD τ) (ms0_6 t) fullShare ((datsF m 0 c).before 6 t d))
    ∗ (∃ d, owns (c : Thread nD τ) (ms0_7 t) fullShare ((datsF m 0 c).before 7 t d))
    ∗ (∃ d, owns (c : Thread nD τ) (ms0_8 t) fullShare ((datsF m 0 c).before 8 t d))
    ∗ (∃ d, owns (c : Thread nD τ) (ms0_9 t) fullShare ((datsF m 0 c).before 9 t d))
    ∗ (∃ d, owns (c : Thread nD τ) (ms0_10 t) fullShare ((datsF m 0 c).before 10 t d))
    ∗ (∃ d, owns (c : Thread nD τ) (ms0_11 t) fullShare ((datsF m 0 c).before 11 t d))
    ∗ (∃ d, owns (c : Thread nD τ) (ms0_12 t) fullShare ((datsF m 0 c).before 12 t d))
    ∗ (∃ X, owns (c : Thread nD τ) (ms0_13 t) fullShare X)
    ∗ (∃ X, owns (c : Thread nD τ) (ms0_14 t) fullShare X))

def postF (c : Dev nD) (t : Fin cfg0.N) : sProp (MT nD τ sig Unit (Elt F) ℕ (UR sig nD τ) ℕ) :=
  iprop((datsF m 0 c).Φ t.succ ∗ (datsF m 0 c).owesAt () t.succ
    ∗ (datsF m 0 c).leaves 0 t
    ∗ (datsF m 0 c).leaves 1 t
    ∗ (datsF m 0 c).leaves 2 t
    ∗ (datsF m 0 c).leaves 3 t
    ∗ (datsF m 0 c).leaves 4 t
    ∗ (datsF m 0 c).leaves 5 t
    ∗ (datsF m 0 c).leaves 6 t
    ∗ (datsF m 0 c).leaves 7 t
    ∗ (datsF m 0 c).leaves 8 t
    ∗ (datsF m 0 c).leaves 9 t
    ∗ (datsF m 0 c).leaves 10 t
    ∗ (datsF m 0 c).leaves 11 t
    ∗ (datsF m 0 c).leaves 12 t
    ∗ (∃ X, owns (c : Thread nD τ) (ms0_13 t) fullShare X)
    ∗ (∃ X, owns (c : Thread nD τ) (ms0_14 t) fullShare X))

set_option maxHeartbeats 4000000 in
theorem soundF (c : Dev nD) (t : Fin cfg0.N) :
    preF m c t ⊢ wp frame (wpE (defs₀ (F := F)) Variants.none c none) Set.univ (bodyAt0 t) (fun _ => postF m c t) := by
  unfold preF postF
  simp only [beforeF_0, beforeF_1, beforeF_2, beforeF_3, beforeF_4, beforeF_5, beforeF_6, beforeF_7, beforeF_8, beforeF_9, beforeF_10, beforeF_11, beforeF_12, leavesF_0, leavesF_1, leavesF_2, leavesF_3, leavesF_4, leavesF_5, leavesF_6, leavesF_7, leavesF_8, leavesF_9, leavesF_10, leavesF_11, leavesF_12]
  rw [show (datsF m 0 c).owesAt () t.succ = (datsF m 0 c).owesAt () t.castSucc from rfl]
  rw [show (datsF m 0 c).Φ t.succ = Pipeline.ΦA spec0 c from rfl, show (datsF m 0 c).Φ t.castSucc = Pipeline.ΦA spec0 c from rfl, PhiA0_eq]
  have hN : t.val < 14 := lt_of_lt_of_eq t.isLt (show cfg0.N = 14 from N_0)
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  by_cases h0 : t.val % 14 = 0
  · have h1 : ¬ t.val % 14 = 13 := by omega
    iapply (triA c t ((hcond0_0 t).mpr h0) (fun h => h1 ((hcond0_1 t).mp h)) (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t) d14 _)
    unfold insOwn
    isplitl [H0 H1 H2 H3 H4 H5 H6 H7 H8 H9 H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexists _; iexact H13
    isplitl [H14]; · iexact H14
    isplitl [HS0]; · iexists _; iexact HS0
    isplitl [HS1]; · iexists _; iexact HS1
    iintro ⟨⟨H0, H1, H2, H3, H4, H5, H6, H7, H8, H9, H10, H11, H12⟩, H13, H14, HS0, HS1⟩
    isplitl [HS0 HS1 Hg]
    · isplitl [HS0 HS1]
      · isplitl [HS0]; · iexists _; iexact HS0
        iexists _; iexact HS1
      iexact Hg
    isplitl [Ho]; · iexact Ho
    isplitl [H0]; · iexact H0
    isplitl [H1]; · iexists d1; iexact H1
    isplitl [H2]; · iexists d2; iexact H2
    isplitl [H3]; · iexists d3; iexact H3
    isplitl [H4]; · iexists d4; iexact H4
    isplitl [H5]; · iexists d5; iexact H5
    isplitl [H6]; · iexists d6; iexact H6
    isplitl [H7]; · iexact H7
    isplitl [H8]; · iexists d8; iexact H8
    isplitl [H9]; · iexact H9
    isplitl [H10]; · iexact H10
    isplitl [H11]; · iexact H11
    isplitl [H12]; · iexact H12
    isplitl [H13]; · iexists _; iexact H13
    iexists _; iexact H14
  · by_cases h1 : t.val % 14 = 13
    · iapply (triC c t (fun h => h0 ((hcond0_0 t).mp h)) ((hcond0_1 t).mpr h1) (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t) s0 s1 _)
      unfold insOwn
      isplitl [H0 H1 H2 H3 H4 H5 H6 H7 H8 H9 H10 H11 H12]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      isplitl [H13]; · iexists _; iexact H13
      isplitl [H14]; · iexists _; iexact H14
      isplitl [HS0]; · iexact HS0
      isplitl [HS1]; · iexact HS1
      iintro ⟨⟨H0, H1, H2, H3, H4, H5, H6, H7, H8, H9, H10, H11, H12⟩, H13, H14, HS0, HS1⟩
      isplitl [HS0 HS1 Hg]
      · isplitl [HS0 HS1]
        · isplitl [HS0]; · iexists _; iexact HS0
          iexists _; iexact HS1
        iexact Hg
      isplitl [Ho]; · iexact Ho
      isplitl [H0]; · iexact H0
      isplitl [H1]; · iexists d1; iexact H1
      isplitl [H2]; · iexists d2; iexact H2
      isplitl [H3]; · iexists d3; iexact H3
      isplitl [H4]; · iexists d4; iexact H4
      isplitl [H5]; · iexists d5; iexact H5
      isplitl [H6]; · iexists d6; iexact H6
      isplitl [H7]; · iexact H7
      isplitl [H8]; · iexists d8; iexact H8
      isplitl [H9]; · iexact H9
      isplitl [H10]; · iexact H10
      isplitl [H11]; · iexact H11
      isplitl [H12]; · iexact H12
      isplitl [H13]; · iexists _; iexact H13
      iexists _; iexact H14
    · iapply (triB c t (fun h => h0 ((hcond0_0 t).mp h)) (fun h => h1 ((hcond0_1 t).mp h)) (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t) s0 s1 d14 _)
      unfold insOwn
      isplitl [H0 H1 H2 H3 H4 H5 H6 H7 H8 H9 H10 H11 H12]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      isplitl [H13]; · iexists _; iexact H13
      isplitl [H14]; · iexact H14
      isplitl [HS0]; · iexact HS0
      isplitl [HS1]; · iexact HS1
      iintro ⟨⟨H0, H1, H2, H3, H4, H5, H6, H7, H8, H9, H10, H11, H12⟩, H13, H14, HS0, HS1⟩
      isplitl [HS0 HS1 Hg]
      · isplitl [HS0 HS1]
        · isplitl [HS0]; · iexists _; iexact HS0
          iexists _; iexact HS1
        iexact Hg
      isplitl [Ho]; · iexact Ho
      isplitl [H0]; · iexact H0
      isplitl [H1]; · iexists d1; iexact H1
      isplitl [H2]; · iexists d2; iexact H2
      isplitl [H3]; · iexists d3; iexact H3
      isplitl [H4]; · iexists d4; iexact H4
      isplitl [H5]; · iexists d5; iexact H5
      isplitl [H6]; · iexists d6; iexact H6
      isplitl [H7]; · iexact H7
      isplitl [H8]; · iexists d8; iexact H8
      isplitl [H9]; · iexact H9
      isplitl [H10]; · iexact H10
      isplitl [H11]; · iexact H11
      isplitl [H12]; · iexact H12
      isplitl [H13]; · iexists _; iexact H13
      iexists _; iexact H14

theorem defs₀_row (t : Fin cfg0.N) : defs₀ (F := F) .tc cfg0.body (cfg0.bodyArgs t (cfg0.slots t)) = bodyAt0 t := by
  unfold defs₀; rw [Defs.onTc_tc]

theorem obligationF (c : Dev nD) : BodyObligationLoose (datsF (F := F) m 0 c) (defs₀ (F := F)) Variants.none () Set.univ fgt := fun t => by
  rw [bigSep_W0, bigSep_W0, defs₀_row]
  exact triple_restated (soundF m c t) rfl .rfl fun _ => .rfl

set_option backward.isDefEq.respectTransparency.types false in
theorem run_quiescent : θ_run defs (onTc (τ := τ) (main (F := F))) (s₀ m ρ) (fun r => (Pipeline.RDat.FramePost cfg0 (fun c => (datsF m 0 c).toRForget fgt) (V m)) r ∧ r.2.sem = fun _ => 0) :=
  Pipeline.θ_run_frame_forget (Q' := _) cfgs (datsF m) (0 : Fin 1) launch0 defs₀ Variants.none fgt m ρ main
    (hbody := obligationF m) (hshare := fun c => (datsF m 0 c).share_full fun _ => rfl)
    (howed := fun _ _ => rfl) (V := V m) (hmain := hmain m Variants.none) (hA := AF_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => ⟨(Pipeline.RDat.FramePost.arr_in h.1 c 0 rfl).trans ((AF_eq m c 0).trans (V_main_arg0 m c)),
      (Pipeline.RDat.FramePost.arr_in h.1 c 1 rfl).trans ((AF_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (Pipeline.RDat.FramePost.arr_in h.1 c 4 rfl).trans ((AF_eq m c 4).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      (Pipeline.RDat.FramePost.arr_in h.1 c 8 rfl).trans ((AF_eq m c 8).trans (V_main_arg8 m c)),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      (Pipeline.RDat.FramePost.arr_in h.1 c 12 rfl).trans ((AF_eq m c 12).trans (V_main_arg12 m c))⟩, h.2⟩) (run_quiescent m ρ)

end Cert.KernelMlp.Body

end
-- ==== Proof.MlpRunsIdeal.lean ====
/-
  What the runs of the MLP body are stated over: the branch conditions in closed form over the points, where the
  second result's window is idle, and the staging and scratch buffers.
-/
module

public import proofs.«01_k».proof.Proof.Gen.KernelMlpIdeal.Frame
public import proofs.«01_k».proof.Proof.Gen.KernelMlpIdeal.Launch
public import proofs.«01_k».proof.Proof.Gen.KernelMlpIdeal.Skeleton
public import proofs.«01_k».proof.Proof.Gen.KernelMlpIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelMlpIdeal.Body

open Cert.KernelMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-! ## The body's branch conditions -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

abbrev cond0_1 (i : grid0.Coords) : Prop := k0_cond2 i = 1#1
theorem hcond0_1 : ∀ t : Fin cfg0.N, cond0_1 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_1, k0_cond2, e0]
    word_cmp
   : ∀ t : Fin grid0.N, cond0_1 (grid0.coords t) ↔ t.val % 14 = 13)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem idleAt0_14_A : ∀ t : Fin cfg0.N, cond0_0 (grid0.coords t) → ¬cond0_1 (grid0.coords t) → cfg0.idle 14 (grid0.coords t) = true := by decide +kernel
theorem noFlush0_14_A : ∀ t : Fin cfg0.N, cond0_0 (grid0.coords t) → ¬cond0_1 (grid0.coords t) → (cfg0.win 14).flush t = false := by decide +kernel
theorem idleAt0_14_B : ∀ t : Fin cfg0.N, ¬cond0_0 (grid0.coords t) → ¬cond0_1 (grid0.coords t) → cfg0.idle 14 (grid0.coords t) = true := by decide +kernel
theorem noFlush0_14_B : ∀ t : Fin cfg0.N, ¬cond0_0 (grid0.coords t) → ¬cond0_1 (grid0.coords t) → (cfg0.win 14).flush t = false := by decide +kernel
theorem liveAt0_14_C : ∀ t : Fin cfg0.N, ¬cond0_0 (grid0.coords t) → cond0_1 (grid0.coords t) → cfg0.idle 14 (grid0.coords t) = false := by decide +kernel

/-! ## The kernel body on any staging memrefs: a subtype the run finds -/

abbrev VO0_13 : View sig .tc .vmem S1024x256 .i8 := (Memref.whole cc0_stg13_0 : Memref sig .tc .vmem S1024x256 .i8).view
abbrev VO0_14 : View sig .tc .vmem S1024x1280 .bf16 := (Memref.whole cc0_stg14_0 : Memref sig .tc .vmem S1024x1280 .bf16).view
abbrev ms0_0 (t : Fin cfg0.N) : Memref sig .tc .vmem S1024x1280 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1280 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1280 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1280 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x1280 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x256 .i8 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x1280 .bf16 := win0_14.stage (cfg0.slots t 14)
abbrev hs0_14 (t : Fin cfg0.N) : (ms0_14 t).IsWhole := hstage0_14 ((cfg0.slots t 14).cast nbuf0_14)
abbrev scM0_0 : Memref sig .tc .vmem S1024x1280 .bf16 := Memref.whole cc0_scratch0
abbrev scM0_1 : Memref sig .tc .vmem S1024x1280 .f32 := Memref.whole cc0_scratch1
abbrev VS0_0 : View sig .tc .vmem S1024x1280 .bf16 := scM0_0.view
abbrev VS0_1 : View sig .tc .vmem S1024x1280 .f32 := scM0_1.view

theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelMlpIdeal.Body

end
-- ==== Proof.MlpRunAIdeal.lean ====
/-
  The MLP body run at the first point.
-/
module

public import proofs.«01_k».proof.Proof.MlpRunsIdeal

@[expose] public section

set_option maxRecDepth 16384

noncomputable section

namespace Cert.KernelMlpIdeal.Body

open Cert.KernelMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
noncomputable def kernelRun0_A (c : Dev nD) (i : grid0.Coords) (arg1 : Memref sig .tc .vmem S1024x1280 .i8) (harg1 : arg1.IsWhole) (arg2 : Memref sig .tc .vmem S1280x256 .i8) (harg2 : arg2.IsWhole) (arg3 : Memref sig .tc .vmem S1x256 .f32) (harg3 : arg3.IsWhole) (arg4 : Memref sig .tc .vmem S1x256 .f32) (harg4 : arg4.IsWhole) (arg5 : Memref sig .tc .vmem S1280x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S256x1280 .i8) (harg9 : arg9.IsWhole) (arg10 : Memref sig .tc .vmem S1x1280 .f32) (harg10 : arg10.IsWhole) (arg11 : Memref sig .tc .vmem S1x1280 .f32) (harg11 : arg11.IsWhole) (arg12 : Memref sig .tc .vmem S1x1 .f32) (harg12 : arg12.IsWhole) (arg13 : Memref sig .tc .vmem S1024x1280 .bf16) (harg13 : arg13.IsWhole) (arg14 : Memref sig .tc .vmem S1024x256 .i8) (harg14 : arg14.IsWhole) (arg15 : Memref sig .tc .vmem S1024x1280 .bf16) (harg15 : arg15.IsWhole) (arg16 : Memref sig .tc .vmem S1024x1280 .bf16) (harg16 : arg16.IsWhole) (arg17 : Memref sig .tc .vmem S1024x1280 .f32) (harg17 : arg17.IsWhole) (hc0 : cond0_0 i) (hc1 : ¬cond0_1 i)
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) :
    Σ' (L13 : List (View.Piece (Elt F) S1024x256 .i8)), Σ' (L14 : List (View.Piece (Elt F) S1024x1280 .bf16)), Σ' (LS0 : List (View.Piece (Elt F) S1024x1280 .bf16)), { LS1 : List (View.Piece (Elt F) S1024x1280 .f32) //
      ∀ (xi14 : Vec F S1024x1280 .bf16) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare xi14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ owns (c : Thread nD τ) arg15 fullShare xi14 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, [], ?_, ?_, fun xi14 E K => ?run⟩
  case run =>
    simp only [cc0_mlp_eq_skeleton]; unfold cc0_mlp_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg15.eq_unread hf14
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]
    · iexists _; isplitr; · ipureintro; exact harg15.read_unread _
      iexact H14
    isplitl [HS0]; · iexists _; iexact HS0
    iexists _; iexact HS1

end Cert.KernelMlpIdeal.Body

end
-- ==== Proof.MlpRunBIdeal.lean ====
/-
  The MLP body run at a middle point.
-/
module

public import proofs.«01_k».proof.Proof.MlpRunAIdeal

@[expose] public section

set_option maxRecDepth 16384

noncomputable section

namespace Cert.KernelMlpIdeal.Body

open Cert.KernelMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
noncomputable def kernelRun0_B (c : Dev nD) (i : grid0.Coords) (arg1 : Memref sig .tc .vmem S1024x1280 .i8) (harg1 : arg1.IsWhole) (arg2 : Memref sig .tc .vmem S1280x256 .i8) (harg2 : arg2.IsWhole) (arg3 : Memref sig .tc .vmem S1x256 .f32) (harg3 : arg3.IsWhole) (arg4 : Memref sig .tc .vmem S1x256 .f32) (harg4 : arg4.IsWhole) (arg5 : Memref sig .tc .vmem S1280x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S256x1280 .i8) (harg9 : arg9.IsWhole) (arg10 : Memref sig .tc .vmem S1x1280 .f32) (harg10 : arg10.IsWhole) (arg11 : Memref sig .tc .vmem S1x1280 .f32) (harg11 : arg11.IsWhole) (arg12 : Memref sig .tc .vmem S1x1 .f32) (harg12 : arg12.IsWhole) (arg13 : Memref sig .tc .vmem S1024x1280 .bf16) (harg13 : arg13.IsWhole) (arg14 : Memref sig .tc .vmem S1024x256 .i8) (harg14 : arg14.IsWhole) (arg15 : Memref sig .tc .vmem S1024x1280 .bf16) (harg15 : arg15.IsWhole) (arg16 : Memref sig .tc .vmem S1024x1280 .bf16) (harg16 : arg16.IsWhole) (arg17 : Memref sig .tc .vmem S1024x1280 .f32) (harg17 : arg17.IsWhole) (hc0 : ¬cond0_0 i) (hc1 : ¬cond0_1 i)
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) :
    Σ' (L13 : List (View.Piece (Elt F) S1024x256 .i8)), Σ' (L14 : List (View.Piece (Elt F) S1024x1280 .bf16)), Σ' (LS0 : List (View.Piece (Elt F) S1024x1280 .bf16)), { LS1 : List (View.Piece (Elt F) S1024x1280 .f32) //
      ∀ (xi14 : Vec F S1024x1280 .bf16) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare xi14 ∗ owns (c : Thread nD τ) arg16 fullShare xs0 ∗ owns (c : Thread nD τ) arg17 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ owns (c : Thread nD τ) arg15 fullShare xi14 ∗ owns (c : Thread nD τ) arg16 fullShare xs0 ∗ (∃ f, arg17.view.loc (c : Thread nD τ) ↦[arg17.view.set]{fullShare} arg17.view.writes (Elt F) f LS1)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, [], [], ?_, fun xi14 E K => ?run⟩
  case run =>
    simp only [cc0_mlp_eq_skeleton]; unfold cc0_mlp_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg15.eq_unread hf14; obtain rfl := harg16.eq_unread hfs0; obtain rfl := harg17.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]
    · iexists _; isplitr; · ipureintro; exact harg15.read_unread _
      iexact H14
    isplitl [HS0]
    · iexists _; isplitr; · ipureintro; exact harg16.read_unread _
      iexact HS0
    iexists _; iexact HS1

end Cert.KernelMlpIdeal.Body

end
-- ==== Proof.MlpRunCIdeal.lean ====
/-
  The MLP body run at the last point.
-/
module

public import proofs.«01_k».proof.Proof.MlpRunBIdeal

@[expose] public section

set_option maxRecDepth 16384

noncomputable section

namespace Cert.KernelMlpIdeal.Body

open Cert.KernelMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
noncomputable def kernelRun0_C (c : Dev nD) (i : grid0.Coords) (arg1 : Memref sig .tc .vmem S1024x1280 .i8) (harg1 : arg1.IsWhole) (arg2 : Memref sig .tc .vmem S1280x256 .i8) (harg2 : arg2.IsWhole) (arg3 : Memref sig .tc .vmem S1x256 .f32) (harg3 : arg3.IsWhole) (arg4 : Memref sig .tc .vmem S1x256 .f32) (harg4 : arg4.IsWhole) (arg5 : Memref sig .tc .vmem S1280x256 .i8) (harg5 : arg5.IsWhole) (arg6 : Memref sig .tc .vmem S1x256 .f32) (harg6 : arg6.IsWhole) (arg7 : Memref sig .tc .vmem S1x256 .f32) (harg7 : arg7.IsWhole) (arg8 : Memref sig .tc .vmem S1x1 .f32) (harg8 : arg8.IsWhole) (arg9 : Memref sig .tc .vmem S256x1280 .i8) (harg9 : arg9.IsWhole) (arg10 : Memref sig .tc .vmem S1x1280 .f32) (harg10 : arg10.IsWhole) (arg11 : Memref sig .tc .vmem S1x1280 .f32) (harg11 : arg11.IsWhole) (arg12 : Memref sig .tc .vmem S1x1 .f32) (harg12 : arg12.IsWhole) (arg13 : Memref sig .tc .vmem S1024x1280 .bf16) (harg13 : arg13.IsWhole) (arg14 : Memref sig .tc .vmem S1024x256 .i8) (harg14 : arg14.IsWhole) (arg15 : Memref sig .tc .vmem S1024x1280 .bf16) (harg15 : arg15.IsWhole) (arg16 : Memref sig .tc .vmem S1024x1280 .bf16) (harg16 : arg16.IsWhole) (arg17 : Memref sig .tc .vmem S1024x1280 .f32) (harg17 : arg17.IsWhole) (hc0 : ¬cond0_0 i) (hc1 : cond0_1 i)
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) :
    Σ' (L13 : List (View.Piece (Elt F) S1024x256 .i8)), Σ' (L14 : List (View.Piece (Elt F) S1024x1280 .bf16)), Σ' (LS0 : List (View.Piece (Elt F) S1024x1280 .bf16)), { LS1 : List (View.Piece (Elt F) S1024x1280 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare xs0 ∗ owns (c : Thread nD τ) arg17 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ owns (c : Thread nD τ) arg16 fullShare xs0 ∗ (∃ f, arg17.view.loc (c : Thread nD τ) ↦[arg17.view.set]{fullShare} arg17.view.writes (Elt F) f LS1)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, [], ?_, fun E K => ?run⟩
  case run =>
    simp only [cc0_mlp_eq_skeleton]; unfold cc0_mlp_skel
    simp only [k0_part3_eq_skeleton, k0_part4_eq_skeleton, k0_part5_eq_skeleton, k0_part6_eq_skeleton, k0_part7_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg16.eq_unread hfs0; obtain rfl := harg17.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [HS0]
    · iexists _; isplitr; · ipureintro; exact harg16.read_unread _
      iexact HS0
    iexists _; iexact HS1

end Cert.KernelMlpIdeal.Body

end
-- ==== Proof.MlpTriIdeal.lean ====
/-
  The MLP body's three cases — the first point, a middle point, the last point — as triples on a point's own buffers:
  what each leaves in the codes' buffer, in the second result's and in the two scratch buffers.
-/
module

public import proofs.«01_k».proof.Proof.MlpRunCIdeal

@[expose] public section

set_option maxRecDepth 16384

noncomputable section

namespace Cert.KernelMlpIdeal.Body

open Cert.KernelMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

def insOwn (c : Dev nD) (t : Fin cfg0.N) (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) : sProp (MT nD τ sig Unit (Elt F) ℕ (UR sig nD τ) ℕ) :=
  iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ owns (c : Thread nD τ) (ms0_6 t) fullShare x6 ∗ owns (c : Thread nD τ) (ms0_7 t) fullShare x7 ∗ owns (c : Thread nD τ) (ms0_8 t) fullShare x8 ∗ owns (c : Thread nD τ) (ms0_9 t) fullShare x9 ∗ owns (c : Thread nD τ) (ms0_10 t) fullShare x10 ∗ owns (c : Thread nD τ) (ms0_11 t) fullShare x11 ∗ owns (c : Thread nD τ) (ms0_12 t) fullShare x12)

abbrev runA (c : Dev nD) (t : Fin cfg0.N) (hc0 : cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc0 hc1 x0 x1 x2 x3 x4 x5 x6 x7 x8 x9 x10 x11 x12

def cdA (c : Dev nD) (t : Fin cfg0.N) (hc0 : cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) : Vec F S1024x256 .i8 :=
  VO0_13.read (Elt F) (VO0_13.writes (Elt F) VO0_13.junk (runA c t hc0 hc1 x0 x1 x2 x3 x4 x5 x6 x7 x8 x9 x10 x11 x12).1)

theorem coverA_13 (c : Dev nD) (t : Fin cfg0.N) (hc0 : cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (y : S1024x256.Idx) : ∃ pc ∈ (runA c t hc0 hc1 x0 x1 x2 x3 x4 x5 x6 x7 x8 x9 x10 x11 x12).1, y ∈ pc.1.set :=
  View.cover_of_tiledL (runA c t hc0 hc1 x0 x1 x2 x3 x4 x5 x6 x7 x8 x9 x10 x11 x12).1 S256x256.size (by sl_kernel_rfl) y

def csA (c : Dev nD) (t : Fin cfg0.N) (hc0 : cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) : Vec F S1024x1280 .bf16 :=
  VS0_0.read (Elt F) (VS0_0.writes (Elt F) VS0_0.junk (runA c t hc0 hc1 x0 x1 x2 x3 x4 x5 x6 x7 x8 x9 x10 x11 x12).2.2.1)

theorem scoverA_0 (c : Dev nD) (t : Fin cfg0.N) (hc0 : cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (y : S1024x1280.Idx) : ∃ pc ∈ (runA c t hc0 hc1 x0 x1 x2 x3 x4 x5 x6 x7 x8 x9 x10 x11 x12).2.2.1, y ∈ pc.1.set :=
  View.cover_of_tiledL (runA c t hc0 hc1 x0 x1 x2 x3 x4 x5 x6 x7 x8 x9 x10 x11 x12).2.2.1 S1024x1280.size (by sl_kernel_rfl) y

def accA (c : Dev nD) (t : Fin cfg0.N) (hc0 : cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) : Vec F S1024x1280 .f32 :=
  VS0_1.read (Elt F) (VS0_1.writes (Elt F) VS0_1.junk (runA c t hc0 hc1 x0 x1 x2 x3 x4 x5 x6 x7 x8 x9 x10 x11 x12).2.2.2.1)

theorem scoverA_1 (c : Dev nD) (t : Fin cfg0.N) (hc0 : cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (y : S1024x1280.Idx) : ∃ pc ∈ (runA c t hc0 hc1 x0 x1 x2 x3 x4 x5 x6 x7 x8 x9 x10 x11 x12).2.2.2.1, y ∈ pc.1.set :=
  View.cover_of_wholeMem (runA c t hc0 hc1 x0 x1 x2 x3 x4 x5 x6 x7 x8 x9 x10 x11 x12).2.2.2.1 (by sl_whole_mem) y

set_option maxHeartbeats 4000000 in
theorem triA (c : Dev nD) (t : Fin cfg0.N) (hc0 : cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xi14 : Vec F S1024x1280 .bf16) (K : PUnit → sProp (MT nD τ sig Unit (Elt F) ℕ (UR sig nD τ) ℕ)) :
    iprop(insOwn c t x0 x1 x2 x3 x4 x5 x6 x7 x8 x9 x10 x11 x12 ∗ (∃ d, owns (c : Thread nD τ) (ms0_13 t) fullShare d) ∗ owns (c : Thread nD τ) (ms0_14 t) fullShare xi14 ∗ (∃ d, owns (c : Thread nD τ) scM0_0 fullShare d) ∗ (∃ d, owns (c : Thread nD τ) scM0_1 fullShare d)
        ∗ (iprop(insOwn c t x0 x1 x2 x3 x4 x5 x6 x7 x8 x9 x10 x11 x12 ∗ owns (c : Thread nD τ) (ms0_13 t) fullShare (cdA c t hc0 hc1 x0 x1 x2 x3 x4 x5 x6 x7 x8 x9 x10 x11 x12) ∗ owns (c : Thread nD τ) (ms0_14 t) fullShare xi14 ∗ owns (c : Thread nD τ) scM0_0 fullShare (csA c t hc0 hc1 x0 x1 x2 x3 x4 x5 x6 x7 x8 x9 x10 x11 x12)
            ∗ owns (c : Thread nD τ) scM0_1 fullShare (accA c t hc0 hc1 x0 x1 x2 x3 x4 x5 x6 x7 x8 x9 x10 x11 x12)) -∗ K ⟨⟩))
      ⊢ wp frame (wpE (defs₀ (F := F)) Variants.none c none) Set.univ (bodyAt0 t) K := by
  unfold bodyAt0 insOwn
  iintro ⟨⟨H0, H1, H2, H3, H4, H5, H6, H7, H8, H9, H10, H11, H12⟩, ⟨%d13, H13⟩, H14, HS0, HS1, Hk⟩
  iapply ((runA c t hc0 hc1 x0 x1 x2 x3 x4 x5 x6 x7 x8 x9 x10 x11 x12).2.2.2.2 xi14 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexact H14
  isplitl [HS0]; · iexact HS0
  isplitl [HS1]; · iexact HS1
  iintro ⟨H0, H1, H2, H3, H4, H5, H6, H7, H8, H9, H10, H11, H12, ⟨%e13, H13⟩, H14, ⟨%es0, HS0⟩, ⟨%es1, HS1⟩⟩
  iapply Hk
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]
  · unfold owns; iexists _; isplitr
    swap; · iexact H13
    ipureintro; exact View.read_writes_of_cover _ _ _ _ _ (coverA_13 c t hc0 hc1 x0 x1 x2 x3 x4 x5 x6 x7 x8 x9 x10 x11 x12)
  isplitl [H14]; · iexact H14
  isplitl [HS0]
  · unfold owns; iexists _; isplitr
    swap; · iexact HS0
    ipureintro; exact View.read_writes_of_cover _ _ _ _ _ (scoverA_0 c t hc0 hc1 x0 x1 x2 x3 x4 x5 x6 x7 x8 x9 x10 x11 x12)
  unfold owns; iexists _; isplitr
  swap; · iexact HS1
  ipureintro; exact View.read_writes_of_cover _ _ _ _ _ (scoverA_1 c t hc0 hc1 x0 x1 x2 x3 x4 x5 x6 x7 x8 x9 x10 x11 x12)

abbrev runB (c : Dev nD) (t : Fin cfg0.N) (hc0 : ¬cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc0 hc1 x0 x1 x2 x3 x4 x5 x6 x7 x8 x9 x10 x11 x12 xs0 xs1

def cdB (c : Dev nD) (t : Fin cfg0.N) (hc0 : ¬cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) : Vec F S1024x256 .i8 :=
  VO0_13.read (Elt F) (VO0_13.writes (Elt F) VO0_13.junk (runB c t hc0 hc1 x0 x1 x2 x3 x4 x5 x6 x7 x8 x9 x10 x11 x12 xs0 xs1).1)

theorem coverB_13 (c : Dev nD) (t : Fin cfg0.N) (hc0 : ¬cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) (y : S1024x256.Idx) : ∃ pc ∈ (runB c t hc0 hc1 x0 x1 x2 x3 x4 x5 x6 x7 x8 x9 x10 x11 x12 xs0 xs1).1, y ∈ pc.1.set :=
  View.cover_of_tiledL (runB c t hc0 hc1 x0 x1 x2 x3 x4 x5 x6 x7 x8 x9 x10 x11 x12 xs0 xs1).1 S256x256.size (by sl_kernel_rfl) y

def accB (c : Dev nD) (t : Fin cfg0.N) (hc0 : ¬cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) : Vec F S1024x1280 .f32 :=
  VS0_1.read (Elt F) (VS0_1.writes (Elt F) VS0_1.junk (runB c t hc0 hc1 x0 x1 x2 x3 x4 x5 x6 x7 x8 x9 x10 x11 x12 xs0 xs1).2.2.2.1)

theorem scoverB_1 (c : Dev nD) (t : Fin cfg0.N) (hc0 : ¬cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) (y : S1024x1280.Idx) : ∃ pc ∈ (runB c t hc0 hc1 x0 x1 x2 x3 x4 x5 x6 x7 x8 x9 x10 x11 x12 xs0 xs1).2.2.2.1, y ∈ pc.1.set :=
  View.cover_of_tiledL (runB c t hc0 hc1 x0 x1 x2 x3 x4 x5 x6 x7 x8 x9 x10 x11 x12 xs0 xs1).2.2.2.1 S256x1280.size (by sl_kernel_rfl) y

set_option maxHeartbeats 4000000 in
theorem triB (c : Dev nD) (t : Fin cfg0.N) (hc0 : ¬cond0_0 (grid0.coords t)) (hc1 : ¬cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) (xi14 : Vec F S1024x1280 .bf16) (K : PUnit → sProp (MT nD τ sig Unit (Elt F) ℕ (UR sig nD τ) ℕ)) :
    iprop(insOwn c t x0 x1 x2 x3 x4 x5 x6 x7 x8 x9 x10 x11 x12 ∗ (∃ d, owns (c : Thread nD τ) (ms0_13 t) fullShare d) ∗ owns (c : Thread nD τ) (ms0_14 t) fullShare xi14 ∗ owns (c : Thread nD τ) scM0_0 fullShare xs0 ∗ owns (c : Thread nD τ) scM0_1 fullShare xs1
        ∗ (iprop(insOwn c t x0 x1 x2 x3 x4 x5 x6 x7 x8 x9 x10 x11 x12 ∗ owns (c : Thread nD τ) (ms0_13 t) fullShare (cdB c t hc0 hc1 x0 x1 x2 x3 x4 x5 x6 x7 x8 x9 x10 x11 x12 xs0 xs1) ∗ owns (c : Thread nD τ) (ms0_14 t) fullShare xi14 ∗ owns (c : Thread nD τ) scM0_0 fullShare xs0
            ∗ owns (c : Thread nD τ) scM0_1 fullShare (accB c t hc0 hc1 x0 x1 x2 x3 x4 x5 x6 x7 x8 x9 x10 x11 x12 xs0 xs1)) -∗ K ⟨⟩))
      ⊢ wp frame (wpE (defs₀ (F := F)) Variants.none c none) Set.univ (bodyAt0 t) K := by
  unfold bodyAt0 insOwn
  iintro ⟨⟨H0, H1, H2, H3, H4, H5, H6, H7, H8, H9, H10, H11, H12⟩, ⟨%d13, H13⟩, H14, HS0, HS1, Hk⟩
  iapply ((runB c t hc0 hc1 x0 x1 x2 x3 x4 x5 x6 x7 x8 x9 x10 x11 x12 xs0 xs1).2.2.2.2 xi14 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexact H14
  isplitl [HS0]; · iexact HS0
  isplitl [HS1]; · iexact HS1
  iintro ⟨H0, H1, H2, H3, H4, H5, H6, H7, H8, H9, H10, H11, H12, ⟨%e13, H13⟩, H14, HS0, ⟨%es1, HS1⟩⟩
  iapply Hk
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]
  · unfold owns; iexists _; isplitr
    swap; · iexact H13
    ipureintro; exact View.read_writes_of_cover _ _ _ _ _ (coverB_13 c t hc0 hc1 x0 x1 x2 x3 x4 x5 x6 x7 x8 x9 x10 x11 x12 xs0 xs1)
  isplitl [H14]; · iexact H14
  isplitl [HS0]; · iexact HS0
  unfold owns; iexists _; isplitr
  swap; · iexact HS1
  ipureintro; exact View.read_writes_of_cover _ _ _ _ _ (scoverB_1 c t hc0 hc1 x0 x1 x2 x3 x4 x5 x6 x7 x8 x9 x10 x11 x12 xs0 xs1)

abbrev runC (c : Dev nD) (t : Fin cfg0.N) (hc0 : ¬cond0_0 (grid0.coords t)) (hc1 : cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) hc0 hc1 x0 x1 x2 x3 x4 x5 x6 x7 x8 x9 x10 x11 x12 xs0 xs1

def cdC (c : Dev nD) (t : Fin cfg0.N) (hc0 : ¬cond0_0 (grid0.coords t)) (hc1 : cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) : Vec F S1024x256 .i8 :=
  VO0_13.read (Elt F) (VO0_13.writes (Elt F) VO0_13.junk (runC c t hc0 hc1 x0 x1 x2 x3 x4 x5 x6 x7 x8 x9 x10 x11 x12 xs0 xs1).1)

theorem coverC_13 (c : Dev nD) (t : Fin cfg0.N) (hc0 : ¬cond0_0 (grid0.coords t)) (hc1 : cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) (y : S1024x256.Idx) : ∃ pc ∈ (runC c t hc0 hc1 x0 x1 x2 x3 x4 x5 x6 x7 x8 x9 x10 x11 x12 xs0 xs1).1, y ∈ pc.1.set :=
  View.cover_of_tiledL (runC c t hc0 hc1 x0 x1 x2 x3 x4 x5 x6 x7 x8 x9 x10 x11 x12 xs0 xs1).1 S256x256.size (by sl_kernel_rfl) y

def yC (c : Dev nD) (t : Fin cfg0.N) (hc0 : ¬cond0_0 (grid0.coords t)) (hc1 : cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) : Vec F S1024x1280 .bf16 :=
  VO0_14.read (Elt F) (VO0_14.writes (Elt F) VO0_14.junk (runC c t hc0 hc1 x0 x1 x2 x3 x4 x5 x6 x7 x8 x9 x10 x11 x12 xs0 xs1).2.1)

theorem coverC_14 (c : Dev nD) (t : Fin cfg0.N) (hc0 : ¬cond0_0 (grid0.coords t)) (hc1 : cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) (y : S1024x1280.Idx) : ∃ pc ∈ (runC c t hc0 hc1 x0 x1 x2 x3 x4 x5 x6 x7 x8 x9 x10 x11 x12 xs0 xs1).2.1, y ∈ pc.1.set :=
  View.cover_of_tiledL (runC c t hc0 hc1 x0 x1 x2 x3 x4 x5 x6 x7 x8 x9 x10 x11 x12 xs0 xs1).2.1 S256x1280.size (by sl_kernel_rfl) y

def accC (c : Dev nD) (t : Fin cfg0.N) (hc0 : ¬cond0_0 (grid0.coords t)) (hc1 : cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) : Vec F S1024x1280 .f32 :=
  VS0_1.read (Elt F) (VS0_1.writes (Elt F) VS0_1.junk (runC c t hc0 hc1 x0 x1 x2 x3 x4 x5 x6 x7 x8 x9 x10 x11 x12 xs0 xs1).2.2.2.1)

theorem scoverC_1 (c : Dev nD) (t : Fin cfg0.N) (hc0 : ¬cond0_0 (grid0.coords t)) (hc1 : cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) (y : S1024x1280.Idx) : ∃ pc ∈ (runC c t hc0 hc1 x0 x1 x2 x3 x4 x5 x6 x7 x8 x9 x10 x11 x12 xs0 xs1).2.2.2.1, y ∈ pc.1.set :=
  View.cover_of_tiledL (runC c t hc0 hc1 x0 x1 x2 x3 x4 x5 x6 x7 x8 x9 x10 x11 x12 xs0 xs1).2.2.2.1 S256x1280.size (by sl_kernel_rfl) y

set_option maxHeartbeats 4000000 in
theorem triC (c : Dev nD) (t : Fin cfg0.N) (hc0 : ¬cond0_0 (grid0.coords t)) (hc1 : cond0_1 (grid0.coords t))
    (x0 : Vec F S1024x1280 .i8) (x1 : Vec F S1280x256 .i8) (x2 : Vec F S1x256 .f32) (x3 : Vec F S1x256 .f32) (x4 : Vec F S1280x256 .i8) (x5 : Vec F S1x256 .f32) (x6 : Vec F S1x256 .f32) (x7 : Vec F S1x1 .f32) (x8 : Vec F S256x1280 .i8) (x9 : Vec F S1x1280 .f32) (x10 : Vec F S1x1280 .f32) (x11 : Vec F S1x1 .f32) (x12 : Vec F S1024x1280 .bf16) (xs0 : Vec F S1024x1280 .bf16) (xs1 : Vec F S1024x1280 .f32) (K : PUnit → sProp (MT nD τ sig Unit (Elt F) ℕ (UR sig nD τ) ℕ)) :
    iprop(insOwn c t x0 x1 x2 x3 x4 x5 x6 x7 x8 x9 x10 x11 x12 ∗ (∃ d, owns (c : Thread nD τ) (ms0_13 t) fullShare d) ∗ (∃ d, owns (c : Thread nD τ) (ms0_14 t) fullShare d) ∗ owns (c : Thread nD τ) scM0_0 fullShare xs0 ∗ owns (c : Thread nD τ) scM0_1 fullShare xs1
        ∗ (iprop(insOwn c t x0 x1 x2 x3 x4 x5 x6 x7 x8 x9 x10 x11 x12 ∗ owns (c : Thread nD τ) (ms0_13 t) fullShare (cdC c t hc0 hc1 x0 x1 x2 x3 x4 x5 x6 x7 x8 x9 x10 x11 x12 xs0 xs1) ∗ owns (c : Thread nD τ) (ms0_14 t) fullShare (yC c t hc0 hc1 x0 x1 x2 x3 x4 x5 x6 x7 x8 x9 x10 x11 x12 xs0 xs1) ∗ owns (c : Thread nD τ) scM0_0 fullShare xs0
            ∗ owns (c : Thread nD τ) scM0_1 fullShare (accC c t hc0 hc1 x0 x1 x2 x3 x4 x5 x6 x7 x8 x9 x10 x11 x12 xs0 xs1)) -∗ K ⟨⟩))
      ⊢ wp frame (wpE (defs₀ (F := F)) Variants.none c none) Set.univ (bodyAt0 t) K := by
  unfold bodyAt0 insOwn
  iintro ⟨⟨H0, H1, H2, H3, H4, H5, H6, H7, H8, H9, H10, H11, H12⟩, ⟨%d13, H13⟩, H14, HS0, HS1, Hk⟩
  iapply ((runC c t hc0 hc1 x0 x1 x2 x3 x4 x5 x6 x7 x8 x9 x10 x11 x12 xs0 xs1).2.2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexact H14
  isplitl [HS0]; · iexact HS0
  isplitl [HS1]; · iexact HS1
  iintro ⟨H0, H1, H2, H3, H4, H5, H6, H7, H8, H9, H10, H11, H12, ⟨%e13, H13⟩, ⟨%e14, H14⟩, HS0, ⟨%es1, HS1⟩⟩
  iapply Hk
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]
  · unfold owns; iexists _; isplitr
    swap; · iexact H13
    ipureintro; exact View.read_writes_of_cover _ _ _ _ _ (coverC_13 c t hc0 hc1 x0 x1 x2 x3 x4 x5 x6 x7 x8 x9 x10 x11 x12 xs0 xs1)
  isplitl [H14]
  · unfold owns; iexists _; isplitr
    swap; · iexact H14
    ipureintro; exact View.read_writes_of_cover _ _ _ _ _ (coverC_14 c t hc0 hc1 x0 x1 x2 x3 x4 x5 x6 x7 x8 x9 x10 x11 x12 xs0 xs1)
  isplitl [HS0]; · iexact HS0
  unfold owns; iexists _; isplitr
  swap; · iexact HS1
  ipureintro; exact View.read_writes_of_cover _ _ _ _ _ (scoverC_1 c t hc0 hc1 x0 x1 x2 x3 x4 x5 x6 x7 x8 x9 x10 x11 x12 xs0 xs1)

end Cert.KernelMlpIdeal.Body

end
-- ==== Proof.MlpFrameIdeal.lean ====
/-
  The frame of the MLP kernel: at every point the body keeps its inputs' buffers and leaves something in the others, so the
  program terminates with its arguments as they were. The blocks of the gate, up and down weights overhang their arrays at
  the last point, so an input's buffer there is its block filled out with whatever the fetch left beyond the array.
-/
module

public import proofs.«01_k».proof.Proof.MlpTriIdeal

@[expose] public section

set_option maxRecDepth 16384

noncomputable section

namespace Cert.KernelMlpIdeal.Body

open Cert.KernelMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

def xf1 (c : Dev nD) (t : Fin cfg0.N) (d : Vec F S1280x256 .i8) : Vec F S1280x256 .i8 := win0_1.fill (grid0.coords t) d (iblk m c 1 t)

def xf2 (c : Dev nD) (t : Fin cfg0.N) (d : Vec F S1x256 .f32) : Vec F S1x256 .f32 := win0_2.fill (grid0.coords t) d (iblk m c 2 t)

def xf3 (c : Dev nD) (t : Fin cfg0.N) (d : Vec F S1x256 .f32) : Vec F S1x256 .f32 := win0_3.fill (grid0.coords t) d (iblk m c 3 t)

def xf4 (c : Dev nD) (t : Fin cfg0.N) (d : Vec F S1280x256 .i8) : Vec F S1280x256 .i8 := win0_4.fill (grid0.coords t) d (iblk m c 4 t)

def xf5 (c : Dev nD) (t : Fin cfg0.N) (d : Vec F S1x256 .f32) : Vec F S1x256 .f32 := win0_5.fill (grid0.coords t) d (iblk m c 5 t)

def xf6 (c : Dev nD) (t : Fin cfg0.N) (d : Vec F S1x256 .f32) : Vec F S1x256 .f32 := win0_6.fill (grid0.coords t) d (iblk m c 6 t)

def xf8 (c : Dev nD) (t : Fin cfg0.N) (d : Vec F S256x1280 .i8) : Vec F S256x1280 .i8 := win0_8.fill (grid0.coords t) d (iblk m c 8 t)

def fgt : Fin cfg0.W → Bool := fun w => decide (13 ≤ w.val)

def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => xf1 m c t (fun _ => (0#8 : BitVec 8))
    | ⟨2, _⟩ => xf2 m c t (fun _ => Scalar.ofBits .f32 0#32)
    | ⟨3, _⟩ => xf3 m c t (fun _ => Scalar.ofBits .f32 0#32)
    | ⟨4, _⟩ => xf4 m c t (fun _ => (0#8 : BitVec 8))
    | ⟨5, _⟩ => xf5 m c t (fun _ => Scalar.ofBits .f32 0#32)
    | ⟨6, _⟩ => xf6 m c t (fun _ => Scalar.ofBits .f32 0#32)
    | ⟨7, _⟩ => iblk m c 7 t
    | ⟨8, _⟩ => xf8 m c t (fun _ => (0#8 : BitVec 8))
    | ⟨9, _⟩ => iblk m c 9 t
    | ⟨10, _⟩ => iblk m c 10 t
    | ⟨11, _⟩ => iblk m c 11 t
    | ⟨12, _⟩ => iblk m c 12 t
    | ⟨13, _⟩ => fun _ => (0#8 : BitVec 8)
    | ⟨14, _⟩ => fun _ => Scalar.ofBits .bf16 0#16
  Φ _ := Pipeline.ΦA spec0 c
  q _ := fullShare
  owed _ := 0

theorem AF_eq (c : Dev nD) (w : Fin cfg0.W) : (datsF m 0 c).A w = V m c (Pipeline.arrRef spec0 w) := by dsimp only [datsF]

theorem afterF_0 (c : Dev nD) (t : Fin cfg0.N) : (datsF m 0 c).after 0 t = iblk m c 0 t := by dsimp only [datsF]
theorem afterF_1 (c : Dev nD) (t : Fin cfg0.N) : (datsF m 0 c).after 1 t = xf1 m c t (fun _ => (0#8 : BitVec 8)) := by dsimp only [datsF]
theorem afterF_2 (c : Dev nD) (t : Fin cfg0.N) : (datsF m 0 c).after 2 t = xf2 m c t (fun _ => Scalar.ofBits .f32 0#32) := by dsimp only [datsF]
theorem afterF_3 (c : Dev nD) (t : Fin cfg0.N) : (datsF m 0 c).after 3 t = xf3 m c t (fun _ => Scalar.ofBits .f32 0#32) := by dsimp only [datsF]
theorem afterF_4 (c : Dev nD) (t : Fin cfg0.N) : (datsF m 0 c).after 4 t = xf4 m c t (fun _ => (0#8 : BitVec 8)) := by dsimp only [datsF]
theorem afterF_5 (c : Dev nD) (t : Fin cfg0.N) : (datsF m 0 c).after 5 t = xf5 m c t (fun _ => Scalar.ofBits .f32 0#32) := by dsimp only [datsF]
theorem afterF_6 (c : Dev nD) (t : Fin cfg0.N) : (datsF m 0 c).after 6 t = xf6 m c t (fun _ => Scalar.ofBits .f32 0#32) := by dsimp only [datsF]
theorem afterF_7 (c : Dev nD) (t : Fin cfg0.N) : (datsF m 0 c).after 7 t = iblk m c 7 t := by dsimp only [datsF]
theorem afterF_8 (c : Dev nD) (t : Fin cfg0.N) : (datsF m 0 c).after 8 t = xf8 m c t (fun _ => (0#8 : BitVec 8)) := by dsimp only [datsF]
theorem afterF_9 (c : Dev nD) (t : Fin cfg0.N) : (datsF m 0 c).after 9 t = iblk m c 9 t := by dsimp only [datsF]
theorem afterF_10 (c : Dev nD) (t : Fin cfg0.N) : (datsF m 0 c).after 10 t = iblk m c 10 t := by dsimp only [datsF]
theorem afterF_11 (c : Dev nD) (t : Fin cfg0.N) : (datsF m 0 c).after 11 t = iblk m c 11 t := by dsimp only [datsF]
theorem afterF_12 (c : Dev nD) (t : Fin cfg0.N) : (datsF m 0 c).after 12 t = iblk m c 12 t := by dsimp only [datsF]
theorem beforeF_0 (c : Dev nD) (t : Fin cfg0.N) (d) : (datsF m 0 c).before 0 t d = iblk m c 0 t :=
  before0_0_of m (datsF m 0 c) (AF_eq m c 0) (afterF_0 m c) t d
theorem beforeF_7 (c : Dev nD) (t : Fin cfg0.N) (d) : (datsF m 0 c).before 7 t d = iblk m c 7 t :=
  before0_7_of m (datsF m 0 c) (AF_eq m c 7) (afterF_7 m c) t d
theorem beforeF_9 (c : Dev nD) (t : Fin cfg0.N) (d) : (datsF m 0 c).before 9 t d = iblk m c 9 t :=
  before0_9_of m (datsF m 0 c) (AF_eq m c 9) (afterF_9 m c) t d
theorem beforeF_10 (c : Dev nD) (t : Fin cfg0.N) (d) : (datsF m 0 c).before 10 t d = iblk m c 10 t :=
  before0_10_of m (datsF m 0 c) (AF_eq m c 10) (afterF_10 m c) t d
theorem beforeF_11 (c : Dev nD) (t : Fin cfg0.N) (d) : (datsF m 0 c).before 11 t d = iblk m c 11 t :=
  before0_11_of m (datsF m 0 c) (AF_eq m c 11) (afterF_11 m c) t d
theorem beforeF_12 (c : Dev nD) (t : Fin cfg0.N) (d) : (datsF m 0 c).before 12 t d = iblk m c 12 t :=
  before0_12_of m (datsF m 0 c) (AF_eq m c 12) (afterF_12 m c) t d
theorem beforeF_1 (c : Dev nD) (t : Fin cfg0.N) (d) : (datsF m 0 c).before 1 t d = xf1 m c t d := by
  unfold Dat.before; rw [if_pos (fetch0_1 t)]; rfl
theorem beforeF_2 (c : Dev nD) (t : Fin cfg0.N) (d) : (datsF m 0 c).before 2 t d = xf2 m c t d := by
  unfold Dat.before; rw [if_pos (fetch0_2 t)]; rfl
theorem beforeF_3 (c : Dev nD) (t : Fin cfg0.N) (d) : (datsF m 0 c).before 3 t d = xf3 m c t d := by
  unfold Dat.before; rw [if_pos (fetch0_3 t)]; rfl
theorem beforeF_4 (c : Dev nD) (t : Fin cfg0.N) (d) : (datsF m 0 c).before 4 t d = xf4 m c t d := by
  unfold Dat.before; rw [if_pos (fetch0_4 t)]; rfl
theorem beforeF_5 (c : Dev nD) (t : Fin cfg0.N) (d) : (datsF m 0 c).before 5 t d = xf5 m c t d := by
  unfold Dat.before; rw [if_pos (fetch0_5 t)]; rfl
theorem beforeF_6 (c : Dev nD) (t : Fin cfg0.N) (d) : (datsF m 0 c).before 6 t d = xf6 m c t d := by
  unfold Dat.before; rw [if_pos (fetch0_6 t)]; rfl
theorem beforeF_8 (c : Dev nD) (t : Fin cfg0.N) (d) : (datsF m 0 c).before 8 t d = xf8 m c t d := by
  unfold Dat.before; rw [if_pos (fetch0_8 t)]; rfl
theorem leavesF_1 (c : Dev nD) (t : Fin cfg0.N) : (datsF m 0 c).leaves 1 t = iprop(∃ d, owns (c : Thread nD τ) (ms0_1 t) fullShare (xf1 m c t d)) := by
  unfold Dat.leaves; rw [liveAt0_1 t, afterF_1]; unfold xf1
  show iprop(∃ d, owns (c : Thread nD τ) (ms0_1 t) fullShare (win0_1.fill (grid0.coords t) d (win0_1.cut (grid0.coords t) _))) = _
  simp only [Window.cut_fill]; rfl
theorem leavesF_2 (c : Dev nD) (t : Fin cfg0.N) : (datsF m 0 c).leaves 2 t = iprop(∃ d, owns (c : Thread nD τ) (ms0_2 t) fullShare (xf2 m c t d)) := by
  unfold Dat.leaves; rw [liveAt0_2 t, afterF_2]; unfold xf2
  show iprop(∃ d, owns (c : Thread nD τ) (ms0_2 t) fullShare (win0_2.fill (grid0.coords t) d (win0_2.cut (grid0.coords t) _))) = _
  simp only [Window.cut_fill]; rfl
theorem leavesF_3 (c : Dev nD) (t : Fin cfg0.N) : (datsF m 0 c).leaves 3 t = iprop(∃ d, owns (c : Thread nD τ) (ms0_3 t) fullShare (xf3 m c t d)) := by
  unfold Dat.leaves; rw [liveAt0_3 t, afterF_3]; unfold xf3
  show iprop(∃ d, owns (c : Thread nD τ) (ms0_3 t) fullShare (win0_3.fill (grid0.coords t) d (win0_3.cut (grid0.coords t) _))) = _
  simp only [Window.cut_fill]; rfl
theorem leavesF_4 (c : Dev nD) (t : Fin cfg0.N) : (datsF m 0 c).leaves 4 t = iprop(∃ d, owns (c : Thread nD τ) (ms0_4 t) fullShare (xf4 m c t d)) := by
  unfold Dat.leaves; rw [liveAt0_4 t, afterF_4]; unfold xf4
  show iprop(∃ d, owns (c : Thread nD τ) (ms0_4 t) fullShare (win0_4.fill (grid0.coords t) d (win0_4.cut (grid0.coords t) _))) = _
  simp only [Window.cut_fill]; rfl
theorem leavesF_5 (c : Dev nD) (t : Fin cfg0.N) : (datsF m 0 c).leaves 5 t = iprop(∃ d, owns (c : Thread nD τ) (ms0_5 t) fullShare (xf5 m c t d)) := by
  unfold Dat.leaves; rw [liveAt0_5 t, afterF_5]; unfold xf5
  show iprop(∃ d, owns (c : Thread nD τ) (ms0_5 t) fullShare (win0_5.fill (grid0.coords t) d (win0_5.cut (grid0.coords t) _))) = _
  simp only [Window.cut_fill]; rfl
theorem leavesF_6 (c : Dev nD) (t : Fin cfg0.N) : (datsF m 0 c).leaves 6 t = iprop(∃ d, owns (c : Thread nD τ) (ms0_6 t) fullShare (xf6 m c t d)) := by
  unfold Dat.leaves; rw [liveAt0_6 t, afterF_6]; unfold xf6
  show iprop(∃ d, owns (c : Thread nD τ) (ms0_6 t) fullShare (win0_6.fill (grid0.coords t) d (win0_6.cut (grid0.coords t) _))) = _
  simp only [Window.cut_fill]; rfl
theorem leavesF_8 (c : Dev nD) (t : Fin cfg0.N) : (datsF m 0 c).leaves 8 t = iprop(∃ d, owns (c : Thread nD τ) (ms0_8 t) fullShare (xf8 m c t d)) := by
  unfold Dat.leaves; rw [liveAt0_8 t, afterF_8]; unfold xf8
  show iprop(∃ d, owns (c : Thread nD τ) (ms0_8 t) fullShare (win0_8.fill (grid0.coords t) d (win0_8.cut (grid0.coords t) _))) = _
  simp only [Window.cut_fill]; rfl
theorem leavesF_0 (c : Dev nD) (t : Fin cfg0.N) : (datsF m 0 c).leaves 0 t = owns (c : Thread nD τ) (ms0_0 t) fullShare (iblk m c 0 t) := by
  unfold Dat.leaves; rw [liveAt0_0 t, afterF_0]
theorem leavesF_7 (c : Dev nD) (t : Fin cfg0.N) : (datsF m 0 c).leaves 7 t = owns (c : Thread nD τ) (ms0_7 t) fullShare (iblk m c 7 t) := by
  unfold Dat.leaves; rw [liveAt0_7 t, afterF_7]
theorem leavesF_9 (c : Dev nD) (t : Fin cfg0.N) : (datsF m 0 c).leaves 9 t = owns (c : Thread nD τ) (ms0_9 t) fullShare (iblk m c 9 t) := by
  unfold Dat.leaves; rw [liveAt0_9 t, afterF_9]
theorem leavesF_10 (c : Dev nD) (t : Fin cfg0.N) : (datsF m 0 c).leaves 10 t = owns (c : Thread nD τ) (ms0_10 t) fullShare (iblk m c 10 t) := by
  unfold Dat.leaves; rw [liveAt0_10 t, afterF_10]
theorem leavesF_11 (c : Dev nD) (t : Fin cfg0.N) : (datsF m 0 c).leaves 11 t = owns (c : Thread nD τ) (ms0_11 t) fullShare (iblk m c 11 t) := by
  unfold Dat.leaves; rw [liveAt0_11 t, afterF_11]
theorem leavesF_12 (c : Dev nD) (t : Fin cfg0.N) : (datsF m 0 c).leaves 12 t = owns (c : Thread nD τ) (ms0_12 t) fullShare (iblk m c 12 t) := by
  unfold Dat.leaves; rw [liveAt0_12 t, afterF_12]
def preF (c : Dev nD) (t : Fin cfg0.N) : sProp (MT nD τ sig Unit (Elt F) ℕ (UR sig nD τ) ℕ) :=
  iprop((datsF m 0 c).Φ t.castSucc ∗ (datsF m 0 c).owesAt () t.castSucc
    ∗ (∃ d, owns (c : Thread nD τ) (ms0_0 t) fullShare ((datsF m 0 c).before 0 t d))
    ∗ (∃ d, owns (c : Thread nD τ) (ms0_1 t) fullShare ((datsF m 0 c).before 1 t d))
    ∗ (∃ d, owns (c : Thread nD τ) (ms0_2 t) fullShare ((datsF m 0 c).before 2 t d))
    ∗ (∃ d, owns (c : Thread nD τ) (ms0_3 t) fullShare ((datsF m 0 c).before 3 t d))
    ∗ (∃ d, owns (c : Thread nD τ) (ms0_4 t) fullShare ((datsF m 0 c).before 4 t d))
    ∗ (∃ d, owns (c : Thread nD τ) (ms0_5 t) fullShare ((datsF m 0 c).before 5 t d))
    ∗ (∃ d, owns (c : Thread nD τ) (ms0_6 t) fullShare ((datsF m 0 c).before 6 t d))
    ∗ (∃ d, owns (c : Thread nD τ) (ms0_7 t) fullShare ((datsF m 0 c).before 7 t d))
    ∗ (∃ d, owns (c : Thread nD τ) (ms0_8 t) fullShare ((datsF m 0 c).before 8 t d))
    ∗ (∃ d, owns (c : Thread nD τ) (ms0_9 t) fullShare ((datsF m 0 c).before 9 t d))
    ∗ (∃ d, owns (c : Thread nD τ) (ms0_10 t) fullShare ((datsF m 0 c).before 10 t d))
    ∗ (∃ d, owns (c : Thread nD τ) (ms0_11 t) fullShare ((datsF m 0 c).before 11 t d))
    ∗ (∃ d, owns (c : Thread nD τ) (ms0_12 t) fullShare ((datsF m 0 c).before 12 t d))
    ∗ (∃ X, owns (c : Thread nD τ) (ms0_13 t) fullShare X)
    ∗ (∃ X, owns (c : Thread nD τ) (ms0_14 t) fullShare X))

def postF (c : Dev nD) (t : Fin cfg0.N) : sProp (MT nD τ sig Unit (Elt F) ℕ (UR sig nD τ) ℕ) :=
  iprop((datsF m 0 c).Φ t.succ ∗ (datsF m 0 c).owesAt () t.succ
    ∗ (datsF m 0 c).leaves 0 t
    ∗ (datsF m 0 c).leaves 1 t
    ∗ (datsF m 0 c).leaves 2 t
    ∗ (datsF m 0 c).leaves 3 t
    ∗ (datsF m 0 c).leaves 4 t
    ∗ (datsF m 0 c).leaves 5 t
    ∗ (datsF m 0 c).leaves 6 t
    ∗ (datsF m 0 c).leaves 7 t
    ∗ (datsF m 0 c).leaves 8 t
    ∗ (datsF m 0 c).leaves 9 t
    ∗ (datsF m 0 c).leaves 10 t
    ∗ (datsF m 0 c).leaves 11 t
    ∗ (datsF m 0 c).leaves 12 t
    ∗ (∃ X, owns (c : Thread nD τ) (ms0_13 t) fullShare X)
    ∗ (∃ X, owns (c : Thread nD τ) (ms0_14 t) fullShare X))

set_option maxHeartbeats 4000000 in
theorem soundF (c : Dev nD) (t : Fin cfg0.N) :
    preF m c t ⊢ wp frame (wpE (defs₀ (F := F)) Variants.none c none) Set.univ (bodyAt0 t) (fun _ => postF m c t) := by
  unfold preF postF
  simp only [beforeF_0, beforeF_1, beforeF_2, beforeF_3, beforeF_4, beforeF_5, beforeF_6, beforeF_7, beforeF_8, beforeF_9, beforeF_10, beforeF_11, beforeF_12, leavesF_0, leavesF_1, leavesF_2, leavesF_3, leavesF_4, leavesF_5, leavesF_6, leavesF_7, leavesF_8, leavesF_9, leavesF_10, leavesF_11, leavesF_12]
  rw [show (datsF m 0 c).owesAt () t.succ = (datsF m 0 c).owesAt () t.castSucc from rfl]
  rw [show (datsF m 0 c).Φ t.succ = Pipeline.ΦA spec0 c from rfl, show (datsF m 0 c).Φ t.castSucc = Pipeline.ΦA spec0 c from rfl, PhiA0_eq]
  have hN : t.val < 14 := lt_of_lt_of_eq t.isLt (show cfg0.N = 14 from N_0)
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  by_cases h0 : t.val % 14 = 0
  · have h1 : ¬ t.val % 14 = 13 := by omega
    iapply (triA c t ((hcond0_0 t).mpr h0) (fun h => h1 ((hcond0_1 t).mp h)) (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t) d14 _)
    unfold insOwn
    isplitl [H0 H1 H2 H3 H4 H5 H6 H7 H8 H9 H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexists _; iexact H13
    isplitl [H14]; · iexact H14
    isplitl [HS0]; · iexists _; iexact HS0
    isplitl [HS1]; · iexists _; iexact HS1
    iintro ⟨⟨H0, H1, H2, H3, H4, H5, H6, H7, H8, H9, H10, H11, H12⟩, H13, H14, HS0, HS1⟩
    isplitl [HS0 HS1 Hg]
    · isplitl [HS0 HS1]
      · isplitl [HS0]; · iexists _; iexact HS0
        iexists _; iexact HS1
      iexact Hg
    isplitl [Ho]; · iexact Ho
    isplitl [H0]; · iexact H0
    isplitl [H1]; · iexists d1; iexact H1
    isplitl [H2]; · iexists d2; iexact H2
    isplitl [H3]; · iexists d3; iexact H3
    isplitl [H4]; · iexists d4; iexact H4
    isplitl [H5]; · iexists d5; iexact H5
    isplitl [H6]; · iexists d6; iexact H6
    isplitl [H7]; · iexact H7
    isplitl [H8]; · iexists d8; iexact H8
    isplitl [H9]; · iexact H9
    isplitl [H10]; · iexact H10
    isplitl [H11]; · iexact H11
    isplitl [H12]; · iexact H12
    isplitl [H13]; · iexists _; iexact H13
    iexists _; iexact H14
  · by_cases h1 : t.val % 14 = 13
    · iapply (triC c t (fun h => h0 ((hcond0_0 t).mp h)) ((hcond0_1 t).mpr h1) (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t) s0 s1 _)
      unfold insOwn
      isplitl [H0 H1 H2 H3 H4 H5 H6 H7 H8 H9 H10 H11 H12]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      isplitl [H13]; · iexists _; iexact H13
      isplitl [H14]; · iexists _; iexact H14
      isplitl [HS0]; · iexact HS0
      isplitl [HS1]; · iexact HS1
      iintro ⟨⟨H0, H1, H2, H3, H4, H5, H6, H7, H8, H9, H10, H11, H12⟩, H13, H14, HS0, HS1⟩
      isplitl [HS0 HS1 Hg]
      · isplitl [HS0 HS1]
        · isplitl [HS0]; · iexists _; iexact HS0
          iexists _; iexact HS1
        iexact Hg
      isplitl [Ho]; · iexact Ho
      isplitl [H0]; · iexact H0
      isplitl [H1]; · iexists d1; iexact H1
      isplitl [H2]; · iexists d2; iexact H2
      isplitl [H3]; · iexists d3; iexact H3
      isplitl [H4]; · iexists d4; iexact H4
      isplitl [H5]; · iexists d5; iexact H5
      isplitl [H6]; · iexists d6; iexact H6
      isplitl [H7]; · iexact H7
      isplitl [H8]; · iexists d8; iexact H8
      isplitl [H9]; · iexact H9
      isplitl [H10]; · iexact H10
      isplitl [H11]; · iexact H11
      isplitl [H12]; · iexact H12
      isplitl [H13]; · iexists _; iexact H13
      iexists _; iexact H14
    · iapply (triB c t (fun h => h0 ((hcond0_0 t).mp h)) (fun h => h1 ((hcond0_1 t).mp h)) (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t) s0 s1 d14 _)
      unfold insOwn
      isplitl [H0 H1 H2 H3 H4 H5 H6 H7 H8 H9 H10 H11 H12]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      isplitl [H13]; · iexists _; iexact H13
      isplitl [H14]; · iexact H14
      isplitl [HS0]; · iexact HS0
      isplitl [HS1]; · iexact HS1
      iintro ⟨⟨H0, H1, H2, H3, H4, H5, H6, H7, H8, H9, H10, H11, H12⟩, H13, H14, HS0, HS1⟩
      isplitl [HS0 HS1 Hg]
      · isplitl [HS0 HS1]
        · isplitl [HS0]; · iexists _; iexact HS0
          iexists _; iexact HS1
        iexact Hg
      isplitl [Ho]; · iexact Ho
      isplitl [H0]; · iexact H0
      isplitl [H1]; · iexists d1; iexact H1
      isplitl [H2]; · iexists d2; iexact H2
      isplitl [H3]; · iexists d3; iexact H3
      isplitl [H4]; · iexists d4; iexact H4
      isplitl [H5]; · iexists d5; iexact H5
      isplitl [H6]; · iexists d6; iexact H6
      isplitl [H7]; · iexact H7
      isplitl [H8]; · iexists d8; iexact H8
      isplitl [H9]; · iexact H9
      isplitl [H10]; · iexact H10
      isplitl [H11]; · iexact H11
      isplitl [H12]; · iexact H12
      isplitl [H13]; · iexists _; iexact H13
      iexists _; iexact H14

theorem defs₀_row (t : Fin cfg0.N) : defs₀ (F := F) .tc cfg0.body (cfg0.bodyArgs t (cfg0.slots t)) = bodyAt0 t := by
  unfold defs₀; rw [Defs.onTc_tc]

theorem obligationF (c : Dev nD) : BodyObligationLoose (datsF (F := F) m 0 c) (defs₀ (F := F)) Variants.none () Set.univ fgt := fun t => by
  rw [bigSep_W0, bigSep_W0, defs₀_row]
  exact triple_restated (soundF m c t) rfl .rfl fun _ => .rfl

set_option backward.isDefEq.respectTransparency.types false in
theorem run_quiescent : θ_run defs (onTc (τ := τ) (main (F := F))) (s₀ m ρ) (fun r => (Pipeline.RDat.FramePost cfg0 (fun c => (datsF m 0 c).toRForget fgt) (V m)) r ∧ r.2.sem = fun _ => 0) :=
  Pipeline.θ_run_frame_forget (Q' := _) cfgs (datsF m) (0 : Fin 1) launch0 defs₀ Variants.none fgt m ρ main
    (hbody := obligationF m) (hshare := fun c => (datsF m 0 c).share_full fun _ => rfl)
    (howed := fun _ _ => rfl) (V := V m) (hmain := hmain m Variants.none) (hA := AF_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => ⟨(Pipeline.RDat.FramePost.arr_in h.1 c 0 rfl).trans ((AF_eq m c 0).trans (V_main_arg0 m c)),
      (Pipeline.RDat.FramePost.arr_in h.1 c 1 rfl).trans ((AF_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (Pipeline.RDat.FramePost.arr_in h.1 c 4 rfl).trans ((AF_eq m c 4).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      (Pipeline.RDat.FramePost.arr_in h.1 c 8 rfl).trans ((AF_eq m c 8).trans (V_main_arg8 m c)),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      (Pipeline.RDat.FramePost.arr_in h.1 c 12 rfl).trans ((AF_eq m c 12).trans (V_main_arg12 m c))⟩, h.2⟩) (run_quiescent m ρ)

end Cert.KernelMlpIdeal.Body

end
-- ==== Proof.RefMlp.lean ====
/-
  The MLP reference's values: its two results as functions of its arguments.
-/
module

public import proofs.«01_k».proof.Proof.Gen.ReferenceMlpIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceMlpIdeal.RefValue

open Cert.ReferenceMlpIdeal Cert.ReferenceMlpIdeal.Gen

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![0, 0] :=
  (by decide +kernel : ∀ t : Fin grid0.N, _)

/-- A vector of 3420 numbers as one row. -/
abbrev rowF (x : Vec Ideal S3420 .f32) : Vec Ideal S1x3420 .f32 := broadcastInDim S1x3420 ![1] bcast_S3420_S1x3420_1 x

/-- A vector of 1280 numbers as one row. -/
abbrev row (x : Vec Ideal S1280 .f32) : Vec Ideal S1x1280 .f32 := broadcastInDim S1x1280 ![1] bcast_S1280_S1x1280_1 x

/-- One number as a 1 by 1 array. -/
abbrev one (x : Vec Ideal S1 .f32) : Vec Ideal S1x1 .f32 := broadcastInDim S1x1 ![1] bcast_S1_S1x1_1 x

/-- The gated activation, as the reference computes it. -/
abbrev Act (cg : Vec Ideal S1024x1280 .i8) (wg : Vec Ideal S1280x3420 .i8) (sg bg : Vec Ideal S3420 .f32)
    (wu : Vec Ideal S1280x3420 .i8) (su bu : Vec Ideal S3420 .f32) (asg : Vec Ideal S1 .f32) : Vec Ideal S1024x3420 .f32 :=
  k0_pay3 (F := Ideal) cg wg (rowF sg) (one asg) (rowF bg) wu (rowF su) (one asg) (rowF bu)

/-- The codes of the gated activation, as the reference computes them. -/
abbrev Codes (cg : Vec Ideal S1024x1280 .i8) (wg : Vec Ideal S1280x3420 .i8) (sg bg : Vec Ideal S3420 .f32)
    (wu : Vec Ideal S1280x3420 .i8) (su bu : Vec Ideal S3420 .f32) (asg asd : Vec Ideal S1 .f32) : Vec Ideal S1024x3420 .i8 :=
  k0_pay1 (F := Ideal) (Act cg wg sg bg wu su bu asg) (k0_pay4 (F := Ideal) (one asd))

/-- The layer's output, as the reference computes it. -/
abbrev Y (cg : Vec Ideal S1024x1280 .i8) (wg : Vec Ideal S1280x3420 .i8) (sg bg : Vec Ideal S3420 .f32)
    (wu : Vec Ideal S1280x3420 .i8) (su bu : Vec Ideal S3420 .f32) (asg : Vec Ideal S1 .f32)
    (wd : Vec Ideal S3420x1280 .i8) (sd bd : Vec Ideal S1280 .f32) (asd : Vec Ideal S1 .f32)
    (h : Vec Ideal S1024x1280 .bf16) : Vec Ideal S1024x1280 .bf16 :=
  k0_pay2 (F := Ideal) (Act cg wg sg bg wu su bu asg) (k0_pay4 (F := Ideal) (one asd)) wd (row sd) (one asd) (row bd) h

/-- After the reference's run its first result is `Codes` of the arguments. -/
theorem final13 (c : Dev nD) : (dats m 0 c).arrAt 13 (cfgs 0).N
    = Codes (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg11)) := by
  refine (dats m 0 c).arrAt_eq_of_after_last 13 t0_0 (by decide +kernel) _ fun j => ?_
  blk_simp
  rw [after0_13]
  frame_out
  pointwise [k0_pay5, k0_pay6, k0_pay1, k0_pay3, k0_pay4, Codes, Act, rowF, one]
  blk_point [iblk, idx t0_0]

/-- After the reference's run its second result is `Y` of the arguments. -/
theorem final14 (c : Dev nD) : (dats m 0 c).arrAt 14 (cfgs 0).N
    = Y (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) := by
  refine (dats m 0 c).arrAt_eq_of_after_last 14 t0_0 (by decide +kernel) _ fun j => ?_
  blk_simp
  rw [after0_14]
  frame_out
  pointwise [k0_pay5, k0_pay6, k0_pay2, k0_pay1, k0_pay3, k0_pay4, Y, Act, rowF, row, one]
  blk_point [iblk, idx t0_0]

end Cert.ReferenceMlpIdeal.RefValue
-- ==== Proof.MlpPay.lean ====
/-
  The values the MLP kernel's body computes, over the extended reals. A point handles its rows in four tiles of 256; each
  tile's codes and each tile's addition to the accumulator are the same functions of the tile's rows, so the four tiles
  together are one function of all 1024 rows.
-/
module

public import proofs.«01_k».proof.Proof.MlpTriIdeal
public import proofs.«01_k».proof.Proof.RefMlp
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.KernelMlpIdeal.Body
open Cert.KernelMlpIdeal Cert.KernelMlpIdeal.Gen
open Cert.ReferenceMlpIdeal.RefValue (Codes Act Y row rowF one)

abbrev code (i : grid0.Coords) (x1 : Vec Ideal S1280x256 .i8) (x2 x3 : Vec Ideal S1x256 .f32) (x4 : Vec Ideal S1280x256 .i8)
    (x5 x6 : Vec Ideal S1x256 .f32) (x7 x11 : Vec Ideal S1x1 .f32) (v : Vec Ideal S256x1280 .bf16) : IVec S256x256 8 :=
  k0_pay16 (F := Ideal) (k0_pay13 i) (k0_pay14 (F := Ideal) x1 x7 v x2 x3) (k0_pay15 (F := Ideal) x4 x7 v x5) x6 x11

variable (i : grid0.Coords) (x1 : Vec Ideal S1280x256 .i8) (x2 x3 : Vec Ideal S1x256 .f32) (x4 : Vec Ideal S1280x256 .i8) (x5 x6 : Vec Ideal S1x256 .f32) (x7 x11 : Vec Ideal S1x1 .f32) (v : Vec Ideal S256x1280 .bf16) (old : Vec Ideal S256x1280 .f32) (x8 : Vec Ideal S256x1280 .i8)

theorem code_q1 : k0_pay20 (F := Ideal) (k0_pay10 x4) (k0_pay12 x7) (k0_pay13 i) v (k0_pay18 (k0_pay9 x1) (k0_pay12 x7) v x2) (k0_pay19 x3) x5 x6 x11
    = code i x1 x2 x3 x4 x5 x6 x7 x11 v := rfl
theorem code_q2 : k0_pay22 (F := Ideal) (k0_pay9 x1) (k0_pay10 x4) (k0_pay12 x7) (k0_pay13 i) v x2 x3 x5 x6 x11
    = code i x1 x2 x3 x4 x5 x6 x7 x11 v := rfl
theorem code_q3 : k0_pay1 (F := Ideal) (k0_pay24 (k0_pay9 x1) (k0_pay10 x4) (k0_pay12 x7) (k0_pay13 i) v x2 x3 x5 x6) x11
    = code i x1 x2 x3 x4 x5 x6 x7 x11 v := rfl

abbrev accp (C : IVec S256x256 8) : FVec Ideal S256x1280 .f32 := k0_pay23 (F := Ideal) (k0_pay11 (F := Ideal) x8) C old

theorem acc_q0 : k0_pay17 (F := Ideal) (k0_pay11 x8) (k0_pay13 i) (k0_pay14 (F := Ideal) x1 x7 v x2 x3) (k0_pay15 (F := Ideal) x4 x7 v x5) x6 x11 old
    = accp old x8 (code i x1 x2 x3 x4 x5 x6 x7 x11 v) := rfl
theorem acc_q1 : k0_pay21 (F := Ideal) (k0_pay10 x4) (k0_pay11 x8) (k0_pay12 x7) (k0_pay13 i) v (k0_pay18 (k0_pay9 x1) (k0_pay12 x7) v x2) (k0_pay19 x3) x5 x6 x11 old
    = accp old x8 (code i x1 x2 x3 x4 x5 x6 x7 x11 v) := rfl
theorem acc_q3 : k0_pay2 (F := Ideal) (k0_pay11 x8) (k0_pay24 (k0_pay9 x1) (k0_pay10 x4) (k0_pay12 x7) (k0_pay13 i) v x2 x3 x5 x6) x11 old
    = accp old x8 (code i x1 x2 x3 x4 x5 x6 x7 x11 v) := rfl

theorem accp_apply (C : IVec S256x256 8) (y) : accp old x8 C y
    = (old y + ∑ k : Fin 256, FloatOps.sitofp (F := Ideal) FTy.bf16 (C (ix2 (y 0) k)) * FloatOps.sitofp (F := Ideal) FTy.bf16 (x8 (ix2 k (y 1))) : EReal) := by
  pointwise [k0_pay23, k0_pay11]

theorem quant_zero : FloatOps.fptosi (F := Ideal) (φ := .f32) 8
      (min (Ideal.ofBits FTy.f32 1123942400#32)
        (max (Ideal.ofBits FTy.f32 3271426048#32) (Ideal.liftRound Ideal.roundHalfEven (0 : EReal)))) = 0#8 := by
  have h0 : Ideal.liftRound Ideal.roundHalfEven (0 : EReal) = 0 := by
    have := Ideal.liftRound_coe (r := 0) Ideal.roundHalfEven
    simp [Ideal.roundHalfEven] at this
    exact this
  have h1 : Ideal.ofBits FTy.f32 1123942400#32 = ((127 : ℝ) : EReal) := by
    simp [Ideal.ofBits, Ideal.ieee, -EReal.coe_mul]; norm_num
  have h2 : Ideal.ofBits FTy.f32 3271426048#32 = ((-127 : ℝ) : EReal) := by
    simp [Ideal.ofBits, Ideal.ieee, -EReal.coe_mul, -EReal.coe_neg]; norm_num
  rw [h0, h1, h2]
  have h3 : max ((-127 : ℝ) : EReal) 0 = 0 := max_eq_right (by exact_mod_cast (by norm_num : (-127 : ℝ) ≤ 0))
  have h4 : min ((127 : ℝ) : EReal) 0 = ((0 : ℝ) : EReal) := min_eq_right (by exact_mod_cast (by norm_num : (0 : ℝ) ≤ 127))
  rw [h3, h4]
  show Ideal.fptosi 8 ((0 : ℝ) : EReal) = _
  rw [Ideal.fptosi, Ideal.toIntClamped_coe]; norm_num

theorem sitofp_zero : FloatOps.sitofp (F := Ideal) FTy.bf16 (0#8 : BitVec 8) = (0 : EReal) := by
  show (((0#8 : BitVec 8).toInt : ℝ) : EReal) = 0
  simp

theorem mask_val (a b : Nat) (ha : a < 14) (hb : b < 256) :
    IntOp.cmpi CmpIPredicate.slt (IntOp.addi (BitVec.ofNat 32 b) (Scalar.muli (BitVec.ofNat 32 a) 256#32)) 3420#32
      = BitVec.ofBool (decide (256 * a + b < 3420)) := by
  show IntOp.cmpi .slt (IntOp.addi (BitVec.ofNat 32 b) (IntOp.muli (BitVec.ofNat 32 a) (BitVec.ofNat 32 256))) (BitVec.ofNat 32 3420) = _
  rw [WordCmp.muli_ofNat, WordCmp.addi_ofNat, WordCmp.cmpi_slt_ofNat (by omega) (by omega)]
  congr 2
  exact propext ⟨fun h => by omega, fun h => by omega⟩

def cdS (row : Fin 1280 → EReal) (col : Fin 256) : BitVec 8 :=
  code i x1 x2 x3 x4 x5 x6 x7 x11 (fun z : S256x1280.Idx => row (z 1)) (ix2 0 col)

theorem code_apply (y : S256x256.Idx) : code i x1 x2 x3 x4 x5 x6 x7 x11 v y
    = cdS i x1 x2 x3 x4 x5 x6 x7 x11 (fun k : Fin 1280 => v (ix2 (y 0) k)) (y 1) := by
  pointwise [cdS, code, k0_pay16, k0_pay13, k0_pay14, k0_pay15, k0_pay12, k0_pay9, k0_pay10]

def inc (row : Fin 1280 → EReal) (col : Fin 1280) : EReal :=
  ∑ k : Fin 256, FloatOps.sitofp (F := Ideal) FTy.bf16 (cdS i x1 x2 x3 x4 x5 x6 x7 x11 row k) * FloatOps.sitofp (F := Ideal) FTy.bf16 (x8 (ix2 k col))

theorem acc_apply (y : S256x1280.Idx) : accp old x8 (code i x1 x2 x3 x4 x5 x6 x7 x11 v) y
    = (old y + inc i x1 x2 x3 x4 x5 x6 x7 x11 x8 (fun k : Fin 1280 => v (ix2 (y 0) k)) (y 1) : EReal) := by
  rw [accp_apply]
  simp only [code_apply, inc]
  rfl

theorem cdS_in (cg : Vec Ideal S1024x1280 .i8) (wg : Vec Ideal Cert.ReferenceMlpIdeal.S1280x3420 .i8) (sg bg : Vec Ideal Cert.ReferenceMlpIdeal.S3420 .f32)
    (wu : Vec Ideal Cert.ReferenceMlpIdeal.S1280x3420 .i8) (su bu : Vec Ideal Cert.ReferenceMlpIdeal.S3420 .f32) (asg asd : Vec Ideal Cert.ReferenceMlpIdeal.S1 .f32)
    (r : Fin 1024) (q : Fin 256) (j : Fin 3420) (hJ : j.val = 256 * (i 0).val + q.val) (f : Fin 1280 → EReal)
    (hv : ∀ k, f k = FloatOps.sitofp (F := Ideal) FTy.bf16 (cg (ix2 r k)))
    (h1 : ∀ k, x1 (ix2 k q) = wg (ix2 k j)) (h2 : x2 (ix2 0 q) = sg (ix1 j)) (h3 : x3 (ix2 0 q) = bg (ix1 j))
    (h4 : ∀ k, x4 (ix2 k q) = wu (ix2 k j)) (h5 : x5 (ix2 0 q) = su (ix1 j)) (h6 : x6 (ix2 0 q) = bu (ix1 j))
    (h7 : x7 (ix2 0 0) = asg (ix1 0)) (h11 : x11 (ix2 0 0) = asd (ix1 0)) :
    cdS i x1 x2 x3 x4 x5 x6 x7 x11 f q = Codes cg wg sg bg wu su bu asg asd (ix2 r j) := by
  have hm := mask_val (i 0).val q.val (i 0).isLt q.isLt
  rw [← hJ, decide_eq_true j.isLt] at hm
  pointwise [cdS, code, k0_pay16, k0_pay13, k0_pay14, k0_pay15, k0_pay12, k0_pay9, k0_pay10, Cert.ReferenceMlpIdeal.Gen.k0_pay1, Cert.ReferenceMlpIdeal.Gen.k0_pay3, Cert.ReferenceMlpIdeal.Gen.k0_pay4, Codes, Act, rowF, one]
  simp only [hm, hv, h1, h2, h3, h4, h5, h6, h7, h11, Scalar.select]
  rfl

theorem cdS_out (q : Fin 256) (f : Fin 1280 → EReal) (hJ : 3420 ≤ 256 * (i 0).val + q.val) (h11 : (x11 (ix2 0 0) : EReal) ≠ 0) :
    cdS i x1 x2 x3 x4 x5 x6 x7 x11 f q = 0#8 := by
  have hm := mask_val (i 0).val q.val (i 0).isLt q.isLt
  rw [decide_eq_false (by omega)] at hm
  pointwise [cdS, code, k0_pay16, k0_pay13, k0_pay14, k0_pay15, k0_pay12, k0_pay9, k0_pay10]
  simp only [hm, Scalar.select]
  show FloatOps.fptosi (F := Ideal) (φ := .f32) 8 (min _ (max _ (Ideal.liftRound Ideal.roundHalfEven (Ideal.div 0 (x11 (ix2 0 0)))))) = _
  rw [Ideal.zero_div h11]
  exact quant_zero

theorem ld_rows {Val : EltTy → Type} {e : EltTy} (X : S1024x1280.Idx → Val e) {o : Nat} (inb) (x : S256x1280.Idx) (y : S1024x1280.Idx) (h0 : (y 0).val = o + (x 0).val) (h1 : (y 1).val = (x 1).val) :
    View.ld X (Rect.unit ![o, 0] ![256, 1280] inb) x = X y := by
  show X _ = X _
  congr 1
  funext a
  match a with
  | 0 => exact Fin.ext ((ValueKit.rect_emb_unit_val (s := S1024x1280) ![o, 0] ![256, 1280] inb x 0).trans h0.symm)
  | 1 => exact Fin.ext ((ValueKit.rect_emb_unit_val (s := S1024x1280) ![o, 0] ![256, 1280] inb x 1).trans ((Nat.zero_add _).trans h1.symm))

theorem code_rows (X : Vec Ideal S1024x1280 .bf16) {o : Nat} (inb) (x : S256x256.Idx) (y : S1024x256.Idx) (h0 : (y 0).val = o + (x 0).val) (h1 : (y 1).val = (x 1).val) :
    code i x1 x2 x3 x4 x5 x6 x7 x11 (View.ld X (Rect.unit ![o, 0] ![256, 1280] inb)) x
      = cdS i x1 x2 x3 x4 x5 x6 x7 x11 (fun k : Fin 1280 => X (ix2 (y 0) k)) (y 1) := by
  rw [code_apply, show x 1 = y 1 from Fin.ext h1.symm]
  congr 1
  funext k
  exact ld_rows X inb (ix2 (x 0) k) (ix2 (y 0) k) h0 rfl

theorem acc_rows (X : Vec Ideal S1024x1280 .bf16) (A : Vec Ideal S1024x1280 .f32) {o : Nat} (inb) (x : S256x1280.Idx) (y : S1024x1280.Idx) (h0 : (y 0).val = o + (x 0).val) (h1 : (y 1).val = (x 1).val) :
    accp (View.ld A (Rect.unit ![o, 0] ![256, 1280] inb)) x8 (code i x1 x2 x3 x4 x5 x6 x7 x11 (View.ld X (Rect.unit ![o, 0] ![256, 1280] inb))) x
      = (A y + inc i x1 x2 x3 x4 x5 x6 x7 x11 x8 (fun k : Fin 1280 => X (ix2 (y 0) k)) (y 1) : EReal) := by
  rw [acc_apply, show x 1 = y 1 from Fin.ext h1.symm, ld_rows A inb x y h0 h1]
  congr 2
  funext k
  exact ld_rows X inb (ix2 (x 0) k) (ix2 (y 0) k) h0 rfl

theorem cdB_apply (c : Dev nD) (t : Fin cfg0.N) (x0 : Vec Ideal S1024x1280 .i8) (x1 : Vec Ideal S1280x256 .i8) (x2 : Vec Ideal S1x256 .f32) (x3 : Vec Ideal S1x256 .f32) (x4 : Vec Ideal S1280x256 .i8) (x5 : Vec Ideal S1x256 .f32) (x6 : Vec Ideal S1x256 .f32) (x7 : Vec Ideal S1x1 .f32) (x8 : Vec Ideal S256x1280 .i8) (x9 : Vec Ideal S1x1280 .f32) (x10 : Vec Ideal S1x1280 .f32) (x11 : Vec Ideal S1x1 .f32) (x12 : Vec Ideal S1024x1280 .bf16) (xs0 : Vec Ideal S1024x1280 .bf16) (xs1 : Vec Ideal S1024x1280 .f32) (hc0 : ¬cond0_0 (grid0.coords t)) (hc1 : ¬cond0_1 (grid0.coords t)) (y) : cdB c t hc0 hc1 x0 x1 x2 x3 x4 x5 x6 x7 x8 x9 x10 x11 x12 xs0 xs1 y
    = cdS (grid0.coords t) x1 x2 x3 x4 x5 x6 x7 x11 (fun k : Fin 1280 => xs0 (ix2 (y 0) k)) (y 1) := by
  unfold cdB runB
  frame_out
  simp only [code_q1, code_q2, code_q3, read_unread_whole]
  canon_tiles x h
  · exact code_rows _ _ _ _ _ _ _ _ _ _ _ x y (by omega) h1
  · exact code_rows _ _ _ _ _ _ _ _ _ _ _ x y (by omega) h1
  · exact code_rows _ _ _ _ _ _ _ _ _ _ _ x y (by omega) h1
  · exact code_rows _ _ _ _ _ _ _ _ _ _ _ x y (by omega) h1

theorem cdC_apply (c : Dev nD) (t : Fin cfg0.N) (x0 : Vec Ideal S1024x1280 .i8) (x1 : Vec Ideal S1280x256 .i8) (x2 : Vec Ideal S1x256 .f32) (x3 : Vec Ideal S1x256 .f32) (x4 : Vec Ideal S1280x256 .i8) (x5 : Vec Ideal S1x256 .f32) (x6 : Vec Ideal S1x256 .f32) (x7 : Vec Ideal S1x1 .f32) (x8 : Vec Ideal S256x1280 .i8) (x9 : Vec Ideal S1x1280 .f32) (x10 : Vec Ideal S1x1280 .f32) (x11 : Vec Ideal S1x1 .f32) (x12 : Vec Ideal S1024x1280 .bf16) (xs0 : Vec Ideal S1024x1280 .bf16) (xs1 : Vec Ideal S1024x1280 .f32) (hc0 : ¬cond0_0 (grid0.coords t)) (hc1 : cond0_1 (grid0.coords t)) (y) : cdC c t hc0 hc1 x0 x1 x2 x3 x4 x5 x6 x7 x8 x9 x10 x11 x12 xs0 xs1 y
    = cdS (grid0.coords t) x1 x2 x3 x4 x5 x6 x7 x11 (fun k : Fin 1280 => xs0 (ix2 (y 0) k)) (y 1) := by
  unfold cdC runC
  frame_out
  simp only [code_q1, code_q2, code_q3, read_unread_whole]
  canon_tiles x h
  · exact code_rows _ _ _ _ _ _ _ _ _ _ _ x y (by omega) h1
  · exact code_rows _ _ _ _ _ _ _ _ _ _ _ x y (by omega) h1
  · exact code_rows _ _ _ _ _ _ _ _ _ _ _ x y (by omega) h1
  · exact code_rows _ _ _ _ _ _ _ _ _ _ _ x y (by omega) h1

theorem accB_apply (c : Dev nD) (t : Fin cfg0.N) (x0 : Vec Ideal S1024x1280 .i8) (x1 : Vec Ideal S1280x256 .i8) (x2 : Vec Ideal S1x256 .f32) (x3 : Vec Ideal S1x256 .f32) (x4 : Vec Ideal S1280x256 .i8) (x5 : Vec Ideal S1x256 .f32) (x6 : Vec Ideal S1x256 .f32) (x7 : Vec Ideal S1x1 .f32) (x8 : Vec Ideal S256x1280 .i8) (x9 : Vec Ideal S1x1280 .f32) (x10 : Vec Ideal S1x1280 .f32) (x11 : Vec Ideal S1x1 .f32) (x12 : Vec Ideal S1024x1280 .bf16) (xs0 : Vec Ideal S1024x1280 .bf16) (xs1 : Vec Ideal S1024x1280 .f32) (hc0 : ¬cond0_0 (grid0.coords t)) (hc1 : ¬cond0_1 (grid0.coords t)) (y) : accB c t hc0 hc1 x0 x1 x2 x3 x4 x5 x6 x7 x8 x9 x10 x11 x12 xs0 xs1 y
    = (xs1 y + inc (grid0.coords t) x1 x2 x3 x4 x5 x6 x7 x11 x8 (fun k : Fin 1280 => xs0 (ix2 (y 0) k)) (y 1) : EReal) := by
  unfold accB runB
  frame_out
  simp only [code_q1, code_q2, code_q3, acc_q0, acc_q1, acc_q3, read_unread_whole]
  canon_tiles x h
  · exact acc_rows _ _ _ _ _ _ _ _ _ _ _ _ _ x y (by omega) h1
  · exact acc_rows _ _ _ _ _ _ _ _ _ _ _ _ _ x y (by omega) h1
  · exact acc_rows _ _ _ _ _ _ _ _ _ _ _ _ _ x y (by omega) h1
  · exact acc_rows _ _ _ _ _ _ _ _ _ _ _ _ _ x y (by omega) h1

theorem accC_apply (c : Dev nD) (t : Fin cfg0.N) (x0 : Vec Ideal S1024x1280 .i8) (x1 : Vec Ideal S1280x256 .i8) (x2 : Vec Ideal S1x256 .f32) (x3 : Vec Ideal S1x256 .f32) (x4 : Vec Ideal S1280x256 .i8) (x5 : Vec Ideal S1x256 .f32) (x6 : Vec Ideal S1x256 .f32) (x7 : Vec Ideal S1x1 .f32) (x8 : Vec Ideal S256x1280 .i8) (x9 : Vec Ideal S1x1280 .f32) (x10 : Vec Ideal S1x1280 .f32) (x11 : Vec Ideal S1x1 .f32) (x12 : Vec Ideal S1024x1280 .bf16) (xs0 : Vec Ideal S1024x1280 .bf16) (xs1 : Vec Ideal S1024x1280 .f32) (hc0 : ¬cond0_0 (grid0.coords t)) (hc1 : cond0_1 (grid0.coords t)) (y) : accC c t hc0 hc1 x0 x1 x2 x3 x4 x5 x6 x7 x8 x9 x10 x11 x12 xs0 xs1 y
    = (xs1 y + inc (grid0.coords t) x1 x2 x3 x4 x5 x6 x7 x11 x8 (fun k : Fin 1280 => xs0 (ix2 (y 0) k)) (y 1) : EReal) := by
  unfold accC runC
  frame_out
  simp only [code_q1, code_q2, code_q3, acc_q0, acc_q1, acc_q3, read_unread_whole]
  canon_tiles x h
  · exact acc_rows _ _ _ _ _ _ _ _ _ _ _ _ _ x y (by omega) h1
  · exact acc_rows _ _ _ _ _ _ _ _ _ _ _ _ _ x y (by omega) h1
  · exact acc_rows _ _ _ _ _ _ _ _ _ _ _ _ _ x y (by omega) h1
  · exact acc_rows _ _ _ _ _ _ _ _ _ _ _ _ _ x y (by omega) h1

theorem csA_apply (c : Dev nD) (t : Fin cfg0.N) (x0 : Vec Ideal S1024x1280 .i8) (x1 : Vec Ideal S1280x256 .i8) (x2 : Vec Ideal S1x256 .f32) (x3 : Vec Ideal S1x256 .f32) (x4 : Vec Ideal S1280x256 .i8) (x5 : Vec Ideal S1x256 .f32) (x6 : Vec Ideal S1x256 .f32) (x7 : Vec Ideal S1x1 .f32) (x8 : Vec Ideal S256x1280 .i8) (x9 : Vec Ideal S1x1280 .f32) (x10 : Vec Ideal S1x1280 .f32) (x11 : Vec Ideal S1x1 .f32) (x12 : Vec Ideal S1024x1280 .bf16) (hc0 : cond0_0 (grid0.coords t)) (hc1 : ¬cond0_1 (grid0.coords t)) : csA c t hc0 hc1 x0 x1 x2 x3 x4 x5 x6 x7 x8 x9 x10 x11 x12 = k0_pay7 (F := Ideal) x0 := by
  unfold csA runA
  frame_out

theorem pay7_apply (x0 : Vec Ideal S1024x1280 .i8) (y) : k0_pay7 (F := Ideal) x0 y = FloatOps.sitofp (F := Ideal) FTy.bf16 (x0 y) := by
  pointwise [k0_pay7]

theorem pay8_apply (y) : k0_pay8 (F := Ideal) y = (0 : EReal) := by
  pointwise [k0_pay8]

theorem cdA_apply (c : Dev nD) (t : Fin cfg0.N) (x0 : Vec Ideal S1024x1280 .i8) (x1 : Vec Ideal S1280x256 .i8) (x2 : Vec Ideal S1x256 .f32) (x3 : Vec Ideal S1x256 .f32) (x4 : Vec Ideal S1280x256 .i8) (x5 : Vec Ideal S1x256 .f32) (x6 : Vec Ideal S1x256 .f32) (x7 : Vec Ideal S1x1 .f32) (x8 : Vec Ideal S256x1280 .i8) (x9 : Vec Ideal S1x1280 .f32) (x10 : Vec Ideal S1x1280 .f32) (x11 : Vec Ideal S1x1 .f32) (x12 : Vec Ideal S1024x1280 .bf16)  (hc0 : cond0_0 (grid0.coords t)) (hc1 : ¬cond0_1 (grid0.coords t)) (y) : cdA c t hc0 hc1 x0 x1 x2 x3 x4 x5 x6 x7 x8 x9 x10 x11 x12  y
    = cdS (grid0.coords t) x1 x2 x3 x4 x5 x6 x7 x11 (fun k : Fin 1280 => k0_pay7 (F := Ideal) x0 (ix2 (y 0) k)) (y 1) := by
  unfold cdA runA
  frame_out
  simp (disch := decide) only [code_q1, code_q2, code_q3, read_unread_whole, View.readCov_fill]
  generalize k0_pay7 (F := Ideal) x0 = X
  canon_tiles x h
  · exact code_rows _ _ _ _ _ _ _ _ _ _ _ x y (by omega) h1
  · exact code_rows _ _ _ _ _ _ _ _ _ _ _ x y (by omega) h1
  · exact code_rows _ _ _ _ _ _ _ _ _ _ _ x y (by omega) h1
  · exact code_rows _ _ _ _ _ _ _ _ _ _ _ x y (by omega) h1

theorem acc_piece (X : Vec Ideal S1024x1280 .bf16) {o : Nat} (inb : ∀ a : Fin S1024x1280.rank, (![o, 0] : Fin S1024x1280.rank → ℕ) a + (![256, 1280] : Fin S1024x1280.rank → ℕ) a ≤ S1024x1280.size a) (x : S256x1280.Idx) :
    accp (View.ld (k0_pay8 (F := Ideal)) (Rect.unit (s := S1024x1280) ![o, 0] ![256, 1280] inb)) x8 (code i x1 x2 x3 x4 x5 x6 x7 x11 (View.ld X (Rect.unit (s := S1024x1280) ![o, 0] ![256, 1280] inb))) x
      = (fun y : S1024x1280.Idx => (inc i x1 x2 x3 x4 x5 x6 x7 x11 x8 (fun k : Fin 1280 => X (ix2 (y 0) k)) (y 1) : EReal)) ((Rect.unit (s := S1024x1280) ![o, 0] ![256, 1280] inb).emb x) := by
  refine (acc_rows i x1 x2 x3 x4 x5 x6 x7 x11 x8 X (k0_pay8 (F := Ideal)) inb x ((Rect.unit (s := S1024x1280) ![o, 0] ![256, 1280] inb).emb x) (ValueKit.rect_emb_unit_val (s := S1024x1280) ![o, 0] ![256, 1280] inb x 0) ((ValueKit.rect_emb_unit_val (s := S1024x1280) ![o, 0] ![256, 1280] inb x 1).trans (Nat.zero_add _))).trans ?_
  rw [pay8_apply]
  exact zero_add _

theorem accA_apply (c : Dev nD) (t : Fin cfg0.N) (x0 : Vec Ideal S1024x1280 .i8) (x1 : Vec Ideal S1280x256 .i8) (x2 : Vec Ideal S1x256 .f32) (x3 : Vec Ideal S1x256 .f32) (x4 : Vec Ideal S1280x256 .i8) (x5 : Vec Ideal S1x256 .f32) (x6 : Vec Ideal S1x256 .f32) (x7 : Vec Ideal S1x1 .f32) (x8 : Vec Ideal S256x1280 .i8) (x9 : Vec Ideal S1x1280 .f32) (x10 : Vec Ideal S1x1280 .f32) (x11 : Vec Ideal S1x1 .f32) (x12 : Vec Ideal S1024x1280 .bf16) (hc0 : cond0_0 (grid0.coords t)) (hc1 : ¬cond0_1 (grid0.coords t)) (y) : accA c t hc0 hc1 x0 x1 x2 x3 x4 x5 x6 x7 x8 x9 x10 x11 x12 y
    = (inc (grid0.coords t) x1 x2 x3 x4 x5 x6 x7 x11 x8 (fun k : Fin 1280 => k0_pay7 (F := Ideal) x0 (ix2 (y 0) k)) (y 1) : EReal) := by
  unfold accA runA
  frame_out
  simp (disch := decide) only [code_q1, code_q2, code_q3, acc_q0, acc_q1, acc_q3, ↓View.readCov_skip, View.readCov_fill]
  generalize k0_pay7 (F := Ideal) x0 = X
  refine View.canon_append_of_piecesOf (Val := Elt Ideal) (s := S1024x1280) (e := .f32) (fun y : S1024x1280.Idx => (inc (grid0.coords t) x1 x2 x3 x4 x5 x6 x7 x11 x8 (fun k : Fin 1280 => X (ix2 (y 0) k)) (y 1) : EReal))
    [_] [_, _, _, _] ⟨acc_piece _ _ _ _ _ _ _ _ _ _ X _, acc_piece _ _ _ _ _ _ _ _ _ _ X _, acc_piece _ _ _ _ _ _ _ _ _ _ X _, acc_piece _ _ _ _ _ _ _ _ _ _ X _, trivial⟩ y (View.cover_of_tiledL _ (s := S1024x1280) S256x1280.size (by sl_kernel_rfl) y)

theorem pay3_apply (A : Vec Ideal S256x1280 .f32) (x9 x10 : Vec Ideal S1x1280 .f32) (h : Vec Ideal S256x1280 .bf16) (y : S256x1280.Idx) : k0_pay3 (F := Ideal) A x11 x9 x10 h y
    = (h y + (A y * (x11 (ix2 0 0) * x9 (ix2 0 (y 1))) + x10 (ix2 0 (y 1))) : EReal) := by
  pointwise [k0_pay3]

theorem pay4_eq (A : Vec Ideal S256x1280 .f32) (a b c d) : k0_pay4 (F := Ideal) A a b c d = k0_pay3 A a b c d := rfl
theorem pay5_eq (A : Vec Ideal S256x1280 .f32) (a b c d) : k0_pay5 (F := Ideal) A a b c d = k0_pay3 A a b c d := rfl
theorem pay6_eq (A : Vec Ideal S256x1280 .f32) (a b c d) : k0_pay6 (F := Ideal) A a b c d = k0_pay3 A a b c d := rfl

theorem y_rows (X : Vec Ideal S1024x1280 .bf16) (A : Vec Ideal S1024x1280 .f32) (x9 x10 : Vec Ideal S1x1280 .f32) (H : Vec Ideal S1024x1280 .bf16) {o : Nat} (inb) (x : S256x1280.Idx) (y : S1024x1280.Idx) (h0 : (y 0).val = o + (x 0).val) (h1 : (y 1).val = (x 1).val) :
    k0_pay3 (F := Ideal) (accp (View.ld A (Rect.unit ![o, 0] ![256, 1280] inb)) x8 (code i x1 x2 x3 x4 x5 x6 x7 x11 (View.ld X (Rect.unit ![o, 0] ![256, 1280] inb)))) x11 x9 x10 (View.ld H (Rect.unit ![o, 0] ![256, 1280] inb)) x
      = (H y + ((A y + inc i x1 x2 x3 x4 x5 x6 x7 x11 x8 (fun k : Fin 1280 => X (ix2 (y 0) k)) (y 1)) * (x11 (ix2 0 0) * x9 (ix2 0 (y 1))) + x10 (ix2 0 (y 1))) : EReal) := by
  rw [pay3_apply, acc_rows i x1 x2 x3 x4 x5 x6 x7 x11 x8 X A inb x y h0 h1, show x 1 = y 1 from Fin.ext h1.symm, ld_rows H inb x y h0 h1]

theorem yC_apply (c : Dev nD) (t : Fin cfg0.N) (x0 : Vec Ideal S1024x1280 .i8) (x1 : Vec Ideal S1280x256 .i8) (x2 : Vec Ideal S1x256 .f32) (x3 : Vec Ideal S1x256 .f32) (x4 : Vec Ideal S1280x256 .i8) (x5 : Vec Ideal S1x256 .f32) (x6 : Vec Ideal S1x256 .f32) (x7 : Vec Ideal S1x1 .f32) (x8 : Vec Ideal S256x1280 .i8) (x9 : Vec Ideal S1x1280 .f32) (x10 : Vec Ideal S1x1280 .f32) (x11 : Vec Ideal S1x1 .f32) (x12 : Vec Ideal S1024x1280 .bf16) (xs0 : Vec Ideal S1024x1280 .bf16) (xs1 : Vec Ideal S1024x1280 .f32) (hc0 : ¬cond0_0 (grid0.coords t)) (hc1 : cond0_1 (grid0.coords t)) (y) : yC c t hc0 hc1 x0 x1 x2 x3 x4 x5 x6 x7 x8 x9 x10 x11 x12 xs0 xs1 y
    = (x12 y + ((xs1 y + inc (grid0.coords t) x1 x2 x3 x4 x5 x6 x7 x11 x8 (fun k : Fin 1280 => xs0 (ix2 (y 0) k)) (y 1)) * (x11 (ix2 0 0) * x9 (ix2 0 (y 1))) + x10 (ix2 0 (y 1))) : EReal) := by
  unfold yC runC
  frame_out
  simp (disch := decide) only [↓View.readCov_skip, View.readCov_cons_toLoadRect, pay4_eq, pay5_eq, pay6_eq, code_q1, code_q2, code_q3, acc_q0, acc_q1, acc_q3, read_unread_whole]
  canon_tiles x h
  · exact y_rows _ _ _ _ _ _ _ _ _ _ _ _ _ _ _ _ x y (by omega) h1
  · exact y_rows _ _ _ _ _ _ _ _ _ _ _ _ _ _ _ _ x y (by omega) h1
  · exact y_rows _ _ _ _ _ _ _ _ _ _ _ _ _ _ _ _ x y (by omega) h1
  · exact y_rows _ _ _ _ _ _ _ _ _ _ _ _ _ _ _ _ x y (by omega) h1

end Cert.KernelMlpIdeal.Body
end
-- ==== Proof.MlpBlk.lean ====
/-
  The blocks of the arguments the MLP kernel's points hold, at an index: a block of the gate and up weights and scales is 256
  columns, of the down weights 256 rows, and inside the array it is the argument there.
-/
module

public import proofs.«01_k».proof.Proof.MlpFrameIdeal
public import proofs.«01_k».proof.Proof.MlpPay

@[expose] public section
set_option maxRecDepth 16384
noncomputable section
open Idealize.ShloMosaic Idealize.ShloMosaic.TcCoe Idealize.SL.Sem
open Idealize.ShloMosaic.Pipeline (Dat Window)
namespace Cert.KernelMlpIdeal.Body
open Cert.KernelMlpIdeal Cert.KernelMlpIdeal.Gen

variable (m : (ℓ : Loc nD τ sig) → Buf (Elt Ideal) ℓ)

theorem idx : ∀ t : Fin cfg0.N, win0_0.index t = ![0, 0] ∧ win0_1.index t = ![0, t.val] ∧ win0_2.index t = ![0, t.val] ∧ win0_3.index t = ![0, t.val]
    ∧ win0_4.index t = ![0, t.val] ∧ win0_5.index t = ![0, t.val] ∧ win0_6.index t = ![0, t.val] ∧ win0_7.index t = ![0, 0] ∧ win0_8.index t = ![t.val, 0]
    ∧ win0_9.index t = ![0, 0] ∧ win0_10.index t = ![0, 0] ∧ win0_11.index t = ![0, 0] ∧ win0_12.index t = ![0, 0] ∧ win0_13.index t = ![0, t.val] ∧ win0_14.index t = ![0, 0] :=
  (by decide +kernel : ∀ t : Fin grid0.N, _)

theorem coord (t : Fin cfg0.N) : (grid0.coords t 0).val = t.val := by
  have ht : t.val < 14 := Nat.lt_of_lt_of_eq t.isLt N_0
  have e0 : (grid0.coords t 0).val = t.val / 1 % 14 := Pipeline.Grid.coords_val t 0 (by decide) rfl
  omega

theorem xsz : ∀ t : Fin cfg0.N, win0_1.xsize (grid0.coords t) = ![1280, min 256 (3420 - 256 * t.val)] ∧ win0_2.xsize (grid0.coords t) = ![1, min 256 (3420 - 256 * t.val)]
    ∧ win0_3.xsize (grid0.coords t) = ![1, min 256 (3420 - 256 * t.val)] ∧ win0_4.xsize (grid0.coords t) = ![1280, min 256 (3420 - 256 * t.val)]
    ∧ win0_5.xsize (grid0.coords t) = ![1, min 256 (3420 - 256 * t.val)] ∧ win0_6.xsize (grid0.coords t) = ![1, min 256 (3420 - 256 * t.val)]
    ∧ win0_8.xsize (grid0.coords t) = ![min 256 (3420 - 256 * t.val), 1280] ∧ win0_13.xsize (grid0.coords t) = ![1024, min 256 (3420 - 256 * t.val)] :=
  (by decide +kernel : ∀ t : Fin grid0.N, _)

theorem xf1_at (c : Dev nD) (t : Fin cfg0.N) (d : Vec Ideal S1280x256 .i8) (k : Fin 1280) (q : Fin 256) (j : Fin 3420) (hj : j.val = 256 * t.val + q.val) :
    xf1 m c t d (ix2 k q) = m ((c : Thread nD τ).loc main_arg1) (ix2 k j) := by
  have hm : win0_1.moved (grid0.coords t) (ix2 k q) = true := (Window.moved_iff _ _ _).mpr (by
    rw [(xsz t).1]
    have := j.isLt
    intro a
    match a with
    | 0 => first | exact k.isLt | exact Nat.one_pos | (show q.val < min 256 (3420 - 256 * t.val); omega)
    | 1 => first | exact k.isLt | (show q.val < min 256 (3420 - 256 * t.val); omega))
  unfold xf1 Window.fill
  rw [dif_pos hm]
  blk_point [iblk, idx t]

theorem xf4_at (c : Dev nD) (t : Fin cfg0.N) (d : Vec Ideal S1280x256 .i8) (k : Fin 1280) (q : Fin 256) (j : Fin 3420) (hj : j.val = 256 * t.val + q.val) :
    xf4 m c t d (ix2 k q) = m ((c : Thread nD τ).loc main_arg4) (ix2 k j) := by
  have hm : win0_4.moved (grid0.coords t) (ix2 k q) = true := (Window.moved_iff _ _ _).mpr (by
    rw [(xsz t).2.2.2.1]
    have := j.isLt
    intro a
    match a with
    | 0 => first | exact k.isLt | exact Nat.one_pos | (show q.val < min 256 (3420 - 256 * t.val); omega)
    | 1 => first | exact k.isLt | (show q.val < min 256 (3420 - 256 * t.val); omega))
  unfold xf4 Window.fill
  rw [dif_pos hm]
  blk_point [iblk, idx t]

theorem xf2_at (c : Dev nD) (t : Fin cfg0.N) (d : Vec Ideal S1x256 .f32) (q : Fin 256) (j : Fin 3420) (hj : j.val = 256 * t.val + q.val) :
    xf2 m c t d (ix2 0 q) = m ((c : Thread nD τ).loc main_arg2) (ix1 j) := by
  have hm : win0_2.moved (grid0.coords t) (ix2 0 q) = true := (Window.moved_iff _ _ _).mpr (by
    rw [(xsz t).2.1]
    have := j.isLt
    intro a
    match a with
    | 0 => first | exact k.isLt | exact Nat.one_pos | (show q.val < min 256 (3420 - 256 * t.val); omega)
    | 1 => first | exact k.isLt | (show q.val < min 256 (3420 - 256 * t.val); omega))
  unfold xf2 Window.fill
  rw [dif_pos hm]
  blk_point [iblk, idx t]

theorem xf3_at (c : Dev nD) (t : Fin cfg0.N) (d : Vec Ideal S1x256 .f32) (q : Fin 256) (j : Fin 3420) (hj : j.val = 256 * t.val + q.val) :
    xf3 m c t d (ix2 0 q) = m ((c : Thread nD τ).loc main_arg3) (ix1 j) := by
  have hm : win0_3.moved (grid0.coords t) (ix2 0 q) = true := (Window.moved_iff _ _ _).mpr (by
    rw [(xsz t).2.2.1]
    have := j.isLt
    intro a
    match a with
    | 0 => first | exact k.isLt | exact Nat.one_pos | (show q.val < min 256 (3420 - 256 * t.val); omega)
    | 1 => first | exact k.isLt | (show q.val < min 256 (3420 - 256 * t.val); omega))
  unfold xf3 Window.fill
  rw [dif_pos hm]
  blk_point [iblk, idx t]

theorem xf5_at (c : Dev nD) (t : Fin cfg0.N) (d : Vec Ideal S1x256 .f32) (q : Fin 256) (j : Fin 3420) (hj : j.val = 256 * t.val + q.val) :
    xf5 m c t d (ix2 0 q) = m ((c : Thread nD τ).loc main_arg5) (ix1 j) := by
  have hm : win0_5.moved (grid0.coords t) (ix2 0 q) = true := (Window.moved_iff _ _ _).mpr (by
    rw [(xsz t).2.2.2.2.1]
    have := j.isLt
    intro a
    match a with
    | 0 => first | exact k.isLt | exact Nat.one_pos | (show q.val < min 256 (3420 - 256 * t.val); omega)
    | 1 => first | exact k.isLt | (show q.val < min 256 (3420 - 256 * t.val); omega))
  unfold xf5 Window.fill
  rw [dif_pos hm]
  blk_point [iblk, idx t]

theorem xf6_at (c : Dev nD) (t : Fin cfg0.N) (d : Vec Ideal S1x256 .f32) (q : Fin 256) (j : Fin 3420) (hj : j.val = 256 * t.val + q.val) :
    xf6 m c t d (ix2 0 q) = m ((c : Thread nD τ).loc main_arg6) (ix1 j) := by
  have hm : win0_6.moved (grid0.coords t) (ix2 0 q) = true := (Window.moved_iff _ _ _).mpr (by
    rw [(xsz t).2.2.2.2.2.1]
    have := j.isLt
    intro a
    match a with
    | 0 => first | exact k.isLt | exact Nat.one_pos | (show q.val < min 256 (3420 - 256 * t.val); omega)
    | 1 => first | exact k.isLt | (show q.val < min 256 (3420 - 256 * t.val); omega))
  unfold xf6 Window.fill
  rw [dif_pos hm]
  blk_point [iblk, idx t]

theorem xf8_at (c : Dev nD) (t : Fin cfg0.N) (d : Vec Ideal S256x1280 .i8) (k : Fin 1280) (q : Fin 256) (j : Fin 3420) (hj : j.val = 256 * t.val + q.val) :
    xf8 m c t d (ix2 q k) = m ((c : Thread nD τ).loc main_arg8) (ix2 j k) := by
  have hm : win0_8.moved (grid0.coords t) (ix2 q k) = true := (Window.moved_iff _ _ _).mpr (by
    rw [(xsz t).2.2.2.2.2.2.1]
    have := j.isLt
    intro a
    match a with
    | 0 => first | exact k.isLt | exact Nat.one_pos | (show q.val < min 256 (3420 - 256 * t.val); omega)
    | 1 => first | exact k.isLt | (show q.val < min 256 (3420 - 256 * t.val); omega))
  unfold xf8 Window.fill
  rw [dif_pos hm]
  blk_point [iblk, idx t]

theorem ib7_at (c : Dev nD) (t : Fin cfg0.N) : (iblk m c 7 t : Vec Ideal S1x1 .f32) (ix2 0 0) = m ((c : Thread nD τ).loc main_arg7) (ix1 0) := by
  blk_point [iblk, idx t]

theorem ib11_at (c : Dev nD) (t : Fin cfg0.N) : (iblk m c 11 t : Vec Ideal S1x1 .f32) (ix2 0 0) = m ((c : Thread nD τ).loc main_arg11) (ix1 0) := by
  blk_point [iblk, idx t]

theorem ib9_at (c : Dev nD) (t : Fin cfg0.N) (q : Fin 1280) : (iblk m c 9 t : Vec Ideal S1x1280 .f32) (ix2 0 q) = m ((c : Thread nD τ).loc main_arg9) (ix1 q) := by
  blk_point [iblk, idx t]

theorem ib10_at (c : Dev nD) (t : Fin cfg0.N) (q : Fin 1280) : (iblk m c 10 t : Vec Ideal S1x1280 .f32) (ix2 0 q) = m ((c : Thread nD τ).loc main_arg10) (ix1 q) := by
  blk_point [iblk, idx t]

theorem ib0_eq (c : Dev nD) (t : Fin cfg0.N) : (iblk m c 0 t : Vec Ideal S1024x1280 .i8) = m ((c : Thread nD τ).loc main_arg0) := by
  funext y
  blk_point [iblk, idx t]

theorem ib12_eq (c : Dev nD) (t : Fin cfg0.N) : (iblk m c 12 t : Vec Ideal S1024x1280 .bf16) = m ((c : Thread nD τ).loc main_arg12) := by
  funext y
  blk_point [iblk, idx t]

def GC (c : Dev nD) : Vec Ideal Cert.ReferenceMlpIdeal.S1024x3420 .i8 :=
  Cert.ReferenceMlpIdeal.RefValue.Codes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11))

def GY (c : Dev nD) : Vec Ideal Cert.ReferenceMlpIdeal.S1024x1280 .bf16 :=
  Cert.ReferenceMlpIdeal.RefValue.Y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

def asd (c : Dev nD) : EReal := (m ((c : Thread nD τ).loc main_arg11)) (ix1 0)
def sdv (c : Dev nD) (k : Fin 1280) : EReal := (m ((c : Thread nD τ).loc main_arg9)) (ix1 k)
def bdv (c : Dev nD) (k : Fin 1280) : EReal := (m ((c : Thread nD τ).loc main_arg10)) (ix1 k)
def hin (c : Dev nD) (y : S1024x1280.Idx) : EReal := (m ((c : Thread nD τ).loc main_arg12)) y

def prod (c : Dev nD) (y : S1024x1280.Idx) (n : ℕ) : EReal :=
  if h : n < 3420 then FloatOps.sitofp (F := Ideal) FTy.bf16 (GC m c (ix2 (y 0) ⟨n, h⟩)) * FloatOps.sitofp (F := Ideal) FTy.bf16 (m ((c : Thread nD τ).loc main_arg8) (ix2 ⟨n, h⟩ (y 1))) else 0

def accS (c : Dev nD) (n : ℕ) (y : S1024x1280.Idx) : EReal := ∑ p ∈ Finset.range n, ∑ k : Fin 256, prod m c y (256 * p + k.val)

section point
variable (c : Dev nD) (t : Fin cfg0.N) (d1 d4 : Vec Ideal S1280x256 .i8) (d2 d3 d5 d6 : Vec Ideal S1x256 .f32) (d8 : Vec Ideal S256x1280 .i8)

theorem cd_point (r : Fin 1024) (q : Fin 256) (j : Fin 3420) (hj : j.val = 256 * t.val + q.val) (X : Vec Ideal S1024x1280 .bf16) (hX : X = k0_pay7 (F := Ideal) (m ((c : Thread nD τ).loc main_arg0))) :
    cdS (grid0.coords t) (xf1 m c t d1) (xf2 m c t d2) (xf3 m c t d3) (xf4 m c t d4) (xf5 m c t d5) (xf6 m c t d6) (iblk m c 7 t) (iblk m c 11 t)
      (fun k : Fin 1280 => X (ix2 r k)) q = GC m c (ix2 r j) := by
  subst hX
  exact cdS_in _ _ _ _ _ _ _ _ _ _ _ _ _ _ _ _ _ _ r q j (by rw [coord]; exact hj) _ (fun k => pay7_apply _ _)
    (fun k => xf1_at m c t d1 k q j hj) (xf2_at m c t d2 q j hj) (xf3_at m c t d3 q j hj) (fun k => xf4_at m c t d4 k q j hj) (xf5_at m c t d5 q j hj) (xf6_at m c t d6 q j hj)
    (ib7_at m c t) (ib11_at m c t)

theorem inc_point (hs : asd m c ≠ 0) (y : S1024x1280.Idx) (X : Vec Ideal S1024x1280 .bf16) (hX : X = k0_pay7 (F := Ideal) (m ((c : Thread nD τ).loc main_arg0))) :
    inc (grid0.coords t) (xf1 m c t d1) (xf2 m c t d2) (xf3 m c t d3) (xf4 m c t d4) (xf5 m c t d5) (xf6 m c t d6) (iblk m c 7 t) (iblk m c 11 t) (xf8 m c t d8)
      (fun k : Fin 1280 => X (ix2 (y 0) k)) (y 1) = ∑ k : Fin 256, prod m c y (256 * t.val + k.val) := by
  unfold inc
  refine Finset.sum_congr rfl fun k _ => ?_
  unfold prod
  by_cases h : 256 * t.val + k.val < 3420
  · rw [dif_pos h, cd_point m c t d1 d4 d2 d3 d5 d6 (y 0) k ⟨_, h⟩ rfl X hX]
    congr 2
    exact xf8_at m c t d8 (y 1) k ⟨_, h⟩ rfl
  · rw [dif_neg h, cdS_out _ _ _ _ _ _ _ _ _ _ _ (by rw [coord]; omega) (by rw [ib11_at]; exact hs), sitofp_zero]
    exact zero_mul _

end point

theorem accS_zero (c : Dev nD) (y) : accS m c 0 y = 0 := by unfold accS; simp

theorem accS_succ (c : Dev nD) (n : ℕ) (y) : accS m c (n + 1) y = accS m c n y + ∑ k : Fin 256, prod m c y (256 * n + k.val) := by
  unfold accS; rw [Finset.sum_range_succ]

theorem accS_all (c : Dev nD) (y : S1024x1280.Idx) : accS m c 14 y
    = ∑ j : Fin 3420, FloatOps.sitofp (F := Ideal) FTy.bf16 (GC m c (ix2 (y 0) j)) * FloatOps.sitofp (F := Ideal) FTy.bf16 (m ((c : Thread nD τ).loc main_arg8) (ix2 j (y 1))) := by
  have h1 : accS m c 14 y = ∑ n ∈ Finset.range (14 * 256), prod m c y n := by
    unfold accS
    have : ∀ N : ℕ, ∑ p ∈ Finset.range N, ∑ k : Fin 256, prod m c y (256 * p + k.val) = ∑ n ∈ Finset.range (N * 256), prod m c y n := by
      intro N
      induction N with
      | zero => simp
      | succ N ih =>
        rw [Finset.sum_range_succ, ih, Fin.sum_univ_eq_sum_range (fun k => prod m c y (256 * N + k)), Nat.mul_comm 256 N, Nat.add_mul N 1 256, Nat.one_mul, Finset.sum_range_add]
    exact this 14
  have h2 : ∑ n ∈ Finset.range (14 * 256), prod m c y n = ∑ n ∈ Finset.range 3420, prod m c y n := by
    refine (Finset.sum_subset (Finset.range_mono (by omega)) fun n _ hn => ?_).symm
    unfold prod
    rw [dif_neg (by simpa using hn)]
  rw [h1, h2, ← Fin.sum_univ_eq_sum_range (fun n => prod m c y n)]
  refine Finset.sum_congr rfl fun j _ => ?_
  unfold prod
  rw [dif_pos j.isLt]

theorem GY_apply (c : Dev nD) (y : S1024x1280.Idx) : GY m c y
    = (hin m c y + ((∑ j : Fin 3420, FloatOps.sitofp (F := Ideal) FTy.bf16 (GC m c (ix2 (y 0) j)) * FloatOps.sitofp (F := Ideal) FTy.bf16 ((m ((c : Thread nD τ).loc main_arg8)) (ix2 j (y 1))))
      * (asd m c * sdv m c (y 1)) + bdv m c (y 1)) : EReal) := by
  pointwise [asd, hin, sdv, bdv, GY, GC, Cert.ReferenceMlpIdeal.RefValue.Y, Cert.ReferenceMlpIdeal.RefValue.Codes, Cert.ReferenceMlpIdeal.RefValue.Act, Cert.ReferenceMlpIdeal.RefValue.row, Cert.ReferenceMlpIdeal.RefValue.rowF, Cert.ReferenceMlpIdeal.RefValue.one,
    Cert.ReferenceMlpIdeal.Gen.k0_pay1, Cert.ReferenceMlpIdeal.Gen.k0_pay2, Cert.ReferenceMlpIdeal.Gen.k0_pay3, Cert.ReferenceMlpIdeal.Gen.k0_pay4]

theorem y_point (c : Dev nD) (y : S1024x1280.Idx) (a : EReal) (ha : asd m c ≠ 0 → a = accS m c 14 y) :
    (hin m c y + (a * (asd m c * sdv m c (y 1)) + bdv m c (y 1)) : EReal) = GY m c y := by
  rw [GY_apply, ← accS_all]
  by_cases h : asd m c = 0
  · rw [h, zero_mul, mul_zero, mul_zero]
  · rw [ha h]

end Cert.KernelMlpIdeal.Body
end
-- ==== Proof.MlpStep.lean ====
/-
  What the body of the MLP kernel leaves at each point, the inputs at their blocks, in the terms of the reference: the codes of
  the point's features, the running sum of the down projection, and at the last point the second result.
-/
module

public import proofs.«01_k».proof.Proof.MlpBlk

@[expose] public section

set_option maxRecDepth 16384

noncomputable section

namespace Cert.KernelMlpIdeal.Body

open Cert.KernelMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-- The codes' buffer after point `t`: the reference's codes on the features there are. -/
def after13 (c : Dev nD) (t : Fin cfg0.N) : Vec Ideal S1024x256 .i8 := fun y =>
  if h : 256 * t.val + (y 1).val < 3420 then GC m c (ix2 (y 0) ⟨_, h⟩) else (0#8 : BitVec 8)

/-- Two contents of the codes' buffer agree on the part written back if they agree on the features there are. -/
theorem cut13 (c : Dev nD) (t : Fin cfg0.N) (X : Vec Ideal S1024x256 .i8)
    (h : ∀ (r : Fin 1024) (q : Fin 256) (j : Fin 3420), j.val = 256 * t.val + q.val → X (ix2 r q) = GC m c (ix2 r j)) :
    win0_13.cut (grid0.coords t) X = win0_13.cut (grid0.coords t) (after13 m c t) := by
  funext y
  have hx := (xsz t).2.2.2.2.2.2.2
  have e1 : ((win0_13.xinj (grid0.coords t) y) 1).val < 3420 - 256 * t.val := by
    have : (y 1).val < win0_13.xsize (grid0.coords t) 1 := (y 1).isLt
    rw [hx] at this
    exact lt_of_lt_of_le this (min_le_right _ _)
  have e2 : 256 * t.val + ((win0_13.xinj (grid0.coords t) y) 1).val < 3420 := by omega
  show X (win0_13.xinj (grid0.coords t) y) = after13 m c t (win0_13.xinj (grid0.coords t) y)
  generalize hz : win0_13.xinj (grid0.coords t) y = z at e1 e2
  unfold after13
  rw [dif_pos e2]
  have := h (z 0) (z 1) ⟨_, e2⟩ rfl
  rw [← this]
  congr 1
  exact (eq_ix2 z)

theorem codesA (c : Dev nD) (t : Fin cfg0.N) (hc0 : cond0_0 (grid0.coords t)) (hc1 : ¬cond0_1 (grid0.coords t)) (d1 d4 : Vec Ideal S1280x256 .i8) (d2 d3 d5 d6 : Vec Ideal S1x256 .f32) (d8 : Vec Ideal S256x1280 .i8) :
    win0_13.cut (grid0.coords t) (cdA c t hc0 hc1 (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t)) = win0_13.cut (grid0.coords t) (after13 m c t) :=
  cut13 m c t _ fun r q j hj => by
    rw [cdA_apply]
    exact cd_point m c t d1 d4 d2 d3 d5 d6 r q j hj (k0_pay7 (F := Ideal) (iblk m c 0 t)) (by rw [ib0_eq])

theorem sumA (c : Dev nD) (t : Fin cfg0.N) (hc0 : cond0_0 (grid0.coords t)) (hc1 : ¬cond0_1 (grid0.coords t)) (d1 d4 : Vec Ideal S1280x256 .i8) (d2 d3 d5 d6 : Vec Ideal S1x256 .f32) (d8 : Vec Ideal S256x1280 .i8) (ht : t.val = 0) (h : asd m c ≠ 0) (y : S1024x1280.Idx) :
    accA c t hc0 hc1 (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t) y = accS m c (t.val + 1) y := by
  rw [accA_apply, accS_succ]
  rw [ht, accS_zero, zero_add, ← ht]
  exact inc_point m c t d1 d4 d2 d3 d5 d6 d8 h y (k0_pay7 (F := Ideal) (iblk m c 0 t)) (by rw [ib0_eq])

theorem codesB (c : Dev nD) (t : Fin cfg0.N) (hc0 : ¬cond0_0 (grid0.coords t)) (hc1 : ¬cond0_1 (grid0.coords t)) (d1 d4 : Vec Ideal S1280x256 .i8) (d2 d3 d5 d6 : Vec Ideal S1x256 .f32) (d8 : Vec Ideal S256x1280 .i8) (s0 : Vec Ideal S1024x1280 .bf16) (s1 : Vec Ideal S1024x1280 .f32) (hs0 : s0 = k0_pay7 (F := Ideal) (m ((c : Thread nD τ).loc main_arg0))) :
    win0_13.cut (grid0.coords t) (cdB c t hc0 hc1 (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t) s0 s1) = win0_13.cut (grid0.coords t) (after13 m c t) :=
  cut13 m c t _ fun r q j hj => by
    rw [cdB_apply]
    exact cd_point m c t d1 d4 d2 d3 d5 d6 r q j hj s0 hs0

theorem sumB (c : Dev nD) (t : Fin cfg0.N) (hc0 : ¬cond0_0 (grid0.coords t)) (hc1 : ¬cond0_1 (grid0.coords t)) (d1 d4 : Vec Ideal S1280x256 .i8) (d2 d3 d5 d6 : Vec Ideal S1x256 .f32) (d8 : Vec Ideal S256x1280 .i8) (s0 : Vec Ideal S1024x1280 .bf16) (s1 : Vec Ideal S1024x1280 .f32) (hs0 : s0 = k0_pay7 (F := Ideal) (m ((c : Thread nD τ).loc main_arg0))) (ha : asd m c ≠ 0 → ∀ y, s1 y = accS m c t.val y) (h : asd m c ≠ 0) (y : S1024x1280.Idx) :
    accB c t hc0 hc1 (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t) s0 s1 y = accS m c (t.val + 1) y := by
  rw [accB_apply, accS_succ]
  rw [ha h]; refine congrArg (accS m c t.val y + ·) ?_
  exact inc_point m c t d1 d4 d2 d3 d5 d6 d8 h y s0 hs0

theorem codesC (c : Dev nD) (t : Fin cfg0.N) (hc0 : ¬cond0_0 (grid0.coords t)) (hc1 : cond0_1 (grid0.coords t)) (d1 d4 : Vec Ideal S1280x256 .i8) (d2 d3 d5 d6 : Vec Ideal S1x256 .f32) (d8 : Vec Ideal S256x1280 .i8) (s0 : Vec Ideal S1024x1280 .bf16) (s1 : Vec Ideal S1024x1280 .f32) (hs0 : s0 = k0_pay7 (F := Ideal) (m ((c : Thread nD τ).loc main_arg0))) :
    win0_13.cut (grid0.coords t) (cdC c t hc0 hc1 (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t) s0 s1) = win0_13.cut (grid0.coords t) (after13 m c t) :=
  cut13 m c t _ fun r q j hj => by
    rw [cdC_apply]
    exact cd_point m c t d1 d4 d2 d3 d5 d6 r q j hj s0 hs0

theorem sumC (c : Dev nD) (t : Fin cfg0.N) (hc0 : ¬cond0_0 (grid0.coords t)) (hc1 : cond0_1 (grid0.coords t)) (d1 d4 : Vec Ideal S1280x256 .i8) (d2 d3 d5 d6 : Vec Ideal S1x256 .f32) (d8 : Vec Ideal S256x1280 .i8) (s0 : Vec Ideal S1024x1280 .bf16) (s1 : Vec Ideal S1024x1280 .f32) (hs0 : s0 = k0_pay7 (F := Ideal) (m ((c : Thread nD τ).loc main_arg0))) (ha : asd m c ≠ 0 → ∀ y, s1 y = accS m c t.val y) (h : asd m c ≠ 0) (y : S1024x1280.Idx) :
    accC c t hc0 hc1 (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t) s0 s1 y = accS m c (t.val + 1) y := by
  rw [accC_apply, accS_succ]
  rw [ha h]; refine congrArg (accS m c t.val y + ·) ?_
  exact inc_point m c t d1 d4 d2 d3 d5 d6 d8 h y s0 hs0

theorem resC (c : Dev nD) (t : Fin cfg0.N) (hc0 : ¬cond0_0 (grid0.coords t)) (hc1 : cond0_1 (grid0.coords t)) (d1 d4 : Vec Ideal S1280x256 .i8) (d2 d3 d5 d6 : Vec Ideal S1x256 .f32) (d8 : Vec Ideal S256x1280 .i8) (s0 : Vec Ideal S1024x1280 .bf16) (s1 : Vec Ideal S1024x1280 .f32) (hs0 : s0 = k0_pay7 (F := Ideal) (m ((c : Thread nD τ).loc main_arg0)))
    (ha : asd m c ≠ 0 → ∀ y, s1 y = accS m c t.val y) (ht : t.val = 13) :
    yC c t hc0 hc1 (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t) s0 s1 = GY m c := by
  funext y
  rw [yC_apply, ib12_eq, ib11_at]
  erw [ib9_at m c t (y 1), ib10_at m c t (y 1)]
  refine y_point m c y _ fun h => ?_
  have e : accS m c 14 y = accS m c (t.val + 1) y := by rw [ht]
  refine Eq.trans ?_ e.symm
  rw [accS_succ, ha h]
  exact congrArg (accS m c t.val y + ·) (inc_point m c t d1 d4 d2 d3 d5 d6 d8 h y s0 hs0)

end Cert.KernelMlpIdeal.Body

end
-- ==== Proof.MlpTrack.lean ====
/-
  The MLP kernel's run with what it computes: the body keeps the running sum from point to point, so the program ends with
  both results at the reference's values.
-/
module

public import proofs.«01_k».proof.Proof.MlpStep

@[expose] public section

set_option maxRecDepth 16384

noncomputable section

namespace Cert.KernelMlpIdeal.Track

open Cert.KernelMlpIdeal.Body hiding frame

open Cert.KernelMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

def Phi (c : Dev nD) : ℕ → sProp (MT nD τ sig Unit (Elt Ideal) ℕ (UR sig nD τ) ℕ)
  | 0 => Pipeline.ΦA spec0 c
  | n + 1 => iprop((owns (c : Thread nD τ) scM0_0 fullShare (k0_pay7 (F := Ideal) (m ((c : Thread nD τ).loc main_arg0)))
      ∗ (∃ A : Vec Ideal S1024x1280 .f32, ⌜asd m c ≠ 0 → ∀ y, A y = accS m c (n + 1) y⌝ ∗ owns (c : Thread nD τ) scM0_1 fullShare A)) ∗ (∃ r, prngReg c r))

def datsT (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => xf1 m c t (fun _ => (0#8 : BitVec 8))
    | ⟨2, _⟩ => xf2 m c t (fun _ => Scalar.ofBits (F := Ideal) .f32 0#32)
    | ⟨3, _⟩ => xf3 m c t (fun _ => Scalar.ofBits (F := Ideal) .f32 0#32)
    | ⟨4, _⟩ => xf4 m c t (fun _ => (0#8 : BitVec 8))
    | ⟨5, _⟩ => xf5 m c t (fun _ => Scalar.ofBits (F := Ideal) .f32 0#32)
    | ⟨6, _⟩ => xf6 m c t (fun _ => Scalar.ofBits (F := Ideal) .f32 0#32)
    | ⟨7, _⟩ => iblk m c 7 t
    | ⟨8, _⟩ => xf8 m c t (fun _ => (0#8 : BitVec 8))
    | ⟨9, _⟩ => iblk m c 9 t
    | ⟨10, _⟩ => iblk m c 10 t
    | ⟨11, _⟩ => iblk m c 11 t
    | ⟨12, _⟩ => iblk m c 12 t
    | ⟨13, _⟩ => after13 m c t
    | ⟨14, _⟩ => GY m c
  Φ t := Phi m c t.val
  q _ := fullShare
  owed _ := 0

theorem AT_eq (c : Dev nD) (w : Fin cfg0.W) : (datsT m 0 c).A w = V m c (Pipeline.arrRef spec0 w) := by dsimp only [datsT]

theorem afterT_0 (c : Dev nD) (t : Fin cfg0.N) : (datsT m 0 c).after 0 t = iblk m c 0 t := by dsimp only [datsT]
theorem afterT_1 (c : Dev nD) (t : Fin cfg0.N) : (datsT m 0 c).after 1 t = xf1 m c t (fun _ => (0#8 : BitVec 8)) := by dsimp only [datsT]
theorem afterT_2 (c : Dev nD) (t : Fin cfg0.N) : (datsT m 0 c).after 2 t = xf2 m c t (fun _ => Scalar.ofBits (F := Ideal) .f32 0#32) := by dsimp only [datsT]
theorem afterT_3 (c : Dev nD) (t : Fin cfg0.N) : (datsT m 0 c).after 3 t = xf3 m c t (fun _ => Scalar.ofBits (F := Ideal) .f32 0#32) := by dsimp only [datsT]
theorem afterT_4 (c : Dev nD) (t : Fin cfg0.N) : (datsT m 0 c).after 4 t = xf4 m c t (fun _ => (0#8 : BitVec 8)) := by dsimp only [datsT]
theorem afterT_5 (c : Dev nD) (t : Fin cfg0.N) : (datsT m 0 c).after 5 t = xf5 m c t (fun _ => Scalar.ofBits (F := Ideal) .f32 0#32) := by dsimp only [datsT]
theorem afterT_6 (c : Dev nD) (t : Fin cfg0.N) : (datsT m 0 c).after 6 t = xf6 m c t (fun _ => Scalar.ofBits (F := Ideal) .f32 0#32) := by dsimp only [datsT]
theorem afterT_7 (c : Dev nD) (t : Fin cfg0.N) : (datsT m 0 c).after 7 t = iblk m c 7 t := by dsimp only [datsT]
theorem afterT_8 (c : Dev nD) (t : Fin cfg0.N) : (datsT m 0 c).after 8 t = xf8 m c t (fun _ => (0#8 : BitVec 8)) := by dsimp only [datsT]
theorem afterT_9 (c : Dev nD) (t : Fin cfg0.N) : (datsT m 0 c).after 9 t = iblk m c 9 t := by dsimp only [datsT]
theorem afterT_10 (c : Dev nD) (t : Fin cfg0.N) : (datsT m 0 c).after 10 t = iblk m c 10 t := by dsimp only [datsT]
theorem afterT_11 (c : Dev nD) (t : Fin cfg0.N) : (datsT m 0 c).after 11 t = iblk m c 11 t := by dsimp only [datsT]
theorem afterT_12 (c : Dev nD) (t : Fin cfg0.N) : (datsT m 0 c).after 12 t = iblk m c 12 t := by dsimp only [datsT]
theorem afterT_13 (c : Dev nD) (t : Fin cfg0.N) : (datsT m 0 c).after 13 t = after13 m c t := by dsimp only [datsT]
theorem afterT_14 (c : Dev nD) (t : Fin cfg0.N) : (datsT m 0 c).after 14 t = GY m c := by dsimp only [datsT]
theorem beforeT_0 (c : Dev nD) (t : Fin cfg0.N) (d) : (datsT m 0 c).before 0 t d = iblk m c 0 t :=
  before0_0_of m (datsT m 0 c) (AT_eq m c 0) (afterT_0 m c) t d
theorem beforeT_7 (c : Dev nD) (t : Fin cfg0.N) (d) : (datsT m 0 c).before 7 t d = iblk m c 7 t :=
  before0_7_of m (datsT m 0 c) (AT_eq m c 7) (afterT_7 m c) t d
theorem beforeT_9 (c : Dev nD) (t : Fin cfg0.N) (d) : (datsT m 0 c).before 9 t d = iblk m c 9 t :=
  before0_9_of m (datsT m 0 c) (AT_eq m c 9) (afterT_9 m c) t d
theorem beforeT_10 (c : Dev nD) (t : Fin cfg0.N) (d) : (datsT m 0 c).before 10 t d = iblk m c 10 t :=
  before0_10_of m (datsT m 0 c) (AT_eq m c 10) (afterT_10 m c) t d
theorem beforeT_11 (c : Dev nD) (t : Fin cfg0.N) (d) : (datsT m 0 c).before 11 t d = iblk m c 11 t :=
  before0_11_of m (datsT m 0 c) (AT_eq m c 11) (afterT_11 m c) t d
theorem beforeT_12 (c : Dev nD) (t : Fin cfg0.N) (d) : (datsT m 0 c).before 12 t d = iblk m c 12 t :=
  before0_12_of m (datsT m 0 c) (AT_eq m c 12) (afterT_12 m c) t d
theorem beforeT_1 (c : Dev nD) (t : Fin cfg0.N) (d) : (datsT m 0 c).before 1 t d = xf1 m c t d := by
  unfold Dat.before; rw [if_pos (fetch0_1 t)]; rfl
theorem beforeT_2 (c : Dev nD) (t : Fin cfg0.N) (d) : (datsT m 0 c).before 2 t d = xf2 m c t d := by
  unfold Dat.before; rw [if_pos (fetch0_2 t)]; rfl
theorem beforeT_3 (c : Dev nD) (t : Fin cfg0.N) (d) : (datsT m 0 c).before 3 t d = xf3 m c t d := by
  unfold Dat.before; rw [if_pos (fetch0_3 t)]; rfl
theorem beforeT_4 (c : Dev nD) (t : Fin cfg0.N) (d) : (datsT m 0 c).before 4 t d = xf4 m c t d := by
  unfold Dat.before; rw [if_pos (fetch0_4 t)]; rfl
theorem beforeT_5 (c : Dev nD) (t : Fin cfg0.N) (d) : (datsT m 0 c).before 5 t d = xf5 m c t d := by
  unfold Dat.before; rw [if_pos (fetch0_5 t)]; rfl
theorem beforeT_6 (c : Dev nD) (t : Fin cfg0.N) (d) : (datsT m 0 c).before 6 t d = xf6 m c t d := by
  unfold Dat.before; rw [if_pos (fetch0_6 t)]; rfl
theorem beforeT_8 (c : Dev nD) (t : Fin cfg0.N) (d) : (datsT m 0 c).before 8 t d = xf8 m c t d := by
  unfold Dat.before; rw [if_pos (fetch0_8 t)]; rfl
theorem leavesT_1 (c : Dev nD) (t : Fin cfg0.N) : (datsT m 0 c).leaves 1 t = iprop(∃ d, owns (c : Thread nD τ) (ms0_1 t) fullShare (xf1 m c t d)) := by
  unfold Dat.leaves; rw [liveAt0_1 t, afterT_1]; unfold xf1
  show iprop(∃ d, owns (c : Thread nD τ) (ms0_1 t) fullShare (win0_1.fill (grid0.coords t) d (win0_1.cut (grid0.coords t) _))) = _
  simp only [Window.cut_fill]; rfl
theorem leavesT_2 (c : Dev nD) (t : Fin cfg0.N) : (datsT m 0 c).leaves 2 t = iprop(∃ d, owns (c : Thread nD τ) (ms0_2 t) fullShare (xf2 m c t d)) := by
  unfold Dat.leaves; rw [liveAt0_2 t, afterT_2]; unfold xf2
  show iprop(∃ d, owns (c : Thread nD τ) (ms0_2 t) fullShare (win0_2.fill (grid0.coords t) d (win0_2.cut (grid0.coords t) _))) = _
  simp only [Window.cut_fill]; rfl
theorem leavesT_3 (c : Dev nD) (t : Fin cfg0.N) : (datsT m 0 c).leaves 3 t = iprop(∃ d, owns (c : Thread nD τ) (ms0_3 t) fullShare (xf3 m c t d)) := by
  unfold Dat.leaves; rw [liveAt0_3 t, afterT_3]; unfold xf3
  show iprop(∃ d, owns (c : Thread nD τ) (ms0_3 t) fullShare (win0_3.fill (grid0.coords t) d (win0_3.cut (grid0.coords t) _))) = _
  simp only [Window.cut_fill]; rfl
theorem leavesT_4 (c : Dev nD) (t : Fin cfg0.N) : (datsT m 0 c).leaves 4 t = iprop(∃ d, owns (c : Thread nD τ) (ms0_4 t) fullShare (xf4 m c t d)) := by
  unfold Dat.leaves; rw [liveAt0_4 t, afterT_4]; unfold xf4
  show iprop(∃ d, owns (c : Thread nD τ) (ms0_4 t) fullShare (win0_4.fill (grid0.coords t) d (win0_4.cut (grid0.coords t) _))) = _
  simp only [Window.cut_fill]; rfl
theorem leavesT_5 (c : Dev nD) (t : Fin cfg0.N) : (datsT m 0 c).leaves 5 t = iprop(∃ d, owns (c : Thread nD τ) (ms0_5 t) fullShare (xf5 m c t d)) := by
  unfold Dat.leaves; rw [liveAt0_5 t, afterT_5]; unfold xf5
  show iprop(∃ d, owns (c : Thread nD τ) (ms0_5 t) fullShare (win0_5.fill (grid0.coords t) d (win0_5.cut (grid0.coords t) _))) = _
  simp only [Window.cut_fill]; rfl
theorem leavesT_6 (c : Dev nD) (t : Fin cfg0.N) : (datsT m 0 c).leaves 6 t = iprop(∃ d, owns (c : Thread nD τ) (ms0_6 t) fullShare (xf6 m c t d)) := by
  unfold Dat.leaves; rw [liveAt0_6 t, afterT_6]; unfold xf6
  show iprop(∃ d, owns (c : Thread nD τ) (ms0_6 t) fullShare (win0_6.fill (grid0.coords t) d (win0_6.cut (grid0.coords t) _))) = _
  simp only [Window.cut_fill]; rfl
theorem leavesT_8 (c : Dev nD) (t : Fin cfg0.N) : (datsT m 0 c).leaves 8 t = iprop(∃ d, owns (c : Thread nD τ) (ms0_8 t) fullShare (xf8 m c t d)) := by
  unfold Dat.leaves; rw [liveAt0_8 t, afterT_8]; unfold xf8
  show iprop(∃ d, owns (c : Thread nD τ) (ms0_8 t) fullShare (win0_8.fill (grid0.coords t) d (win0_8.cut (grid0.coords t) _))) = _
  simp only [Window.cut_fill]; rfl
theorem leavesT_0 (c : Dev nD) (t : Fin cfg0.N) : (datsT m 0 c).leaves 0 t = owns (c : Thread nD τ) (ms0_0 t) fullShare (iblk m c 0 t) := by
  unfold Dat.leaves; rw [liveAt0_0 t, afterT_0]
theorem leavesT_7 (c : Dev nD) (t : Fin cfg0.N) : (datsT m 0 c).leaves 7 t = owns (c : Thread nD τ) (ms0_7 t) fullShare (iblk m c 7 t) := by
  unfold Dat.leaves; rw [liveAt0_7 t, afterT_7]
theorem leavesT_9 (c : Dev nD) (t : Fin cfg0.N) : (datsT m 0 c).leaves 9 t = owns (c : Thread nD τ) (ms0_9 t) fullShare (iblk m c 9 t) := by
  unfold Dat.leaves; rw [liveAt0_9 t, afterT_9]
theorem leavesT_10 (c : Dev nD) (t : Fin cfg0.N) : (datsT m 0 c).leaves 10 t = owns (c : Thread nD τ) (ms0_10 t) fullShare (iblk m c 10 t) := by
  unfold Dat.leaves; rw [liveAt0_10 t, afterT_10]
theorem leavesT_11 (c : Dev nD) (t : Fin cfg0.N) : (datsT m 0 c).leaves 11 t = owns (c : Thread nD τ) (ms0_11 t) fullShare (iblk m c 11 t) := by
  unfold Dat.leaves; rw [liveAt0_11 t, afterT_11]
theorem leavesT_12 (c : Dev nD) (t : Fin cfg0.N) : (datsT m 0 c).leaves 12 t = owns (c : Thread nD τ) (ms0_12 t) fullShare (iblk m c 12 t) := by
  unfold Dat.leaves; rw [liveAt0_12 t, afterT_12]
theorem leavesT_13 (c : Dev nD) (t : Fin cfg0.N) (X : Vec Ideal S1024x256 .i8) (h : win0_13.cut (grid0.coords t) X = win0_13.cut (grid0.coords t) (after13 m c t)) :
    (owns (c : Thread nD τ) (ms0_13 t) fullShare X : sProp (MT nD τ sig Unit (Elt Ideal) ℕ (UR sig nD τ) ℕ)) ⊢ (datsT m 0 c).leaves 13 t := by
  unfold Dat.leaves; rw [liveAt0_13 t, afterT_13]
  show _ ⊢ iprop(∃ d, owns (c : Thread nD τ) (ms0_13 t) fullShare (win0_13.fill (grid0.coords t) d (win0_13.cut (grid0.coords t) _)))
  iintro H; iexists X; rw [Window.fill_congr_cut _ _ h]; iexact H
theorem leavesT_14A (c : Dev nD) (t : Fin cfg0.N) (hc0 : cond0_0 (grid0.coords t)) (hc1 : ¬cond0_1 (grid0.coords t)) :
    (datsT m 0 c).leaves 14 t = iprop(∃ d, owns (c : Thread nD τ) (ms0_14 t) fullShare ((datsT m 0 c).before 14 t d)) :=
  Dat.leaves_idle _ 14 t (idleAt0_14_A t hc0 hc1) (noFlush0_14_A t hc0 hc1)
theorem leavesT_14B (c : Dev nD) (t : Fin cfg0.N) (hc0 : ¬cond0_0 (grid0.coords t)) (hc1 : ¬cond0_1 (grid0.coords t)) :
    (datsT m 0 c).leaves 14 t = iprop(∃ d, owns (c : Thread nD τ) (ms0_14 t) fullShare ((datsT m 0 c).before 14 t d)) :=
  Dat.leaves_idle _ 14 t (idleAt0_14_B t hc0 hc1) (noFlush0_14_B t hc0 hc1)
theorem leavesT_14C (c : Dev nD) (t : Fin cfg0.N) (hc0 : ¬cond0_0 (grid0.coords t)) (hc1 : cond0_1 (grid0.coords t)) :
    (datsT m 0 c).leaves 14 t = owns (c : Thread nD τ) (ms0_14 t) fullShare (GY m c) := by
  unfold Dat.leaves; rw [liveAt0_14_C t hc0 hc1, afterT_14]

def preT (c : Dev nD) (t : Fin cfg0.N) : sProp (MT nD τ sig Unit (Elt Ideal) ℕ (UR sig nD τ) ℕ) :=
  iprop((datsT m 0 c).Φ t.castSucc ∗ (datsT m 0 c).owesAt () t.castSucc
    ∗ (∃ d, owns (c : Thread nD τ) (ms0_0 t) fullShare ((datsT m 0 c).before 0 t d))
    ∗ (∃ d, owns (c : Thread nD τ) (ms0_1 t) fullShare ((datsT m 0 c).before 1 t d))
    ∗ (∃ d, owns (c : Thread nD τ) (ms0_2 t) fullShare ((datsT m 0 c).before 2 t d))
    ∗ (∃ d, owns (c : Thread nD τ) (ms0_3 t) fullShare ((datsT m 0 c).before 3 t d))
    ∗ (∃ d, owns (c : Thread nD τ) (ms0_4 t) fullShare ((datsT m 0 c).before 4 t d))
    ∗ (∃ d, owns (c : Thread nD τ) (ms0_5 t) fullShare ((datsT m 0 c).before 5 t d))
    ∗ (∃ d, owns (c : Thread nD τ) (ms0_6 t) fullShare ((datsT m 0 c).before 6 t d))
    ∗ (∃ d, owns (c : Thread nD τ) (ms0_7 t) fullShare ((datsT m 0 c).before 7 t d))
    ∗ (∃ d, owns (c : Thread nD τ) (ms0_8 t) fullShare ((datsT m 0 c).before 8 t d))
    ∗ (∃ d, owns (c : Thread nD τ) (ms0_9 t) fullShare ((datsT m 0 c).before 9 t d))
    ∗ (∃ d, owns (c : Thread nD τ) (ms0_10 t) fullShare ((datsT m 0 c).before 10 t d))
    ∗ (∃ d, owns (c : Thread nD τ) (ms0_11 t) fullShare ((datsT m 0 c).before 11 t d))
    ∗ (∃ d, owns (c : Thread nD τ) (ms0_12 t) fullShare ((datsT m 0 c).before 12 t d))
    ∗ (∃ d, owns (c : Thread nD τ) (ms0_13 t) fullShare ((datsT m 0 c).before 13 t d))
    ∗ (∃ d, owns (c : Thread nD τ) (ms0_14 t) fullShare ((datsT m 0 c).before 14 t d)))

def postT (c : Dev nD) (t : Fin cfg0.N) : sProp (MT nD τ sig Unit (Elt Ideal) ℕ (UR sig nD τ) ℕ) :=
  iprop((datsT m 0 c).Φ t.succ ∗ (datsT m 0 c).owesAt () t.succ
    ∗ (datsT m 0 c).leaves 0 t
    ∗ (datsT m 0 c).leaves 1 t
    ∗ (datsT m 0 c).leaves 2 t
    ∗ (datsT m 0 c).leaves 3 t
    ∗ (datsT m 0 c).leaves 4 t
    ∗ (datsT m 0 c).leaves 5 t
    ∗ (datsT m 0 c).leaves 6 t
    ∗ (datsT m 0 c).leaves 7 t
    ∗ (datsT m 0 c).leaves 8 t
    ∗ (datsT m 0 c).leaves 9 t
    ∗ (datsT m 0 c).leaves 10 t
    ∗ (datsT m 0 c).leaves 11 t
    ∗ (datsT m 0 c).leaves 12 t
    ∗ (datsT m 0 c).leaves 13 t
    ∗ (datsT m 0 c).leaves 14 t)

set_option maxHeartbeats 4000000 in
theorem soundT (c : Dev nD) (t : Fin cfg0.N) :
    preT m c t ⊢ wp frame (wpE (defs₀ (F := Ideal)) Variants.none c none) Set.univ (bodyAt0 t) (fun _ => postT m c t) := by
  unfold preT postT
  simp only [beforeT_0, beforeT_1, beforeT_2, beforeT_3, beforeT_4, beforeT_5, beforeT_6, beforeT_7, beforeT_8, beforeT_9, beforeT_10, beforeT_11, beforeT_12, leavesT_0, leavesT_1, leavesT_2, leavesT_3, leavesT_4, leavesT_5, leavesT_6, leavesT_7, leavesT_8, leavesT_9, leavesT_10, leavesT_11, leavesT_12]
  rw [show (datsT m 0 c).owesAt () t.succ = (datsT m 0 c).owesAt () t.castSucc from rfl]
  rw [show (datsT m 0 c).Φ t.succ = Phi m c (t.val + 1) from rfl, show (datsT m 0 c).Φ t.castSucc = Phi m c t.val from rfl]
  rw [show Phi m c (t.val + 1) = iprop((owns (c : Thread nD τ) scM0_0 fullShare (k0_pay7 (F := Ideal) (m ((c : Thread nD τ).loc main_arg0))) ∗ (∃ A : Vec Ideal S1024x1280 .f32, ⌜asd m c ≠ 0 → ∀ y, A y = accS m c (t.val + 1) y⌝ ∗ owns (c : Thread nD τ) scM0_1 fullShare A)) ∗ (∃ r, prngReg c r)) from rfl]
  have hN : t.val < 14 := lt_of_lt_of_eq t.isLt (show cfg0.N = 14 from N_0)
  by_cases h0 : t.val % 14 = 0
  · have h1 : ¬ t.val % 14 = 13 := by omega
    have ht : t.val = 0 := by omega
    have hP : Phi m c t.val = Pipeline.ΦA spec0 c := by rw [ht]; rfl
    rw [hP, PhiA0_eq, leavesT_14A m c t ((hcond0_0 t).mpr h0) (fun h => h1 ((hcond0_1 t).mp h))]
    iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    have hcs : csA c t ((hcond0_0 t).mpr h0) (fun h => h1 ((hcond0_1 t).mp h)) (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t) = k0_pay7 (F := Ideal) (m ((c : Thread nD τ).loc main_arg0)) := by rw [csA_apply, ib0_eq]
    iapply (triA c t ((hcond0_0 t).mpr h0) (fun h => h1 ((hcond0_1 t).mp h)) (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t) ((datsT m 0 c).before 14 t d14) _)
    unfold insOwn
    isplitl [H0 H1 H2 H3 H4 H5 H6 H7 H8 H9 H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexists _; iexact H13
    isplitl [H14]; · iexact H14
    isplitl [HS0]; · iexists _; iexact HS0
    isplitl [HS1]; · iexists _; iexact HS1
    rw [hcs]
    iintro ⟨⟨H0, H1, H2, H3, H4, H5, H6, H7, H8, H9, H10, H11, H12⟩, H13, H14, HS0, HS1⟩
    isplitl [HS0 HS1 Hg]
    · isplitl [HS0 HS1]
      · isplitl [HS0]; · iexact HS0
        iexists (accA c t ((hcond0_0 t).mpr h0) (fun h => h1 ((hcond0_1 t).mp h)) (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t)); isplitr
        · ipureintro; exact sumA m c t ((hcond0_0 t).mpr h0) (fun h => h1 ((hcond0_1 t).mp h)) d1 d4 d2 d3 d5 d6 d8 (by omega)
        iexact HS1
      iexact Hg
    isplitl [Ho]; · iexact Ho
    isplitl [H0]; · iexact H0
    isplitl [H1]; · iexists d1; iexact H1
    isplitl [H2]; · iexists d2; iexact H2
    isplitl [H3]; · iexists d3; iexact H3
    isplitl [H4]; · iexists d4; iexact H4
    isplitl [H5]; · iexists d5; iexact H5
    isplitl [H6]; · iexists d6; iexact H6
    isplitl [H7]; · iexact H7
    isplitl [H8]; · iexists d8; iexact H8
    isplitl [H9]; · iexact H9
    isplitl [H10]; · iexact H10
    isplitl [H11]; · iexact H11
    isplitl [H12]; · iexact H12
    isplitl [H13]; · iapply (leavesT_13 m c t _ (codesA m c t ((hcond0_0 t).mpr h0) (fun h => h1 ((hcond0_1 t).mp h)) d1 d4 d2 d3 d5 d6 d8)); iexact H13
    iexists d14; iexact H14
  · by_cases h1 : t.val % 14 = 13
    · skip
      obtain ⟨n, hn⟩ : ∃ n, t.val = n + 1 := ⟨t.val - 1, by omega⟩
      have hP : Phi m c t.val = iprop((owns (c : Thread nD τ) scM0_0 fullShare (k0_pay7 (F := Ideal) (m ((c : Thread nD τ).loc main_arg0))) ∗ (∃ A : Vec Ideal S1024x1280 .f32, ⌜asd m c ≠ 0 → ∀ y, A y = accS m c t.val y⌝ ∗ owns (c : Thread nD τ) scM0_1 fullShare A)) ∗ (∃ r, prngReg c r)) := by rw [hn]; rfl
      rw [hP, leavesT_14C m c t (fun h => h0 ((hcond0_0 t).mp h)) ((hcond0_1 t).mpr h1)]
      generalize hs0 : k0_pay7 (F := Ideal) (m ((c : Thread nD τ).loc main_arg0)) = s0
      iintro ⟨⟨⟨HS0, ⟨%s1, %ha, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      have hy := resC m c t (fun h => h0 ((hcond0_0 t).mp h)) ((hcond0_1 t).mpr h1) d1 d4 d2 d3 d5 d6 d8 s0 s1 hs0.symm ha (by omega)
      iapply (triC c t (fun h => h0 ((hcond0_0 t).mp h)) ((hcond0_1 t).mpr h1) (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t) s0 s1 _)
      unfold insOwn
      isplitl [H0 H1 H2 H3 H4 H5 H6 H7 H8 H9 H10 H11 H12]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      isplitl [H13]; · iexists _; iexact H13
      isplitl [H14]; · iexists _; iexact H14
      isplitl [HS0]; · iexact HS0
      isplitl [HS1]; · iexact HS1
      rw [hy]
      iintro ⟨⟨H0, H1, H2, H3, H4, H5, H6, H7, H8, H9, H10, H11, H12⟩, H13, H14, HS0, HS1⟩
      isplitl [HS0 HS1 Hg]
      · isplitl [HS0 HS1]
        · isplitl [HS0]; · iexact HS0
          iexists (accC c t (fun h => h0 ((hcond0_0 t).mp h)) ((hcond0_1 t).mpr h1) (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t) s0 s1); isplitr
          · ipureintro; exact sumC m c t (fun h => h0 ((hcond0_0 t).mp h)) ((hcond0_1 t).mpr h1) d1 d4 d2 d3 d5 d6 d8 s0 s1 hs0.symm ha
          iexact HS1
        iexact Hg
      isplitl [Ho]; · iexact Ho
      isplitl [H0]; · iexact H0
      isplitl [H1]; · iexists d1; iexact H1
      isplitl [H2]; · iexists d2; iexact H2
      isplitl [H3]; · iexists d3; iexact H3
      isplitl [H4]; · iexists d4; iexact H4
      isplitl [H5]; · iexists d5; iexact H5
      isplitl [H6]; · iexists d6; iexact H6
      isplitl [H7]; · iexact H7
      isplitl [H8]; · iexists d8; iexact H8
      isplitl [H9]; · iexact H9
      isplitl [H10]; · iexact H10
      isplitl [H11]; · iexact H11
      isplitl [H12]; · iexact H12
      isplitl [H13]; · iapply (leavesT_13 m c t _ (codesC m c t (fun h => h0 ((hcond0_0 t).mp h)) ((hcond0_1 t).mpr h1) d1 d4 d2 d3 d5 d6 d8 s0 s1 hs0.symm)); iexact H13
      iexact H14
    · skip
      obtain ⟨n, hn⟩ : ∃ n, t.val = n + 1 := ⟨t.val - 1, by omega⟩
      have hP : Phi m c t.val = iprop((owns (c : Thread nD τ) scM0_0 fullShare (k0_pay7 (F := Ideal) (m ((c : Thread nD τ).loc main_arg0))) ∗ (∃ A : Vec Ideal S1024x1280 .f32, ⌜asd m c ≠ 0 → ∀ y, A y = accS m c t.val y⌝ ∗ owns (c : Thread nD τ) scM0_1 fullShare A)) ∗ (∃ r, prngReg c r)) := by rw [hn]; rfl
      rw [hP, leavesT_14B m c t (fun h => h0 ((hcond0_0 t).mp h)) (fun h => h1 ((hcond0_1 t).mp h))]
      generalize hs0 : k0_pay7 (F := Ideal) (m ((c : Thread nD τ).loc main_arg0)) = s0
      iintro ⟨⟨⟨HS0, ⟨%s1, %ha, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (triB c t (fun h => h0 ((hcond0_0 t).mp h)) (fun h => h1 ((hcond0_1 t).mp h)) (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t) s0 s1 ((datsT m 0 c).before 14 t d14) _)
      unfold insOwn
      isplitl [H0 H1 H2 H3 H4 H5 H6 H7 H8 H9 H10 H11 H12]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      isplitl [H13]; · iexists _; iexact H13
      isplitl [H14]; · iexact H14
      isplitl [HS0]; · iexact HS0
      isplitl [HS1]; · iexact HS1
      iintro ⟨⟨H0, H1, H2, H3, H4, H5, H6, H7, H8, H9, H10, H11, H12⟩, H13, H14, HS0, HS1⟩
      isplitl [HS0 HS1 Hg]
      · isplitl [HS0 HS1]
        · isplitl [HS0]; · iexact HS0
          iexists (accB c t (fun h => h0 ((hcond0_0 t).mp h)) (fun h => h1 ((hcond0_1 t).mp h)) (iblk m c 0 t) (xf1 m c t d1) (xf2 m c t d2) (xf3 m c t d3) (xf4 m c t d4) (xf5 m c t d5) (xf6 m c t d6) (iblk m c 7 t) (xf8 m c t d8) (iblk m c 9 t) (iblk m c 10 t) (iblk m c 11 t) (iblk m c 12 t) s0 s1); isplitr
          · ipureintro; exact sumB m c t (fun h => h0 ((hcond0_0 t).mp h)) (fun h => h1 ((hcond0_1 t).mp h)) d1 d4 d2 d3 d5 d6 d8 s0 s1 hs0.symm ha
          iexact HS1
        iexact Hg
      isplitl [Ho]; · iexact Ho
      isplitl [H0]; · iexact H0
      isplitl [H1]; · iexists d1; iexact H1
      isplitl [H2]; · iexists d2; iexact H2
      isplitl [H3]; · iexists d3; iexact H3
      isplitl [H4]; · iexists d4; iexact H4
      isplitl [H5]; · iexists d5; iexact H5
      isplitl [H6]; · iexists d6; iexact H6
      isplitl [H7]; · iexact H7
      isplitl [H8]; · iexists d8; iexact H8
      isplitl [H9]; · iexact H9
      isplitl [H10]; · iexact H10
      isplitl [H11]; · iexact H11
      isplitl [H12]; · iexact H12
      isplitl [H13]; · iapply (leavesT_13 m c t _ (codesB m c t (fun h => h0 ((hcond0_0 t).mp h)) (fun h => h1 ((hcond0_1 t).mp h)) d1 d4 d2 d3 d5 d6 d8 s0 s1 hs0.symm)); iexact H13
      iexists d14; iexact H14

theorem obligationT (c : Dev nD) : BodyObligationLoose (datsT m 0 c) (defs₀ (F := Ideal)) Variants.none () Set.univ := fun t => by
  rw [bigSep_W0, bigSep_W0, defs₀_row]
  exact triple_restated (soundT m c t) rfl .rfl fun _ => .rfl

theorem PhiT_out (c : Dev nD) (n : ℕ) : Phi m c n ⊢ Pipeline.ΦA spec0 c := by
  cases n with
  | zero => exact .rfl
  | succ n =>
    rw [PhiA0_eq]
    show iprop((_ ∗ (∃ A, ⌜_⌝ ∗ _)) ∗ _) ⊢ _
    iintro ⟨⟨HS0, ⟨%s1, %ha, HS1⟩⟩, Hg⟩
    isplitl [HS0 HS1]
    · isplitl [HS0]; · iexists _; iexact HS0
      iexists _; iexact HS1
    iexact Hg

set_option backward.isDefEq.respectTransparency.types false in
theorem run_track : θ_run defs (onTc (τ := τ) (main (F := Ideal))) (s₀ m ρ) (fun r => (Pipeline.FramePost cfgs (datsT m) 0 (V m)) r ∧ r.2.sem = fun _ => 0) :=
  Pipeline.θ_run_frame_track (Q' := _) cfgs (datsT m) (0 : Fin 1) launch0 defs₀ Variants.none m ρ main
    (hbody := obligationT m) (hshare := fun c => (datsT m 0 c).share_full fun _ => rfl)
    (howed := fun _ _ => rfl) (V := V m) (hmain := hmain m Variants.none) (hA := AT_eq m)
    (hin := fun c => .rfl) (hout := fun c => PhiT_out m c cfg0.N)

theorem arr13 (c : Dev nD) : (datsT m 0 c).arrAt 13 cfg0.N = GC m c := by
  refine (datsT m 0 c).arrAt_eq_of_covers 13 _ (by decide +kernel) fun t _ y => ?_
  blk_simp
  rw [afterT_13]
  have hx := (xsz t).2.2.2.2.2.2.2
  have e1 : (y 1).val < 3420 - 256 * t.val := by
    have : (y 1).val < win0_13.xsize (grid0.coords t) 1 := (y 1).isLt
    rw [hx] at this
    exact lt_of_lt_of_le this (min_le_right _ _)
  have e2 : 256 * t.val + (((cfg0.win 13).xinj (cfg0.grid.coords t) y) 1).val < 3420 := by
    show 256 * t.val + (y 1).val < 3420
    omega
  unfold after13
  rw [dif_pos e2]
  blk_point [idx t]

theorem arr14 (c : Dev nD) : (datsT m 0 c).arrAt 14 cfg0.N = GY m c := by
  refine (datsT m 0 c).arrAt_eq_of_after_last 14 t0_13 (by decide +kernel) _ fun j => ?_
  rw [afterT_14]
  rfl

end Cert.KernelMlpIdeal.Track

end
-- ==== Proof.ClaimMlp.lean ====
module

public import proofs.«01_k».proof.Defs
public import proofs.«01_k».proof.Proof.Gen.KernelMlp.Skeleton
public import proofs.«01_k».proof.Proof.Gen.KernelMlpIdeal.Skeleton
public import proofs.«01_k».proof.Proof.Gen.ReferenceMlpIdeal.Value
public import proofs.«01_k».proof.Proof.MlpFrameBits
public import proofs.«01_k».proof.Proof.MlpTrack

@[expose] public section

set_option maxRecDepth 16384

noncomputable section

open Idealize.ShloMosaic Idealize.ShloMosaic.TcCoe Idealize.SL.Sem

namespace Cert.ClaimMlp

open Cert.ReferenceMlpIdeal.RefValue (Y Codes)
open Cert.KernelMlpIdeal.Gen

set_option maxHeartbeats 2000000 in
/-- The MLP call and its reference, from equal arguments, both run and end with equal results: the codes of the gated
    activation and the layer's output. -/
theorem algebraic : Cert.algebraic_KernelMlpIdeal_ReferenceMlpIdeal
    (hKernelMlpIdeal := Cert.KernelMlpIdeal.Gen.facts) (hReferenceMlpIdeal := Cert.ReferenceMlpIdeal.Gen.facts) := by
  intro m g m' g' _ hargs
  refine ⟨fun c => Codes (m (c.tc.loc Cert.KernelMlpIdeal.main_arg0)) (m (c.tc.loc Cert.KernelMlpIdeal.main_arg1)) (m (c.tc.loc Cert.KernelMlpIdeal.main_arg2)) (m (c.tc.loc Cert.KernelMlpIdeal.main_arg3)) (m (c.tc.loc Cert.KernelMlpIdeal.main_arg4)) (m (c.tc.loc Cert.KernelMlpIdeal.main_arg5)) (m (c.tc.loc Cert.KernelMlpIdeal.main_arg6)) (m (c.tc.loc Cert.KernelMlpIdeal.main_arg7)) (m (c.tc.loc Cert.KernelMlpIdeal.main_arg11)),
    fun c => Y (m (c.tc.loc Cert.KernelMlpIdeal.main_arg0)) (m (c.tc.loc Cert.KernelMlpIdeal.main_arg1)) (m (c.tc.loc Cert.KernelMlpIdeal.main_arg2)) (m (c.tc.loc Cert.KernelMlpIdeal.main_arg3)) (m (c.tc.loc Cert.KernelMlpIdeal.main_arg4)) (m (c.tc.loc Cert.KernelMlpIdeal.main_arg5)) (m (c.tc.loc Cert.KernelMlpIdeal.main_arg6)) (m (c.tc.loc Cert.KernelMlpIdeal.main_arg7)) (m (c.tc.loc Cert.KernelMlpIdeal.main_arg8)) (m (c.tc.loc Cert.KernelMlpIdeal.main_arg9)) (m (c.tc.loc Cert.KernelMlpIdeal.main_arg10)) (m (c.tc.loc Cert.KernelMlpIdeal.main_arg11)) (m (c.tc.loc Cert.KernelMlpIdeal.main_arg12)), ?_, ?_⟩
  · refine (θ_run Cert.KernelMlpIdeal.defs _ _).mono ?_ (Cert.KernelMlpIdeal.Track.run_track m g)
    rintro r ⟨h, -⟩ c
    have e13 := ((h c).1 13).trans (Cert.KernelMlpIdeal.Track.arr13 m c)
    have e14 := ((h c).1 14).trans (Cert.KernelMlpIdeal.Track.arr14 m c)
    unfold Cert.KernelMlpIdeal.Body.GC at e13
    unfold Cert.KernelMlpIdeal.Body.GY at e14
    refine ⟨e13, e14,
      ((h c).1 0).trans (((Cert.KernelMlpIdeal.Track.datsT m 0 c).arrAt_in 0 rfl _).trans ((Cert.KernelMlpIdeal.Track.AT_eq m c 0).trans (V_main_arg0 m c))),
      ((h c).1 1).trans (((Cert.KernelMlpIdeal.Track.datsT m 0 c).arrAt_in 1 rfl _).trans ((Cert.KernelMlpIdeal.Track.AT_eq m c 1).trans (V_main_arg1 m c))),
      ((h c).2 Cert.KernelMlpIdeal.main_arg2 (Pipeline.mem_restRefs_of Cert.KernelMlpIdeal.main_arg2 (by decide) (by decide))).trans (V_main_arg2 m c),
      ((h c).2 Cert.KernelMlpIdeal.main_arg3 (Pipeline.mem_restRefs_of Cert.KernelMlpIdeal.main_arg3 (by decide) (by decide))).trans (V_main_arg3 m c),
      ((h c).1 4).trans (((Cert.KernelMlpIdeal.Track.datsT m 0 c).arrAt_in 4 rfl _).trans ((Cert.KernelMlpIdeal.Track.AT_eq m c 4).trans (V_main_arg4 m c))),
      ((h c).2 Cert.KernelMlpIdeal.main_arg5 (Pipeline.mem_restRefs_of Cert.KernelMlpIdeal.main_arg5 (by decide) (by decide))).trans (V_main_arg5 m c),
      ((h c).2 Cert.KernelMlpIdeal.main_arg6 (Pipeline.mem_restRefs_of Cert.KernelMlpIdeal.main_arg6 (by decide) (by decide))).trans (V_main_arg6 m c),
      ((h c).2 Cert.KernelMlpIdeal.main_arg7 (Pipeline.mem_restRefs_of Cert.KernelMlpIdeal.main_arg7 (by decide) (by decide))).trans (V_main_arg7 m c),
      ((h c).1 8).trans (((Cert.KernelMlpIdeal.Track.datsT m 0 c).arrAt_in 8 rfl _).trans ((Cert.KernelMlpIdeal.Track.AT_eq m c 8).trans (V_main_arg8 m c))),
      ((h c).2 Cert.KernelMlpIdeal.main_arg9 (Pipeline.mem_restRefs_of Cert.KernelMlpIdeal.main_arg9 (by decide) (by decide))).trans (V_main_arg9 m c),
      ((h c).2 Cert.KernelMlpIdeal.main_arg10 (Pipeline.mem_restRefs_of Cert.KernelMlpIdeal.main_arg10 (by decide) (by decide))).trans (V_main_arg10 m c),
      ((h c).2 Cert.KernelMlpIdeal.main_arg11 (Pipeline.mem_restRefs_of Cert.KernelMlpIdeal.main_arg11 (by decide) (by decide))).trans (V_main_arg11 m c),
      ((h c).1 12).trans (((Cert.KernelMlpIdeal.Track.datsT m 0 c).arrAt_in 12 rfl _).trans ((Cert.KernelMlpIdeal.Track.AT_eq m c 12).trans (V_main_arg12 m c)))⟩
  · refine (θ_run Cert.ReferenceMlpIdeal.defs _ _).mono ?_ (Cert.ReferenceMlpIdeal.Value.run_blocks m' g')
    intro r h c
    obtain ⟨h0, h1, h⟩ := h c
    obtain ⟨a0, a1, a2, a3, a4, a5, a6, a7, a8, a9, a10, a11, a12⟩ := hargs c
    refine ⟨h0.trans ((Cert.ReferenceMlpIdeal.RefValue.final13 m' c).trans ?_),
      h1.trans ((Cert.ReferenceMlpIdeal.RefValue.final14 m' c).trans ?_), h⟩
    · rw [a0, a1, a2, a3, a4, a5, a6, a7, a11]
    · rw [a0, a1, a2, a3, a4, a5, a6, a7, a8, a9, a10, a11, a12]

end Cert.ClaimMlp

end
-- ==== Proof.QkvRunsBits.lean ====
/-
  What the runs of the query/key/value body are stated over: the branch conditions in closed form over the points, where
  the windows are idle, and the staging and scratch buffers.
-/
module

public import proofs.«01_k».proof.Proof.Gen.KernelQkv.Frame
public import proofs.«01_k».proof.Proof.Gen.KernelQkv.Launch
public import proofs.«01_k».proof.Proof.Gen.KernelQkv.Skeleton
public import proofs.«01_k».proof.Proof.Gen.KernelQkv.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelQkv.Body

open Cert.KernelQkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

abbrev cond0_0 (i : grid0.Coords) : Prop := k0_cond1 i = 1#1
theorem hcond0_0 : ∀ t : Fin cfg0.N, cond0_0 (grid0.coords t) ↔ t.val % 3 = 0 := by
  decide +kernel

abbrev cond0_1 (i : grid0.Coords) : Prop := k0_cond2 i = 1#1
theorem hcond0_1 : ∀ t : Fin cfg0.N, cond0_1 (grid0.coords t) ↔ t.val % 3 < 2 := by
  decide +kernel

abbrev cond0_2 (i : grid0.Coords) : Prop := k0_cond3 i = 1#1
theorem hcond0_2 : ∀ t : Fin cfg0.N, cond0_2 (grid0.coords t) ↔ t.val % 3 = 2 := by
  decide +kernel

theorem liveAt0_0 : ∀ t : Fin cfg0.N, cfg0.idle 0 (grid0.coords t) = false := by exact fun _ => rfl
theorem liveAt0_1 : ∀ t : Fin cfg0.N, cfg0.idle 1 (grid0.coords t) = false := by exact fun _ => rfl
theorem liveAt0_2 : ∀ t : Fin cfg0.N, cfg0.idle 2 (grid0.coords t) = false := by exact fun _ => rfl
theorem liveAt0_3 : ∀ t : Fin cfg0.N, cfg0.idle 3 (grid0.coords t) = false := by exact fun _ => rfl
theorem liveAt0_4 : ∀ t : Fin cfg0.N, cfg0.idle 4 (grid0.coords t) = false := by exact fun _ => rfl
theorem liveAt0_5 : ∀ t : Fin cfg0.N, cfg0.idle 5 (grid0.coords t) = false := by exact fun _ => rfl
theorem liveAt0_6 : ∀ t : Fin cfg0.N, cfg0.idle 6 (grid0.coords t) = false := by exact fun _ => rfl
theorem liveAt0_7 : ∀ t : Fin cfg0.N, cfg0.idle 7 (grid0.coords t) = false := by exact fun _ => rfl
theorem liveAt0_8 : ∀ t : Fin cfg0.N, cfg0.idle 8 (grid0.coords t) = false := by exact fun _ => rfl
theorem liveAt0_10 : ∀ t : Fin cfg0.N, cfg0.idle 10 (grid0.coords t) = false := by decide +kernel
theorem liveAt0_9 : ∀ t : Fin cfg0.N, t.val % 3 = 0 → cfg0.idle 9 (grid0.coords t) = false := by decide +kernel
theorem idleAt0_9 : ∀ t : Fin cfg0.N, ¬ t.val % 3 = 0 → cfg0.idle 9 (grid0.coords t) = true := by decide +kernel

abbrev VO0_9 : View sig .tc .vmem S1024x1280 .i8 := (Memref.whole cc0_stg9_0 : Memref sig .tc .vmem S1024x1280 .i8).view
abbrev VO0_10 : View sig .tc .vmem S1024x1280 .bf16 := (Memref.whole cc0_stg10_0 : Memref sig .tc .vmem S1024x1280 .bf16).view
/-! Each window's current staging buffer at point `t`, and its wholeness. -/

abbrev ms0_0 (t : Fin cfg0.N) : Memref sig .tc .vmem S1024x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x1280 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1280 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x640 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x640 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1280 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1280 .bf16 := win0_10.stage (cfg0.slots t 10)
abbrev hs0_10 (t : Fin cfg0.N) : (ms0_10 t).IsWhole := hstage0_10 ((cfg0.slots t 10).cast nbuf0_10)
abbrev scM0_0 : Memref sig .tc .vmem S1024x1280 .bf16 := Memref.whole cc0_scratch0
abbrev VS0_0 : View sig .tc .vmem S1024x1280 .bf16 := scM0_0.view

theorem PhiA0_eq (c : Dev nD) :
    (Pipeline.ΦA spec0 c : sProp (MT nD τ sig Unit (Elt F) ℕ (UR sig nD τ) ℕ)) = iprop((∃ d, owns (c : Thread nD τ) scM0_0 fullShare d) ∗ (∃ r, prngReg c r)) := by
  unfold Pipeline.ΦA; rw [scopedRest0_eq]; simp only [scM0_0, owns_whole]; try rfl

end Cert.KernelQkv.Body

end
-- ==== Proof.QkvRunABits.lean ====
/-
  The query/key/value body run at the first point.
-/
module

public import proofs.«01_k».proof.Proof.QkvRunsBits

@[expose] public section

set_option maxRecDepth 16384

noncomputable section

namespace Cert.KernelQkv.Body

open Cert.KernelQkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

-- (the run's proof term is large: closing the definition walks it past the default budget)
set_option maxHeartbeats 4000000 in
noncomputable def kernelRun0_A (c : Dev nD) (i : grid0.Coords) (arg1 : Memref sig .tc .vmem S1024x1280 .bf16) (harg1 : arg1.IsWhole) (arg2 : Memref sig .tc .vmem S1x1280 .f32) (harg2 : arg2.IsWhole) (arg3 : Memref sig .tc .vmem S1x1280 .f32) (harg3 : arg3.IsWhole) (arg4 : Memref sig .tc .vmem S1x1 .f32) (harg4 : arg4.IsWhole) (arg5 : Memref sig .tc .vmem S1280x1280 .i8) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1024x640 .f32) (harg8 : arg8.IsWhole) (arg9 : Memref sig .tc .vmem S1024x640 .f32) (harg9 : arg9.IsWhole) (arg10 : Memref sig .tc .vmem S1024x1280 .i8) (harg10 : arg10.IsWhole) (arg11 : Memref sig .tc .vmem S1024x1280 .bf16) (harg11 : arg11.IsWhole) (arg12 : Memref sig .tc .vmem S1024x1280 .bf16) (harg12 : arg12.IsWhole) (hc0 : cond0_0 i) (hc1 : cond0_1 i) (hc2 : ¬cond0_2 i)
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) :
    Σ' (L9 : List (View.Piece (Elt F) S1024x1280 .i8)), Σ' (L10 : List (View.Piece (Elt F) S1024x1280 .bf16)), { LS0 : List (View.Piece (Elt F) S1024x1280 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    have g1 : k0_cond1 i = 1#1 := hc0
    have g2 : k0_cond2 i = 1#1 := hc1
    have g4 : k0_cond4 i = 1#1 := hc1
    have g6 : k0_cond6 i = 1#1 := hc1
    have g8 : k0_cond8 i = 1#1 := hc1
    have g3 : ¬k0_cond3 i = 1#1 := hc2
    have g5 : ¬k0_cond5 i = 1#1 := hc2
    have g7 : ¬k0_cond7 i = 1#1 := hc2
    have g9 : ¬k0_cond9 i = 1#1 := hc2
    simp only [cc0_qkv_eq_skeleton]; unfold cc0_qkv_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact g1 | sl_exact g2 | sl_exact g3 | sl_exact g4 | sl_exact g5 | sl_exact g6 | sl_exact g7 | sl_exact g8 | sl_exact g9)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS0

end Cert.KernelQkv.Body

end
-- ==== Proof.QkvRunBBits.lean ====
/-
  The query/key/value body run at the second point.
-/
module

public import proofs.«01_k».proof.Proof.QkvRunABits

@[expose] public section

set_option maxRecDepth 16384

noncomputable section

namespace Cert.KernelQkv.Body

open Cert.KernelQkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

-- (the run's proof term is large: closing the definition walks it past the default budget)
set_option maxHeartbeats 4000000 in
noncomputable def kernelRun0_B (c : Dev nD) (i : grid0.Coords) (arg1 : Memref sig .tc .vmem S1024x1280 .bf16) (harg1 : arg1.IsWhole) (arg2 : Memref sig .tc .vmem S1x1280 .f32) (harg2 : arg2.IsWhole) (arg3 : Memref sig .tc .vmem S1x1280 .f32) (harg3 : arg3.IsWhole) (arg4 : Memref sig .tc .vmem S1x1 .f32) (harg4 : arg4.IsWhole) (arg5 : Memref sig .tc .vmem S1280x1280 .i8) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1024x640 .f32) (harg8 : arg8.IsWhole) (arg9 : Memref sig .tc .vmem S1024x640 .f32) (harg9 : arg9.IsWhole) (arg10 : Memref sig .tc .vmem S1024x1280 .i8) (harg10 : arg10.IsWhole) (arg11 : Memref sig .tc .vmem S1024x1280 .bf16) (harg11 : arg11.IsWhole) (arg12 : Memref sig .tc .vmem S1024x1280 .bf16) (harg12 : arg12.IsWhole) (hc0 : ¬cond0_0 i) (hc1 : cond0_1 i) (hc2 : ¬cond0_2 i)
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) :
    { L10 : List (View.Piece (Elt F) S1024x1280 .bf16) //
      ∀ (xi9 : Vec F S1024x1280 .i8) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f L10) ∗ owns (c : Thread nD τ) arg12 fullShare xs0) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨?_, fun xi9 E K => ?run⟩
  case run =>
    have g1 : ¬k0_cond1 i = 1#1 := hc0
    have g2 : k0_cond2 i = 1#1 := hc1
    have g4 : k0_cond4 i = 1#1 := hc1
    have g6 : k0_cond6 i = 1#1 := hc1
    have g8 : k0_cond8 i = 1#1 := hc1
    have g3 : ¬k0_cond3 i = 1#1 := hc2
    have g5 : ¬k0_cond5 i = 1#1 := hc2
    have g7 : ¬k0_cond7 i = 1#1 := hc2
    have g9 : ¬k0_cond9 i = 1#1 := hc2
    simp only [cc0_qkv_eq_skeleton]; unfold cc0_qkv_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs0
    sl_exec (disch := first | sl_exact g1 | sl_exact g2 | sl_exact g3 | sl_exact g4 | sl_exact g5 | sl_exact g6 | sl_exact g7 | sl_exact g8 | sl_exact g9)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    iexists _; isplitr; · ipureintro; exact harg12.read_unread _
    iexact HS0

end Cert.KernelQkv.Body

end
-- ==== Proof.QkvRunCBits.lean ====
/-
  The query/key/value body run at the last point.
-/
module

public import proofs.«01_k».proof.Proof.QkvRunBBits

@[expose] public section

set_option maxRecDepth 16384

noncomputable section

namespace Cert.KernelQkv.Body

open Cert.KernelQkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

-- (the run's proof term is large: closing the definition walks it past the default budget)
set_option maxHeartbeats 4000000 in
noncomputable def kernelRun0_C (c : Dev nD) (i : grid0.Coords) (arg1 : Memref sig .tc .vmem S1024x1280 .bf16) (harg1 : arg1.IsWhole) (arg2 : Memref sig .tc .vmem S1x1280 .f32) (harg2 : arg2.IsWhole) (arg3 : Memref sig .tc .vmem S1x1280 .f32) (harg3 : arg3.IsWhole) (arg4 : Memref sig .tc .vmem S1x1 .f32) (harg4 : arg4.IsWhole) (arg5 : Memref sig .tc .vmem S1280x1280 .i8) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1024x640 .f32) (harg8 : arg8.IsWhole) (arg9 : Memref sig .tc .vmem S1024x640 .f32) (harg9 : arg9.IsWhole) (arg10 : Memref sig .tc .vmem S1024x1280 .i8) (harg10 : arg10.IsWhole) (arg11 : Memref sig .tc .vmem S1024x1280 .bf16) (harg11 : arg11.IsWhole) (arg12 : Memref sig .tc .vmem S1024x1280 .bf16) (harg12 : arg12.IsWhole) (hc0 : ¬cond0_0 i) (hc1 : ¬cond0_1 i) (hc2 : cond0_2 i)
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) :
    { L10 : List (View.Piece (Elt F) S1024x1280 .bf16) //
      ∀ (xi9 : Vec F S1024x1280 .i8) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f L10) ∗ owns (c : Thread nD τ) arg12 fullShare xs0) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨?_, fun xi9 E K => ?run⟩
  case run =>
    have g1 : ¬k0_cond1 i = 1#1 := hc0
    have g2 : ¬k0_cond2 i = 1#1 := hc1
    have g4 : ¬k0_cond4 i = 1#1 := hc1
    have g6 : ¬k0_cond6 i = 1#1 := hc1
    have g8 : ¬k0_cond8 i = 1#1 := hc1
    have g3 : k0_cond3 i = 1#1 := hc2
    have g5 : k0_cond5 i = 1#1 := hc2
    have g7 : k0_cond7 i = 1#1 := hc2
    have g9 : k0_cond9 i = 1#1 := hc2
    simp only [cc0_qkv_eq_skeleton]; unfold cc0_qkv_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs0
    sl_exec (disch := first | sl_exact g1 | sl_exact g2 | sl_exact g3 | sl_exact g4 | sl_exact g5 | sl_exact g6 | sl_exact g7 | sl_exact g8 | sl_exact g9)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    iexists _; isplitr; · ipureintro; exact harg12.read_unread _
    iexact HS0

end Cert.KernelQkv.Body

end
-- ==== Proof.QkvTriBits.lean ====
/-
  The query/key/value body's three cases as triples on a point's own buffers: what each leaves in the codes' buffer, in
  the block of queries, keys and values, and in the scratch of codes.
-/
module

public import proofs.«01_k».proof.Proof.QkvRunCBits

@[expose] public section

set_option maxRecDepth 16384

noncomputable section

namespace Cert.KernelQkv.Body

open Cert.KernelQkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

def insOwn (c : Dev nD) (t : Fin cfg0.N) (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) : sProp (MT nD τ sig Unit (Elt F) ℕ (UR sig nD τ) ℕ) :=
  iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ owns (c : Thread nD τ) (ms0_6 t) fullShare x6 ∗ owns (c : Thread nD τ) (ms0_7 t) fullShare x7 ∗ owns (c : Thread nD τ) (ms0_8 t) fullShare x8)

abbrev runA (c : Dev nD) (t : Fin cfg0.N) (hc0 : cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) hc0 hc1 hc2 x0 x1 x2 x3 x4 x5 x6 x7 x8

def outA (c : Dev nD) (t : Fin cfg0.N) (hc0 : cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) : Vec F S1024x1280 .bf16 :=
  VO0_10.read (Elt F) (VO0_10.writes (Elt F) VO0_10.junk (runA c t hc0 hc1 hc2 x0 x1 x2 x3 x4 x5 x6 x7 x8).2.1)

theorem coverA_10 (c : Dev nD) (t : Fin cfg0.N) (hc0 : cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (y : S1024x1280.Idx) : ∃ pc ∈ (runA c t hc0 hc1 hc2 x0 x1 x2 x3 x4 x5 x6 x7 x8).2.1, y ∈ pc.1.set :=
  View.cover_of_tiledL (runA c t hc0 hc1 hc2 x0 x1 x2 x3 x4 x5 x6 x7 x8).2.1 S256x1280.size (by sl_kernel_rfl) y

def cdA (c : Dev nD) (t : Fin cfg0.N) (hc0 : cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) : Vec F S1024x1280 .i8 :=
  VO0_9.read (Elt F) (VO0_9.writes (Elt F) VO0_9.junk (runA c t hc0 hc1 hc2 x0 x1 x2 x3 x4 x5 x6 x7 x8).1)

theorem coverA_9 (c : Dev nD) (t : Fin cfg0.N) (hc0 : cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (y : S1024x1280.Idx) : ∃ pc ∈ (runA c t hc0 hc1 hc2 x0 x1 x2 x3 x4 x5 x6 x7 x8).1, y ∈ pc.1.set :=
  View.cover_of_tiledL (runA c t hc0 hc1 hc2 x0 x1 x2 x3 x4 x5 x6 x7 x8).1 S256x1280.size (by sl_kernel_rfl) y

def csA (c : Dev nD) (t : Fin cfg0.N) (hc0 : cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) : Vec F S1024x1280 .bf16 :=
  VS0_0.read (Elt F) (VS0_0.writes (Elt F) VS0_0.junk (runA c t hc0 hc1 hc2 x0 x1 x2 x3 x4 x5 x6 x7 x8).2.2.1)

theorem scoverA_0 (c : Dev nD) (t : Fin cfg0.N) (hc0 : cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (y : S1024x1280.Idx) : ∃ pc ∈ (runA c t hc0 hc1 hc2 x0 x1 x2 x3 x4 x5 x6 x7 x8).2.2.1, y ∈ pc.1.set :=
  View.cover_of_tiledL (runA c t hc0 hc1 hc2 x0 x1 x2 x3 x4 x5 x6 x7 x8).2.2.1 S256x1280.size (by sl_kernel_rfl) y

set_option maxHeartbeats 4000000 in
theorem triA (c : Dev nD) (t : Fin cfg0.N) (hc0 : cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (K : PUnit → sProp (MT nD τ sig Unit (Elt F) ℕ (UR sig nD τ) ℕ)) :
    iprop(insOwn c t x0 x1 x2 x3 x4 x5 x6 x7 x8 ∗ (∃ d, owns (c : Thread nD τ) (ms0_9 t) fullShare d) ∗ (∃ d, owns (c : Thread nD τ) (ms0_10 t) fullShare d) ∗ (∃ d, owns (c : Thread nD τ) scM0_0 fullShare d)
        ∗ (iprop(insOwn c t x0 x1 x2 x3 x4 x5 x6 x7 x8 ∗ owns (c : Thread nD τ) (ms0_9 t) fullShare (cdA c t hc0 hc1 hc2 x0 x1 x2 x3 x4 x5 x6 x7 x8) ∗ owns (c : Thread nD τ) (ms0_10 t) fullShare (outA c t hc0 hc1 hc2 x0 x1 x2 x3 x4 x5 x6 x7 x8) ∗ owns (c : Thread nD τ) scM0_0 fullShare (csA c t hc0 hc1 hc2 x0 x1 x2 x3 x4 x5 x6 x7 x8)) -∗ K ⟨⟩))
      ⊢ wp frame (wpE (defs₀ (F := F)) Variants.none c none) Set.univ (bodyAt0 t) K := by
  unfold bodyAt0 insOwn
  iintro ⟨⟨H0, H1, H2, H3, H4, H5, H6, H7, H8⟩, H9, ⟨%d10, H10⟩, HS0, Hk⟩
  iapply ((runA c t hc0 hc1 hc2 x0 x1 x2 x3 x4 x5 x6 x7 x8).2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  iintro ⟨H0, H1, H2, H3, H4, H5, H6, H7, H8, ⟨%e9, H9⟩, ⟨%e10, H10⟩, ⟨%es0, HS0⟩⟩
  iapply Hk
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]
  · unfold owns; iexists _; isplitr
    swap; · iexact H9
    ipureintro; exact View.read_writes_of_cover _ _ _ _ _ (coverA_9 c t hc0 hc1 hc2 x0 x1 x2 x3 x4 x5 x6 x7 x8)
  isplitl [H10]
  · unfold owns; iexists _; isplitr
    swap; · iexact H10
    ipureintro; exact View.read_writes_of_cover _ _ _ _ _ (coverA_10 c t hc0 hc1 hc2 x0 x1 x2 x3 x4 x5 x6 x7 x8)
  unfold owns; iexists _; isplitr
  swap; · iexact HS0
  ipureintro; exact View.read_writes_of_cover _ _ _ _ _ (scoverA_0 c t hc0 hc1 hc2 x0 x1 x2 x3 x4 x5 x6 x7 x8)

abbrev runB (c : Dev nD) (t : Fin cfg0.N) (hc0 : ¬cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) hc0 hc1 hc2 x0 x1 x2 x3 x4 x5 x6 x7 x8 xs0

def outB (c : Dev nD) (t : Fin cfg0.N) (hc0 : ¬cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) : Vec F S1024x1280 .bf16 :=
  VO0_10.read (Elt F) (VO0_10.writes (Elt F) VO0_10.junk (runB c t hc0 hc1 hc2 x0 x1 x2 x3 x4 x5 x6 x7 x8 xs0).1)

theorem coverB_10 (c : Dev nD) (t : Fin cfg0.N) (hc0 : ¬cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) (y : S1024x1280.Idx) : ∃ pc ∈ (runB c t hc0 hc1 hc2 x0 x1 x2 x3 x4 x5 x6 x7 x8 xs0).1, y ∈ pc.1.set :=
  View.cover_of_tiledL (runB c t hc0 hc1 hc2 x0 x1 x2 x3 x4 x5 x6 x7 x8 xs0).1 S256x1280.size (by sl_kernel_rfl) y

set_option maxHeartbeats 4000000 in
theorem triB (c : Dev nD) (t : Fin cfg0.N) (hc0 : ¬cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) (xi9 : Vec F S1024x1280 .i8) (K : PUnit → sProp (MT nD τ sig Unit (Elt F) ℕ (UR sig nD τ) ℕ)) :
    iprop(insOwn c t x0 x1 x2 x3 x4 x5 x6 x7 x8 ∗ owns (c : Thread nD τ) (ms0_9 t) fullShare xi9 ∗ (∃ d, owns (c : Thread nD τ) (ms0_10 t) fullShare d) ∗ owns (c : Thread nD τ) scM0_0 fullShare xs0
        ∗ (iprop(insOwn c t x0 x1 x2 x3 x4 x5 x6 x7 x8 ∗ owns (c : Thread nD τ) (ms0_9 t) fullShare xi9 ∗ owns (c : Thread nD τ) (ms0_10 t) fullShare (outB c t hc0 hc1 hc2 x0 x1 x2 x3 x4 x5 x6 x7 x8 xs0) ∗ owns (c : Thread nD τ) scM0_0 fullShare xs0) -∗ K ⟨⟩))
      ⊢ wp frame (wpE (defs₀ (F := F)) Variants.none c none) Set.univ (bodyAt0 t) K := by
  unfold bodyAt0 insOwn
  iintro ⟨⟨H0, H1, H2, H3, H4, H5, H6, H7, H8⟩, H9, ⟨%d10, H10⟩, HS0, Hk⟩
  iapply ((runB c t hc0 hc1 hc2 x0 x1 x2 x3 x4 x5 x6 x7 x8 xs0).2 xi9 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  iintro ⟨H0, H1, H2, H3, H4, H5, H6, H7, H8, H9, ⟨%e10, H10⟩, HS0⟩
  iapply Hk
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [H10]
  · unfold owns; iexists _; isplitr
    swap; · iexact H10
    ipureintro; exact View.read_writes_of_cover _ _ _ _ _ (coverB_10 c t hc0 hc1 hc2 x0 x1 x2 x3 x4 x5 x6 x7 x8 xs0)
  iexact HS0

abbrev runC (c : Dev nD) (t : Fin cfg0.N) (hc0 : ¬cond0_0 (grid0.coords t)) (hc1 : ¬cond0_1 (grid0.coords t)) (hc2 : cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) hc0 hc1 hc2 x0 x1 x2 x3 x4 x5 x6 x7 x8 xs0

def outC (c : Dev nD) (t : Fin cfg0.N) (hc0 : ¬cond0_0 (grid0.coords t)) (hc1 : ¬cond0_1 (grid0.coords t)) (hc2 : cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) : Vec F S1024x1280 .bf16 :=
  VO0_10.read (Elt F) (VO0_10.writes (Elt F) VO0_10.junk (runC c t hc0 hc1 hc2 x0 x1 x2 x3 x4 x5 x6 x7 x8 xs0).1)

theorem coverC_10 (c : Dev nD) (t : Fin cfg0.N) (hc0 : ¬cond0_0 (grid0.coords t)) (hc1 : ¬cond0_1 (grid0.coords t)) (hc2 : cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) (y : S1024x1280.Idx) : ∃ pc ∈ (runC c t hc0 hc1 hc2 x0 x1 x2 x3 x4 x5 x6 x7 x8 xs0).1, y ∈ pc.1.set :=
  View.cover_of_tiledL (runC c t hc0 hc1 hc2 x0 x1 x2 x3 x4 x5 x6 x7 x8 xs0).1 S256x1280.size (by sl_kernel_rfl) y

set_option maxHeartbeats 4000000 in
theorem triC (c : Dev nD) (t : Fin cfg0.N) (hc0 : ¬cond0_0 (grid0.coords t)) (hc1 : ¬cond0_1 (grid0.coords t)) (hc2 : cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) (xi9 : Vec F S1024x1280 .i8) (K : PUnit → sProp (MT nD τ sig Unit (Elt F) ℕ (UR sig nD τ) ℕ)) :
    iprop(insOwn c t x0 x1 x2 x3 x4 x5 x6 x7 x8 ∗ owns (c : Thread nD τ) (ms0_9 t) fullShare xi9 ∗ (∃ d, owns (c : Thread nD τ) (ms0_10 t) fullShare d) ∗ owns (c : Thread nD τ) scM0_0 fullShare xs0
        ∗ (iprop(insOwn c t x0 x1 x2 x3 x4 x5 x6 x7 x8 ∗ owns (c : Thread nD τ) (ms0_9 t) fullShare xi9 ∗ owns (c : Thread nD τ) (ms0_10 t) fullShare (outC c t hc0 hc1 hc2 x0 x1 x2 x3 x4 x5 x6 x7 x8 xs0) ∗ owns (c : Thread nD τ) scM0_0 fullShare xs0) -∗ K ⟨⟩))
      ⊢ wp frame (wpE (defs₀ (F := F)) Variants.none c none) Set.univ (bodyAt0 t) K := by
  unfold bodyAt0 insOwn
  iintro ⟨⟨H0, H1, H2, H3, H4, H5, H6, H7, H8⟩, H9, ⟨%d10, H10⟩, HS0, Hk⟩
  iapply ((runC c t hc0 hc1 hc2 x0 x1 x2 x3 x4 x5 x6 x7 x8 xs0).2 xi9 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  iintro ⟨H0, H1, H2, H3, H4, H5, H6, H7, H8, H9, ⟨%e10, H10⟩, HS0⟩
  iapply Hk
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [H10]
  · unfold owns; iexists _; isplitr
    swap; · iexact H10
    ipureintro; exact View.read_writes_of_cover _ _ _ _ _ (coverC_10 c t hc0 hc1 hc2 x0 x1 x2 x3 x4 x5 x6 x7 x8 xs0)
  iexact HS0

end Cert.KernelQkv.Body

end
-- ==== Proof.QkvFrameBits.lean ====
/-
  The frame of the query/key/value kernel: at every point the body keeps its inputs' buffers and leaves something in the
  others, so the program terminates with its arguments as they were.
-/
module

public import proofs.«01_k».proof.Proof.QkvTriBits

@[expose] public section

set_option maxRecDepth 16384

noncomputable section

namespace Cert.KernelQkv.Body

open Cert.KernelQkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

def fgt : Fin cfg0.W → Bool := fun w => decide (9 ≤ w.val)

def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => fun _ => (0#8 : BitVec 8)
    | ⟨10, _⟩ => fun _ => Scalar.ofBits .bf16 0#16
  Φ _ := Pipeline.ΦA spec0 c
  q _ := fullShare
  owed _ := 0

theorem AF_eq (c : Dev nD) (w : Fin cfg0.W) : (datsF m 0 c).A w = V m c (Pipeline.arrRef spec0 w) := by dsimp only [datsF]

theorem afterF_0 (c : Dev nD) (t : Fin cfg0.N) : (datsF m 0 c).after 0 t = iblk m c 0 t := by dsimp only [datsF]
theorem afterF_1 (c : Dev nD) (t : Fin cfg0.N) : (datsF m 0 c).after 1 t = iblk m c 1 t := by dsimp only [datsF]
theorem afterF_2 (c : Dev nD) (t : Fin cfg0.N) : (datsF m 0 c).after 2 t = iblk m c 2 t := by dsimp only [datsF]
theorem afterF_3 (c : Dev nD) (t : Fin cfg0.N) : (datsF m 0 c).after 3 t = iblk m c 3 t := by dsimp only [datsF]
theorem afterF_4 (c : Dev nD) (t : Fin cfg0.N) : (datsF m 0 c).after 4 t = iblk m c 4 t := by dsimp only [datsF]
theorem afterF_5 (c : Dev nD) (t : Fin cfg0.N) : (datsF m 0 c).after 5 t = iblk m c 5 t := by dsimp only [datsF]
theorem afterF_6 (c : Dev nD) (t : Fin cfg0.N) : (datsF m 0 c).after 6 t = iblk m c 6 t := by dsimp only [datsF]
theorem afterF_7 (c : Dev nD) (t : Fin cfg0.N) : (datsF m 0 c).after 7 t = iblk m c 7 t := by dsimp only [datsF]
theorem afterF_8 (c : Dev nD) (t : Fin cfg0.N) : (datsF m 0 c).after 8 t = iblk m c 8 t := by dsimp only [datsF]
theorem beforeF_0 (c : Dev nD) (t : Fin cfg0.N) (d) : (datsF m 0 c).before 0 t d = iblk m c 0 t :=
  before0_0_of m (datsF m 0 c) (AF_eq m c 0) (afterF_0 m c) t d
theorem beforeF_1 (c : Dev nD) (t : Fin cfg0.N) (d) : (datsF m 0 c).before 1 t d = iblk m c 1 t :=
  before0_1_of m (datsF m 0 c) (AF_eq m c 1) (afterF_1 m c) t d
theorem beforeF_2 (c : Dev nD) (t : Fin cfg0.N) (d) : (datsF m 0 c).before 2 t d = iblk m c 2 t :=
  before0_2_of m (datsF m 0 c) (AF_eq m c 2) (afterF_2 m c) t d
theorem beforeF_3 (c : Dev nD) (t : Fin cfg0.N) (d) : (datsF m 0 c).before 3 t d = iblk m c 3 t :=
  before0_3_of m (datsF m 0 c) (AF_eq m c 3) (afterF_3 m c) t d
theorem beforeF_4 (c : Dev nD) (t : Fin cfg0.N) (d) : (datsF m 0 c).before 4 t d = iblk m c 4 t :=
  before0_4_of m (datsF m 0 c) (AF_eq m c 4) (afterF_4 m c) t d
theorem beforeF_5 (c : Dev nD) (t : Fin cfg0.N) (d) : (datsF m 0 c).before 5 t d = iblk m c 5 t :=
  before0_5_of m (datsF m 0 c) (AF_eq m c 5) (afterF_5 m c) t d
theorem beforeF_6 (c : Dev nD) (t : Fin cfg0.N) (d) : (datsF m 0 c).before 6 t d = iblk m c 6 t :=
  before0_6_of m (datsF m 0 c) (AF_eq m c 6) (afterF_6 m c) t d
theorem beforeF_7 (c : Dev nD) (t : Fin cfg0.N) (d) : (datsF m 0 c).before 7 t d = iblk m c 7 t :=
  before0_7_of m (datsF m 0 c) (AF_eq m c 7) (afterF_7 m c) t d
theorem beforeF_8 (c : Dev nD) (t : Fin cfg0.N) (d) : (datsF m 0 c).before 8 t d = iblk m c 8 t :=
  before0_8_of m (datsF m 0 c) (AF_eq m c 8) (afterF_8 m c) t d
theorem leavesF_0 (c : Dev nD) (t : Fin cfg0.N) : (datsF m 0 c).leaves 0 t = owns (c : Thread nD τ) (ms0_0 t) fullShare (iblk m c 0 t) := by
  unfold Dat.leaves; rw [liveAt0_0 t, afterF_0]
theorem leavesF_1 (c : Dev nD) (t : Fin cfg0.N) : (datsF m 0 c).leaves 1 t = owns (c : Thread nD τ) (ms0_1 t) fullShare (iblk m c 1 t) := by
  unfold Dat.leaves; rw [liveAt0_1 t, afterF_1]
theorem leavesF_2 (c : Dev nD) (t : Fin cfg0.N) : (datsF m 0 c).leaves 2 t = owns (c : Thread nD τ) (ms0_2 t) fullShare (iblk m c 2 t) := by
  unfold Dat.leaves; rw [liveAt0_2 t, afterF_2]
theorem leavesF_3 (c : Dev nD) (t : Fin cfg0.N) : (datsF m 0 c).leaves 3 t = owns (c : Thread nD τ) (ms0_3 t) fullShare (iblk m c 3 t) := by
  unfold Dat.leaves; rw [liveAt0_3 t, afterF_3]
theorem leavesF_4 (c : Dev nD) (t : Fin cfg0.N) : (datsF m 0 c).leaves 4 t = owns (c : Thread nD τ) (ms0_4 t) fullShare (iblk m c 4 t) := by
  unfold Dat.leaves; rw [liveAt0_4 t, afterF_4]
theorem leavesF_5 (c : Dev nD) (t : Fin cfg0.N) : (datsF m 0 c).leaves 5 t = owns (c : Thread nD τ) (ms0_5 t) fullShare (iblk m c 5 t) := by
  unfold Dat.leaves; rw [liveAt0_5 t, afterF_5]
theorem leavesF_6 (c : Dev nD) (t : Fin cfg0.N) : (datsF m 0 c).leaves 6 t = owns (c : Thread nD τ) (ms0_6 t) fullShare (iblk m c 6 t) := by
  unfold Dat.leaves; rw [liveAt0_6 t, afterF_6]
theorem leavesF_7 (c : Dev nD) (t : Fin cfg0.N) : (datsF m 0 c).leaves 7 t = owns (c : Thread nD τ) (ms0_7 t) fullShare (iblk m c 7 t) := by
  unfold Dat.leaves; rw [liveAt0_7 t, afterF_7]
theorem leavesF_8 (c : Dev nD) (t : Fin cfg0.N) : (datsF m 0 c).leaves 8 t = owns (c : Thread nD τ) (ms0_8 t) fullShare (iblk m c 8 t) := by
  unfold Dat.leaves; rw [liveAt0_8 t, afterF_8]
def preF (c : Dev nD) (t : Fin cfg0.N) : sProp (MT nD τ sig Unit (Elt F) ℕ (UR sig nD τ) ℕ) :=
  iprop((datsF m 0 c).Φ t.castSucc ∗ (datsF m 0 c).owesAt () t.castSucc
    ∗ (∃ d, owns (c : Thread nD τ) (ms0_0 t) fullShare ((datsF m 0 c).before 0 t d))
    ∗ (∃ d, owns (c : Thread nD τ) (ms0_1 t) fullShare ((datsF m 0 c).before 1 t d))
    ∗ (∃ d, owns (c : Thread nD τ) (ms0_2 t) fullShare ((datsF m 0 c).before 2 t d))
    ∗ (∃ d, owns (c : Thread nD τ) (ms0_3 t) fullShare ((datsF m 0 c).before 3 t d))
    ∗ (∃ d, owns (c : Thread nD τ) (ms0_4 t) fullShare ((datsF m 0 c).before 4 t d))
    ∗ (∃ d, owns (c : Thread nD τ) (ms0_5 t) fullShare ((datsF m 0 c).before 5 t d))
    ∗ (∃ d, owns (c : Thread nD τ) (ms0_6 t) fullShare ((datsF m 0 c).before 6 t d))
    ∗ (∃ d, owns (c : Thread nD τ) (ms0_7 t) fullShare ((datsF m 0 c).before 7 t d))
    ∗ (∃ d, owns (c : Thread nD τ) (ms0_8 t) fullShare ((datsF m 0 c).before 8 t d))
    ∗ (∃ X, owns (c : Thread nD τ) (ms0_9 t) fullShare X)
    ∗ (∃ X, owns (c : Thread nD τ) (ms0_10 t) fullShare X))

def postF (c : Dev nD) (t : Fin cfg0.N) : sProp (MT nD τ sig Unit (Elt F) ℕ (UR sig nD τ) ℕ) :=
  iprop((datsF m 0 c).Φ t.succ ∗ (datsF m 0 c).owesAt () t.succ
    ∗ (datsF m 0 c).leaves 0 t
    ∗ (datsF m 0 c).leaves 1 t
    ∗ (datsF m 0 c).leaves 2 t
    ∗ (datsF m 0 c).leaves 3 t
    ∗ (datsF m 0 c).leaves 4 t
    ∗ (datsF m 0 c).leaves 5 t
    ∗ (datsF m 0 c).leaves 6 t
    ∗ (datsF m 0 c).leaves 7 t
    ∗ (datsF m 0 c).leaves 8 t
    ∗ (∃ X, owns (c : Thread nD τ) (ms0_9 t) fullShare X)
    ∗ (∃ X, owns (c : Thread nD τ) (ms0_10 t) fullShare X))

set_option maxHeartbeats 4000000 in
theorem soundF (c : Dev nD) (t : Fin cfg0.N) :
    preF m c t ⊢ wp frame (wpE (defs₀ (F := F)) Variants.none c none) Set.univ (bodyAt0 t) (fun _ => postF m c t) := by
  unfold preF postF
  simp only [beforeF_0, beforeF_1, beforeF_2, beforeF_3, beforeF_4, beforeF_5, beforeF_6, beforeF_7, beforeF_8, leavesF_0, leavesF_1, leavesF_2, leavesF_3, leavesF_4, leavesF_5, leavesF_6, leavesF_7, leavesF_8]
  rw [show (datsF m 0 c).owesAt () t.succ = (datsF m 0 c).owesAt () t.castSucc from rfl]
  rw [show (datsF m 0 c).Φ t.succ = Pipeline.ΦA spec0 c from rfl, show (datsF m 0 c).Φ t.castSucc = Pipeline.ΦA spec0 c from rfl, PhiA0_eq]
  have hN : t.val < 3 := lt_of_lt_of_eq t.isLt (show cfg0.N = 3 from N_0)
  iintro ⟨⟨⟨%s0, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  by_cases h0 : t.val % 3 = 0
  · have h1 : t.val % 3 < 2 := by omega
    have h2 : ¬ t.val % 3 = 2 := by omega
    iapply (triA c t ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) _)
    unfold insOwn
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [HS0]; · iexists _; iexact HS0
    iintro ⟨⟨H0, H1, H2, H3, H4, H5, H6, H7, H8⟩, H9, H10, HS0⟩
    isplitl [HS0 Hg]
    · isplitl [HS0]; · iexists _; iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · by_cases h2 : t.val % 3 = 2
    · have h1 : ¬ t.val % 3 < 2 := by omega
      iapply (triC c t (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) s0 d9 _)
      unfold insOwn
      isplitl [H0 H1 H2 H3 H4 H5 H6 H7 H8]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      isplitl [H9]; · iexact H9
      isplitl [H10]; · iexists _; iexact H10
      isplitl [HS0]; · iexact HS0
      iintro ⟨⟨H0, H1, H2, H3, H4, H5, H6, H7, H8⟩, H9, H10, HS0⟩
      isplitl [HS0 Hg]
      · isplitl [HS0]; · iexists _; iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10
    · have h1 : t.val % 3 < 2 := by omega
      iapply (triB c t (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) s0 d9 _)
      unfold insOwn
      isplitl [H0 H1 H2 H3 H4 H5 H6 H7 H8]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      isplitl [H9]; · iexact H9
      isplitl [H10]; · iexists _; iexact H10
      isplitl [HS0]; · iexact HS0
      iintro ⟨⟨H0, H1, H2, H3, H4, H5, H6, H7, H8⟩, H9, H10, HS0⟩
      isplitl [HS0 Hg]
      · isplitl [HS0]; · iexists _; iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

theorem defs₀_row (t : Fin cfg0.N) : defs₀ (F := F) .tc cfg0.body (cfg0.bodyArgs t (cfg0.slots t)) = bodyAt0 t := by
  unfold defs₀; rw [Defs.onTc_tc]

theorem obligationF (c : Dev nD) : BodyObligationLoose (datsF (F := F) m 0 c) (defs₀ (F := F)) Variants.none () Set.univ fgt := fun t => by
  rw [bigSep_W0, bigSep_W0, defs₀_row]
  exact triple_restated (soundF m c t) rfl .rfl fun _ => .rfl

set_option backward.isDefEq.respectTransparency.types false in
theorem run_quiescent : θ_run defs (onTc (τ := τ) (main (F := F))) (s₀ m ρ) (fun r => (Pipeline.RDat.FramePost cfg0 (fun c => (datsF m 0 c).toRForget fgt) (V m)) r ∧ r.2.sem = fun _ => 0) :=
  Pipeline.θ_run_frame_forget (Q' := _) cfgs (datsF m) (0 : Fin 1) launch0 defs₀ Variants.none fgt m ρ main
    (hbody := obligationF m) (hshare := fun c => (datsF m 0 c).share_full fun _ => rfl)
    (howed := fun _ _ => rfl) (V := V m) (hmain := hmain m Variants.none) (hA := AF_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(Pipeline.RDat.FramePost.arr_in h.1 c 0 rfl).trans ((AF_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (Pipeline.RDat.FramePost.arr_in h.1 c 4 rfl).trans ((AF_eq m c 4).trans (V_main_arg5 m c)),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_quiescent m ρ)

end Cert.KernelQkv.Body

end
-- ==== Proof.QkvRunsIdeal.lean ====
/-
  What the runs of the query/key/value body are stated over: the branch conditions in closed form over the points, where
  the windows are idle, and the staging and scratch buffers.
-/
module

public import proofs.«01_k».proof.Proof.Gen.KernelQkvIdeal.Frame
public import proofs.«01_k».proof.Proof.Gen.KernelQkvIdeal.Launch
public import proofs.«01_k».proof.Proof.Gen.KernelQkvIdeal.Skeleton
public import proofs.«01_k».proof.Proof.Gen.KernelQkvIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelQkvIdeal.Body

open Cert.KernelQkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

abbrev cond0_0 (i : grid0.Coords) : Prop := k0_cond1 i = 1#1
theorem hcond0_0 : ∀ t : Fin cfg0.N, cond0_0 (grid0.coords t) ↔ t.val % 3 = 0 := by
  decide +kernel

abbrev cond0_1 (i : grid0.Coords) : Prop := k0_cond2 i = 1#1
theorem hcond0_1 : ∀ t : Fin cfg0.N, cond0_1 (grid0.coords t) ↔ t.val % 3 < 2 := by
  decide +kernel

abbrev cond0_2 (i : grid0.Coords) : Prop := k0_cond3 i = 1#1
theorem hcond0_2 : ∀ t : Fin cfg0.N, cond0_2 (grid0.coords t) ↔ t.val % 3 = 2 := by
  decide +kernel

theorem liveAt0_0 : ∀ t : Fin cfg0.N, cfg0.idle 0 (grid0.coords t) = false := by exact fun _ => rfl
theorem liveAt0_1 : ∀ t : Fin cfg0.N, cfg0.idle 1 (grid0.coords t) = false := by exact fun _ => rfl
theorem liveAt0_2 : ∀ t : Fin cfg0.N, cfg0.idle 2 (grid0.coords t) = false := by exact fun _ => rfl
theorem liveAt0_3 : ∀ t : Fin cfg0.N, cfg0.idle 3 (grid0.coords t) = false := by exact fun _ => rfl
theorem liveAt0_4 : ∀ t : Fin cfg0.N, cfg0.idle 4 (grid0.coords t) = false := by exact fun _ => rfl
theorem liveAt0_5 : ∀ t : Fin cfg0.N, cfg0.idle 5 (grid0.coords t) = false := by exact fun _ => rfl
theorem liveAt0_6 : ∀ t : Fin cfg0.N, cfg0.idle 6 (grid0.coords t) = false := by exact fun _ => rfl
theorem liveAt0_7 : ∀ t : Fin cfg0.N, cfg0.idle 7 (grid0.coords t) = false := by exact fun _ => rfl
theorem liveAt0_8 : ∀ t : Fin cfg0.N, cfg0.idle 8 (grid0.coords t) = false := by exact fun _ => rfl
theorem liveAt0_10 : ∀ t : Fin cfg0.N, cfg0.idle 10 (grid0.coords t) = false := by decide +kernel
theorem liveAt0_9 : ∀ t : Fin cfg0.N, t.val % 3 = 0 → cfg0.idle 9 (grid0.coords t) = false := by decide +kernel
theorem idleAt0_9 : ∀ t : Fin cfg0.N, ¬ t.val % 3 = 0 → cfg0.idle 9 (grid0.coords t) = true := by decide +kernel

abbrev VO0_9 : View sig .tc .vmem S1024x1280 .i8 := (Memref.whole cc0_stg9_0 : Memref sig .tc .vmem S1024x1280 .i8).view
abbrev VO0_10 : View sig .tc .vmem S1024x1280 .bf16 := (Memref.whole cc0_stg10_0 : Memref sig .tc .vmem S1024x1280 .bf16).view
/-! Each window's current staging buffer at point `t`, and its wholeness. -/

abbrev ms0_0 (t : Fin cfg0.N) : Memref sig .tc .vmem S1024x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x1280 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1280 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1280 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x640 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x640 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1280 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1280 .bf16 := win0_10.stage (cfg0.slots t 10)
abbrev hs0_10 (t : Fin cfg0.N) : (ms0_10 t).IsWhole := hstage0_10 ((cfg0.slots t 10).cast nbuf0_10)
abbrev scM0_0 : Memref sig .tc .vmem S1024x1280 .bf16 := Memref.whole cc0_scratch0
abbrev VS0_0 : View sig .tc .vmem S1024x1280 .bf16 := scM0_0.view

theorem PhiA0_eq (c : Dev nD) :
    (Pipeline.ΦA spec0 c : sProp (MT nD τ sig Unit (Elt F) ℕ (UR sig nD τ) ℕ)) = iprop((∃ d, owns (c : Thread nD τ) scM0_0 fullShare d) ∗ (∃ r, prngReg c r)) := by
  unfold Pipeline.ΦA; rw [scopedRest0_eq]; simp only [scM0_0, owns_whole]; try rfl

end Cert.KernelQkvIdeal.Body

end
-- ==== Proof.QkvRunAIdeal.lean ====
/-
  The query/key/value body run at the first point.
-/
module

public import proofs.«01_k».proof.Proof.QkvRunsIdeal

@[expose] public section

set_option maxRecDepth 16384

noncomputable section

namespace Cert.KernelQkvIdeal.Body

open Cert.KernelQkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

-- (the run's proof term is large: closing the definition walks it past the default budget)
set_option maxHeartbeats 4000000 in
noncomputable def kernelRun0_A (c : Dev nD) (i : grid0.Coords) (arg1 : Memref sig .tc .vmem S1024x1280 .bf16) (harg1 : arg1.IsWhole) (arg2 : Memref sig .tc .vmem S1x1280 .f32) (harg2 : arg2.IsWhole) (arg3 : Memref sig .tc .vmem S1x1280 .f32) (harg3 : arg3.IsWhole) (arg4 : Memref sig .tc .vmem S1x1 .f32) (harg4 : arg4.IsWhole) (arg5 : Memref sig .tc .vmem S1280x1280 .i8) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1024x640 .f32) (harg8 : arg8.IsWhole) (arg9 : Memref sig .tc .vmem S1024x640 .f32) (harg9 : arg9.IsWhole) (arg10 : Memref sig .tc .vmem S1024x1280 .i8) (harg10 : arg10.IsWhole) (arg11 : Memref sig .tc .vmem S1024x1280 .bf16) (harg11 : arg11.IsWhole) (arg12 : Memref sig .tc .vmem S1024x1280 .bf16) (harg12 : arg12.IsWhole) (hc0 : cond0_0 i) (hc1 : cond0_1 i) (hc2 : ¬cond0_2 i)
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) :
    Σ' (L9 : List (View.Piece (Elt F) S1024x1280 .i8)), Σ' (L10 : List (View.Piece (Elt F) S1024x1280 .bf16)), { LS0 : List (View.Piece (Elt F) S1024x1280 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    have g1 : k0_cond1 i = 1#1 := hc0
    have g2 : k0_cond2 i = 1#1 := hc1
    have g4 : k0_cond4 i = 1#1 := hc1
    have g6 : k0_cond6 i = 1#1 := hc1
    have g8 : k0_cond8 i = 1#1 := hc1
    have g3 : ¬k0_cond3 i = 1#1 := hc2
    have g5 : ¬k0_cond5 i = 1#1 := hc2
    have g7 : ¬k0_cond7 i = 1#1 := hc2
    have g9 : ¬k0_cond9 i = 1#1 := hc2
    simp only [cc0_qkv_eq_skeleton]; unfold cc0_qkv_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact g1 | sl_exact g2 | sl_exact g3 | sl_exact g4 | sl_exact g5 | sl_exact g6 | sl_exact g7 | sl_exact g8 | sl_exact g9)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact HS0

end Cert.KernelQkvIdeal.Body

end
-- ==== Proof.QkvRunBIdeal.lean ====
/-
  The query/key/value body run at the second point.
-/
module

public import proofs.«01_k».proof.Proof.QkvRunAIdeal

@[expose] public section

set_option maxRecDepth 16384

noncomputable section

namespace Cert.KernelQkvIdeal.Body

open Cert.KernelQkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

-- (the run's proof term is large: closing the definition walks it past the default budget)
set_option maxHeartbeats 4000000 in
noncomputable def kernelRun0_B (c : Dev nD) (i : grid0.Coords) (arg1 : Memref sig .tc .vmem S1024x1280 .bf16) (harg1 : arg1.IsWhole) (arg2 : Memref sig .tc .vmem S1x1280 .f32) (harg2 : arg2.IsWhole) (arg3 : Memref sig .tc .vmem S1x1280 .f32) (harg3 : arg3.IsWhole) (arg4 : Memref sig .tc .vmem S1x1 .f32) (harg4 : arg4.IsWhole) (arg5 : Memref sig .tc .vmem S1280x1280 .i8) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1024x640 .f32) (harg8 : arg8.IsWhole) (arg9 : Memref sig .tc .vmem S1024x640 .f32) (harg9 : arg9.IsWhole) (arg10 : Memref sig .tc .vmem S1024x1280 .i8) (harg10 : arg10.IsWhole) (arg11 : Memref sig .tc .vmem S1024x1280 .bf16) (harg11 : arg11.IsWhole) (arg12 : Memref sig .tc .vmem S1024x1280 .bf16) (harg12 : arg12.IsWhole) (hc0 : ¬cond0_0 i) (hc1 : cond0_1 i) (hc2 : ¬cond0_2 i)
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) :
    { L10 : List (View.Piece (Elt F) S1024x1280 .bf16) //
      ∀ (xi9 : Vec F S1024x1280 .i8) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f L10) ∗ owns (c : Thread nD τ) arg12 fullShare xs0) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨?_, fun xi9 E K => ?run⟩
  case run =>
    have g1 : ¬k0_cond1 i = 1#1 := hc0
    have g2 : k0_cond2 i = 1#1 := hc1
    have g4 : k0_cond4 i = 1#1 := hc1
    have g6 : k0_cond6 i = 1#1 := hc1
    have g8 : k0_cond8 i = 1#1 := hc1
    have g3 : ¬k0_cond3 i = 1#1 := hc2
    have g5 : ¬k0_cond5 i = 1#1 := hc2
    have g7 : ¬k0_cond7 i = 1#1 := hc2
    have g9 : ¬k0_cond9 i = 1#1 := hc2
    simp only [cc0_qkv_eq_skeleton]; unfold cc0_qkv_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs0
    sl_exec (disch := first | sl_exact g1 | sl_exact g2 | sl_exact g3 | sl_exact g4 | sl_exact g5 | sl_exact g6 | sl_exact g7 | sl_exact g8 | sl_exact g9)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    iexists _; isplitr; · ipureintro; exact harg12.read_unread _
    iexact HS0

end Cert.KernelQkvIdeal.Body

end
-- ==== Proof.QkvRunCIdeal.lean ====
/-
  The query/key/value body run at the last point.
-/
module

public import proofs.«01_k».proof.Proof.QkvRunBIdeal

@[expose] public section

set_option maxRecDepth 16384

noncomputable section

namespace Cert.KernelQkvIdeal.Body

open Cert.KernelQkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

-- (the run's proof term is large: closing the definition walks it past the default budget)
set_option maxHeartbeats 4000000 in
noncomputable def kernelRun0_C (c : Dev nD) (i : grid0.Coords) (arg1 : Memref sig .tc .vmem S1024x1280 .bf16) (harg1 : arg1.IsWhole) (arg2 : Memref sig .tc .vmem S1x1280 .f32) (harg2 : arg2.IsWhole) (arg3 : Memref sig .tc .vmem S1x1280 .f32) (harg3 : arg3.IsWhole) (arg4 : Memref sig .tc .vmem S1x1 .f32) (harg4 : arg4.IsWhole) (arg5 : Memref sig .tc .vmem S1280x1280 .i8) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1024x640 .f32) (harg8 : arg8.IsWhole) (arg9 : Memref sig .tc .vmem S1024x640 .f32) (harg9 : arg9.IsWhole) (arg10 : Memref sig .tc .vmem S1024x1280 .i8) (harg10 : arg10.IsWhole) (arg11 : Memref sig .tc .vmem S1024x1280 .bf16) (harg11 : arg11.IsWhole) (arg12 : Memref sig .tc .vmem S1024x1280 .bf16) (harg12 : arg12.IsWhole) (hc0 : ¬cond0_0 i) (hc1 : ¬cond0_1 i) (hc2 : cond0_2 i)
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) :
    { L10 : List (View.Piece (Elt F) S1024x1280 .bf16) //
      ∀ (xi9 : Vec F S1024x1280 .i8) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f L10) ∗ owns (c : Thread nD τ) arg12 fullShare xs0) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12) K } := by
  refine ⟨?_, fun xi9 E K => ?run⟩
  case run =>
    have g1 : ¬k0_cond1 i = 1#1 := hc0
    have g2 : ¬k0_cond2 i = 1#1 := hc1
    have g4 : ¬k0_cond4 i = 1#1 := hc1
    have g6 : ¬k0_cond6 i = 1#1 := hc1
    have g8 : ¬k0_cond8 i = 1#1 := hc1
    have g3 : k0_cond3 i = 1#1 := hc2
    have g5 : k0_cond5 i = 1#1 := hc2
    have g7 : k0_cond7 i = 1#1 := hc2
    have g9 : k0_cond9 i = 1#1 := hc2
    simp only [cc0_qkv_eq_skeleton]; unfold cc0_qkv_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs0
    sl_exec (disch := first | sl_exact g1 | sl_exact g2 | sl_exact g3 | sl_exact g4 | sl_exact g5 | sl_exact g6 | sl_exact g7 | sl_exact g8 | sl_exact g9)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    iexists _; isplitr; · ipureintro; exact harg12.read_unread _
    iexact HS0

end Cert.KernelQkvIdeal.Body

end
-- ==== Proof.QkvTriIdeal.lean ====
/-
  The query/key/value body's three cases as triples on a point's own buffers: what each leaves in the codes' buffer, in
  the block of queries, keys and values, and in the scratch of codes.
-/
module

public import proofs.«01_k».proof.Proof.QkvRunCIdeal

@[expose] public section

set_option maxRecDepth 16384

noncomputable section

namespace Cert.KernelQkvIdeal.Body

open Cert.KernelQkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

def insOwn (c : Dev nD) (t : Fin cfg0.N) (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) : sProp (MT nD τ sig Unit (Elt F) ℕ (UR sig nD τ) ℕ) :=
  iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ owns (c : Thread nD τ) (ms0_6 t) fullShare x6 ∗ owns (c : Thread nD τ) (ms0_7 t) fullShare x7 ∗ owns (c : Thread nD τ) (ms0_8 t) fullShare x8)

abbrev runA (c : Dev nD) (t : Fin cfg0.N) (hc0 : cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) hc0 hc1 hc2 x0 x1 x2 x3 x4 x5 x6 x7 x8

def outA (c : Dev nD) (t : Fin cfg0.N) (hc0 : cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) : Vec F S1024x1280 .bf16 :=
  VO0_10.read (Elt F) (VO0_10.writes (Elt F) VO0_10.junk (runA c t hc0 hc1 hc2 x0 x1 x2 x3 x4 x5 x6 x7 x8).2.1)

theorem coverA_10 (c : Dev nD) (t : Fin cfg0.N) (hc0 : cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (y : S1024x1280.Idx) : ∃ pc ∈ (runA c t hc0 hc1 hc2 x0 x1 x2 x3 x4 x5 x6 x7 x8).2.1, y ∈ pc.1.set :=
  View.cover_of_tiledL (runA c t hc0 hc1 hc2 x0 x1 x2 x3 x4 x5 x6 x7 x8).2.1 S256x1280.size (by sl_kernel_rfl) y

def cdA (c : Dev nD) (t : Fin cfg0.N) (hc0 : cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) : Vec F S1024x1280 .i8 :=
  VO0_9.read (Elt F) (VO0_9.writes (Elt F) VO0_9.junk (runA c t hc0 hc1 hc2 x0 x1 x2 x3 x4 x5 x6 x7 x8).1)

theorem coverA_9 (c : Dev nD) (t : Fin cfg0.N) (hc0 : cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (y : S1024x1280.Idx) : ∃ pc ∈ (runA c t hc0 hc1 hc2 x0 x1 x2 x3 x4 x5 x6 x7 x8).1, y ∈ pc.1.set :=
  View.cover_of_tiledL (runA c t hc0 hc1 hc2 x0 x1 x2 x3 x4 x5 x6 x7 x8).1 S256x1280.size (by sl_kernel_rfl) y

def csA (c : Dev nD) (t : Fin cfg0.N) (hc0 : cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) : Vec F S1024x1280 .bf16 :=
  VS0_0.read (Elt F) (VS0_0.writes (Elt F) VS0_0.junk (runA c t hc0 hc1 hc2 x0 x1 x2 x3 x4 x5 x6 x7 x8).2.2.1)

theorem scoverA_0 (c : Dev nD) (t : Fin cfg0.N) (hc0 : cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (y : S1024x1280.Idx) : ∃ pc ∈ (runA c t hc0 hc1 hc2 x0 x1 x2 x3 x4 x5 x6 x7 x8).2.2.1, y ∈ pc.1.set :=
  View.cover_of_tiledL (runA c t hc0 hc1 hc2 x0 x1 x2 x3 x4 x5 x6 x7 x8).2.2.1 S256x1280.size (by sl_kernel_rfl) y

set_option maxHeartbeats 4000000 in
theorem triA (c : Dev nD) (t : Fin cfg0.N) (hc0 : cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (K : PUnit → sProp (MT nD τ sig Unit (Elt F) ℕ (UR sig nD τ) ℕ)) :
    iprop(insOwn c t x0 x1 x2 x3 x4 x5 x6 x7 x8 ∗ (∃ d, owns (c : Thread nD τ) (ms0_9 t) fullShare d) ∗ (∃ d, owns (c : Thread nD τ) (ms0_10 t) fullShare d) ∗ (∃ d, owns (c : Thread nD τ) scM0_0 fullShare d)
        ∗ (iprop(insOwn c t x0 x1 x2 x3 x4 x5 x6 x7 x8 ∗ owns (c : Thread nD τ) (ms0_9 t) fullShare (cdA c t hc0 hc1 hc2 x0 x1 x2 x3 x4 x5 x6 x7 x8) ∗ owns (c : Thread nD τ) (ms0_10 t) fullShare (outA c t hc0 hc1 hc2 x0 x1 x2 x3 x4 x5 x6 x7 x8) ∗ owns (c : Thread nD τ) scM0_0 fullShare (csA c t hc0 hc1 hc2 x0 x1 x2 x3 x4 x5 x6 x7 x8)) -∗ K ⟨⟩))
      ⊢ wp frame (wpE (defs₀ (F := F)) Variants.none c none) Set.univ (bodyAt0 t) K := by
  unfold bodyAt0 insOwn
  iintro ⟨⟨H0, H1, H2, H3, H4, H5, H6, H7, H8⟩, H9, ⟨%d10, H10⟩, HS0, Hk⟩
  iapply ((runA c t hc0 hc1 hc2 x0 x1 x2 x3 x4 x5 x6 x7 x8).2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  iintro ⟨H0, H1, H2, H3, H4, H5, H6, H7, H8, ⟨%e9, H9⟩, ⟨%e10, H10⟩, ⟨%es0, HS0⟩⟩
  iapply Hk
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]
  · unfold owns; iexists _; isplitr
    swap; · iexact H9
    ipureintro; exact View.read_writes_of_cover _ _ _ _ _ (coverA_9 c t hc0 hc1 hc2 x0 x1 x2 x3 x4 x5 x6 x7 x8)
  isplitl [H10]
  · unfold owns; iexists _; isplitr
    swap; · iexact H10
    ipureintro; exact View.read_writes_of_cover _ _ _ _ _ (coverA_10 c t hc0 hc1 hc2 x0 x1 x2 x3 x4 x5 x6 x7 x8)
  unfold owns; iexists _; isplitr
  swap; · iexact HS0
  ipureintro; exact View.read_writes_of_cover _ _ _ _ _ (scoverA_0 c t hc0 hc1 hc2 x0 x1 x2 x3 x4 x5 x6 x7 x8)

abbrev runB (c : Dev nD) (t : Fin cfg0.N) (hc0 : ¬cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) hc0 hc1 hc2 x0 x1 x2 x3 x4 x5 x6 x7 x8 xs0

def outB (c : Dev nD) (t : Fin cfg0.N) (hc0 : ¬cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) : Vec F S1024x1280 .bf16 :=
  VO0_10.read (Elt F) (VO0_10.writes (Elt F) VO0_10.junk (runB c t hc0 hc1 hc2 x0 x1 x2 x3 x4 x5 x6 x7 x8 xs0).1)

theorem coverB_10 (c : Dev nD) (t : Fin cfg0.N) (hc0 : ¬cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) (y : S1024x1280.Idx) : ∃ pc ∈ (runB c t hc0 hc1 hc2 x0 x1 x2 x3 x4 x5 x6 x7 x8 xs0).1, y ∈ pc.1.set :=
  View.cover_of_tiledL (runB c t hc0 hc1 hc2 x0 x1 x2 x3 x4 x5 x6 x7 x8 xs0).1 S256x1280.size (by sl_kernel_rfl) y

set_option maxHeartbeats 4000000 in
theorem triB (c : Dev nD) (t : Fin cfg0.N) (hc0 : ¬cond0_0 (grid0.coords t)) (hc1 : cond0_1 (grid0.coords t)) (hc2 : ¬cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) (xi9 : Vec F S1024x1280 .i8) (K : PUnit → sProp (MT nD τ sig Unit (Elt F) ℕ (UR sig nD τ) ℕ)) :
    iprop(insOwn c t x0 x1 x2 x3 x4 x5 x6 x7 x8 ∗ owns (c : Thread nD τ) (ms0_9 t) fullShare xi9 ∗ (∃ d, owns (c : Thread nD τ) (ms0_10 t) fullShare d) ∗ owns (c : Thread nD τ) scM0_0 fullShare xs0
        ∗ (iprop(insOwn c t x0 x1 x2 x3 x4 x5 x6 x7 x8 ∗ owns (c : Thread nD τ) (ms0_9 t) fullShare xi9 ∗ owns (c : Thread nD τ) (ms0_10 t) fullShare (outB c t hc0 hc1 hc2 x0 x1 x2 x3 x4 x5 x6 x7 x8 xs0) ∗ owns (c : Thread nD τ) scM0_0 fullShare xs0) -∗ K ⟨⟩))
      ⊢ wp frame (wpE (defs₀ (F := F)) Variants.none c none) Set.univ (bodyAt0 t) K := by
  unfold bodyAt0 insOwn
  iintro ⟨⟨H0, H1, H2, H3, H4, H5, H6, H7, H8⟩, H9, ⟨%d10, H10⟩, HS0, Hk⟩
  iapply ((runB c t hc0 hc1 hc2 x0 x1 x2 x3 x4 x5 x6 x7 x8 xs0).2 xi9 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  iintro ⟨H0, H1, H2, H3, H4, H5, H6, H7, H8, H9, ⟨%e10, H10⟩, HS0⟩
  iapply Hk
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [H10]
  · unfold owns; iexists _; isplitr
    swap; · iexact H10
    ipureintro; exact View.read_writes_of_cover _ _ _ _ _ (coverB_10 c t hc0 hc1 hc2 x0 x1 x2 x3 x4 x5 x6 x7 x8 xs0)
  iexact HS0

abbrev runC (c : Dev nD) (t : Fin cfg0.N) (hc0 : ¬cond0_0 (grid0.coords t)) (hc1 : ¬cond0_1 (grid0.coords t)) (hc2 : cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) hc0 hc1 hc2 x0 x1 x2 x3 x4 x5 x6 x7 x8 xs0

def outC (c : Dev nD) (t : Fin cfg0.N) (hc0 : ¬cond0_0 (grid0.coords t)) (hc1 : ¬cond0_1 (grid0.coords t)) (hc2 : cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) : Vec F S1024x1280 .bf16 :=
  VO0_10.read (Elt F) (VO0_10.writes (Elt F) VO0_10.junk (runC c t hc0 hc1 hc2 x0 x1 x2 x3 x4 x5 x6 x7 x8 xs0).1)

theorem coverC_10 (c : Dev nD) (t : Fin cfg0.N) (hc0 : ¬cond0_0 (grid0.coords t)) (hc1 : ¬cond0_1 (grid0.coords t)) (hc2 : cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) (y : S1024x1280.Idx) : ∃ pc ∈ (runC c t hc0 hc1 hc2 x0 x1 x2 x3 x4 x5 x6 x7 x8 xs0).1, y ∈ pc.1.set :=
  View.cover_of_tiledL (runC c t hc0 hc1 hc2 x0 x1 x2 x3 x4 x5 x6 x7 x8 xs0).1 S256x1280.size (by sl_kernel_rfl) y

set_option maxHeartbeats 4000000 in
theorem triC (c : Dev nD) (t : Fin cfg0.N) (hc0 : ¬cond0_0 (grid0.coords t)) (hc1 : ¬cond0_1 (grid0.coords t)) (hc2 : cond0_2 (grid0.coords t))
    (x0 : Vec F S1024x1280 .bf16) (x1 : Vec F S1x1280 .f32) (x2 : Vec F S1x1280 .f32) (x3 : Vec F S1x1 .f32) (x4 : Vec F S1280x1280 .i8) (x5 : Vec F S1x1280 .f32) (x6 : Vec F S1x1280 .f32) (x7 : Vec F S1024x640 .f32) (x8 : Vec F S1024x640 .f32) (xs0 : Vec F S1024x1280 .bf16) (xi9 : Vec F S1024x1280 .i8) (K : PUnit → sProp (MT nD τ sig Unit (Elt F) ℕ (UR sig nD τ) ℕ)) :
    iprop(insOwn c t x0 x1 x2 x3 x4 x5 x6 x7 x8 ∗ owns (c : Thread nD τ) (ms0_9 t) fullShare xi9 ∗ (∃ d, owns (c : Thread nD τ) (ms0_10 t) fullShare d) ∗ owns (c : Thread nD τ) scM0_0 fullShare xs0
        ∗ (iprop(insOwn c t x0 x1 x2 x3 x4 x5 x6 x7 x8 ∗ owns (c : Thread nD τ) (ms0_9 t) fullShare xi9 ∗ owns (c : Thread nD τ) (ms0_10 t) fullShare (outC c t hc0 hc1 hc2 x0 x1 x2 x3 x4 x5 x6 x7 x8 xs0) ∗ owns (c : Thread nD τ) scM0_0 fullShare xs0) -∗ K ⟨⟩))
      ⊢ wp frame (wpE (defs₀ (F := F)) Variants.none c none) Set.univ (bodyAt0 t) K := by
  unfold bodyAt0 insOwn
  iintro ⟨⟨H0, H1, H2, H3, H4, H5, H6, H7, H8⟩, H9, ⟨%d10, H10⟩, HS0, Hk⟩
  iapply ((runC c t hc0 hc1 hc2 x0 x1 x2 x3 x4 x5 x6 x7 x8 xs0).2 xi9 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  iintro ⟨H0, H1, H2, H3, H4, H5, H6, H7, H8, H9, ⟨%e10, H10⟩, HS0⟩
  iapply Hk
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [H10]
  · unfold owns; iexists _; isplitr
    swap; · iexact H10
    ipureintro; exact View.read_writes_of_cover _ _ _ _ _ (coverC_10 c t hc0 hc1 hc2 x0 x1 x2 x3 x4 x5 x6 x7 x8 xs0)
  iexact HS0

end Cert.KernelQkvIdeal.Body

end
-- ==== Proof.QkvFrameIdeal.lean ====
/-
  The frame of the query/key/value kernel: at every point the body keeps its inputs' buffers and leaves something in the
  others, so the program terminates with its arguments as they were.
-/
module

public import proofs.«01_k».proof.Proof.QkvTriIdeal

@[expose] public section

set_option maxRecDepth 16384

noncomputable section

namespace Cert.KernelQkvIdeal.Body

open Cert.KernelQkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

def fgt : Fin cfg0.W → Bool := fun w => decide (9 ≤ w.val)

def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => fun _ => (0#8 : BitVec 8)
    | ⟨10, _⟩ => fun _ => Scalar.ofBits .bf16 0#16
  Φ _ := Pipeline.ΦA spec0 c
  q _ := fullShare
  owed _ := 0

theorem AF_eq (c : Dev nD) (w : Fin cfg0.W) : (datsF m 0 c).A w = V m c (Pipeline.arrRef spec0 w) := by dsimp only [datsF]

theorem afterF_0 (c : Dev nD) (t : Fin cfg0.N) : (datsF m 0 c).after 0 t = iblk m c 0 t := by dsimp only [datsF]
theorem afterF_1 (c : Dev nD) (t : Fin cfg0.N) : (datsF m 0 c).after 1 t = iblk m c 1 t := by dsimp only [datsF]
theorem afterF_2 (c : Dev nD) (t : Fin cfg0.N) : (datsF m 0 c).after 2 t = iblk m c 2 t := by dsimp only [datsF]
theorem afterF_3 (c : Dev nD) (t : Fin cfg0.N) : (datsF m 0 c).after 3 t = iblk m c 3 t := by dsimp only [datsF]
theorem afterF_4 (c : Dev nD) (t : Fin cfg0.N) : (datsF m 0 c).after 4 t = iblk m c 4 t := by dsimp only [datsF]
theorem afterF_5 (c : Dev nD) (t : Fin cfg0.N) : (datsF m 0 c).after 5 t = iblk m c 5 t := by dsimp only [datsF]
theorem afterF_6 (c : Dev nD) (t : Fin cfg0.N) : (datsF m 0 c).after 6 t = iblk m c 6 t := by dsimp only [datsF]
theorem afterF_7 (c : Dev nD) (t : Fin cfg0.N) : (datsF m 0 c).after 7 t = iblk m c 7 t := by dsimp only [datsF]
theorem afterF_8 (c : Dev nD) (t : Fin cfg0.N) : (datsF m 0 c).after 8 t = iblk m c 8 t := by dsimp only [datsF]
theorem beforeF_0 (c : Dev nD) (t : Fin cfg0.N) (d) : (datsF m 0 c).before 0 t d = iblk m c 0 t :=
  before0_0_of m (datsF m 0 c) (AF_eq m c 0) (afterF_0 m c) t d
theorem beforeF_1 (c : Dev nD) (t : Fin cfg0.N) (d) : (datsF m 0 c).before 1 t d = iblk m c 1 t :=
  before0_1_of m (datsF m 0 c) (AF_eq m c 1) (afterF_1 m c) t d
theorem beforeF_2 (c : Dev nD) (t : Fin cfg0.N) (d) : (datsF m 0 c).before 2 t d = iblk m c 2 t :=
  before0_2_of m (datsF m 0 c) (AF_eq m c 2) (afterF_2 m c) t d
theorem beforeF_3 (c : Dev nD) (t : Fin cfg0.N) (d) : (datsF m 0 c).before 3 t d = iblk m c 3 t :=
  before0_3_of m (datsF m 0 c) (AF_eq m c 3) (afterF_3 m c) t d
theorem beforeF_4 (c : Dev nD) (t : Fin cfg0.N) (d) : (datsF m 0 c).before 4 t d = iblk m c 4 t :=
  before0_4_of m (datsF m 0 c) (AF_eq m c 4) (afterF_4 m c) t d
theorem beforeF_5 (c : Dev nD) (t : Fin cfg0.N) (d) : (datsF m 0 c).before 5 t d = iblk m c 5 t :=
  before0_5_of m (datsF m 0 c) (AF_eq m c 5) (afterF_5 m c) t d
theorem beforeF_6 (c : Dev nD) (t : Fin cfg0.N) (d) : (datsF m 0 c).before 6 t d = iblk m c 6 t :=
  before0_6_of m (datsF m 0 c) (AF_eq m c 6) (afterF_6 m c) t d
theorem beforeF_7 (c : Dev nD) (t : Fin cfg0.N) (d) : (datsF m 0 c).before 7 t d = iblk m c 7 t :=
  before0_7_of m (datsF m 0 c) (AF_eq m c 7) (afterF_7 m c) t d
theorem beforeF_8 (c : Dev nD) (t : Fin cfg0.N) (d) : (datsF m 0 c).before 8 t d = iblk m c 8 t :=
  before0_8_of m (datsF m 0 c) (AF_eq m c 8) (afterF_8 m c) t d
theorem leavesF_0 (c : Dev nD) (t : Fin cfg0.N) : (datsF m 0 c).leaves 0 t = owns (c : Thread nD τ) (ms0_0 t) fullShare (iblk m c 0 t) := by
  unfold Dat.leaves; rw [liveAt0_0 t, afterF_0]
theorem leavesF_1 (c : Dev nD) (t : Fin cfg0.N) : (datsF m 0 c).leaves 1 t = owns (c : Thread nD τ) (ms0_1 t) fullShare (iblk m c 1 t) := by
  unfold Dat.leaves; rw [liveAt0_1 t, afterF_1]
theorem leavesF_2 (c : Dev nD) (t : Fin cfg0.N) : (datsF m 0 c).leaves 2 t = owns (c : Thread nD τ) (ms0_2 t) fullShare (iblk m c 2 t) := by
  unfold Dat.leaves; rw [liveAt0_2 t, afterF_2]
theorem leavesF_3 (c : Dev nD) (t : Fin cfg0.N) : (datsF m 0 c).leaves 3 t = owns (c : Thread nD τ) (ms0_3 t) fullShare (iblk m c 3 t) := by
  unfold Dat.leaves; rw [liveAt0_3 t, afterF_3]
theorem leavesF_4 (c : Dev nD) (t : Fin cfg0.N) : (datsF m 0 c).leaves 4 t = owns (c : Thread nD τ) (ms0_4 t) fullShare (iblk m c 4 t) := by
  unfold Dat.leaves; rw [liveAt0_4 t, afterF_4]
theorem leavesF_5 (c : Dev nD) (t : Fin cfg0.N) : (datsF m 0 c).leaves 5 t = owns (c : Thread nD τ) (ms0_5 t) fullShare (iblk m c 5 t) := by
  unfold Dat.leaves; rw [liveAt0_5 t, afterF_5]
theorem leavesF_6 (c : Dev nD) (t : Fin cfg0.N) : (datsF m 0 c).leaves 6 t = owns (c : Thread nD τ) (ms0_6 t) fullShare (iblk m c 6 t) := by
  unfold Dat.leaves; rw [liveAt0_6 t, afterF_6]
theorem leavesF_7 (c : Dev nD) (t : Fin cfg0.N) : (datsF m 0 c).leaves 7 t = owns (c : Thread nD τ) (ms0_7 t) fullShare (iblk m c 7 t) := by
  unfold Dat.leaves; rw [liveAt0_7 t, afterF_7]
theorem leavesF_8 (c : Dev nD) (t : Fin cfg0.N) : (datsF m 0 c).leaves 8 t = owns (c : Thread nD τ) (ms0_8 t) fullShare (iblk m c 8 t) := by
  unfold Dat.leaves; rw [liveAt0_8 t, afterF_8]
def preF (c : Dev nD) (t : Fin cfg0.N) : sProp (MT nD τ sig Unit (Elt F) ℕ (UR sig nD τ) ℕ) :=
  iprop((datsF m 0 c).Φ t.castSucc ∗ (datsF m 0 c).owesAt () t.castSucc
    ∗ (∃ d, owns (c : Thread nD τ) (ms0_0 t) fullShare ((datsF m 0 c).before 0 t d))
    ∗ (∃ d, owns (c : Thread nD τ) (ms0_1 t) fullShare ((datsF m 0 c).before 1 t d))
    ∗ (∃ d, owns (c : Thread nD τ) (ms0_2 t) fullShare ((datsF m 0 c).before 2 t d))
    ∗ (∃ d, owns (c : Thread nD τ) (ms0_3 t) fullShare ((datsF m 0 c).before 3 t d))
    ∗ (∃ d, owns (c : Thread nD τ) (ms0_4 t) fullShare ((datsF m 0 c).before 4 t d))
    ∗ (∃ d, owns (c : Thread nD τ) (ms0_5 t) fullShare ((datsF m 0 c).before 5 t d))
    ∗ (∃ d, owns (c : Thread nD τ) (ms0_6 t) fullShare ((datsF m 0 c).before 6 t d))
    ∗ (∃ d, owns (c : Thread nD τ) (ms0_7 t) fullShare ((datsF m 0 c).before 7 t d))
    ∗ (∃ d, owns (c : Thread nD τ) (ms0_8 t) fullShare ((datsF m 0 c).before 8 t d))
    ∗ (∃ X, owns (c : Thread nD τ) (ms0_9 t) fullShare X)
    ∗ (∃ X, owns (c : Thread nD τ) (ms0_10 t) fullShare X))

def postF (c : Dev nD) (t : Fin cfg0.N) : sProp (MT nD τ sig Unit (Elt F) ℕ (UR sig nD τ) ℕ) :=
  iprop((datsF m 0 c).Φ t.succ ∗ (datsF m 0 c).owesAt () t.succ
    ∗ (datsF m 0 c).leaves 0 t
    ∗ (datsF m 0 c).leaves 1 t
    ∗ (datsF m 0 c).leaves 2 t
    ∗ (datsF m 0 c).leaves 3 t
    ∗ (datsF m 0 c).leaves 4 t
    ∗ (datsF m 0 c).leaves 5 t
    ∗ (datsF m 0 c).leaves 6 t
    ∗ (datsF m 0 c).leaves 7 t
    ∗ (datsF m 0 c).leaves 8 t
    ∗ (∃ X, owns (c : Thread nD τ) (ms0_9 t) fullShare X)
    ∗ (∃ X, owns (c : Thread nD τ) (ms0_10 t) fullShare X))

set_option maxHeartbeats 4000000 in
theorem soundF (c : Dev nD) (t : Fin cfg0.N) :
    preF m c t ⊢ wp frame (wpE (defs₀ (F := F)) Variants.none c none) Set.univ (bodyAt0 t) (fun _ => postF m c t) := by
  unfold preF postF
  simp only [beforeF_0, beforeF_1, beforeF_2, beforeF_3, beforeF_4, beforeF_5, beforeF_6, beforeF_7, beforeF_8, leavesF_0, leavesF_1, leavesF_2, leavesF_3, leavesF_4, leavesF_5, leavesF_6, leavesF_7, leavesF_8]
  rw [show (datsF m 0 c).owesAt () t.succ = (datsF m 0 c).owesAt () t.castSucc from rfl]
  rw [show (datsF m 0 c).Φ t.succ = Pipeline.ΦA spec0 c from rfl, show (datsF m 0 c).Φ t.castSucc = Pipeline.ΦA spec0 c from rfl, PhiA0_eq]
  have hN : t.val < 3 := lt_of_lt_of_eq t.isLt (show cfg0.N = 3 from N_0)
  iintro ⟨⟨⟨%s0, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  by_cases h0 : t.val % 3 = 0
  · have h1 : t.val % 3 < 2 := by omega
    have h2 : ¬ t.val % 3 = 2 := by omega
    iapply (triA c t ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) _)
    unfold insOwn
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [HS0]; · iexists _; iexact HS0
    iintro ⟨⟨H0, H1, H2, H3, H4, H5, H6, H7, H8⟩, H9, H10, HS0⟩
    isplitl [HS0 Hg]
    · isplitl [HS0]; · iexists _; iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · by_cases h2 : t.val % 3 = 2
    · have h1 : ¬ t.val % 3 < 2 := by omega
      iapply (triC c t (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) s0 d9 _)
      unfold insOwn
      isplitl [H0 H1 H2 H3 H4 H5 H6 H7 H8]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      isplitl [H9]; · iexact H9
      isplitl [H10]; · iexists _; iexact H10
      isplitl [HS0]; · iexact HS0
      iintro ⟨⟨H0, H1, H2, H3, H4, H5, H6, H7, H8⟩, H9, H10, HS0⟩
      isplitl [HS0 Hg]
      · isplitl [HS0]; · iexists _; iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10
    · have h1 : t.val % 3 < 2 := by omega
      iapply (triB c t (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) s0 d9 _)
      unfold insOwn
      isplitl [H0 H1 H2 H3 H4 H5 H6 H7 H8]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      isplitl [H9]; · iexact H9
      isplitl [H10]; · iexists _; iexact H10
      isplitl [HS0]; · iexact HS0
      iintro ⟨⟨H0, H1, H2, H3, H4, H5, H6, H7, H8⟩, H9, H10, HS0⟩
      isplitl [HS0 Hg]
      · isplitl [HS0]; · iexists _; iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

theorem defs₀_row (t : Fin cfg0.N) : defs₀ (F := F) .tc cfg0.body (cfg0.bodyArgs t (cfg0.slots t)) = bodyAt0 t := by
  unfold defs₀; rw [Defs.onTc_tc]

theorem obligationF (c : Dev nD) : BodyObligationLoose (datsF (F := F) m 0 c) (defs₀ (F := F)) Variants.none () Set.univ fgt := fun t => by
  rw [bigSep_W0, bigSep_W0, defs₀_row]
  exact triple_restated (soundF m c t) rfl .rfl fun _ => .rfl

set_option backward.isDefEq.respectTransparency.types false in
theorem run_quiescent : θ_run defs (onTc (τ := τ) (main (F := F))) (s₀ m ρ) (fun r => (Pipeline.RDat.FramePost cfg0 (fun c => (datsF m 0 c).toRForget fgt) (V m)) r ∧ r.2.sem = fun _ => 0) :=
  Pipeline.θ_run_frame_forget (Q' := _) cfgs (datsF m) (0 : Fin 1) launch0 defs₀ Variants.none fgt m ρ main
    (hbody := obligationF m) (hshare := fun c => (datsF m 0 c).share_full fun _ => rfl)
    (howed := fun _ _ => rfl) (V := V m) (hmain := hmain m Variants.none) (hA := AF_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(Pipeline.RDat.FramePost.arr_in h.1 c 0 rfl).trans ((AF_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (Pipeline.RDat.FramePost.arr_in h.1 c 4 rfl).trans ((AF_eq m c 4).trans (V_main_arg5 m c)),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_quiescent m ρ)

end Cert.KernelQkvIdeal.Body

end
-- ==== Proof.RefQkv.lean ====
/-
  What the reference of the query/key/value call computes: its two results as functions of its arguments.
-/
module

public import proofs.«01_k».proof.Proof.Gen.ReferenceQkvIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceQkvIdeal.RefValue

open Cert.ReferenceQkvIdeal Cert.ReferenceQkvIdeal.Gen

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

/-- A vector of 1280 numbers as one row. -/
abbrev row (x : Vec Ideal S1280 .f32) : Vec Ideal S1x1280 .f32 := broadcastInDim S1x1280 ![1] bcast_S1280_S1x1280_1 x

/-- A vector of 3840 numbers as one row. -/
abbrev row3 (x : Vec Ideal S3840 .f32) : Vec Ideal S1x3840 .f32 := broadcastInDim S1x3840 ![1] bcast_S3840_S1x3840_1 x

/-- One number as a 1 by 1 array. -/
abbrev one (x : Vec Ideal S1 .f32) : Vec Ideal S1x1 .f32 := broadcastInDim S1x1 ![1] bcast_S1_S1x1_1 x

/-- The codes of the normalised activations, as the reference computes them from its arguments. -/
abbrev Codes (x : Vec Ideal S1024x1280 .bf16) (g sm : Vec Ideal S1280 .f32) (sa : Vec Ideal S1 .f32) : Vec Ideal S1024x1280 .i8 :=
  k0_pay2 (F := Ideal) x (row g) (row sm) (one sa)

/-- The queries, keys and values, as the reference computes them from its arguments. -/
abbrev Qkv (x : Vec Ideal S1024x1280 .bf16) (cos sin : Vec Ideal S1024x80 .f32) (g sm : Vec Ideal S1280 .f32) (w : Vec Ideal S1280x3840 .i8)
    (s : Vec Ideal S3840 .f32) (sa : Vec Ideal S1 .f32) (b : Vec Ideal S3840 .f32) : Vec Ideal S1024x3840 .bf16 :=
  k0_pay1 (F := Ideal) (Codes x g sm sa) w (k0_pay3 (row3 s)) (k0_pay4 (one sa)) (row3 b) cos sin

/-- After the reference's run its first result is `Codes` of the arguments. -/
theorem final9 (c : Dev nD) : (dats m 0 c).arrAt 9 (cfgs 0).N
    = Codes (m ((c : Thread nD τ).loc main_arg0)) (m ((c : Thread nD τ).loc main_arg3)) (m ((c : Thread nD τ).loc main_arg4))
      (m ((c : Thread nD τ).loc main_arg7)) := by
  refine (dats m 0 c).arrAt_eq_of_after_last 9 t0_0 (by decide +kernel) _ fun j => ?_
  blk_simp
  rw [after0_9]
  frame_out
  pointwise [k0_pay2, Codes, row, one]
  blk_point [iblk, idx t0_0]

/-! Each input's one block is its whole argument. -/

theorem ib0 (c : Dev nD) : iblk m c 0 t0_0 = m ((c : Thread nD τ).loc main_arg0) := by
  funext y
  pointwise [row, row3, one]
  blk_point [iblk, idx t0_0]
theorem ib1 (c : Dev nD) : iblk m c 1 t0_0 = m ((c : Thread nD τ).loc main_arg1) := by
  funext y
  pointwise [row, row3, one]
  blk_point [iblk, idx t0_0]
theorem ib2 (c : Dev nD) : iblk m c 2 t0_0 = m ((c : Thread nD τ).loc main_arg2) := by
  funext y
  pointwise [row, row3, one]
  blk_point [iblk, idx t0_0]
theorem ib3 (c : Dev nD) : iblk m c 3 t0_0 = row (m ((c : Thread nD τ).loc main_arg3)) := by
  funext y
  pointwise [row, row3, one]
  blk_point [iblk, idx t0_0]
theorem ib4 (c : Dev nD) : iblk m c 4 t0_0 = row (m ((c : Thread nD τ).loc main_arg4)) := by
  funext y
  pointwise [row, row3, one]
  blk_point [iblk, idx t0_0]
theorem ib5 (c : Dev nD) : iblk m c 5 t0_0 = m ((c : Thread nD τ).loc main_arg5) := by
  funext y
  pointwise [row, row3, one]
  blk_point [iblk, idx t0_0]
theorem ib6 (c : Dev nD) : iblk m c 6 t0_0 = row3 (m ((c : Thread nD τ).loc main_arg6)) := by
  funext y
  pointwise [row, row3, one]
  blk_point [iblk, idx t0_0]
theorem ib7 (c : Dev nD) : iblk m c 7 t0_0 = one (m ((c : Thread nD τ).loc main_arg7)) := by
  funext y
  pointwise [row, row3, one]
  blk_point [iblk, idx t0_0]
theorem ib8 (c : Dev nD) : iblk m c 8 t0_0 = row3 (m ((c : Thread nD τ).loc main_arg8)) := by
  funext y
  pointwise [row, row3, one]
  blk_point [iblk, idx t0_0]

/-- After the reference's run its second result is `Qkv` of the arguments. -/
theorem final10 (c : Dev nD) : (dats m 0 c).arrAt 10 (cfgs 0).N
    = Qkv (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m 0 c).arrAt_eq_of_after_last 10 t0_0 (by decide +kernel) _ fun j => ?_
  blk_simp
  rw [after0_10]
  frame_out
  rw [ib0, ib1, ib2, ib3, ib4, ib5, ib6, ib7, ib8]

/-- The linear layer's output, dequantised and with its bias, before the rotary embedding. -/
def Lin (C : IVec S1024x1280 8) (w : Vec Ideal S1280x3840 .i8) (s b : Vec Ideal S3840 .f32) (sa : Vec Ideal S1 .f32) : FVec Ideal S1024x3840 .f32 :=
  addf (mulf (matmul dot_S1024x1280_S1280x3840_S1024x3840_1_0_0_1_n_n none (sitofp .bf16 C : FVec Ideal S1024x1280 .bf16) (sitofp .bf16 w : FVec Ideal S1280x3840 .bf16) (constant S1024x3840 .f32 0x00000000#32))
    (broadcastTo S1024x3840 (mulf (broadcastTo S1x3840 (shapeCast S1x1 (one sa) shapeCasts_S1x1_S1x1) broadcasts_S1x1_S1x3840) (shapeCast S1x3840 (row3 s) shapeCasts_S1x3840_S1x3840)) broadcasts_S1x3840_S1024x3840))
    (broadcastTo S1024x3840 (shapeCast S1x3840 (row3 b) shapeCasts_S1x3840_S1x3840) broadcasts_S1x3840_S1024x3840)

theorem Lin_apply (C : IVec S1024x1280 8) (w : Vec Ideal S1280x3840 .i8) (s b : Vec Ideal S3840 .f32) (sa : Vec Ideal S1 .f32) (r : Fin 1024) (n : Fin 3840) :
    Lin C w s b sa (ix2 r n) = ((∑ k : Fin 1280, FloatOps.sitofp (F := Ideal) FTy.bf16 (C (ix2 r k)) * FloatOps.sitofp (F := Ideal) FTy.bf16 (w (ix2 k n)))
      * (sa (ix1 0) * s (ix1 n)) + b (ix1 n) : EReal) := by
  pointwise [Lin, one, row3]

/-- The rotary embedding of the queries and keys, the values kept, in the layout of the result. -/
def rope (T : FVec Ideal S1024x3840 .f32) (cos sin : Vec Ideal S1024x80 .f32) : FVec Ideal S1024x3x16x80 .bf16 :=
  have v47 : FVec Ideal S1024x3x16x80 .f32 := shapeCast S1024x3x16x80 T shapeCasts_S1024x3840_S1024x3x16x80
  have v48 : FVec Ideal S1024x2x16x80 .f32 := extractStridedSlice S1024x2x16x80 ![0, 0, 0, 0] v47 slices_S1024x3x16x80_o0_0_0_0_S1024x2x16x80
  have v49 : FVec Ideal S1024x2x16x40 .f32 := extractStridedSlice S1024x2x16x40 ![0, 0, 0, 40] v48 slices_S1024x2x16x80_o0_0_0_40_S1024x2x16x40
  have v51 : FVec Ideal S1024x2x16x40 .f32 := subf (broadcast S1024x2x16x40 (Scalar.ofBits .f32 0x00000000#32)) v49
  have v52 : FVec Ideal S1024x2x16x40 .f32 := extractStridedSlice S1024x2x16x40 ![0, 0, 0, 0] v48 slices_S1024x2x16x80_o0_0_0_0_S1024x2x16x40
  have v53 : FVec Ideal S1024x2x16x80 .f32 := concatenate S1024x2x16x80 3 [⟨S1024x2x16x40, v51⟩, ⟨S1024x2x16x40, v52⟩] concatenates_S1024x2x16x40_S1024x2x16x40_S1024x2x16x80_d3
  have v55 : FVec Ideal S1024x1x1x80 .f32 := shapeCast S1024x1x1x80 cos shapeCasts_S1024x80_S1024x1x1x80
  have v56 : FVec Ideal S1024x2x16x80 .f32 := broadcastTo S1024x2x16x80 v55 broadcasts_S1024x1x1x80_S1024x2x16x80
  have v59 : FVec Ideal S1024x1x1x80 .f32 := shapeCast S1024x1x1x80 sin shapeCasts_S1024x80_S1024x1x1x80
  have v60 : FVec Ideal S1024x2x16x80 .f32 := broadcastTo S1024x2x16x80 v59 broadcasts_S1024x1x1x80_S1024x2x16x80
  have v62 : FVec Ideal S1024x2x16x80 .f32 := addf (mulf v48 v56) (mulf v53 v60)
  have v63 : FVec Ideal S1024x1x16x80 .f32 := extractStridedSlice S1024x1x16x80 ![0, 2, 0, 0] v47 slices_S1024x3x16x80_o0_2_0_0_S1024x1x16x80
  have v64 : FVec Ideal S1024x3x16x80 .f32 := concatenate S1024x3x16x80 1 [⟨S1024x2x16x80, v62⟩, ⟨S1024x1x16x80, v63⟩] concatenates_S1024x2x16x80_S1024x1x16x80_S1024x3x16x80_d1
  truncf .bf16 v64 bitsLt_bf16_f32

theorem Qkv_eq (x : Vec Ideal S1024x1280 .bf16) (cos sin : Vec Ideal S1024x80 .f32) (g sm : Vec Ideal S1280 .f32) (w : Vec Ideal S1280x3840 .i8)
    (s : Vec Ideal S3840 .f32) (sa : Vec Ideal S1 .f32) (b : Vec Ideal S3840 .f32) :
    Qkv x cos sin g sm w s sa b = shapeCast S1024x3840 (rope (Lin (Codes x g sm sa) w s b sa) cos sin) shapeCasts_S1024x3x16x80_S1024x3840 := rfl

variable (T : FVec Ideal S1024x3840 .f32) (cos sin : Vec Ideal S1024x80 .f32)

/-- An entry of the result: for queries and keys the rotated pair, for values the linear layer's output. -/
theorem rope_apply (r : Fin 1024) (j : Fin 3) (h : Fin 16) (d : Fin 80) : rope T cos sin (ix4 r j h d) =
    (if h_1 : j.val < 2 then
      T (ix2 r ⟨j.val * 1280 + h.val * 80 + d.val, by omega⟩) * cos (ix2 r d) +
        (if h_2 : d.val < 40 then 0 - T (ix2 r ⟨j.val * 1280 + h.val * 80 + (40 + d.val), by omega⟩)
          else T (ix2 r ⟨j.val * 1280 + h.val * 80 + (d.val - 40), by omega⟩)) * sin (ix2 r d)
    else T (ix2 r ⟨(2 + (j.val - 2)) * 1280 + h.val * 80 + d.val, by omega⟩) : EReal) := by
  pointwise [rope]

theorem flat_apply (R : FVec Ideal S1024x3x16x80 .bf16) (r : Fin 1024) (n : Fin 3840) (j : Fin 3) (h : Fin 16) (d : Fin 80) (hn : n.val = 1280 * j.val + 80 * h.val + d.val) :
    shapeCast S1024x3840 R shapeCasts_S1024x3x16x80_S1024x3840 (ix2 r n) = R (ix4 r j h d) := by
  pointwise
  congr 1
  refine congr (congr (congr (congrArg ix4 ?_) ?_) ?_) ?_ <;> apply Fin.ext <;> simp <;> omega

/-- An entry of the rotated queries and keys. -/
theorem Qkv_rot (x : Vec Ideal S1024x1280 .bf16) (g sm : Vec Ideal S1280 .f32) (w : Vec Ideal S1280x3840 .i8)
    (s : Vec Ideal S3840 .f32) (sa : Vec Ideal S1 .f32) (b : Vec Ideal S3840 .f32) (r : Fin 1024) (n : Fin 3840) (hn : n.val < 2560) :
    Qkv x cos sin g sm w s sa b (ix2 r n) =
      (Lin (Codes x g sm sa) w s b sa (ix2 r n) * cos (ix2 r ⟨n.val % 80, by omega⟩) +
        (if h : n.val % 80 < 40 then 0 - Lin (Codes x g sm sa) w s b sa (ix2 r ⟨n.val + 40, by omega⟩)
          else Lin (Codes x g sm sa) w s b sa (ix2 r ⟨n.val - 40, by omega⟩)) * sin (ix2 r ⟨n.val % 80, by omega⟩) : EReal) := by
  rw [Qkv_eq, flat_apply _ r n ⟨n.val / 1280, by omega⟩ ⟨n.val % 1280 / 80, by omega⟩ ⟨n.val % 80, by omega⟩ (by simp; omega), rope_apply, dif_pos (by show n.val / 1280 < 2; omega)]
  generalize Lin (Codes x g sm sa) w s b sa = T
  have e : (⟨n.val / 1280 * 1280 + n.val % 1280 / 80 * 80 + n.val % 80, by omega⟩ : Fin 3840) = n := Fin.ext (by show n.val / 1280 * 1280 + n.val % 1280 / 80 * 80 + n.val % 80 = n.val; omega)
  rw [e]
  refine congrArg₂ (fun a b : EReal => T (ix2 r n) * cos (ix2 r ⟨n.val % 80, by omega⟩) + a * b) ?_ rfl
  by_cases h : n.val % 80 < 40
  · rw [dif_pos h, dif_pos h]
    refine congrArg (fun q => (0 : EReal) - T (ix2 r q)) (Fin.ext ?_)
    show n.val / 1280 * 1280 + n.val % 1280 / 80 * 80 + (40 + n.val % 80) = n.val + 40
    omega
  · rw [dif_neg h, dif_neg h]
    refine congrArg (fun q => T (ix2 r q)) (Fin.ext ?_)
    show n.val / 1280 * 1280 + n.val % 1280 / 80 * 80 + (n.val % 80 - 40) = n.val - 40
    omega

/-- An entry of the values. -/
theorem Qkv_val (x : Vec Ideal S1024x1280 .bf16) (g sm : Vec Ideal S1280 .f32) (w : Vec Ideal S1280x3840 .i8)
    (s : Vec Ideal S3840 .f32) (sa : Vec Ideal S1 .f32) (b : Vec Ideal S3840 .f32) (r : Fin 1024) (n : Fin 3840) (hn : 2560 ≤ n.val) :
    Qkv x cos sin g sm w s sa b (ix2 r n) = (Lin (Codes x g sm sa) w s b sa (ix2 r n) : EReal) := by
  rw [Qkv_eq, flat_apply _ r n ⟨n.val / 1280, by omega⟩ ⟨n.val % 1280 / 80, by omega⟩ ⟨n.val % 80, by omega⟩ (by simp; omega), rope_apply, dif_neg (by show ¬ n.val / 1280 < 2; omega)]
  generalize Lin (Codes x g sm sa) w s b sa = T
  refine congrArg (fun q => T (ix2 r q)) (Fin.ext ?_)
  show (2 + (n.val / 1280 - 2)) * 1280 + n.val % 1280 / 80 * 80 + n.val % 80 = n.val
  omega

end Cert.ReferenceQkvIdeal.RefValue
-- ==== Proof.QkvPay.lean ====
/-
  The values the query/key/value kernel's body computes, over the extended reals. A point handles its rows in four tiles of
  256; each tile's codes and each tile's block of queries, keys or values are the same functions of the tile's rows, so the
  four tiles together are one function of all 1024 rows.
-/
module

public import proofs.«01_k».proof.Proof.QkvTriIdeal
public import proofs.«01_k».proof.Proof.RefQkv
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.KernelQkvIdeal.Body
open Cert.KernelQkvIdeal Cert.KernelQkvIdeal.Gen

variable (v : Vec Ideal S256x1280 .bf16) (g sm : Vec Ideal S1x1280 .f32) (sa : Vec Ideal S1x1 .f32)
  (w : Vec Ideal S1280x1280 .i8) (ws b : Vec Ideal S1x1280 .f32) (co si : Vec Ideal S256x640 .f32)

/-! The four tiles' codes are one function of the tile's rows. -/

theorem code_q1 : k0_pay6 (F := Ideal) (k0_pay5 v) g sm sa = k0_pay3 v g sm sa := rfl
theorem code_q2 : k0_pay11 (F := Ideal) (k0_pay8 v) (k0_pay9 g) (k0_pay10 v) sm sa = k0_pay3 v g sm sa := rfl
theorem code_q3 : k0_pay16 (F := Ideal) (k0_pay13 v) (k0_pay14 g) (k0_pay15 v) sm sa = k0_pay3 v g sm sa := rfl
theorem num_q1 : k0_pay7 (F := Ideal) (k0_pay5 v) g sm sa = k0_pay4 v g sm sa := rfl
theorem num_q2 : k0_pay12 (F := Ideal) (k0_pay8 v) (k0_pay9 g) (k0_pay10 v) sm sa = k0_pay4 v g sm sa := rfl
theorem num_q3 : k0_pay17 (F := Ideal) (k0_pay13 v) (k0_pay14 g) (k0_pay15 v) sm sa = k0_pay4 v g sm sa := rfl

/-! So are the four tiles' queries and keys, -/

theorem rot_q1 : k0_pay26 (F := Ideal) k0_pay20 (k0_pay24 w sa ws v) b co si = k0_pay22 w sa ws v b co si := rfl
theorem rot_q2 : k0_pay29 (F := Ideal) (k0_pay18 w) (k0_pay19 sa ws) k0_pay20 v b co si = k0_pay22 w sa ws v b co si := rfl
theorem rot_q3 : k0_pay1 (F := Ideal) k0_pay20 (k0_pay31 (k0_pay18 w) (k0_pay19 sa ws) v b) co si = k0_pay22 w sa ws v b co si := rfl

/-! and their values. -/

theorem val_q1 : k0_pay27 (F := Ideal) (k0_pay24 w sa ws v) b = k0_pay23 w sa ws v b := rfl
theorem val_q2 : k0_pay30 (F := Ideal) (k0_pay18 w) (k0_pay19 sa ws) v b = k0_pay23 w sa ws v b := rfl
theorem val_q3 : k0_pay2 (F := Ideal) (k0_pay31 (k0_pay18 w) (k0_pay19 sa ws) v b) = k0_pay23 w sa ws v b := rfl

theorem lin_apply (r : Fin 256) (l : Fin 1280) : k0_pay21 (F := Ideal) w sa ws v b (ix2 r l)
   = ((∑ k : Fin 1280, v (ix2 r k) * FloatOps.sitofp (F := Ideal) FTy.bf16 (w (ix2 k l))) * (sa (ix2 0 0) * ws (ix2 0 l)) + b (ix2 0 l) : EReal) := by
  pointwise [k0_pay21, k0_pay18, k0_pay19]

theorem mask_val (l : Fin 1280) : IntOp.cmpi CmpIPredicate.slt (IntOp.remsi ArithUnit.vector (BitVec.ofNat 32 l.val) 80#32) 40#32 = BitVec.ofBool (decide (l.val % 80 < 40)) := by
  revert l
  decide +kernel

def linS (f : Fin 1280 → EReal) (l : Fin 1280) : EReal :=
  (∑ k : Fin 1280, f k * FloatOps.sitofp (F := Ideal) FTy.bf16 (w (ix2 k l))) * (sa (ix2 0 0) * ws (ix2 0 l)) + b (ix2 0 l)

def rotS (f : Fin 1280 → EReal) (cr sr : Fin 640 → EReal) (l : Fin 1280) : EReal :=
  linS sa w ws b f l * cr ⟨l.val % 640, by omega⟩
    + (if l.val % 80 < 40 then linS sa w ws b f ⟨(l.val + 40) % 1280, by omega⟩ else linS sa w ws b f ⟨(l.val + 1240) % 1280, by omega⟩) * sr ⟨l.val % 640, by omega⟩

theorem rot_apply (y : S256x1280.Idx) : k0_pay22 (F := Ideal) w sa ws v b co si y
    = rotS sa w ws b (fun k => v (ix2 (y 0) k)) (fun q => co (ix2 (y 0) q)) (fun q => si (ix2 (y 0) q)) (y 1) := by
  obtain ⟨r, l, rfl⟩ : ∃ (r : Fin 256) (l : Fin 1280), y = ix2 r l := ⟨y 0, y 1, eq_ix2 y⟩
  have hT : ∀ q, k0_pay21 (F := Ideal) w sa ws v b (ix2 r q) = linS sa w ws b (fun k => v (ix2 r k)) q := fun q => lin_apply v sa w ws b r q
  show k0_pay22 (F := Ideal) w sa ws v b co si (ix2 r l) = rotS sa w ws b (fun k => v (ix2 r k)) (fun q => co (ix2 r q)) (fun q => si (ix2 r q)) l
  unfold k0_pay22 rotS
  generalize k0_pay21 (F := Ideal) w sa ws v b = T at hT
  simp only [← hT]
  pointwise [k0_pay20]
  rw [mask_val]
  have e : ∀ X : Vec Ideal S256x640 .f32, (if h : l.val < 640 then X (ix2 r ⟨l.val, h⟩) else X (ix2 r ⟨l.val - 640, by omega⟩)) = X (ix2 r ⟨l.val % 640, by omega⟩) := fun X => by
    by_cases h : l.val < 640
    · rw [dif_pos h]; refine congrArg (fun q => X (ix2 r q)) (Fin.ext ?_); show l.val = l.val % 640; omega
    · rw [dif_neg h]; refine congrArg (fun q => X (ix2 r q)) (Fin.ext ?_); show l.val - 640 = l.val % 640; omega
  rw [e co, e si]
  by_cases h : l.val % 80 < 40
  · rw [if_pos h, decide_eq_true h]; rfl
  · rw [if_neg h, decide_eq_false h]; rfl

theorem val_apply (y : S256x1280.Idx) : k0_pay23 (F := Ideal) w sa ws v b y = linS sa w ws b (fun k => v (ix2 (y 0) k)) (y 1) := by
  pointwise [k0_pay23, k0_pay21, k0_pay18, k0_pay19, linS]

def codeS (f : Fin 1280 → EReal) (l : Fin 1280) : BitVec 8 := k0_pay3 (F := Ideal) (fun z : S256x1280.Idx => f (z 1)) g sm sa (ix2 0 l)

theorem code_apply (y : S256x1280.Idx) : k0_pay3 (F := Ideal) v g sm sa y = codeS g sm sa (fun k : Fin 1280 => v (ix2 (y 0) k)) (y 1) := by
  pointwise [codeS, k0_pay3]

theorem num_apply (y : S256x1280.Idx) : k0_pay4 (F := Ideal) v g sm sa y = FloatOps.sitofp (F := Ideal) FTy.bf16 (codeS g sm sa (fun k : Fin 1280 => v (ix2 (y 0) k)) (y 1)) := by
  pointwise [codeS, k0_pay3, k0_pay4]

theorem ld_rows {Val : EltTy → Type} {e : EltTy} {N : Nat} (X : (⟨2, ![1024, N]⟩ : Shape).Idx → Val e) {o : Nat} (inb) (x : (⟨2, ![256, N]⟩ : Shape).Idx) (y : (⟨2, ![1024, N]⟩ : Shape).Idx) (h0 : (y 0).val = o + (x 0).val) (h1 : (y 1).val = (x 1).val) :
    View.ld X (Rect.unit (s := ⟨2, ![1024, N]⟩) ![o, 0] ![256, N] inb) x = X y := by
  show X _ = X _
  congr 1
  funext a
  match a with
  | 0 => exact Fin.ext ((ValueKit.rect_emb_unit_val (s := ⟨2, ![1024, N]⟩) ![o, 0] ![256, N] inb x 0).trans h0.symm)
  | 1 => exact Fin.ext ((ValueKit.rect_emb_unit_val (s := ⟨2, ![1024, N]⟩) ![o, 0] ![256, N] inb x 1).trans ((Nat.zero_add _).trans h1.symm))

section Rows

variable (X : Vec Ideal S1024x1280 .bf16) (C S : Vec Ideal S1024x640 .f32) {o : Nat} (inb) (inb2) (inb3) (x : S256x1280.Idx) (y : S1024x1280.Idx) (h0 : (y 0).val = o + (x 0).val) (h1 : (y 1).val = (x 1).val)
include h0 h1

theorem code_rows : k0_pay3 (F := Ideal) (View.ld X (Rect.unit ![o, 0] ![256, 1280] inb)) g sm sa x
    = codeS g sm sa (fun k : Fin 1280 => X (ix2 (y 0) k)) (y 1) := by
  rw [code_apply, show x 1 = y 1 from Fin.ext h1.symm]
  congr 1
  funext k
  exact ld_rows X inb (ix2 (x 0) k) (ix2 (y 0) k) h0 rfl

theorem num_rows : k0_pay4 (F := Ideal) (View.ld X (Rect.unit ![o, 0] ![256, 1280] inb)) g sm sa x
    = FloatOps.sitofp (F := Ideal) FTy.bf16 (codeS g sm sa (fun k : Fin 1280 => X (ix2 (y 0) k)) (y 1)) := by
  rw [num_apply, show x 1 = y 1 from Fin.ext h1.symm]
  congr 2
  funext k
  exact ld_rows X inb (ix2 (x 0) k) (ix2 (y 0) k) h0 rfl

theorem val_rows : k0_pay23 (F := Ideal) w sa ws (View.ld X (Rect.unit ![o, 0] ![256, 1280] inb)) b x
    = linS sa w ws b (fun k : Fin 1280 => X (ix2 (y 0) k)) (y 1) := by
  rw [val_apply, show x 1 = y 1 from Fin.ext h1.symm]
  congr 1
  funext k
  exact ld_rows X inb (ix2 (x 0) k) (ix2 (y 0) k) h0 rfl

theorem rot_rows : k0_pay22 (F := Ideal) w sa ws (View.ld X (Rect.unit ![o, 0] ![256, 1280] inb)) b (View.ld C (Rect.unit ![o, 0] ![256, 640] inb2)) (View.ld S (Rect.unit ![o, 0] ![256, 640] inb3)) x
    = rotS sa w ws b (fun k : Fin 1280 => X (ix2 (y 0) k)) (fun q => C (ix2 (y 0) q)) (fun q => S (ix2 (y 0) q)) (y 1) := by
  rw [rot_apply, show x 1 = y 1 from Fin.ext h1.symm]
  refine congr (congr (congr (congrArg (rotS sa w ws b) ?_) ?_) ?_) rfl
  · funext k; exact ld_rows X inb (ix2 (x 0) k) (ix2 (y 0) k) h0 rfl
  · funext k; exact ld_rows C inb2 (ix2 (x 0) k) (ix2 (y 0) k) h0 rfl
  · funext k; exact ld_rows S inb3 (ix2 (x 0) k) (ix2 (y 0) k) h0 rfl

theorem rot_rowsA : k0_pay22 (F := Ideal) w sa ws (k0_pay4 (F := Ideal) (View.ld X (Rect.unit ![o, 0] ![256, 1280] inb)) g sm sa) b (View.ld C (Rect.unit ![o, 0] ![256, 640] inb2)) (View.ld S (Rect.unit ![o, 0] ![256, 640] inb3)) x
    = rotS sa w ws b (fun k : Fin 1280 => FloatOps.sitofp (F := Ideal) FTy.bf16 (codeS g sm sa (fun l : Fin 1280 => X (ix2 (y 0) l)) k)) (fun q => C (ix2 (y 0) q)) (fun q => S (ix2 (y 0) q)) (y 1) := by
  rw [rot_apply, show x 1 = y 1 from Fin.ext h1.symm]
  refine congr (congr (congr (congrArg (rotS sa w ws b) ?_) ?_) ?_) rfl
  · funext k; exact num_rows g sm sa X inb (ix2 (x 0) k) (ix2 (y 0) k) h0 rfl
  · funext k; exact ld_rows C inb2 (ix2 (x 0) k) (ix2 (y 0) k) h0 rfl
  · funext k; exact ld_rows S inb3 (ix2 (x 0) k) (ix2 (y 0) k) h0 rfl

end Rows

theorem cdA_apply (c : Dev nD) (t : Fin cfg0.N) (x0 : Vec Ideal S1024x1280 .bf16) (x1 x2 : Vec Ideal S1x1280 .f32) (x3 : Vec Ideal S1x1 .f32) (x4 : Vec Ideal S1280x1280 .i8) (x5 x6 : Vec Ideal S1x1280 .f32) (x7 x8 : Vec Ideal S1024x640 .f32) (hc0 : cond0_0 (grid0.coords t)) (hc1 : cond0_1 (grid0.coords t)) (hc2 : ¬cond0_2 (grid0.coords t)) (y) : cdA c t hc0 hc1 hc2 x0 x1 x2 x3 x4 x5 x6 x7 x8 y
    = (codeS x1 x2 x3 (fun k : Fin 1280 => x0 (ix2 (y 0) k)) (y 1) : BitVec 8) := by
  unfold cdA runA
  frame_out
  simp (disch := decide) only [↓View.readCov_skip, View.readCov_cons_toLoadRect, code_q1, code_q2, code_q3, num_q1, num_q2, num_q3, rot_q1, rot_q2, rot_q3, val_q1, val_q2, val_q3, read_unread_whole]
  canon_tiles x h
  · exact code_rows _ _ _ _ _ x y (by omega) h1
  · exact code_rows _ _ _ _ _ x y (by omega) h1
  · exact code_rows _ _ _ _ _ x y (by omega) h1
  · exact code_rows _ _ _ _ _ x y (by omega) h1

theorem csA_apply (c : Dev nD) (t : Fin cfg0.N) (x0 : Vec Ideal S1024x1280 .bf16) (x1 x2 : Vec Ideal S1x1280 .f32) (x3 : Vec Ideal S1x1 .f32) (x4 : Vec Ideal S1280x1280 .i8) (x5 x6 : Vec Ideal S1x1280 .f32) (x7 x8 : Vec Ideal S1024x640 .f32) (hc0 : cond0_0 (grid0.coords t)) (hc1 : cond0_1 (grid0.coords t)) (hc2 : ¬cond0_2 (grid0.coords t)) (y) : csA c t hc0 hc1 hc2 x0 x1 x2 x3 x4 x5 x6 x7 x8 y
    = (FloatOps.sitofp (F := Ideal) FTy.bf16 (codeS x1 x2 x3 (fun k : Fin 1280 => x0 (ix2 (y 0) k)) (y 1)) : EReal) := by
  unfold csA runA
  frame_out
  simp (disch := decide) only [↓View.readCov_skip, View.readCov_cons_toLoadRect, code_q1, code_q2, code_q3, num_q1, num_q2, num_q3, rot_q1, rot_q2, rot_q3, val_q1, val_q2, val_q3, read_unread_whole]
  canon_tiles x h
  · exact num_rows _ _ _ _ _ x y (by omega) h1
  · exact num_rows _ _ _ _ _ x y (by omega) h1
  · exact num_rows _ _ _ _ _ x y (by omega) h1
  · exact num_rows _ _ _ _ _ x y (by omega) h1

theorem outA_apply (c : Dev nD) (t : Fin cfg0.N) (x0 : Vec Ideal S1024x1280 .bf16) (x1 x2 : Vec Ideal S1x1280 .f32) (x3 : Vec Ideal S1x1 .f32) (x4 : Vec Ideal S1280x1280 .i8) (x5 x6 : Vec Ideal S1x1280 .f32) (x7 x8 : Vec Ideal S1024x640 .f32) (hc0 : cond0_0 (grid0.coords t)) (hc1 : cond0_1 (grid0.coords t)) (hc2 : ¬cond0_2 (grid0.coords t)) (y) : outA c t hc0 hc1 hc2 x0 x1 x2 x3 x4 x5 x6 x7 x8 y
    = (rotS x3 x4 x5 x6 (fun k : Fin 1280 => FloatOps.sitofp (F := Ideal) FTy.bf16 (codeS x1 x2 x3 (fun k : Fin 1280 => x0 (ix2 (y 0) k)) k)) (fun q => x7 (ix2 (y 0) q)) (fun q => x8 (ix2 (y 0) q)) (y 1) : EReal) := by
  unfold outA runA
  frame_out
  simp (disch := decide) only [↓View.readCov_skip, View.readCov_cons_toLoadRect, code_q1, code_q2, code_q3, num_q1, num_q2, num_q3, rot_q1, rot_q2, rot_q3, val_q1, val_q2, val_q3, read_unread_whole]
  canon_tiles x h
  · exact rot_rowsA _ _ _ _ _ _ _ _ _ _ _ _ x y (by omega) h1
  · exact rot_rowsA _ _ _ _ _ _ _ _ _ _ _ _ x y (by omega) h1
  · exact rot_rowsA _ _ _ _ _ _ _ _ _ _ _ _ x y (by omega) h1
  · exact rot_rowsA _ _ _ _ _ _ _ _ _ _ _ _ x y (by omega) h1

theorem outB_apply (c : Dev nD) (t : Fin cfg0.N) (x0 : Vec Ideal S1024x1280 .bf16) (x1 x2 : Vec Ideal S1x1280 .f32) (x3 : Vec Ideal S1x1 .f32) (x4 : Vec Ideal S1280x1280 .i8) (x5 x6 : Vec Ideal S1x1280 .f32) (x7 x8 : Vec Ideal S1024x640 .f32) (xs0 : Vec Ideal S1024x1280 .bf16) (hc0 : ¬cond0_0 (grid0.coords t)) (hc1 : cond0_1 (grid0.coords t)) (hc2 : ¬cond0_2 (grid0.coords t)) (y) : outB c t hc0 hc1 hc2 x0 x1 x2 x3 x4 x5 x6 x7 x8 xs0 y
    = (rotS x3 x4 x5 x6 (fun k : Fin 1280 => xs0 (ix2 (y 0) k)) (fun q => x7 (ix2 (y 0) q)) (fun q => x8 (ix2 (y 0) q)) (y 1) : EReal) := by
  unfold outB runB
  frame_out
  simp (disch := decide) only [↓View.readCov_skip, View.readCov_cons_toLoadRect, code_q1, code_q2, code_q3, num_q1, num_q2, num_q3, rot_q1, rot_q2, rot_q3, val_q1, val_q2, val_q3, read_unread_whole]
  canon_tiles x h
  · exact rot_rows _ _ _ _ _ _ _ _ _ _ x y (by omega) h1
  · exact rot_rows _ _ _ _ _ _ _ _ _ _ x y (by omega) h1
  · exact rot_rows _ _ _ _ _ _ _ _ _ _ x y (by omega) h1
  · exact rot_rows _ _ _ _ _ _ _ _ _ _ x y (by omega) h1

theorem outC_apply (c : Dev nD) (t : Fin cfg0.N) (x0 : Vec Ideal S1024x1280 .bf16) (x1 x2 : Vec Ideal S1x1280 .f32) (x3 : Vec Ideal S1x1 .f32) (x4 : Vec Ideal S1280x1280 .i8) (x5 x6 : Vec Ideal S1x1280 .f32) (x7 x8 : Vec Ideal S1024x640 .f32) (xs0 : Vec Ideal S1024x1280 .bf16) (hc0 : ¬cond0_0 (grid0.coords t)) (hc1 : ¬cond0_1 (grid0.coords t)) (hc2 : cond0_2 (grid0.coords t)) (y) : outC c t hc0 hc1 hc2 x0 x1 x2 x3 x4 x5 x6 x7 x8 xs0 y
    = (linS x3 x4 x5 x6 (fun k : Fin 1280 => xs0 (ix2 (y 0) k)) (y 1) : EReal) := by
  unfold outC runC
  frame_out
  simp (disch := decide) only [↓View.readCov_skip, View.readCov_cons_toLoadRect, code_q1, code_q2, code_q3, num_q1, num_q2, num_q3, rot_q1, rot_q2, rot_q3, val_q1, val_q2, val_q3, read_unread_whole]
  canon_tiles x h
  · exact val_rows _ _ _ _ _ _ x y (by omega) h1
  · exact val_rows _ _ _ _ _ _ x y (by omega) h1
  · exact val_rows _ _ _ _ _ _ x y (by omega) h1
  · exact val_rows _ _ _ _ _ _ x y (by omega) h1

end Cert.KernelQkvIdeal.Body
end
-- ==== Proof.QkvHost.lean ====
/-
  The arrays the host prepares for the query/key/value kernel, at an index.
-/
module

public import proofs.«01_k».proof.Proof.QkvFrameIdeal
public import proofs.«01_k».proof.Proof.QkvPay
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat Window)
namespace Cert.KernelQkvIdeal.Body
open Cert.KernelQkvIdeal Cert.KernelQkvIdeal.Gen

variable (m : (ℓ : Loc nD τ sig) → Buf (Elt Ideal) ℓ)

/-- The pattern of minus one. -/
theorem ofBits_neg_one_f32 : Ideal.ofBits .f32 3212836864#32 = (-1 : EReal) := by
  rw [show (-1 : EReal) = ((-(1 : ℝ) : ℝ) : EReal) by rw [EReal.coe_neg, EReal.coe_one]]
  simp [Ideal.ofBits, Ideal.ieee, -EReal.coe_mul, -EReal.coe_neg]; norm_num
/-- Whether a lane of a head is in its first half. -/
theorem slt_lt (d : Fin 80) : IntOp.cmpi CmpIPredicate.slt (BitVec.ofNat 32 d.val) 40#32 = BitVec.ofBool (decide (d.val < 40)) := by
  revert d
  decide +kernel

/-! Each array in the terms of the arguments. -/

theorem V14_at (c : Dev nD) (l : Fin 1280) : V m c main_v14 (ix2 0 l) = m ((c : Thread nD τ).loc main_arg3) (ix1 l) := by
  unfold V
  after_reads_at
theorem V15_at (c : Dev nD) (l : Fin 1280) : V m c main_v15 (ix2 0 l) = m ((c : Thread nD τ).loc main_arg4) (ix1 l) := by
  unfold V
  after_reads_at
theorem V17_at (c : Dev nD) (l : Fin 3840) : V m c main_v17 (ix2 0 l) = m ((c : Thread nD τ).loc main_arg6) (ix1 l) := by
  unfold V
  after_reads_at
theorem V18_at (c : Dev nD) (l : Fin 3840) : V m c main_v18 (ix2 0 l) = m ((c : Thread nD τ).loc main_arg8) (ix1 l) := by
  unfold V
  after_reads_at
theorem V16_at (c : Dev nD) : V m c main_v16 (ix2 0 0) = m ((c : Thread nD τ).loc main_arg7) (ix1 0) := by
  unfold V
  after_reads_at
theorem V7_at (c : Dev nD) (r : Fin 1024) (q : Fin 640) : V m c main_v7 (ix2 r q) = m ((c : Thread nD τ).loc main_arg1) (ix2 r ⟨q.val % 80, by omega⟩) := by
  unfold V
  after_reads_at
/-- An element of the sines as an extended real. -/
abbrev el (x : Vec Ideal S1024x80 .f32) (r : Fin 1024) (d : Fin 80) : EReal := x (ix2 r d)
/-- The sines, the first half of each head negated. -/
theorem V13_at (c : Dev nD) (r : Fin 1024) (q : Fin 640) : V m c main_v13 (ix2 r q)
    = el (m ((c : Thread nD τ).loc main_arg2)) r ⟨q.val % 80, by omega⟩ * (if q.val % 80 < 40 then (-1 : EReal) else 1) := by
  unfold V
  after_reads_at
  show el (m ((c : Thread nD τ).loc main_arg2)) r ⟨q.val % 80, by omega⟩ * (_ : EReal) = _
  congr 1
  simp only [id]
  pointwise
  rw [ofBits_neg_one_f32, slt_lt ⟨q.val % 80, by omega⟩]
  by_cases h : q.val % 80 < 40
  · rw [if_pos h, decide_eq_true h]; rfl
  · rw [if_neg h, decide_eq_false h]; rfl

end Cert.KernelQkvIdeal.Body
-- ==== Proof.QkvBlk.lean ====
/-
  The blocks of the arguments the query/key/value kernel's points hold, at an index, and what the body leaves in the terms of
  the reference: point `t` holds columns `1280 t` to `1280 t + 1279` of the weights, scales and biases.
-/
module

public import proofs.«01_k».proof.Proof.QkvHost
public import proofs.«01_k».proof.Proof.QkvPay

@[expose] public section
set_option maxRecDepth 16384
noncomputable section
open Idealize.ShloMosaic Idealize.ShloMosaic.TcCoe Idealize.SL.Sem
open Idealize.ShloMosaic.Pipeline (Dat Window)
namespace Cert.KernelQkvIdeal.Body
open Cert.KernelQkvIdeal Cert.KernelQkvIdeal.Gen
open Cert.ReferenceQkvIdeal.RefValue (Codes Qkv Lin row row3 one Lin_apply Qkv_rot Qkv_val)

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, t.val] ∧ win0_5.index t = ![0, t.val] ∧ win0_6.index t = ![0, t.val] ∧ win0_7.index t = ![0, 0] ∧ win0_8.index t = ![0, 0]
    ∧ win0_9.index t = ![0, 0] ∧ win0_10.index t = ![0, t.val] :=
  (by decide +kernel : ∀ t : Fin grid0.N, _)

abbrev GC (c : Dev nD) : Vec Ideal S1024x1280 .i8 := Codes (m ((c : Thread nD τ).loc main_arg0)) (m ((c : Thread nD τ).loc main_arg3)) (m ((c : Thread nD τ).loc main_arg4)) (m ((c : Thread nD τ).loc main_arg7))
abbrev GQ (c : Dev nD) : Vec Ideal S1024x3840 .bf16 := Qkv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
def GN (c : Dev nD) : Vec Ideal S1024x1280 .bf16 := fun y => FloatOps.sitofp (F := Ideal) FTy.bf16 (GC m c y)

/-! Each input's block at point `t`. -/

theorem ib0 (c : Dev nD) (t : Fin cfg0.N) : iblk m c 0 t = (m ((c : Thread nD τ).loc main_arg0)) := by
  funext y
  blk_point [iblk, idx t]
theorem ib1 (c : Dev nD) (t : Fin cfg0.N) : iblk m c 1 t = row (m ((c : Thread nD τ).loc main_arg3)) := by
  funext y
  obtain ⟨a, l, rfl⟩ : ∃ (a : Fin 1) (l : Fin 1280), y = ix2 a l := ⟨y 0, y 1, eq_ix2 y⟩
  obtain rfl : a = 0 := Subsingleton.elim _ _
  refine Eq.trans (b := V m c main_v14 (ix2 0 l)) ?_ ((V14_at m c l).trans ?_)
  · blk_point [iblk, idx t]
  · pointwise [row]
theorem ib2 (c : Dev nD) (t : Fin cfg0.N) : iblk m c 2 t = row (m ((c : Thread nD τ).loc main_arg4)) := by
  funext y
  obtain ⟨a, l, rfl⟩ : ∃ (a : Fin 1) (l : Fin 1280), y = ix2 a l := ⟨y 0, y 1, eq_ix2 y⟩
  obtain rfl : a = 0 := Subsingleton.elim _ _
  refine Eq.trans (b := V m c main_v15 (ix2 0 l)) ?_ ((V15_at m c l).trans ?_)
  · blk_point [iblk, idx t]
  · pointwise [row]
theorem ib3 (c : Dev nD) (t : Fin cfg0.N) : iblk m c 3 t = one (m ((c : Thread nD τ).loc main_arg7)) := by
  funext y
  obtain ⟨a, l, rfl⟩ : ∃ (a : Fin 1) (l : Fin 1), y = ix2 a l := ⟨y 0, y 1, eq_ix2 y⟩
  obtain rfl : a = 0 := Subsingleton.elim _ _
  obtain rfl : l = 0 := Subsingleton.elim _ _
  refine Eq.trans (b := V m c main_v16 (ix2 0 0)) ?_ ((V16_at m c).trans ?_)
  · blk_point [iblk, idx t]
  · pointwise [one]
theorem ib4_at (c : Dev nD) (t : Fin cfg0.N) (k l : Fin 1280) (n : Fin 3840) (hn : n.val = 1280 * t.val + l.val) : iblk m c 4 t (ix2 k l) = (m ((c : Thread nD τ).loc main_arg5)) (ix2 k n) := by
  blk_point [iblk, idx t]
theorem ib5_at (c : Dev nD) (t : Fin cfg0.N) (l : Fin 1280) (n : Fin 3840) (hn : n.val = 1280 * t.val + l.val) : iblk m c 5 t (ix2 0 l) = (m ((c : Thread nD τ).loc main_arg6)) (ix1 n) := by
  refine Eq.trans (b := V m c main_v17 (ix2 0 n)) ?_ (V17_at m c n)
  blk_point [iblk, idx t]
theorem ib6_at (c : Dev nD) (t : Fin cfg0.N) (l : Fin 1280) (n : Fin 3840) (hn : n.val = 1280 * t.val + l.val) : iblk m c 6 t (ix2 0 l) = (m ((c : Thread nD τ).loc main_arg8)) (ix1 n) := by
  refine Eq.trans (b := V m c main_v18 (ix2 0 n)) ?_ (V18_at m c n)
  blk_point [iblk, idx t]
theorem ib7_at (c : Dev nD) (t : Fin cfg0.N) (r : Fin 1024) (q : Fin 640) : iblk m c 7 t (ix2 r q) = (m ((c : Thread nD τ).loc main_arg1)) (ix2 r ⟨q.val % 80, by omega⟩) := by
  refine Eq.trans (b := V m c main_v7 (ix2 r q)) ?_ (V7_at m c r q)
  blk_point [iblk, idx t]
theorem ib8_at (c : Dev nD) (t : Fin cfg0.N) (r : Fin 1024) (q : Fin 640) : iblk m c 8 t (ix2 r q)
    = el (m ((c : Thread nD τ).loc main_arg2)) r ⟨q.val % 80, by omega⟩ * (if q.val % 80 < 40 then (-1 : EReal) else 1) := by
  refine Eq.trans (b := V m c main_v13 (ix2 r q)) ?_ (V13_at m c r q)
  blk_point [iblk, idx t]

theorem codeS_eq (x : Vec Ideal S1024x1280 .bf16) (g sm : Vec Ideal Cert.ReferenceQkvIdeal.S1280 .f32) (sa : Vec Ideal Cert.ReferenceQkvIdeal.S1 .f32) (r : Fin 1024) (l : Fin 1280) :
    codeS (row g) (row sm) (one sa) (fun k : Fin 1280 => x (ix2 r k)) l = Codes x g sm sa (ix2 r l) := by
  pointwise [codeS, k0_pay3, Cert.ReferenceQkvIdeal.Gen.k0_pay2, Codes, row, one]

theorem one_at (x : Vec Ideal Cert.ReferenceQkvIdeal.S1 .f32) : one x (ix2 0 0) = x (ix1 0) := by
  pointwise [one]

/-! What a point's body leaves, on the inputs' blocks. -/

theorem lin_eq (c : Dev nD) (t : Fin cfg0.N) (r : Fin 1024) (l : Fin 1280) (n : Fin 3840) (hn : n.val = 1280 * t.val + l.val) :
    linS (iblk m c 3 t) (iblk m c 4 t) (iblk m c 5 t) (iblk m c 6 t) (fun k : Fin 1280 => GN m c (ix2 r k)) l
      = Lin (GC m c) (m ((c : Thread nD τ).loc main_arg5)) (m ((c : Thread nD τ).loc main_arg6)) (m ((c : Thread nD τ).loc main_arg8)) (m ((c : Thread nD τ).loc main_arg7)) (ix2 r n) := by
  unfold linS
  rw [ib5_at m c t l n hn, ib6_at m c t l n hn, ib3, one_at, Lin_apply]
  simp only [ib4_at m c t _ l n hn]
  rfl

theorem neg_sin (a b : EReal) : a * (b * (-1)) = (0 - a) * b := by
  rw [mul_neg, mul_one, mul_neg, zero_sub, neg_mul]

theorem rot_eq (c : Dev nD) (t : Fin cfg0.N) (ht : t.val < 2) (r : Fin 1024) (l : Fin 1280) (n : Fin 3840) (hn : n.val = 1280 * t.val + l.val) :
    rotS (iblk m c 3 t) (iblk m c 4 t) (iblk m c 5 t) (iblk m c 6 t) (fun k : Fin 1280 => GN m c (ix2 r k))
      (fun q => iblk m c 7 t (ix2 r q)) (fun q => iblk m c 8 t (ix2 r q)) l = GQ m c (ix2 r n) := by
  have hm : n.val % 80 = l.val % 80 := by omega
  unfold rotS
  dsimp only
  rw [lin_eq m c t r l n hn, ib7_at, ib8_at]
  refine Eq.trans ?_ (Qkv_rot (m ((c : Thread nD τ).loc main_arg1)) (m ((c : Thread nD τ).loc main_arg2)) _ _ _ _ _ _ _ r n (by omega)).symm
  have e1 : (⟨l.val % 640 % 80, by omega⟩ : Fin 80) = ⟨n.val % 80, by omega⟩ := Fin.ext (by show l.val % 640 % 80 = n.val % 80; omega)
  have e2 : (l.val % 640 % 80 < 40) = (n.val % 80 < 40) := by rw [show l.val % 640 % 80 = n.val % 80 by omega]
  rw [e1]
  simp only [e2, ← hm]
  by_cases h : n.val % 80 < 40
  · rw [if_pos h, if_pos h, dif_pos h, lin_eq m c t r ⟨(l.val + 40) % 1280, by omega⟩ ⟨n.val + 40, by omega⟩ (by show n.val + 40 = 1280 * t.val + (l.val + 40) % 1280; omega), neg_sin]
  · rw [if_neg h, if_neg h, dif_neg h, lin_eq m c t r ⟨(l.val + 1240) % 1280, by omega⟩ ⟨n.val - 40, by omega⟩ (by show n.val - 40 = 1280 * t.val + (l.val + 1240) % 1280; omega), mul_one]

theorem val_eq (c : Dev nD) (t : Fin cfg0.N) (ht : t.val = 2) (r : Fin 1024) (l : Fin 1280) (n : Fin 3840) (hn : n.val = 1280 * t.val + l.val) :
    linS (iblk m c 3 t) (iblk m c 4 t) (iblk m c 5 t) (iblk m c 6 t) (fun k : Fin 1280 => GN m c (ix2 r k)) l = GQ m c (ix2 r n) := by
  rw [lin_eq m c t r l n hn]
  exact (Qkv_val _ _ _ _ _ _ _ _ _ r n (by omega)).symm

theorem code_eq (c : Dev nD) (t : Fin cfg0.N) (r : Fin 1024) (l : Fin 1280) :
    codeS (iblk m c 1 t) (iblk m c 2 t) (iblk m c 3 t) (fun k : Fin 1280 => iblk m c 0 t (ix2 r k)) l = GC m c (ix2 r l) := by
  rw [ib1, ib2, ib3, ib0]
  exact codeS_eq _ _ _ _ r l

end Cert.KernelQkvIdeal.Body
-- ==== Proof.QkvTrack.lean ====
/-
  The query/key/value kernel's run with what it computes: the first point leaves the codes, and their numbers in scratch, where
  the later points find them; so the program ends with both results at the reference's values.
-/
module

public import proofs.«01_k».proof.Proof.QkvBlk

@[expose] public section

set_option maxRecDepth 16384

noncomputable section

namespace Cert.KernelQkvIdeal.Track

open Cert.KernelQkvIdeal.Body hiding frame
open Cert.KernelQkvIdeal Cert.KernelQkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

def after10 (c : Dev nD) (t : Fin cfg0.N) : Vec Ideal S1024x1280 .bf16 := fun y =>
  GQ m c (ix2 (y 0) ⟨1280 * t.val + (y 1).val, by
    have h1 : t.val < 3 := lt_of_lt_of_eq t.isLt (show cfg0.N = 3 from N_0)
    have h2 : (y 1).val < 1280 := (y 1).isLt
    omega⟩)

/-! What the body leaves at each point, its inputs at their blocks and its scratch at the codes. -/

theorem cdA_eq (c : Dev nD) (t : Fin cfg0.N) (hc0 : cond0_0 (grid0.coords t)) (hc1 : cond0_1 (grid0.coords t)) (hc2 : ¬cond0_2 (grid0.coords t)) : cdA c t hc0 hc1 hc2 (iblk m c 0 t) (iblk m c 1 t) (iblk m c 2 t) (iblk m c 3 t) (iblk m c 4 t) (iblk m c 5 t) (iblk m c 6 t) (iblk m c 7 t) (iblk m c 8 t) = GC m c := by
  funext y
  rw [cdA_apply]
  obtain ⟨r, l, rfl⟩ : ∃ (r : Fin 1024) (l : Fin 1280), y = ix2 r l := ⟨y 0, y 1, eq_ix2 y⟩
  exact code_eq m c t r l
theorem csA_eq (c : Dev nD) (t : Fin cfg0.N) (hc0 : cond0_0 (grid0.coords t)) (hc1 : cond0_1 (grid0.coords t)) (hc2 : ¬cond0_2 (grid0.coords t)) : csA c t hc0 hc1 hc2 (iblk m c 0 t) (iblk m c 1 t) (iblk m c 2 t) (iblk m c 3 t) (iblk m c 4 t) (iblk m c 5 t) (iblk m c 6 t) (iblk m c 7 t) (iblk m c 8 t) = GN m c := by
  funext y
  rw [csA_apply]
  obtain ⟨r, l, rfl⟩ : ∃ (r : Fin 1024) (l : Fin 1280), y = ix2 r l := ⟨y 0, y 1, eq_ix2 y⟩
  exact congrArg (FloatOps.sitofp (F := Ideal) FTy.bf16) (code_eq m c t r l)
theorem outA_eq (c : Dev nD) (t : Fin cfg0.N) (hc0 : cond0_0 (grid0.coords t)) (hc1 : cond0_1 (grid0.coords t)) (hc2 : ¬cond0_2 (grid0.coords t)) (ht : t.val < 2) : outA c t hc0 hc1 hc2 (iblk m c 0 t) (iblk m c 1 t) (iblk m c 2 t) (iblk m c 3 t) (iblk m c 4 t) (iblk m c 5 t) (iblk m c 6 t) (iblk m c 7 t) (iblk m c 8 t) = after10 m c t := by
  funext y
  rw [outA_apply]
  obtain ⟨r, l, rfl⟩ : ∃ (r : Fin 1024) (l : Fin 1280), y = ix2 r l := ⟨y 0, y 1, eq_ix2 y⟩
  have e : (fun k : Fin 1280 => FloatOps.sitofp (F := Ideal) FTy.bf16 (codeS (iblk m c 1 t) (iblk m c 2 t) (iblk m c 3 t) (fun k : Fin 1280 => iblk m c 0 t (ix2 r k)) k)) = fun k : Fin 1280 => GN m c (ix2 r k) :=
    funext fun k => congrArg (FloatOps.sitofp (F := Ideal) FTy.bf16) (code_eq m c t r k)
  refine Eq.trans ?_ (rot_eq m c t ht r l _ rfl)
  exact congrArg (fun f => rotS (iblk m c 3 t) (iblk m c 4 t) (iblk m c 5 t) (iblk m c 6 t) f (fun q => iblk m c 7 t (ix2 r q)) (fun q => iblk m c 8 t (ix2 r q)) l) e
theorem outB_eq (c : Dev nD) (t : Fin cfg0.N) (hc0 : ¬cond0_0 (grid0.coords t)) (hc1 : cond0_1 (grid0.coords t)) (hc2 : ¬cond0_2 (grid0.coords t)) (ht : t.val < 2) : outB c t hc0 hc1 hc2 (iblk m c 0 t) (iblk m c 1 t) (iblk m c 2 t) (iblk m c 3 t) (iblk m c 4 t) (iblk m c 5 t) (iblk m c 6 t) (iblk m c 7 t) (iblk m c 8 t) (GN m c) = after10 m c t := by
  funext y
  rw [outB_apply]
  obtain ⟨r, l, rfl⟩ : ∃ (r : Fin 1024) (l : Fin 1280), y = ix2 r l := ⟨y 0, y 1, eq_ix2 y⟩
  exact rot_eq m c t ht r l _ rfl
theorem outC_eq (c : Dev nD) (t : Fin cfg0.N) (hc0 : ¬cond0_0 (grid0.coords t)) (hc1 : ¬cond0_1 (grid0.coords t)) (hc2 : cond0_2 (grid0.coords t)) (ht : t.val = 2) : outC c t hc0 hc1 hc2 (iblk m c 0 t) (iblk m c 1 t) (iblk m c 2 t) (iblk m c 3 t) (iblk m c 4 t) (iblk m c 5 t) (iblk m c 6 t) (iblk m c 7 t) (iblk m c 8 t) (GN m c) = after10 m c t := by
  funext y
  rw [outC_apply]
  obtain ⟨r, l, rfl⟩ : ∃ (r : Fin 1024) (l : Fin 1280), y = ix2 r l := ⟨y 0, y 1, eq_ix2 y⟩
  exact val_eq m c t ht r l _ rfl

def Phi (c : Dev nD) : ℕ → sProp (MT nD τ sig Unit (Elt Ideal) ℕ (UR sig nD τ) ℕ)
  | 0 => Pipeline.ΦA spec0 c
  | n + 1 => iprop(owns (c : Thread nD τ) scM0_0 fullShare (GN m c) ∗ (∃ r, prngReg c r))

def datsT (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => GC m c
    | ⟨10, _⟩ => after10 m c t
  Φ t := Phi m c t.val
  q _ := fullShare
  owed _ := 0

theorem AT_eq (c : Dev nD) (w : Fin cfg0.W) : (datsT m 0 c).A w = V m c (Pipeline.arrRef spec0 w) := by dsimp only [datsT]

theorem afterT_0 (c : Dev nD) (t : Fin cfg0.N) : (datsT m 0 c).after 0 t = iblk m c 0 t := by dsimp only [datsT]
theorem afterT_1 (c : Dev nD) (t : Fin cfg0.N) : (datsT m 0 c).after 1 t = iblk m c 1 t := by dsimp only [datsT]
theorem afterT_2 (c : Dev nD) (t : Fin cfg0.N) : (datsT m 0 c).after 2 t = iblk m c 2 t := by dsimp only [datsT]
theorem afterT_3 (c : Dev nD) (t : Fin cfg0.N) : (datsT m 0 c).after 3 t = iblk m c 3 t := by dsimp only [datsT]
theorem afterT_4 (c : Dev nD) (t : Fin cfg0.N) : (datsT m 0 c).after 4 t = iblk m c 4 t := by dsimp only [datsT]
theorem afterT_5 (c : Dev nD) (t : Fin cfg0.N) : (datsT m 0 c).after 5 t = iblk m c 5 t := by dsimp only [datsT]
theorem afterT_6 (c : Dev nD) (t : Fin cfg0.N) : (datsT m 0 c).after 6 t = iblk m c 6 t := by dsimp only [datsT]
theorem afterT_7 (c : Dev nD) (t : Fin cfg0.N) : (datsT m 0 c).after 7 t = iblk m c 7 t := by dsimp only [datsT]
theorem afterT_8 (c : Dev nD) (t : Fin cfg0.N) : (datsT m 0 c).after 8 t = iblk m c 8 t := by dsimp only [datsT]
theorem beforeT_0 (c : Dev nD) (t : Fin cfg0.N) (d) : (datsT m 0 c).before 0 t d = iblk m c 0 t :=
  before0_0_of m (datsT m 0 c) (AT_eq m c 0) (afterT_0 m c) t d
theorem beforeT_1 (c : Dev nD) (t : Fin cfg0.N) (d) : (datsT m 0 c).before 1 t d = iblk m c 1 t :=
  before0_1_of m (datsT m 0 c) (AT_eq m c 1) (afterT_1 m c) t d
theorem beforeT_2 (c : Dev nD) (t : Fin cfg0.N) (d) : (datsT m 0 c).before 2 t d = iblk m c 2 t :=
  before0_2_of m (datsT m 0 c) (AT_eq m c 2) (afterT_2 m c) t d
theorem beforeT_3 (c : Dev nD) (t : Fin cfg0.N) (d) : (datsT m 0 c).before 3 t d = iblk m c 3 t :=
  before0_3_of m (datsT m 0 c) (AT_eq m c 3) (afterT_3 m c) t d
theorem beforeT_4 (c : Dev nD) (t : Fin cfg0.N) (d) : (datsT m 0 c).before 4 t d = iblk m c 4 t :=
  before0_4_of m (datsT m 0 c) (AT_eq m c 4) (afterT_4 m c) t d
theorem beforeT_5 (c : Dev nD) (t : Fin cfg0.N) (d) : (datsT m 0 c).before 5 t d = iblk m c 5 t :=
  before0_5_of m (datsT m 0 c) (AT_eq m c 5) (afterT_5 m c) t d
theorem beforeT_6 (c : Dev nD) (t : Fin cfg0.N) (d) : (datsT m 0 c).before 6 t d = iblk m c 6 t :=
  before0_6_of m (datsT m 0 c) (AT_eq m c 6) (afterT_6 m c) t d
theorem beforeT_7 (c : Dev nD) (t : Fin cfg0.N) (d) : (datsT m 0 c).before 7 t d = iblk m c 7 t :=
  before0_7_of m (datsT m 0 c) (AT_eq m c 7) (afterT_7 m c) t d
theorem beforeT_8 (c : Dev nD) (t : Fin cfg0.N) (d) : (datsT m 0 c).before 8 t d = iblk m c 8 t :=
  before0_8_of m (datsT m 0 c) (AT_eq m c 8) (afterT_8 m c) t d
theorem leavesT_0 (c : Dev nD) (t : Fin cfg0.N) : (datsT m 0 c).leaves 0 t = owns (c : Thread nD τ) (ms0_0 t) fullShare (iblk m c 0 t) := by
  unfold Dat.leaves; rw [liveAt0_0 t, afterT_0]
theorem leavesT_1 (c : Dev nD) (t : Fin cfg0.N) : (datsT m 0 c).leaves 1 t = owns (c : Thread nD τ) (ms0_1 t) fullShare (iblk m c 1 t) := by
  unfold Dat.leaves; rw [liveAt0_1 t, afterT_1]
theorem leavesT_2 (c : Dev nD) (t : Fin cfg0.N) : (datsT m 0 c).leaves 2 t = owns (c : Thread nD τ) (ms0_2 t) fullShare (iblk m c 2 t) := by
  unfold Dat.leaves; rw [liveAt0_2 t, afterT_2]
theorem leavesT_3 (c : Dev nD) (t : Fin cfg0.N) : (datsT m 0 c).leaves 3 t = owns (c : Thread nD τ) (ms0_3 t) fullShare (iblk m c 3 t) := by
  unfold Dat.leaves; rw [liveAt0_3 t, afterT_3]
theorem leavesT_4 (c : Dev nD) (t : Fin cfg0.N) : (datsT m 0 c).leaves 4 t = owns (c : Thread nD τ) (ms0_4 t) fullShare (iblk m c 4 t) := by
  unfold Dat.leaves; rw [liveAt0_4 t, afterT_4]
theorem leavesT_5 (c : Dev nD) (t : Fin cfg0.N) : (datsT m 0 c).leaves 5 t = owns (c : Thread nD τ) (ms0_5 t) fullShare (iblk m c 5 t) := by
  unfold Dat.leaves; rw [liveAt0_5 t, afterT_5]
theorem leavesT_6 (c : Dev nD) (t : Fin cfg0.N) : (datsT m 0 c).leaves 6 t = owns (c : Thread nD τ) (ms0_6 t) fullShare (iblk m c 6 t) := by
  unfold Dat.leaves; rw [liveAt0_6 t, afterT_6]
theorem leavesT_7 (c : Dev nD) (t : Fin cfg0.N) : (datsT m 0 c).leaves 7 t = owns (c : Thread nD τ) (ms0_7 t) fullShare (iblk m c 7 t) := by
  unfold Dat.leaves; rw [liveAt0_7 t, afterT_7]
theorem leavesT_8 (c : Dev nD) (t : Fin cfg0.N) : (datsT m 0 c).leaves 8 t = owns (c : Thread nD τ) (ms0_8 t) fullShare (iblk m c 8 t) := by
  unfold Dat.leaves; rw [liveAt0_8 t, afterT_8]
theorem afterT_9 (c : Dev nD) (t : Fin cfg0.N) : (datsT m 0 c).after 9 t = GC m c := by dsimp only [datsT]
theorem afterT_10 (c : Dev nD) (t : Fin cfg0.N) : (datsT m 0 c).after 10 t = after10 m c t := by dsimp only [datsT]
theorem leavesT_10 (c : Dev nD) (t : Fin cfg0.N) : (datsT m 0 c).leaves 10 t = owns (c : Thread nD τ) (ms0_10 t) fullShare (after10 m c t) := by
  unfold Dat.leaves; rw [liveAt0_10 t, afterT_10]

theorem noFlush9 (t : Fin cfg0.N) (h : ¬ t.val % 3 = 2) : (cfg0.win 9).flush t = false := by
  cases hf : (cfg0.win 9).flush t
  · rfl
  · exact absurd ((flush0_9 t).mp hf) h
theorem before9_one (c : Dev nD) (t : Fin cfg0.N) (ht : t.val = 1) (d) : (datsT m 0 c).before 9 t d = GC m c := by
  have h0 : t.val ≠ 0 := by omega
  have hN : t.val < 3 := lt_of_lt_of_eq t.isLt (show cfg0.N = 3 from N_0)
  rw [(datsT m 0 c).before_of_pos 9 t h0 ((cfg0.win 9).fetch_out rfl t), noFlush9 _ (by show ¬ (t.val - 1) % 3 = 2; omega), if_neg Bool.false_ne_true]
  unfold Dat.left
  rw [liveAt0_9 _ (by show (t.val - 1) % 3 = 0; omega)]
  unfold Dat.kept
  rw [Pipeline.fill_of_clip_none (cfg := cfg0) 9 _ (fun _ => rfl) d ((datsT m 0 c).after 9 _), Window.fill_cut, afterT_9]
theorem before9_two (c : Dev nD) (t : Fin cfg0.N) (ht : t.val = 2) (d) : (datsT m 0 c).before 9 t d = GC m c := by
  have h0 : t.val ≠ 0 := by omega
  rw [(datsT m 0 c).before_of_pos 9 t h0 ((cfg0.win 9).fetch_out rfl t), noFlush9 _ (by show ¬ (t.val - 1) % 3 = 2; omega), if_neg Bool.false_ne_true]
  unfold Dat.left
  rw [idleAt0_9 _ (by show ¬ (t.val - 1) % 3 = 0; omega)]
  exact before9_one m c _ (by show t.val - 1 = 1; omega) d
theorem leavesT_9A (c : Dev nD) (t : Fin cfg0.N) (h : t.val % 3 = 0) : (datsT m 0 c).leaves 9 t = owns (c : Thread nD τ) (ms0_9 t) fullShare (GC m c) := by
  unfold Dat.leaves; rw [liveAt0_9 t h, afterT_9]
theorem leavesT_9B (c : Dev nD) (t : Fin cfg0.N) (h : ¬ t.val % 3 = 0) (h2 : ¬ t.val % 3 = 2) :
    (datsT m 0 c).leaves 9 t = iprop(∃ d, owns (c : Thread nD τ) (ms0_9 t) fullShare ((datsT m 0 c).before 9 t d)) :=
  Dat.leaves_idle _ 9 t (idleAt0_9 t h) (noFlush9 t h2)
theorem leavesT_9C (c : Dev nD) (t : Fin cfg0.N) (h : ¬ t.val % 3 = 0) (h2 : t.val % 3 = 2) :
    (datsT m 0 c).leaves 9 t = owns (c : Thread nD τ) (ms0_9 t) fullShare (GC m c) := by
  unfold Dat.leaves; rw [idleAt0_9 t h, (flush0_9 t).mpr h2, afterT_9]
def preT (c : Dev nD) (t : Fin cfg0.N) : sProp (MT nD τ sig Unit (Elt Ideal) ℕ (UR sig nD τ) ℕ) :=
  iprop((datsT m 0 c).Φ t.castSucc ∗ (datsT m 0 c).owesAt () t.castSucc
    ∗ (∃ d, owns (c : Thread nD τ) (ms0_0 t) fullShare ((datsT m 0 c).before 0 t d))
    ∗ (∃ d, owns (c : Thread nD τ) (ms0_1 t) fullShare ((datsT m 0 c).before 1 t d))
    ∗ (∃ d, owns (c : Thread nD τ) (ms0_2 t) fullShare ((datsT m 0 c).before 2 t d))
    ∗ (∃ d, owns (c : Thread nD τ) (ms0_3 t) fullShare ((datsT m 0 c).before 3 t d))
    ∗ (∃ d, owns (c : Thread nD τ) (ms0_4 t) fullShare ((datsT m 0 c).before 4 t d))
    ∗ (∃ d, owns (c : Thread nD τ) (ms0_5 t) fullShare ((datsT m 0 c).before 5 t d))
    ∗ (∃ d, owns (c : Thread nD τ) (ms0_6 t) fullShare ((datsT m 0 c).before 6 t d))
    ∗ (∃ d, owns (c : Thread nD τ) (ms0_7 t) fullShare ((datsT m 0 c).before 7 t d))
    ∗ (∃ d, owns (c : Thread nD τ) (ms0_8 t) fullShare ((datsT m 0 c).before 8 t d))
    ∗ (∃ d, owns (c : Thread nD τ) (ms0_9 t) fullShare ((datsT m 0 c).before 9 t d))
    ∗ (∃ d, owns (c : Thread nD τ) (ms0_10 t) fullShare ((datsT m 0 c).before 10 t d)))

def postT (c : Dev nD) (t : Fin cfg0.N) : sProp (MT nD τ sig Unit (Elt Ideal) ℕ (UR sig nD τ) ℕ) :=
  iprop((datsT m 0 c).Φ t.succ ∗ (datsT m 0 c).owesAt () t.succ
    ∗ (datsT m 0 c).leaves 0 t
    ∗ (datsT m 0 c).leaves 1 t
    ∗ (datsT m 0 c).leaves 2 t
    ∗ (datsT m 0 c).leaves 3 t
    ∗ (datsT m 0 c).leaves 4 t
    ∗ (datsT m 0 c).leaves 5 t
    ∗ (datsT m 0 c).leaves 6 t
    ∗ (datsT m 0 c).leaves 7 t
    ∗ (datsT m 0 c).leaves 8 t
    ∗ (datsT m 0 c).leaves 9 t
    ∗ (datsT m 0 c).leaves 10 t)

set_option maxHeartbeats 4000000 in
theorem soundT (c : Dev nD) (t : Fin cfg0.N) :
    preT m c t ⊢ wp frame (wpE (defs₀ (F := Ideal)) Variants.none c none) Set.univ (bodyAt0 t) (fun _ => postT m c t) := by
  unfold preT postT
  simp only [beforeT_0, beforeT_1, beforeT_2, beforeT_3, beforeT_4, beforeT_5, beforeT_6, beforeT_7, beforeT_8, leavesT_0, leavesT_1, leavesT_2, leavesT_3, leavesT_4, leavesT_5, leavesT_6, leavesT_7, leavesT_8, leavesT_10]
  rw [show (datsT m 0 c).owesAt () t.succ = (datsT m 0 c).owesAt () t.castSucc from rfl]
  rw [show (datsT m 0 c).Φ t.succ = Phi m c (t.val + 1) from rfl, show (datsT m 0 c).Φ t.castSucc = Phi m c t.val from rfl]
  rw [show Phi m c (t.val + 1) = iprop(owns (c : Thread nD τ) scM0_0 fullShare (GN m c) ∗ (∃ r, prngReg c r)) from rfl]
  have hN : t.val < 3 := lt_of_lt_of_eq t.isLt (show cfg0.N = 3 from N_0)
  by_cases h0 : t.val % 3 = 0
  · have h1 : t.val % 3 < 2 := by omega
    have h2 : ¬ t.val % 3 = 2 := by omega
    have hP : Phi m c t.val = Pipeline.ΦA spec0 c := by rw [show t.val = 0 by omega]; rfl
    rw [hP, PhiA0_eq, leavesT_9A m c t h0]
    have hA := fun K => triA c t ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) K
    simp only [cdA_eq, csA_eq, outA_eq m c t _ _ _ (by omega : t.val < 2)] at hA
    iintro ⟨⟨⟨%s0, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (hA _)
    unfold insOwn
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [HS0]; · iexists _; iexact HS0
    iintro ⟨⟨H0, H1, H2, H3, H4, H5, H6, H7, H8⟩, H9, H10, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hP : Phi m c t.val = iprop(owns (c : Thread nD τ) scM0_0 fullShare (GN m c) ∗ (∃ r, prngReg c r)) := by
      obtain ⟨n, hn⟩ : ∃ n, t.val = n + 1 := ⟨t.val - 1, by omega⟩
      rw [hn]; rfl
    rw [hP]
    by_cases h2 : t.val % 3 = 2
    · have h1 : ¬ t.val % 3 < 2 := by omega
      rw [leavesT_9C m c t h0 h2]
      simp only [before9_two m c t (by omega)]
      have hC := fun K => triC c t (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (GN m c) (GC m c) K
      simp only [outC_eq m c t _ _ _ (by omega : t.val = 2)] at hC
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (hC _)
      unfold insOwn
      isplitl [H0 H1 H2 H3 H4 H5 H6 H7 H8]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      isplitl [H9]; · iexact H9
      isplitl [H10]; · iexists _; iexact H10
      isplitl [HS0]; · iexact HS0
      iintro ⟨⟨H0, H1, H2, H3, H4, H5, H6, H7, H8⟩, H9, H10, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have h1 : t.val % 3 < 2 := by omega
      rw [leavesT_9B m c t h0 h2]
      have hB := fun X K => triB c t (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (GN m c) X K
      simp only [outB_eq m c t _ _ _ (by omega : t.val < 2)] at hB
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (hB _ _)
      unfold insOwn
      isplitl [H0 H1 H2 H3 H4 H5 H6 H7 H8]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      isplitl [H9]; · iexact H9
      isplitl [H10]; · iexists _; iexact H10
      isplitl [HS0]; · iexact HS0
      iintro ⟨⟨H0, H1, H2, H3, H4, H5, H6, H7, H8⟩, H9, H10, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists d9; iexact H9
      iexact H10

theorem obligationT (c : Dev nD) : BodyObligationLoose (datsT m 0 c) (defs₀ (F := Ideal)) Variants.none () Set.univ := fun t => by
  rw [bigSep_W0, bigSep_W0, defs₀_row]
  exact triple_restated (soundT m c t) rfl .rfl fun _ => .rfl

theorem PhiT_out (c : Dev nD) (n : ℕ) : Phi m c n ⊢ Pipeline.ΦA spec0 c := by
  cases n with
  | zero => exact .rfl
  | succ n =>
    rw [PhiA0_eq]
    show iprop(_ ∗ _) ⊢ _
    iintro ⟨HS0, Hg⟩
    isplitl [HS0]; · iexists _; iexact HS0
    iexact Hg

set_option backward.isDefEq.respectTransparency.types false in
theorem run_track : θ_run defs (onTc (τ := τ) (main (F := Ideal))) (s₀ m ρ) (fun r => (Pipeline.FramePost cfgs (datsT m) 0 (V m)) r ∧ r.2.sem = fun _ => 0) :=
  Pipeline.θ_run_frame_track (Q' := _) cfgs (datsT m) (0 : Fin 1) launch0 defs₀ Variants.none m ρ main
    (hbody := obligationT m) (hshare := fun c => (datsT m 0 c).share_full fun _ => rfl)
    (howed := fun _ _ => rfl) (V := V m) (hmain := hmain m Variants.none) (hA := AT_eq m)
    (hin := fun c => .rfl) (hout := fun c => PhiT_out m c cfg0.N)

theorem arr9 (c : Dev nD) : (datsT m 0 c).arrAt 9 cfg0.N = GC m c := by
  refine (datsT m 0 c).arrAt_eq_of_after_last 9 t0_2 (by decide +kernel) _ fun j => ?_
  rw [afterT_9]
  rfl

theorem arr10 (c : Dev nD) : (datsT m 0 c).arrAt 10 cfg0.N = GQ m c := by
  refine (datsT m 0 c).arrAt_eq_of_covers 10 _ (by decide +kernel) fun t _ y => ?_
  blk_simp
  rw [afterT_10]
  unfold after10
  blk_point [idx t]

end Cert.KernelQkvIdeal.Track

end
-- ==== Proof.ClaimQkv.lean ====
module

public import proofs.«01_k».proof.Defs
public import proofs.«01_k».proof.Proof.Gen.KernelQkv.Skeleton
public import proofs.«01_k».proof.Proof.Gen.KernelQkvIdeal.Skeleton
public import proofs.«01_k».proof.Proof.Gen.ReferenceQkvIdeal.Value
public import proofs.«01_k».proof.Proof.QkvFrameBits
public import proofs.«01_k».proof.Proof.QkvTrack

@[expose] public section

set_option maxRecDepth 16384

noncomputable section

open Idealize.ShloMosaic Idealize.ShloMosaic.TcCoe Idealize.SL.Sem

namespace Cert.ClaimQkv

open Cert.ReferenceQkvIdeal.RefValue (Qkv Codes)
open Cert.KernelQkvIdeal.Gen

set_option maxHeartbeats 2000000 in
/-- The query/key/value call and its reference, from equal arguments, both run and end with equal results: the codes of the
    normalised activations and the rotated queries and keys with the values. -/
theorem algebraic : Cert.algebraic_KernelQkvIdeal_ReferenceQkvIdeal
    (hKernelQkvIdeal := Cert.KernelQkvIdeal.Gen.facts) (hReferenceQkvIdeal := Cert.ReferenceQkvIdeal.Gen.facts) := by
  intro m g m' g' _ hargs
  refine ⟨fun c => Codes (m (c.tc.loc Cert.KernelQkvIdeal.main_arg0)) (m (c.tc.loc Cert.KernelQkvIdeal.main_arg3)) (m (c.tc.loc Cert.KernelQkvIdeal.main_arg4)) (m (c.tc.loc Cert.KernelQkvIdeal.main_arg7)),
    fun c => Qkv (m (c.tc.loc Cert.KernelQkvIdeal.main_arg0)) (m (c.tc.loc Cert.KernelQkvIdeal.main_arg1)) (m (c.tc.loc Cert.KernelQkvIdeal.main_arg2)) (m (c.tc.loc Cert.KernelQkvIdeal.main_arg3)) (m (c.tc.loc Cert.KernelQkvIdeal.main_arg4)) (m (c.tc.loc Cert.KernelQkvIdeal.main_arg5)) (m (c.tc.loc Cert.KernelQkvIdeal.main_arg6)) (m (c.tc.loc Cert.KernelQkvIdeal.main_arg7)) (m (c.tc.loc Cert.KernelQkvIdeal.main_arg8)), ?_, ?_⟩
  · refine (θ_run Cert.KernelQkvIdeal.defs _ _).mono ?_ (Cert.KernelQkvIdeal.Track.run_track m g)
    rintro r ⟨h, -⟩ c
    have e9 := ((h c).1 9).trans (Cert.KernelQkvIdeal.Track.arr9 m c)
    have e10 := ((h c).1 10).trans (Cert.KernelQkvIdeal.Track.arr10 m c)
    unfold Cert.KernelQkvIdeal.Body.GC at e9
    unfold Cert.KernelQkvIdeal.Body.GQ at e10
    refine ⟨e9, e10,
      ((h c).1 0).trans (((Cert.KernelQkvIdeal.Track.datsT m 0 c).arrAt_in 0 rfl _).trans ((Cert.KernelQkvIdeal.Track.AT_eq m c 0).trans (V_main_arg0 m c))),
      ((h c).2 Cert.KernelQkvIdeal.main_arg1 (Pipeline.mem_restRefs_of Cert.KernelQkvIdeal.main_arg1 (by decide) (by decide))).trans (V_main_arg1 m c),
      ((h c).2 Cert.KernelQkvIdeal.main_arg2 (Pipeline.mem_restRefs_of Cert.KernelQkvIdeal.main_arg2 (by decide) (by decide))).trans (V_main_arg2 m c),
      ((h c).2 Cert.KernelQkvIdeal.main_arg3 (Pipeline.mem_restRefs_of Cert.KernelQkvIdeal.main_arg3 (by decide) (by decide))).trans (V_main_arg3 m c),
      ((h c).2 Cert.KernelQkvIdeal.main_arg4 (Pipeline.mem_restRefs_of Cert.KernelQkvIdeal.main_arg4 (by decide) (by decide))).trans (V_main_arg4 m c),
      ((h c).1 4).trans (((Cert.KernelQkvIdeal.Track.datsT m 0 c).arrAt_in 4 rfl _).trans ((Cert.KernelQkvIdeal.Track.AT_eq m c 4).trans (V_main_arg5 m c))),
      ((h c).2 Cert.KernelQkvIdeal.main_arg6 (Pipeline.mem_restRefs_of Cert.KernelQkvIdeal.main_arg6 (by decide) (by decide))).trans (V_main_arg6 m c),
      ((h c).2 Cert.KernelQkvIdeal.main_arg7 (Pipeline.mem_restRefs_of Cert.KernelQkvIdeal.main_arg7 (by decide) (by decide))).trans (V_main_arg7 m c),
      ((h c).2 Cert.KernelQkvIdeal.main_arg8 (Pipeline.mem_restRefs_of Cert.KernelQkvIdeal.main_arg8 (by decide) (by decide))).trans (V_main_arg8 m c)⟩
  · refine (θ_run Cert.ReferenceQkvIdeal.defs _ _).mono ?_ (Cert.ReferenceQkvIdeal.Value.run_blocks m' g')
    intro r h c
    obtain ⟨h0, h1, h⟩ := h c
    obtain ⟨a0, a1, a2, a3, a4, a5, a6, a7, a8⟩ := hargs c
    refine ⟨h0.trans ((Cert.ReferenceQkvIdeal.RefValue.final9 m' c).trans ?_),
      h1.trans ((Cert.ReferenceQkvIdeal.RefValue.final10 m' c).trans ?_), h⟩
    · rw [a0, a3, a4, a7]
    · rw [a0, a1, a2, a3, a4, a5, a6, a7, a8]

end Cert.ClaimQkv

end
-- ==== Proof.RefAttn.lean ====
/-
  What the reference of the image-attention call computes: its two results as functions of its arguments, and an entry of the
  attention in terms of one query row, the keys and the values of its head.
-/
module

public import proofs.«01_k».proof.Proof.Gen.ReferenceAttnIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceAttnIdeal.RefValue

open Cert.ReferenceAttnIdeal Cert.ReferenceAttnIdeal.Gen

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] :=
  (by decide +kernel : ∀ t : Fin grid0.N, _)

/-- The segments as a column, -/
abbrev segc (x : Vec Ideal S1024 .i32) : Vec Ideal S1024x1 .i32 := broadcastInDim S1024x1 ![0] bcast_S1024_S1024x1_0 x

/-- and as a row. -/
abbrev segr (x : Vec Ideal S1024 .i32) : Vec Ideal S1x1024 .i32 := broadcastInDim S1x1024 ![1] bcast_S1024_S1x1024_1 x

/-- One number as a 1 by 1 array. -/
abbrev one (x : Vec Ideal S1 .f32) : Vec Ideal S1x1 .f32 := broadcastInDim S1x1 ![1] bcast_S1_S1x1_1 x

/-- The attention, as the reference computes it from its arguments. -/
abbrev Attn (x : Vec Ideal S1024x3840 .bf16) (sg : Vec Ideal S1024 .i32) : Vec Ideal S1024x1280 .f32 :=
  k0_pay2 (F := Ideal) x (segc sg) (segr sg)

/-- The attention's codes, as the reference computes them from its arguments. -/
abbrev Codes (x : Vec Ideal S1024x3840 .bf16) (sg : Vec Ideal S1024 .i32) (sa : Vec Ideal S1 .f32) : Vec Ideal S1024x1280 .i8 :=
  k0_pay1 (F := Ideal) (Attn x sg) (k0_pay3 (F := Ideal) (one sa))

/-! Each input's one block is its whole argument. -/

theorem ib0 (c : Dev nD) : iblk m c 0 t0_0 = m ((c : Thread nD τ).loc main_arg0) := by
  funext y
  pointwise [segc, segr, one]
  blk_point [iblk, idx t0_0]
theorem ib1 (c : Dev nD) : iblk m c 1 t0_0 = segc (m ((c : Thread nD τ).loc main_arg1)) := by
  funext y
  pointwise [segc, segr, one]
  blk_point [iblk, idx t0_0]
theorem ib2 (c : Dev nD) : iblk m c 2 t0_0 = segr (m ((c : Thread nD τ).loc main_arg1)) := by
  funext y
  pointwise [segc, segr, one]
  blk_point [iblk, idx t0_0]
theorem ib3 (c : Dev nD) : iblk m c 3 t0_0 = one (m ((c : Thread nD τ).loc main_arg2)) := by
  funext y
  pointwise [segc, segr, one]
  blk_point [iblk, idx t0_0]

/-- The scores of every head, masked, in units of one power of two. -/
def scoreR (x : FVec Ideal S1024x3840 .bf16) (sc : Vec Ideal S1024x1 .i32) (sr : Vec Ideal S1x1024 .i32) : FVec Ideal S16x1024x1024 .f32 :=
  have v1 : FVec Ideal S1024x3x16x80 .bf16 := shapeCast S1024x3x16x80 x shapeCasts_S1024x3840_S1024x3x16x80
  have v2 : FVec Ideal S1024x1x16x80 .bf16 := extractStridedSlice S1024x1x16x80 ![0, 0, 0, 0] v1 slices_S1024x3x16x80_o0_0_0_0_S1024x1x16x80
  have v3 : FVec Ideal S1024x16x80 .bf16 := shapeCast S1024x16x80 v2 shapeCasts_S1024x1x16x80_S1024x16x80
  have v4 : FVec Ideal S1024x1x16x80 .bf16 := extractStridedSlice S1024x1x16x80 ![0, 1, 0, 0] v1 slices_S1024x3x16x80_o0_1_0_0_S1024x1x16x80
  have v5 : FVec Ideal S1024x16x80 .bf16 := shapeCast S1024x16x80 v4 shapeCasts_S1024x1x16x80_S1024x16x80
  have cst : FVec Ideal S16x1024x1024 .f32 := constant S16x1024x1024 .f32 0x00000000#32
  have v8 : FVec Ideal S16x1024x1024 .f32 := matmul dot_S1024x16x80_S1024x16x80_S16x1024x1024_2_2_0_0_1_1 none v3 v5 cst
  have cst_1 : Ideal .f32 := Scalar.ofBits .f32 0x3DE4F92E#32
  have v9 : FVec Ideal S16x1024x1024 .f32 := broadcast S16x1024x1024 cst_1
  have v10 : FVec Ideal S16x1024x1024 .f32 := mulf v8 v9
  have v12 : IVec S1024x1 32 := shapeCast S1024x1 sc shapeCasts_S1024x1_S1024x1
  have v14 : IVec S1x1024 32 := shapeCast S1x1024 sr shapeCasts_S1x1024_S1x1024
  have v15 : IVec S1024x1024 32 := broadcastTo S1024x1024 v12 broadcasts_S1024x1_S1024x1024
  have v16 : IVec S1024x1024 32 := broadcastTo S1024x1024 v14 broadcasts_S1x1024_S1024x1024
  have v17 : IVec S1024x1024 1 := cmpi .eq v15 v16
  have v18 : IVec S1x1024x1024 1 := shapeCast S1x1024x1024 v17 shapeCasts_S1024x1024_S1x1024x1024
  have cst_6 : Ideal .f32 := Scalar.ofBits .f32 0x3FB8AA3B#32
  have v19 : FVec Ideal S16x1024x1024 .f32 := broadcast S16x1024x1024 cst_6
  have v20 : FVec Ideal S16x1024x1024 .f32 := mulf v10 v19
  have cst_7 : Ideal .f32 := Scalar.ofBits .f32 0xFF800000#32
  have v21 : IVec S1x1024x1024 1 := shapeCast S1x1024x1024 v18 shapeCasts_S1x1024x1024_S1x1024x1024
  have v22 : IVec S16x1024x1024 1 := broadcastTo S16x1024x1024 v21 broadcasts_S1x1024x1024_S16x1024x1024
  have v23 : FVec Ideal S16x1024x1024 .f32 := broadcast S16x1024x1024 cst_7
  select v22 v20 v23

/-- The powers of two the scores give, each score first lowered by its row's greatest, rounded up. -/
def probR (s : FVec Ideal S16x1024x1024 .f32) : FVec Ideal S16x1024x1024 .f32 :=
  exp2 (subf s (broadcastTo S16x1024x1024 (ceil (shapeCast S16x1024x1
    (multiReduction .maximumf [2] S16x1024 s 0xFF800000#32 reduces_S16x1024x1024_S16x1024 (.inl rfl) rfl) shapeCasts_S16x1024_S16x1024x1))
    broadcasts_S16x1024x1_S16x1024x1024))

/-- The powers' weighted sums of the values over their plain sums. -/
def outR (p : FVec Ideal S16x1024x1024 .f32) (x : FVec Ideal S1024x3840 .bf16) : FVec Ideal S16x1024x80 .f32 :=
  have v1 : FVec Ideal S1024x3x16x80 .bf16 := shapeCast S1024x3x16x80 x shapeCasts_S1024x3840_S1024x3x16x80
  have v6 : FVec Ideal S1024x1x16x80 .bf16 := extractStridedSlice S1024x1x16x80 ![0, 2, 0, 0] v1 slices_S1024x3x16x80_o0_2_0_0_S1024x1x16x80
  have v7 : FVec Ideal S1024x16x80 .bf16 := shapeCast S1024x16x80 v6 shapeCasts_S1024x1x16x80_S1024x16x80
  have v31 : FVec Ideal S16x1024 .f32 := multiReduction .add [2] S16x1024 p 0x00000000#32 reduces_S16x1024x1024_S16x1024 (.inl rfl) rfl
  have v32 : FVec Ideal S16x1024x1 .f32 := shapeCast S16x1024x1 v31 shapeCasts_S16x1024_S16x1024x1
  have v33 : FVec Ideal S16x1024x1024 .bf16 := truncf .bf16 p bitsLt_bf16_f32
  have cst_10 : FVec Ideal S16x1024x80 .f32 := constant S16x1024x80 .f32 0x00000000#32
  have v34 : FVec Ideal S16x1024x80 .f32 := matmul dot_S16x1024x1024_S1024x16x80_S16x1024x80_2_0_1_2_0_1 none v33 v7 cst_10
  have v35 : FVec Ideal S16x1024x80 .f32 := broadcastTo S16x1024x80 v32 broadcasts_S16x1024x1_S16x1024x80
  divf v34 v35

/-- The heads' outputs side by side. -/
def joinR (o : FVec Ideal S16x1024x80 .f32) : FVec Ideal S1024x1280 .f32 :=
  shapeCast S1024x1280 (transpose S1024x16x80 [1, 0, 2] o transposes_S16x1024x80_p1_0_2_S1024x16x80) shapeCasts_S1024x16x80_S1024x1280

theorem Attn_eq (x : Vec Ideal S1024x3840 .bf16) (sg : Vec Ideal S1024 .i32) :
    Attn x sg = joinR (outR (probR (scoreR x (segc sg) (segr sg))) x) := rfl

/-! One row of one head, from its scores and its values. -/

/-- A score, masked, in units of one power of two. -/
def scS (b : BitVec 1) (a : EReal) : EReal :=
  Scalar.select b (a * Ideal.ofBits .f32 1038416174#32 * Ideal.ofBits .f32 1069066811#32) (Ideal.ofBits .f32 4286578688#32)

/-- The powers of two a row of scores gives. -/
def probS (s : Fin 1024 → EReal) (k : Fin 1024) : EReal :=
  FloatOps.exp2 (F := Ideal) (φ := .f32) (s k - Ideal.liftRound Int.ceil (Finset.fold max (Ideal.ofBits .f32 4286578688#32) s Finset.univ) : EReal)

/-- The powers' weighted sum of the values over their plain sum. -/
def outS (p v : Fin 1024 → EReal) : EReal := Ideal.div (∑ x, p x * v x) (∑ x, p x)

/-- One entry of the attention: from its query row, the keys and the values of its head, and the mask of its row. -/
def attnS (q : Fin 80 → EReal) (k : Fin 1024 → Fin 80 → EReal) (v : Fin 1024 → EReal) (b : Fin 1024 → BitVec 1) : EReal :=
  outS (probS fun n => scS (b n) (∑ d, q d * k n d)) v

variable (x : FVec Ideal S1024x3840 .bf16) (sg : Vec Ideal S1024 .i32) (s p : FVec Ideal S16x1024x1024 .f32) (o : FVec Ideal S16x1024x80 .f32)

/-- The index a row's reduction reads. -/
theorem lift_eq (h : Fin 16) (r : Fin 1024) (k : Fin 1024) :
    (reduces_S16x1024x1024_S16x1024.lift (ix2 h r) k) = ix3 h r k := by
  refine (funext fun a => ?_)
  match a with
  | ⟨0, _⟩ => rfl
  | ⟨1, _⟩ => rfl
  | ⟨2, _⟩ => rfl

/-- The greatest score of each row, as a reduction reads it, -/
theorem max_lift (h : Fin 16) (r : Fin 1024) :
    multiReduction (F := Ideal) .maximumf [2] S16x1024 s 0xFF800000#32 reduces_S16x1024x1024_S16x1024 (.inl rfl) rfl (ix2 h r)
      = Finset.fold max (Ideal.ofBits .f32 4286578688#32) (s ∘ reduces_S16x1024x1024_S16x1024.lift (ix2 h r)) Finset.univ :=
  Idealize.ShloMosaic.Ideal.multiReduction_maximumf_single s _ reduces_S16x1024x1024_S16x1024 (.inl rfl) rfl (ix2 h r)

/-- and from the row's scores. -/
theorem max_apply (h : Fin 16) (r : Fin 1024) (f : Fin 1024 → EReal) (hf : ∀ k, s (ix3 h r k) = f k) :
    multiReduction (F := Ideal) .maximumf [2] S16x1024 s 0xFF800000#32 reduces_S16x1024x1024_S16x1024 (.inl rfl) rfl (ix2 h r)
      = Finset.fold max (Ideal.ofBits .f32 4286578688#32) f Finset.univ := by
  rw [max_lift]
  have e : (s ∘ reduces_S16x1024x1024_S16x1024.lift (ix2 h r)) = f := funext fun k => (congrArg s (lift_eq h r k)).trans (hf k)
  exact congrArg (fun f : Fin 1024 → EReal => Finset.fold max (Ideal.ofBits .f32 4286578688#32) f Finset.univ) e

theorem exp_apply (h : Fin 16) (r n : Fin 1024) (M : FVec Ideal S16x1024 .f32) :
    exp2 (subf s (broadcastTo S16x1024x1024 (ceil (shapeCast S16x1024x1 M shapeCasts_S16x1024_S16x1024x1)) broadcasts_S16x1024x1_S16x1024x1024)) (ix3 h r n)
      = FloatOps.exp2 (F := Ideal) (φ := .f32) (s (ix3 h r n) - Ideal.liftRound Int.ceil (M (ix2 h r)) : EReal) := by
  pointwise

theorem prob_apply (h : Fin 16) (r n : Fin 1024) (f : Fin 1024 → EReal) (hf : ∀ k, s (ix3 h r k) = f k) : probR s (ix3 h r n) = probS f n := by
  unfold probR probS
  rw [exp_apply, max_apply s h r f hf, hf n]

theorem score_apply (h : Fin 16) (r n : Fin 1024) : scoreR x (segc sg) (segr sg) (ix3 h r n)
    = scS (IntOp.cmpi .eq (sg (ix1 r)) (sg (ix1 n))) (∑ d : Fin 80, (x (ix2 r ⟨h.val * 80 + d.val, by omega⟩) * x (ix2 n ⟨1280 + h.val * 80 + d.val, by omega⟩) : EReal)) := by
  pointwise [scoreR, scS, segc, segr]

theorem out_apply (h : Fin 16) (r : Fin 1024) (d : Fin 80) : outR p x (ix3 h r d) = outS (fun k => p (ix3 h r k)) (fun k => x (ix2 k ⟨2560 + h.val * 80 + d.val, by omega⟩)) := by
  pointwise [outR, outS]

theorem join_apply (h : Fin 16) (r : Fin 1024) (d : Fin 80) (j : Fin 1280) (hj : j.val = 80 * h.val + d.val) : joinR o (ix2 r j) = o (ix3 h r d) := by
  pointwise [joinR]
  congr 1
  refine congr (congr (congrArg ix3 ?_) rfl) ?_ <;> apply Fin.ext <;> simp <;> omega
/-- An entry of the attention: head `h`, component `d` of query row `r`. -/
theorem Attn_apply (x : Vec Ideal S1024x3840 .bf16) (sg : Vec Ideal S1024 .i32) (h : Fin 16) (r : Fin 1024) (d : Fin 80) (j : Fin 1280) (hj : j.val = 80 * h.val + d.val) :
    Attn x sg (ix2 r j) = attnS (fun e => x (ix2 r ⟨h.val * 80 + e.val, by omega⟩)) (fun n e => x (ix2 n ⟨1280 + h.val * 80 + e.val, by omega⟩))
      (fun n => x (ix2 n ⟨2560 + h.val * 80 + d.val, by omega⟩)) (fun n => IntOp.cmpi .eq (sg (ix1 r)) (sg (ix1 n))) := by
  rw [Attn_eq, join_apply _ h r d j hj, out_apply]
  unfold attnS
  exact congrArg (fun f => outS f _) (funext fun k => prob_apply _ h r k _ fun k' => score_apply x sg h r k')

/-- After the reference's run its first result is `Attn` of the arguments. -/
theorem final4 (c : Dev nD) : (dats m 0 c).arrAt 4 (cfgs 0).N
    = Attn (m ((c : Thread nD τ).loc main_arg0)) (m ((c : Thread nD τ).loc main_arg1)) := by
  refine (dats m 0 c).arrAt_eq_of_after_last 4 t0_0 (by decide +kernel) _ fun j => ?_
  blk_simp
  rw [after0_4]
  frame_out
  rw [ib0, ib1, ib2]

/-- After the reference's run its second result is `Codes` of the arguments. -/
theorem final5 (c : Dev nD) : (dats m 0 c).arrAt 5 (cfgs 0).N
    = Codes (m ((c : Thread nD τ).loc main_arg0)) (m ((c : Thread nD τ).loc main_arg1)) (m ((c : Thread nD τ).loc main_arg2)) := by
  refine (dats m 0 c).arrAt_eq_of_after_last 5 t0_0 (by decide +kernel) _ fun j => ?_
  blk_simp
  rw [after0_5]
  frame_out
  rw [ib0, ib1, ib2, ib3]

end Cert.ReferenceAttnIdeal.RefValue
-- ==== Proof.AttnPay.lean ====
/-
  The values the image-attention kernel's body computes, over the extended reals. The body takes its sixteen heads one after
  another, each through a window of 256 lanes that starts at a multiple of 128. Every head is one and the same function of its
  window's first and last lane, the mask and the three windows it reads; every tile of 128 lanes of the result is a choice
  among the heads whose windows reach it.
-/
module

public import proofs.«01_k».proof.Proof.Gen.KernelAttnIdeal.Frame
public import proofs.«01_k».proof.Proof.RefAttn
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.KernelAttnIdeal.Pay
open Cert.KernelAttnIdeal Cert.KernelAttnIdeal.Gen
open Cert.ReferenceAttnIdeal.RefValue (attnS outS probS scS)

/-- The lanes of a window from `lo` up to `hi`. -/
def maskH (lo hi : BitVec 32) : IVec S128x256 1 :=
  andi (cmpi .sge (iota .tc S128x256 32 [1] iota_S128x256_d1_w32) (broadcast S128x256 lo))
    (cmpi .slt (iota .tc S128x256 32 [1] iota_S128x256_d1_w32) (broadcast S128x256 hi))

/-- One head's masked scores, in units of one power of two. -/
def scoreH (lo hi : BitVec 32) (mk : IVec S128x1024 1) (q : FVec Ideal S128x256 .bf16) (k : FVec Ideal S1024x256 .bf16) : FVec Ideal S128x1024 .f32 :=
  select mk
    (mulf (mulf (matmul dot_S128x256_S1024x256_S128x1024_1_1_0_0_n_n none
        (truncf .bf16 (select (maskH lo hi) (extf .f32 q bitsLt_bf16_f32) (broadcast S128x256 (Scalar.ofBits .f32 0x00000000#32))) bitsLt_bf16_f32) k
        (constant S128x1024 .f32 0x00000000#32))
      (broadcast S128x1024 (Scalar.ofBits .f32 0x3DE4F92E#32))) (broadcast S128x1024 (Scalar.ofBits .f32 0x3FB8AA3B#32)))
    (broadcast S128x1024 (Scalar.ofBits .f32 0xFF800000#32))

/-- The powers of two a row of scores gives, each score first lowered by the row's greatest, rounded up. -/
def probH (s : FVec Ideal S128x1024 .f32) : FVec Ideal S128x1024 .f32 :=
  exp2 (subf s (broadcastTo S128x1024 (ceil (shapeCast S128x1
    (multiReduction .maximumf [1] S128 s 0xFF800000#32 reduces_S128x1024_S128 (.inl rfl) rfl) shapeCasts_S128_S128x1)) broadcasts_S128x1_S128x1024))

/-- The powers' weighted sums of the values over their plain sums. -/
def outH (p : FVec Ideal S128x1024 .f32) (v : FVec Ideal S1024x256 .bf16) : FVec Ideal S128x256 .f32 :=
  divf (matmul dot_S128x1024_S1024x256_S128x256_1_0_0_1_n_n none (truncf .bf16 p bitsLt_bf16_f32) v (constant S128x256 .f32 0x00000000#32))
    (broadcastTo S128x256 (shapeCast S128x1 (multiReduction .add [1] S128 p 0x00000000#32 reduces_S128x1024_S128 (.inl rfl) rfl) shapeCasts_S128_S128x1)
      broadcasts_S128x1_S128x256)

/-- One head's output over its window. -/
def headH (lo hi : BitVec 32) (mk : IVec S128x1024 1) (q : FVec Ideal S128x256 .bf16) (k v : FVec Ideal S1024x256 .bf16) : FVec Ideal S128x256 .f32 :=
  outH (probH (scoreH lo hi mk q k)) v

/-- A tile after one head, when the tile is the window's first 128 lanes, -/
def tileA (mh : IVec S128x256 1) (o : FVec Ideal S128x256 .f32) (p : FVec Ideal S128x128 .f32) : FVec Ideal S128x128 .f32 :=
  select (extractStridedSlice S128x128 ![0, 0] mh slices_S128x256_o0_0_S128x128)
    (extractStridedSlice S128x128 ![0, 0] o slices_S128x256_o0_0_S128x128) p

/-- and when it is the window's last 128 lanes. -/
def tileB (mh : IVec S128x256 1) (o : FVec Ideal S128x256 .f32) (p : FVec Ideal S128x128 .f32) : FVec Ideal S128x128 .f32 :=
  select (extractStridedSlice S128x128 ![0, 128] mh slices_S128x256_o0_128_S128x128)
    (extractStridedSlice S128x128 ![0, 128] o slices_S128x256_o0_128_S128x128) p

/-- A tile of zeros. -/
def tile0 : FVec Ideal S128x128 .f32 := broadcast S128x128 (Scalar.ofBits .f32 0x00000000#32)

/-! Each of these at an index. -/

/-- Whether a lane lies between `lo` and `lo + 80`. -/
theorem lane_mask : ∀ (lo : Fin 177) (z : Fin 256), IntOp.andi (IntOp.cmpi CmpIPredicate.sge (BitVec.ofNat 32 z.val) (BitVec.ofNat 32 lo.val))
    (IntOp.cmpi CmpIPredicate.slt (BitVec.ofNat 32 z.val) (BitVec.ofNat 32 (lo.val + 80))) = BitVec.ofBool (decide (lo.val ≤ z.val ∧ z.val < lo.val + 80)) := by
  decide +kernel

theorem mask_apply (lo : Nat) (hlo : lo ≤ 176) (r : Fin 128) (z : Fin 256) :
    maskH (BitVec.ofNat 32 lo) (BitVec.ofNat 32 (lo + 80)) (ix2 r z) = BitVec.ofBool (decide (lo ≤ z.val ∧ z.val < lo + 80)) := by
  refine Eq.trans ?_ (lane_mask ⟨lo, by omega⟩ z)
  pointwise [maskH]

/-- A choice by a decided bit. -/
theorem select_bool (P : Prop) [Decidable P] (a b : EReal) : Scalar.select (BitVec.ofBool (decide P)) a b = if P then a else b := by
  by_cases h : P
  · rw [if_pos h, decide_eq_true h]; rfl
  · rw [if_neg h, decide_eq_false h]; rfl

/-- A sum over a window whose terms outside one head are zero is the sum over the head. -/
theorem sum_window (lo : Nat) (hlo : lo ≤ 176) (f : Fin 256 → EReal) :
    (∑ x : Fin 256, if lo ≤ x.val ∧ x.val < lo + 80 then f x else 0) = ∑ d : Fin 80, f ⟨lo + d.val, by omega⟩ := by
  symm
  refine Finset.sum_of_injOn (fun d : Fin 80 => (⟨lo + d.val, by omega⟩ : Fin 256)) ?_ ?_ ?_ ?_
  · intro a _ b _ h
    have := congrArg Fin.val h
    exact Fin.ext (by simpa using this)
  · intro a _
    exact Finset.mem_coe.2 (Finset.mem_univ _)
  · intro i _ hi
    refine if_neg fun h => hi ⟨⟨i.val - lo, by omega⟩, Finset.mem_coe.2 (Finset.mem_univ _), Fin.ext ?_⟩
    show lo + (i.val - lo) = i.val
    omega
  · intro d _
    exact (if_pos (by show lo ≤ lo + d.val ∧ lo + d.val < lo + 80; omega)).symm

variable (mk : IVec S128x1024 1) (q : FVec Ideal S128x256 .bf16) (k v : FVec Ideal S1024x256 .bf16) (s p : FVec Ideal S128x1024 .f32)

theorem score_sum (lo hi : BitVec 32) (r : Fin 128) (n : Fin 1024) : scoreH lo hi mk q k (ix2 r n)
    = scS (mk (ix2 r n)) (∑ x : Fin 256, Scalar.select (maskH lo hi (ix2 r x)) (q (ix2 r x) * k (ix2 n x) : EReal) 0) := by
  pointwise [scoreH, scS]

theorem score_apply (lo : Nat) (hlo : lo ≤ 176) (r : Fin 128) (n : Fin 1024) :
    scoreH (BitVec.ofNat 32 lo) (BitVec.ofNat 32 (lo + 80)) mk q k (ix2 r n)
      = scS (mk (ix2 r n)) (∑ d : Fin 80, (q (ix2 r ⟨lo + d.val, by omega⟩) * k (ix2 n ⟨lo + d.val, by omega⟩) : EReal)) := by
  rw [score_sum, ← sum_window lo hlo (fun x => (q (ix2 r x) * k (ix2 n x) : EReal))]
  refine congrArg (scS _) (Finset.sum_congr rfl fun x _ => ?_)
  rw [mask_apply lo hlo, select_bool]

/-- The index a row's reduction reads. -/
theorem lift_eq (r : Fin 128) (n : Fin 1024) : (reduces_S128x1024_S128.lift (ix1 r) n) = ix2 r n := by
  refine (funext fun a => ?_)
  match a with
  | ⟨0, _⟩ => rfl
  | ⟨1, _⟩ => rfl

/-- The greatest score of each row, as a reduction reads it, -/
theorem max_lift (r : Fin 128) :
    multiReduction (F := Ideal) .maximumf [1] S128 s 0xFF800000#32 reduces_S128x1024_S128 (.inl rfl) rfl (ix1 r)
      = Finset.fold max (Ideal.ofBits .f32 4286578688#32) (s ∘ reduces_S128x1024_S128.lift (ix1 r)) Finset.univ :=
  Idealize.ShloMosaic.Ideal.multiReduction_maximumf_single s _ reduces_S128x1024_S128 (.inl rfl) rfl (ix1 r)

/-- and from the row's scores. -/
theorem max_apply (r : Fin 128) (f : Fin 1024 → EReal) (hf : ∀ k, s (ix2 r k) = f k) :
    multiReduction (F := Ideal) .maximumf [1] S128 s 0xFF800000#32 reduces_S128x1024_S128 (.inl rfl) rfl (ix1 r)
      = Finset.fold max (Ideal.ofBits .f32 4286578688#32) f Finset.univ := by
  rw [max_lift]
  have e : (s ∘ reduces_S128x1024_S128.lift (ix1 r)) = f := funext fun k => (congrArg s (lift_eq r k)).trans (hf k)
  exact congrArg (fun f : Fin 1024 → EReal => Finset.fold max (Ideal.ofBits .f32 4286578688#32) f Finset.univ) e

theorem exp_apply (r : Fin 128) (n : Fin 1024) (M : FVec Ideal S128 .f32) :
    exp2 (subf s (broadcastTo S128x1024 (ceil (shapeCast S128x1 M shapeCasts_S128_S128x1)) broadcasts_S128x1_S128x1024)) (ix2 r n)
      = FloatOps.exp2 (F := Ideal) (φ := .f32) (s (ix2 r n) - Ideal.liftRound Int.ceil (M (ix1 r)) : EReal) := by
  pointwise

theorem prob_apply (r : Fin 128) (n : Fin 1024) (f : Fin 1024 → EReal) (hf : ∀ k, s (ix2 r k) = f k) : probH s (ix2 r n) = probS f n := by
  unfold probH probS
  rw [exp_apply, max_apply s r f hf, hf n]

theorem out_apply (r : Fin 128) (z : Fin 256) : outH p v (ix2 r z) = outS (fun k => p (ix2 r k)) (fun k => v (ix2 k z)) := by
  pointwise [outH, outS]

/-- One head's output at a row and lane, from the row's queries and the head's keys and values. -/
theorem head_apply (lo : Nat) (hlo : lo ≤ 176) (r : Fin 128) (z : Fin 256) :
    headH (BitVec.ofNat 32 lo) (BitVec.ofNat 32 (lo + 80)) mk q k v (ix2 r z)
      = attnS (fun e => q (ix2 r ⟨lo + e.val, by omega⟩)) (fun n e => k (ix2 n ⟨lo + e.val, by omega⟩)) (fun n => v (ix2 n z)) (fun n => mk (ix2 r n)) := by
  unfold headH attnS
  rw [out_apply]
  exact congrArg (fun f => outS f _) (funext fun n => prob_apply _ r n _ fun n' => score_apply mk q k lo hlo r n')

theorem tileA_apply (lo : Nat) (hlo : lo ≤ 176) (o : FVec Ideal S128x256 .f32) (t : FVec Ideal S128x128 .f32) (r : Fin 128) (l : Fin 128) :
    tileA (maskH (BitVec.ofNat 32 lo) (BitVec.ofNat 32 (lo + 80))) o t (ix2 r l)
      = (if lo ≤ l.val ∧ l.val < lo + 80 then o (ix2 r ⟨l.val, by omega⟩) else t (ix2 r l) : EReal) := by
  rw [← select_bool, ← mask_apply lo hlo r ⟨l.val, by omega⟩]
  generalize maskH (BitVec.ofNat 32 lo) (BitVec.ofNat 32 (lo + 80)) = M
  pointwise [tileA]

theorem tileB_apply (lo : Nat) (hlo : lo ≤ 176) (o : FVec Ideal S128x256 .f32) (t : FVec Ideal S128x128 .f32) (r : Fin 128) (l : Fin 128) :
    tileB (maskH (BitVec.ofNat 32 lo) (BitVec.ofNat 32 (lo + 80))) o t (ix2 r l)
      = (if lo ≤ 128 + l.val ∧ 128 + l.val < lo + 80 then o (ix2 r ⟨128 + l.val, by omega⟩) else t (ix2 r l) : EReal) := by
  rw [← select_bool, ← mask_apply lo hlo r ⟨128 + l.val, by omega⟩]
  generalize maskH (BitVec.ofNat 32 lo) (BitVec.ofNat 32 (lo + 80)) = M
  pointwise [tileB]

end Cert.KernelAttnIdeal.Pay
-- ==== Proof.AttnTile.lean ====
/-
  The attention a point computes, entry by entry: every tile of 128 lanes takes each lane from the one head the lane belongs
  to, so lane `j` of the ten tiles side by side is head `j / 80`'s output.
-/
module

public import proofs.«01_k».proof.Proof.Gen.KernelAttnIdeal.Frame
public import proofs.«01_k».proof.Proof.AttnPay
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.KernelAttnIdeal.Pay
open Cert.KernelAttnIdeal Cert.KernelAttnIdeal.Gen
open Cert.ReferenceAttnIdeal.RefValue (attnS outS probS scS)

variable (x0 : Vec Ideal S128x1280 .bf16) (x1 : Vec Ideal S1024x3840 .bf16) (x2 : Vec Ideal S128x1 .i32) (x3 : Vec Ideal S1x1024 .i32) (x4 : Vec Ideal S1x1 .f32)

/-- One entry of a point's attention from its blocks: the queries of row `r`, and the keys and values of lane `j`'s head. -/
def blkS (mk : IVec S128x1024 1) (r : Fin 128) (j : Fin 1280) : EReal :=
  attnS (fun e => x0 (ix2 r ⟨j.val / 80 * 80 + e.val, by omega⟩)) (fun n e => x1 (ix2 n ⟨1280 + j.val / 80 * 80 + e.val, by omega⟩))
    (fun n => x1 (ix2 n ⟨2560 + j.val, by omega⟩)) (fun n => mk (ix2 r n))

/-- A head's output is that entry, when its three windows are the lanes from `t` on of the queries, the keys and the values. -/
theorem head_blk (t lo h : Nat) (ht : t ≤ 1024) (hlo : lo ≤ 176) (hh : t + lo = h * 80) (q : FVec Ideal S128x256 .bf16) (k v : FVec Ideal S1024x256 .bf16)
    (hq : ∀ (r : Fin 128) (z : Fin 256), q (ix2 r z) = x0 (ix2 r ⟨t + z.val, by omega⟩))
    (hk : ∀ (r : Fin 1024) (z : Fin 256), k (ix2 r z) = x1 (ix2 r ⟨1280 + t + z.val, by omega⟩))
    (hv : ∀ (r : Fin 1024) (z : Fin 256), v (ix2 r z) = x1 (ix2 r ⟨2560 + t + z.val, by omega⟩))
    (mk : IVec S128x1024 1) (r : Fin 128) (z : Fin 256) (hz : lo ≤ z.val ∧ z.val < lo + 80) (j : Fin 1280) (hj : j.val = t + z.val) :
    headH (BitVec.ofNat 32 lo) (BitVec.ofNat 32 (lo + 80)) mk q k v (ix2 r z) = blkS x0 x1 mk r j := by
  have hd : j.val / 80 = h := by omega
  rw [head_apply mk q k v lo hlo r z]
  unfold blkS
  have e1 : (fun e : Fin 80 => (q (ix2 r ⟨lo + e.val, by omega⟩) : EReal)) = fun e => x0 (ix2 r ⟨j.val / 80 * 80 + e.val, by omega⟩) :=
    funext fun e => (hq r _).trans (congrArg (fun i => x0 (ix2 r i)) (Fin.ext (by show t + (lo + e.val) = j.val / 80 * 80 + e.val; rw [hd]; omega)))
  have e2 : (fun (n : Fin 1024) (e : Fin 80) => (k (ix2 n ⟨lo + e.val, by omega⟩) : EReal)) = fun n e => x1 (ix2 n ⟨1280 + j.val / 80 * 80 + e.val, by omega⟩) :=
    funext fun n => funext fun e => (hk n _).trans (congrArg (fun i => x1 (ix2 n i)) (Fin.ext (by show 1280 + t + (lo + e.val) = 1280 + j.val / 80 * 80 + e.val; rw [hd]; omega)))
  have e3 : (fun n : Fin 1024 => (v (ix2 n z) : EReal)) = fun n => x1 (ix2 n ⟨2560 + j.val, by omega⟩) :=
    funext fun n => (hv n z).trans (congrArg (fun i => x1 (ix2 n i)) (Fin.ext (by show 2560 + t + z.val = 2560 + j.val; omega)))
  rw [e1, e2, e3]

/-! The windows the body reads. -/

theorem ldq_0 (r : Fin 128) (z : Fin 256) : View.ld x0 r0_2 (ix2 r z) = x0 (ix2 r ⟨0 + z.val, by omega⟩) := by
  pointwise
theorem ldk_0 (r : Fin 1024) (z : Fin 256) : View.ld x1 r0_3 (ix2 r z) = x1 (ix2 r ⟨1280 + 0 + z.val, by omega⟩) := by
  pointwise
theorem ldv_0 (r : Fin 1024) (z : Fin 256) : View.ld x1 r0_4 (ix2 r z) = x1 (ix2 r ⟨2560 + 0 + z.val, by omega⟩) := by
  pointwise

theorem ldq_1 (r : Fin 128) (z : Fin 256) : View.ld x0 r0_5 (ix2 r z) = x0 (ix2 r ⟨128 + z.val, by omega⟩) := by
  pointwise
theorem ldk_1 (r : Fin 1024) (z : Fin 256) : View.ld x1 r0_6 (ix2 r z) = x1 (ix2 r ⟨1280 + 128 + z.val, by omega⟩) := by
  pointwise
theorem ldv_1 (r : Fin 1024) (z : Fin 256) : View.ld x1 r0_7 (ix2 r z) = x1 (ix2 r ⟨2560 + 128 + z.val, by omega⟩) := by
  pointwise

theorem ldq_2 (r : Fin 128) (z : Fin 256) : View.ld x0 r0_8 (ix2 r z) = x0 (ix2 r ⟨256 + z.val, by omega⟩) := by
  pointwise
theorem ldk_2 (r : Fin 1024) (z : Fin 256) : View.ld x1 r0_9 (ix2 r z) = x1 (ix2 r ⟨1280 + 256 + z.val, by omega⟩) := by
  pointwise
theorem ldv_2 (r : Fin 1024) (z : Fin 256) : View.ld x1 r0_10 (ix2 r z) = x1 (ix2 r ⟨2560 + 256 + z.val, by omega⟩) := by
  pointwise

theorem ldq_3 (r : Fin 128) (z : Fin 256) : View.ld x0 r0_11 (ix2 r z) = x0 (ix2 r ⟨384 + z.val, by omega⟩) := by
  pointwise
theorem ldk_3 (r : Fin 1024) (z : Fin 256) : View.ld x1 r0_12 (ix2 r z) = x1 (ix2 r ⟨1280 + 384 + z.val, by omega⟩) := by
  pointwise
theorem ldv_3 (r : Fin 1024) (z : Fin 256) : View.ld x1 r0_13 (ix2 r z) = x1 (ix2 r ⟨2560 + 384 + z.val, by omega⟩) := by
  pointwise

theorem ldq_4 (r : Fin 128) (z : Fin 256) : View.ld x0 r0_14 (ix2 r z) = x0 (ix2 r ⟨512 + z.val, by omega⟩) := by
  pointwise
theorem ldk_4 (r : Fin 1024) (z : Fin 256) : View.ld x1 r0_15 (ix2 r z) = x1 (ix2 r ⟨1280 + 512 + z.val, by omega⟩) := by
  pointwise
theorem ldv_4 (r : Fin 1024) (z : Fin 256) : View.ld x1 r0_16 (ix2 r z) = x1 (ix2 r ⟨2560 + 512 + z.val, by omega⟩) := by
  pointwise

theorem ldq_5 (r : Fin 128) (z : Fin 256) : View.ld x0 r0_17 (ix2 r z) = x0 (ix2 r ⟨640 + z.val, by omega⟩) := by
  pointwise
theorem ldk_5 (r : Fin 1024) (z : Fin 256) : View.ld x1 r0_18 (ix2 r z) = x1 (ix2 r ⟨1280 + 640 + z.val, by omega⟩) := by
  pointwise
theorem ldv_5 (r : Fin 1024) (z : Fin 256) : View.ld x1 r0_19 (ix2 r z) = x1 (ix2 r ⟨2560 + 640 + z.val, by omega⟩) := by
  pointwise

theorem ldq_6 (r : Fin 128) (z : Fin 256) : View.ld x0 r0_20 (ix2 r z) = x0 (ix2 r ⟨768 + z.val, by omega⟩) := by
  pointwise
theorem ldk_6 (r : Fin 1024) (z : Fin 256) : View.ld x1 r0_21 (ix2 r z) = x1 (ix2 r ⟨1280 + 768 + z.val, by omega⟩) := by
  pointwise
theorem ldv_6 (r : Fin 1024) (z : Fin 256) : View.ld x1 r0_22 (ix2 r z) = x1 (ix2 r ⟨2560 + 768 + z.val, by omega⟩) := by
  pointwise

theorem ldq_7 (r : Fin 128) (z : Fin 256) : View.ld x0 r0_23 (ix2 r z) = x0 (ix2 r ⟨896 + z.val, by omega⟩) := by
  pointwise
theorem ldk_7 (r : Fin 1024) (z : Fin 256) : View.ld x1 r0_24 (ix2 r z) = x1 (ix2 r ⟨1280 + 896 + z.val, by omega⟩) := by
  pointwise
theorem ldv_7 (r : Fin 1024) (z : Fin 256) : View.ld x1 r0_25 (ix2 r z) = x1 (ix2 r ⟨2560 + 896 + z.val, by omega⟩) := by
  pointwise

theorem ldq_8 (r : Fin 128) (z : Fin 256) : View.ld x0 r0_26 (ix2 r z) = x0 (ix2 r ⟨1024 + z.val, by omega⟩) := by
  pointwise
theorem ldk_8 (r : Fin 1024) (z : Fin 256) : View.ld x1 r0_27 (ix2 r z) = x1 (ix2 r ⟨1280 + 1024 + z.val, by omega⟩) := by
  pointwise
theorem ldv_8 (r : Fin 1024) (z : Fin 256) : View.ld x1 r0_28 (ix2 r z) = x1 (ix2 r ⟨2560 + 1024 + z.val, by omega⟩) := by
  pointwise
/-! The sixteen heads, and what each gives. -/

abbrev o0 : FVec Ideal S128x256 .f32 := headH (BitVec.ofNat 32 0) (BitVec.ofNat 32 (0 + 80)) (k0_pay1 (View.ld x3 r0_0) (View.ld x2 r0_1)) (View.ld x0 r0_2) (View.ld x1 r0_3) (View.ld x1 r0_4)
abbrev o1 : FVec Ideal S128x256 .f32 := headH (BitVec.ofNat 32 80) (BitVec.ofNat 32 (80 + 80)) (k0_pay1 (View.ld x3 r0_0) (View.ld x2 r0_1)) (View.ld x0 r0_2) (View.ld x1 r0_3) (View.ld x1 r0_4)
abbrev o2 : FVec Ideal S128x256 .f32 := headH (BitVec.ofNat 32 32) (BitVec.ofNat 32 (32 + 80)) (k0_pay1 (View.ld x3 r0_0) (View.ld x2 r0_1)) (View.ld x0 r0_5) (View.ld x1 r0_6) (View.ld x1 r0_7)
abbrev o3 : FVec Ideal S128x256 .f32 := headH (BitVec.ofNat 32 112) (BitVec.ofNat 32 (112 + 80)) (k0_pay1 (View.ld x3 r0_0) (View.ld x2 r0_1)) (View.ld x0 r0_5) (View.ld x1 r0_6) (View.ld x1 r0_7)
abbrev o4 : FVec Ideal S128x256 .f32 := headH (BitVec.ofNat 32 64) (BitVec.ofNat 32 (64 + 80)) (k0_pay1 (View.ld x3 r0_0) (View.ld x2 r0_1)) (View.ld x0 r0_8) (View.ld x1 r0_9) (View.ld x1 r0_10)
abbrev o5 : FVec Ideal S128x256 .f32 := headH (BitVec.ofNat 32 16) (BitVec.ofNat 32 (16 + 80)) (k0_pay1 (View.ld x3 r0_0) (View.ld x2 r0_1)) (View.ld x0 r0_11) (View.ld x1 r0_12) (View.ld x1 r0_13)
abbrev o6 : FVec Ideal S128x256 .f32 := headH (BitVec.ofNat 32 96) (BitVec.ofNat 32 (96 + 80)) (k0_pay1 (View.ld x3 r0_0) (View.ld x2 r0_1)) (View.ld x0 r0_11) (View.ld x1 r0_12) (View.ld x1 r0_13)
abbrev o7 : FVec Ideal S128x256 .f32 := headH (BitVec.ofNat 32 48) (BitVec.ofNat 32 (48 + 80)) (k0_pay1 (View.ld x3 r0_0) (View.ld x2 r0_1)) (View.ld x0 r0_14) (View.ld x1 r0_15) (View.ld x1 r0_16)
abbrev o8 : FVec Ideal S128x256 .f32 := headH (BitVec.ofNat 32 0) (BitVec.ofNat 32 (0 + 80)) (k0_pay1 (View.ld x3 r0_0) (View.ld x2 r0_1)) (View.ld x0 r0_17) (View.ld x1 r0_18) (View.ld x1 r0_19)
abbrev o9 : FVec Ideal S128x256 .f32 := headH (BitVec.ofNat 32 80) (BitVec.ofNat 32 (80 + 80)) (k0_pay1 (View.ld x3 r0_0) (View.ld x2 r0_1)) (View.ld x0 r0_17) (View.ld x1 r0_18) (View.ld x1 r0_19)
abbrev o10 : FVec Ideal S128x256 .f32 := headH (BitVec.ofNat 32 32) (BitVec.ofNat 32 (32 + 80)) (k0_pay1 (View.ld x3 r0_0) (View.ld x2 r0_1)) (View.ld x0 r0_20) (View.ld x1 r0_21) (View.ld x1 r0_22)
abbrev o11 : FVec Ideal S128x256 .f32 := headH (BitVec.ofNat 32 112) (BitVec.ofNat 32 (112 + 80)) (k0_pay1 (View.ld x3 r0_0) (View.ld x2 r0_1)) (View.ld x0 r0_20) (View.ld x1 r0_21) (View.ld x1 r0_22)
abbrev o12 : FVec Ideal S128x256 .f32 := headH (BitVec.ofNat 32 64) (BitVec.ofNat 32 (64 + 80)) (k0_pay1 (View.ld x3 r0_0) (View.ld x2 r0_1)) (View.ld x0 r0_23) (View.ld x1 r0_24) (View.ld x1 r0_25)
abbrev o13 : FVec Ideal S128x256 .f32 := headH (BitVec.ofNat 32 16) (BitVec.ofNat 32 (16 + 80)) (k0_pay1 (View.ld x3 r0_0) (View.ld x2 r0_1)) (View.ld x0 r0_26) (View.ld x1 r0_27) (View.ld x1 r0_28)
abbrev o14 : FVec Ideal S128x256 .f32 := headH (BitVec.ofNat 32 96) (BitVec.ofNat 32 (96 + 80)) (k0_pay1 (View.ld x3 r0_0) (View.ld x2 r0_1)) (View.ld x0 r0_26) (View.ld x1 r0_27) (View.ld x1 r0_28)
abbrev o15 : FVec Ideal S128x256 .f32 := headH (BitVec.ofNat 32 176) (BitVec.ofNat 32 (176 + 80)) (k0_pay1 (View.ld x3 r0_0) (View.ld x2 r0_1)) (View.ld x0 r0_26) (View.ld x1 r0_27) (View.ld x1 r0_28)

theorem o0_blk (r : Fin 128) (z : Fin 256) (hz : 0 ≤ z.val ∧ z.val < 0 + 80) (j : Fin 1280) (hj : j.val = 0 + z.val) :
    o0 x0 x1 x2 x3 (ix2 r z) = blkS x0 x1 (k0_pay1 (View.ld x3 r0_0) (View.ld x2 r0_1)) r j :=
  head_blk x0 x1 0 0 0 (by omega) (by omega) (by omega) _ _ _ (ldq_0 x0) (ldk_0 x1) (ldv_0 x1) _ r z hz j hj
theorem o1_blk (r : Fin 128) (z : Fin 256) (hz : 80 ≤ z.val ∧ z.val < 80 + 80) (j : Fin 1280) (hj : j.val = 0 + z.val) :
    o1 x0 x1 x2 x3 (ix2 r z) = blkS x0 x1 (k0_pay1 (View.ld x3 r0_0) (View.ld x2 r0_1)) r j :=
  head_blk x0 x1 0 80 1 (by omega) (by omega) (by omega) _ _ _ (ldq_0 x0) (ldk_0 x1) (ldv_0 x1) _ r z hz j hj
theorem o2_blk (r : Fin 128) (z : Fin 256) (hz : 32 ≤ z.val ∧ z.val < 32 + 80) (j : Fin 1280) (hj : j.val = 128 + z.val) :
    o2 x0 x1 x2 x3 (ix2 r z) = blkS x0 x1 (k0_pay1 (View.ld x3 r0_0) (View.ld x2 r0_1)) r j :=
  head_blk x0 x1 128 32 2 (by omega) (by omega) (by omega) _ _ _ (ldq_1 x0) (ldk_1 x1) (ldv_1 x1) _ r z hz j hj
theorem o3_blk (r : Fin 128) (z : Fin 256) (hz : 112 ≤ z.val ∧ z.val < 112 + 80) (j : Fin 1280) (hj : j.val = 128 + z.val) :
    o3 x0 x1 x2 x3 (ix2 r z) = blkS x0 x1 (k0_pay1 (View.ld x3 r0_0) (View.ld x2 r0_1)) r j :=
  head_blk x0 x1 128 112 3 (by omega) (by omega) (by omega) _ _ _ (ldq_1 x0) (ldk_1 x1) (ldv_1 x1) _ r z hz j hj
theorem o4_blk (r : Fin 128) (z : Fin 256) (hz : 64 ≤ z.val ∧ z.val < 64 + 80) (j : Fin 1280) (hj : j.val = 256 + z.val) :
    o4 x0 x1 x2 x3 (ix2 r z) = blkS x0 x1 (k0_pay1 (View.ld x3 r0_0) (View.ld x2 r0_1)) r j :=
  head_blk x0 x1 256 64 4 (by omega) (by omega) (by omega) _ _ _ (ldq_2 x0) (ldk_2 x1) (ldv_2 x1) _ r z hz j hj
theorem o5_blk (r : Fin 128) (z : Fin 256) (hz : 16 ≤ z.val ∧ z.val < 16 + 80) (j : Fin 1280) (hj : j.val = 384 + z.val) :
    o5 x0 x1 x2 x3 (ix2 r z) = blkS x0 x1 (k0_pay1 (View.ld x3 r0_0) (View.ld x2 r0_1)) r j :=
  head_blk x0 x1 384 16 5 (by omega) (by omega) (by omega) _ _ _ (ldq_3 x0) (ldk_3 x1) (ldv_3 x1) _ r z hz j hj
theorem o6_blk (r : Fin 128) (z : Fin 256) (hz : 96 ≤ z.val ∧ z.val < 96 + 80) (j : Fin 1280) (hj : j.val = 384 + z.val) :
    o6 x0 x1 x2 x3 (ix2 r z) = blkS x0 x1 (k0_pay1 (View.ld x3 r0_0) (View.ld x2 r0_1)) r j :=
  head_blk x0 x1 384 96 6 (by omega) (by omega) (by omega) _ _ _ (ldq_3 x0) (ldk_3 x1) (ldv_3 x1) _ r z hz j hj
theorem o7_blk (r : Fin 128) (z : Fin 256) (hz : 48 ≤ z.val ∧ z.val < 48 + 80) (j : Fin 1280) (hj : j.val = 512 + z.val) :
    o7 x0 x1 x2 x3 (ix2 r z) = blkS x0 x1 (k0_pay1 (View.ld x3 r0_0) (View.ld x2 r0_1)) r j :=
  head_blk x0 x1 512 48 7 (by omega) (by omega) (by omega) _ _ _ (ldq_4 x0) (ldk_4 x1) (ldv_4 x1) _ r z hz j hj
theorem o8_blk (r : Fin 128) (z : Fin 256) (hz : 0 ≤ z.val ∧ z.val < 0 + 80) (j : Fin 1280) (hj : j.val = 640 + z.val) :
    o8 x0 x1 x2 x3 (ix2 r z) = blkS x0 x1 (k0_pay1 (View.ld x3 r0_0) (View.ld x2 r0_1)) r j :=
  head_blk x0 x1 640 0 8 (by omega) (by omega) (by omega) _ _ _ (ldq_5 x0) (ldk_5 x1) (ldv_5 x1) _ r z hz j hj
theorem o9_blk (r : Fin 128) (z : Fin 256) (hz : 80 ≤ z.val ∧ z.val < 80 + 80) (j : Fin 1280) (hj : j.val = 640 + z.val) :
    o9 x0 x1 x2 x3 (ix2 r z) = blkS x0 x1 (k0_pay1 (View.ld x3 r0_0) (View.ld x2 r0_1)) r j :=
  head_blk x0 x1 640 80 9 (by omega) (by omega) (by omega) _ _ _ (ldq_5 x0) (ldk_5 x1) (ldv_5 x1) _ r z hz j hj
theorem o10_blk (r : Fin 128) (z : Fin 256) (hz : 32 ≤ z.val ∧ z.val < 32 + 80) (j : Fin 1280) (hj : j.val = 768 + z.val) :
    o10 x0 x1 x2 x3 (ix2 r z) = blkS x0 x1 (k0_pay1 (View.ld x3 r0_0) (View.ld x2 r0_1)) r j :=
  head_blk x0 x1 768 32 10 (by omega) (by omega) (by omega) _ _ _ (ldq_6 x0) (ldk_6 x1) (ldv_6 x1) _ r z hz j hj
theorem o11_blk (r : Fin 128) (z : Fin 256) (hz : 112 ≤ z.val ∧ z.val < 112 + 80) (j : Fin 1280) (hj : j.val = 768 + z.val) :
    o11 x0 x1 x2 x3 (ix2 r z) = blkS x0 x1 (k0_pay1 (View.ld x3 r0_0) (View.ld x2 r0_1)) r j :=
  head_blk x0 x1 768 112 11 (by omega) (by omega) (by omega) _ _ _ (ldq_6 x0) (ldk_6 x1) (ldv_6 x1) _ r z hz j hj
theorem o12_blk (r : Fin 128) (z : Fin 256) (hz : 64 ≤ z.val ∧ z.val < 64 + 80) (j : Fin 1280) (hj : j.val = 896 + z.val) :
    o12 x0 x1 x2 x3 (ix2 r z) = blkS x0 x1 (k0_pay1 (View.ld x3 r0_0) (View.ld x2 r0_1)) r j :=
  head_blk x0 x1 896 64 12 (by omega) (by omega) (by omega) _ _ _ (ldq_7 x0) (ldk_7 x1) (ldv_7 x1) _ r z hz j hj
theorem o13_blk (r : Fin 128) (z : Fin 256) (hz : 16 ≤ z.val ∧ z.val < 16 + 80) (j : Fin 1280) (hj : j.val = 1024 + z.val) :
    o13 x0 x1 x2 x3 (ix2 r z) = blkS x0 x1 (k0_pay1 (View.ld x3 r0_0) (View.ld x2 r0_1)) r j :=
  head_blk x0 x1 1024 16 13 (by omega) (by omega) (by omega) _ _ _ (ldq_8 x0) (ldk_8 x1) (ldv_8 x1) _ r z hz j hj
theorem o14_blk (r : Fin 128) (z : Fin 256) (hz : 96 ≤ z.val ∧ z.val < 96 + 80) (j : Fin 1280) (hj : j.val = 1024 + z.val) :
    o14 x0 x1 x2 x3 (ix2 r z) = blkS x0 x1 (k0_pay1 (View.ld x3 r0_0) (View.ld x2 r0_1)) r j :=
  head_blk x0 x1 1024 96 14 (by omega) (by omega) (by omega) _ _ _ (ldq_8 x0) (ldk_8 x1) (ldv_8 x1) _ r z hz j hj
theorem o15_blk (r : Fin 128) (z : Fin 256) (hz : 176 ≤ z.val ∧ z.val < 176 + 80) (j : Fin 1280) (hj : j.val = 1024 + z.val) :
    o15 x0 x1 x2 x3 (ix2 r z) = blkS x0 x1 (k0_pay1 (View.ld x3 r0_0) (View.ld x2 r0_1)) r j :=
  head_blk x0 x1 1024 176 15 (by omega) (by omega) (by omega) _ _ _ (ldq_8 x0) (ldk_8 x1) (ldv_8 x1) _ r z hz j hj

/-! The ten tiles, over the heads that reach them. -/

abbrev T0 : FVec Ideal S128x128 .f32 := tileA (maskH (BitVec.ofNat 32 80) (BitVec.ofNat 32 (80 + 80))) (o1 x0 x1 x2 x3) (tileA (maskH (BitVec.ofNat 32 0) (BitVec.ofNat 32 (0 + 80))) (o0 x0 x1 x2 x3) tile0)
abbrev T1 : FVec Ideal S128x128 .f32 := tileA (maskH (BitVec.ofNat 32 112) (BitVec.ofNat 32 (112 + 80))) (o3 x0 x1 x2 x3) (tileA (maskH (BitVec.ofNat 32 32) (BitVec.ofNat 32 (32 + 80))) (o2 x0 x1 x2 x3) (tileB (maskH (BitVec.ofNat 32 80) (BitVec.ofNat 32 (80 + 80))) (o1 x0 x1 x2 x3) (tileB (maskH (BitVec.ofNat 32 0) (BitVec.ofNat 32 (0 + 80))) (o0 x0 x1 x2 x3) tile0)))
abbrev T2 : FVec Ideal S128x128 .f32 := tileA (maskH (BitVec.ofNat 32 64) (BitVec.ofNat 32 (64 + 80))) (o4 x0 x1 x2 x3) (tileB (maskH (BitVec.ofNat 32 112) (BitVec.ofNat 32 (112 + 80))) (o3 x0 x1 x2 x3) (tileB (maskH (BitVec.ofNat 32 32) (BitVec.ofNat 32 (32 + 80))) (o2 x0 x1 x2 x3) tile0))
abbrev T3 : FVec Ideal S128x128 .f32 := tileA (maskH (BitVec.ofNat 32 96) (BitVec.ofNat 32 (96 + 80))) (o6 x0 x1 x2 x3) (tileA (maskH (BitVec.ofNat 32 16) (BitVec.ofNat 32 (16 + 80))) (o5 x0 x1 x2 x3) (tileB (maskH (BitVec.ofNat 32 64) (BitVec.ofNat 32 (64 + 80))) (o4 x0 x1 x2 x3) tile0))
abbrev T4 : FVec Ideal S128x128 .f32 := tileA (maskH (BitVec.ofNat 32 48) (BitVec.ofNat 32 (48 + 80))) (o7 x0 x1 x2 x3) (tileB (maskH (BitVec.ofNat 32 96) (BitVec.ofNat 32 (96 + 80))) (o6 x0 x1 x2 x3) (tileB (maskH (BitVec.ofNat 32 16) (BitVec.ofNat 32 (16 + 80))) (o5 x0 x1 x2 x3) tile0))
abbrev T5 : FVec Ideal S128x128 .f32 := tileA (maskH (BitVec.ofNat 32 80) (BitVec.ofNat 32 (80 + 80))) (o9 x0 x1 x2 x3) (tileA (maskH (BitVec.ofNat 32 0) (BitVec.ofNat 32 (0 + 80))) (o8 x0 x1 x2 x3) (tileB (maskH (BitVec.ofNat 32 48) (BitVec.ofNat 32 (48 + 80))) (o7 x0 x1 x2 x3) tile0))
abbrev T6 : FVec Ideal S128x128 .f32 := tileA (maskH (BitVec.ofNat 32 112) (BitVec.ofNat 32 (112 + 80))) (o11 x0 x1 x2 x3) (tileA (maskH (BitVec.ofNat 32 32) (BitVec.ofNat 32 (32 + 80))) (o10 x0 x1 x2 x3) (tileB (maskH (BitVec.ofNat 32 80) (BitVec.ofNat 32 (80 + 80))) (o9 x0 x1 x2 x3) (tileB (maskH (BitVec.ofNat 32 0) (BitVec.ofNat 32 (0 + 80))) (o8 x0 x1 x2 x3) tile0)))
abbrev T7 : FVec Ideal S128x128 .f32 := tileA (maskH (BitVec.ofNat 32 64) (BitVec.ofNat 32 (64 + 80))) (o12 x0 x1 x2 x3) (tileB (maskH (BitVec.ofNat 32 112) (BitVec.ofNat 32 (112 + 80))) (o11 x0 x1 x2 x3) (tileB (maskH (BitVec.ofNat 32 32) (BitVec.ofNat 32 (32 + 80))) (o10 x0 x1 x2 x3) tile0))
abbrev T8 : FVec Ideal S128x128 .f32 := tileA (maskH (BitVec.ofNat 32 176) (BitVec.ofNat 32 (176 + 80))) (o15 x0 x1 x2 x3) (tileA (maskH (BitVec.ofNat 32 96) (BitVec.ofNat 32 (96 + 80))) (o14 x0 x1 x2 x3) (tileA (maskH (BitVec.ofNat 32 16) (BitVec.ofNat 32 (16 + 80))) (o13 x0 x1 x2 x3) (tileB (maskH (BitVec.ofNat 32 64) (BitVec.ofNat 32 (64 + 80))) (o12 x0 x1 x2 x3) tile0)))
abbrev T9 : FVec Ideal S128x128 .f32 := tileB (maskH (BitVec.ofNat 32 176) (BitVec.ofNat 32 (176 + 80))) (o15 x0 x1 x2 x3) (tileB (maskH (BitVec.ofNat 32 96) (BitVec.ofNat 32 (96 + 80))) (o14 x0 x1 x2 x3) (tileB (maskH (BitVec.ofNat 32 16) (BitVec.ofNat 32 (16 + 80))) (o13 x0 x1 x2 x3) tile0))

theorem tile_8 : k0_pay127 (F := Ideal) x0 x1 x2 x3 x4 = tileA (maskH (BitVec.ofNat 32 96) (BitVec.ofNat 32 (96 + 80))) (o14 x0 x1 x2 x3) (tileA (maskH (BitVec.ofNat 32 16) (BitVec.ofNat 32 (16 + 80))) (o13 x0 x1 x2 x3) (tileB (maskH (BitVec.ofNat 32 64) (BitVec.ofNat 32 (64 + 80))) (o12 x0 x1 x2 x3) tile0)) := rfl
theorem tile_9 : k0_pay128 (F := Ideal) x0 x1 x2 x3 x4 = tileB (maskH (BitVec.ofNat 32 96) (BitVec.ofNat 32 (96 + 80))) (o14 x0 x1 x2 x3) (tileB (maskH (BitVec.ofNat 32 16) (BitVec.ofNat 32 (16 + 80))) (o13 x0 x1 x2 x3) tile0) := rfl
theorem tile_0 : k0_pay98 (F := Ideal) x0 x1 x2 x3 x4 = T0 x0 x1 x2 x3 := rfl
theorem T0_apply (r l : Fin 128) (j : Fin 1280) (hj : j.val = 0 + l.val) : T0 x0 x1 x2 x3 (ix2 r l) = blkS x0 x1 (k0_pay1 (View.ld x3 r0_0) (View.ld x2 r0_1)) r j := by
  unfold T0
  rw [tileA_apply 80 (by omega), tileA_apply 0 (by omega)]
  by_cases h0 : 80 ≤ l.val ∧ l.val < 80 + 80
  · rw [if_pos h0]
    exact o1_blk x0 x1 x2 x3 r _ h0 j (by dsimp only; omega)
  rw [if_neg h0]
  by_cases h1 : 0 ≤ l.val ∧ l.val < 0 + 80
  · rw [if_pos h1]
    exact o0_blk x0 x1 x2 x3 r _ h1 j (by dsimp only; omega)
  rw [if_neg h1]
  omega
theorem tile_1 : k0_pay103 (F := Ideal) x0 x1 x2 x3 x4 = T1 x0 x1 x2 x3 := rfl
theorem T1_apply (r l : Fin 128) (j : Fin 1280) (hj : j.val = 128 + l.val) : T1 x0 x1 x2 x3 (ix2 r l) = blkS x0 x1 (k0_pay1 (View.ld x3 r0_0) (View.ld x2 r0_1)) r j := by
  unfold T1
  rw [tileA_apply 112 (by omega), tileA_apply 32 (by omega), tileB_apply 80 (by omega), tileB_apply 0 (by omega)]
  by_cases h0 : 112 ≤ l.val ∧ l.val < 112 + 80
  · rw [if_pos h0]
    exact o3_blk x0 x1 x2 x3 r _ h0 j (by dsimp only; omega)
  rw [if_neg h0]
  by_cases h1 : 32 ≤ l.val ∧ l.val < 32 + 80
  · rw [if_pos h1]
    exact o2_blk x0 x1 x2 x3 r _ h1 j (by dsimp only; omega)
  rw [if_neg h1]
  by_cases h2 : 80 ≤ 128 + l.val ∧ 128 + l.val < 80 + 80
  · rw [if_pos h2]
    exact o1_blk x0 x1 x2 x3 r _ h2 j (by dsimp only; omega)
  rw [if_neg h2]
  by_cases h3 : 0 ≤ 128 + l.val ∧ 128 + l.val < 0 + 80
  · rw [if_pos h3]
    exact o0_blk x0 x1 x2 x3 r _ h3 j (by dsimp only; omega)
  rw [if_neg h3]
  omega
theorem tile_2 : k0_pay104 (F := Ideal) x0 x1 x2 x3 x4 = T2 x0 x1 x2 x3 := rfl
theorem T2_apply (r l : Fin 128) (j : Fin 1280) (hj : j.val = 256 + l.val) : T2 x0 x1 x2 x3 (ix2 r l) = blkS x0 x1 (k0_pay1 (View.ld x3 r0_0) (View.ld x2 r0_1)) r j := by
  unfold T2
  rw [tileA_apply 64 (by omega), tileB_apply 112 (by omega), tileB_apply 32 (by omega)]
  by_cases h0 : 64 ≤ l.val ∧ l.val < 64 + 80
  · rw [if_pos h0]
    exact o4_blk x0 x1 x2 x3 r _ h0 j (by dsimp only; omega)
  rw [if_neg h0]
  by_cases h1 : 112 ≤ 128 + l.val ∧ 128 + l.val < 112 + 80
  · rw [if_pos h1]
    exact o3_blk x0 x1 x2 x3 r _ h1 j (by dsimp only; omega)
  rw [if_neg h1]
  by_cases h2 : 32 ≤ 128 + l.val ∧ 128 + l.val < 32 + 80
  · rw [if_pos h2]
    exact o2_blk x0 x1 x2 x3 r _ h2 j (by dsimp only; omega)
  rw [if_neg h2]
  omega
theorem tile_3 : k0_pay107 (F := Ideal) x0 x1 x2 x3 x4 = T3 x0 x1 x2 x3 := rfl
theorem T3_apply (r l : Fin 128) (j : Fin 1280) (hj : j.val = 384 + l.val) : T3 x0 x1 x2 x3 (ix2 r l) = blkS x0 x1 (k0_pay1 (View.ld x3 r0_0) (View.ld x2 r0_1)) r j := by
  unfold T3
  rw [tileA_apply 96 (by omega), tileA_apply 16 (by omega), tileB_apply 64 (by omega)]
  by_cases h0 : 96 ≤ l.val ∧ l.val < 96 + 80
  · rw [if_pos h0]
    exact o6_blk x0 x1 x2 x3 r _ h0 j (by dsimp only; omega)
  rw [if_neg h0]
  by_cases h1 : 16 ≤ l.val ∧ l.val < 16 + 80
  · rw [if_pos h1]
    exact o5_blk x0 x1 x2 x3 r _ h1 j (by dsimp only; omega)
  rw [if_neg h1]
  by_cases h2 : 64 ≤ 128 + l.val ∧ 128 + l.val < 64 + 80
  · rw [if_pos h2]
    exact o4_blk x0 x1 x2 x3 r _ h2 j (by dsimp only; omega)
  rw [if_neg h2]
  omega
theorem tile_4 : k0_pay110 (F := Ideal) x0 x1 x2 x3 x4 = T4 x0 x1 x2 x3 := rfl
theorem T4_apply (r l : Fin 128) (j : Fin 1280) (hj : j.val = 512 + l.val) : T4 x0 x1 x2 x3 (ix2 r l) = blkS x0 x1 (k0_pay1 (View.ld x3 r0_0) (View.ld x2 r0_1)) r j := by
  unfold T4
  rw [tileA_apply 48 (by omega), tileB_apply 96 (by omega), tileB_apply 16 (by omega)]
  by_cases h0 : 48 ≤ l.val ∧ l.val < 48 + 80
  · rw [if_pos h0]
    exact o7_blk x0 x1 x2 x3 r _ h0 j (by dsimp only; omega)
  rw [if_neg h0]
  by_cases h1 : 96 ≤ 128 + l.val ∧ 128 + l.val < 96 + 80
  · rw [if_pos h1]
    exact o6_blk x0 x1 x2 x3 r _ h1 j (by dsimp only; omega)
  rw [if_neg h1]
  by_cases h2 : 16 ≤ 128 + l.val ∧ 128 + l.val < 16 + 80
  · rw [if_pos h2]
    exact o5_blk x0 x1 x2 x3 r _ h2 j (by dsimp only; omega)
  rw [if_neg h2]
  omega
theorem tile_5 : k0_pay115 (F := Ideal) x0 x1 x2 x3 x4 = T5 x0 x1 x2 x3 := rfl
theorem T5_apply (r l : Fin 128) (j : Fin 1280) (hj : j.val = 640 + l.val) : T5 x0 x1 x2 x3 (ix2 r l) = blkS x0 x1 (k0_pay1 (View.ld x3 r0_0) (View.ld x2 r0_1)) r j := by
  unfold T5
  rw [tileA_apply 80 (by omega), tileA_apply 0 (by omega), tileB_apply 48 (by omega)]
  by_cases h0 : 80 ≤ l.val ∧ l.val < 80 + 80
  · rw [if_pos h0]
    exact o9_blk x0 x1 x2 x3 r _ h0 j (by dsimp only; omega)
  rw [if_neg h0]
  by_cases h1 : 0 ≤ l.val ∧ l.val < 0 + 80
  · rw [if_pos h1]
    exact o8_blk x0 x1 x2 x3 r _ h1 j (by dsimp only; omega)
  rw [if_neg h1]
  by_cases h2 : 48 ≤ 128 + l.val ∧ 128 + l.val < 48 + 80
  · rw [if_pos h2]
    exact o7_blk x0 x1 x2 x3 r _ h2 j (by dsimp only; omega)
  rw [if_neg h2]
  omega
theorem tile_6 : k0_pay123 (F := Ideal) x0 x1 x2 x3 x4 = T6 x0 x1 x2 x3 := rfl
theorem T6_apply (r l : Fin 128) (j : Fin 1280) (hj : j.val = 768 + l.val) : T6 x0 x1 x2 x3 (ix2 r l) = blkS x0 x1 (k0_pay1 (View.ld x3 r0_0) (View.ld x2 r0_1)) r j := by
  unfold T6
  rw [tileA_apply 112 (by omega), tileA_apply 32 (by omega), tileB_apply 80 (by omega), tileB_apply 0 (by omega)]
  by_cases h0 : 112 ≤ l.val ∧ l.val < 112 + 80
  · rw [if_pos h0]
    exact o11_blk x0 x1 x2 x3 r _ h0 j (by dsimp only; omega)
  rw [if_neg h0]
  by_cases h1 : 32 ≤ l.val ∧ l.val < 32 + 80
  · rw [if_pos h1]
    exact o10_blk x0 x1 x2 x3 r _ h1 j (by dsimp only; omega)
  rw [if_neg h1]
  by_cases h2 : 80 ≤ 128 + l.val ∧ 128 + l.val < 80 + 80
  · rw [if_pos h2]
    exact o9_blk x0 x1 x2 x3 r _ h2 j (by dsimp only; omega)
  rw [if_neg h2]
  by_cases h3 : 0 ≤ 128 + l.val ∧ 128 + l.val < 0 + 80
  · rw [if_pos h3]
    exact o8_blk x0 x1 x2 x3 r _ h3 j (by dsimp only; omega)
  rw [if_neg h3]
  omega
theorem tile_7 : k0_pay124 (F := Ideal) x0 x1 x2 x3 x4 = T7 x0 x1 x2 x3 := rfl
theorem T7_apply (r l : Fin 128) (j : Fin 1280) (hj : j.val = 896 + l.val) : T7 x0 x1 x2 x3 (ix2 r l) = blkS x0 x1 (k0_pay1 (View.ld x3 r0_0) (View.ld x2 r0_1)) r j := by
  unfold T7
  rw [tileA_apply 64 (by omega), tileB_apply 112 (by omega), tileB_apply 32 (by omega)]
  by_cases h0 : 64 ≤ l.val ∧ l.val < 64 + 80
  · rw [if_pos h0]
    exact o12_blk x0 x1 x2 x3 r _ h0 j (by dsimp only; omega)
  rw [if_neg h0]
  by_cases h1 : 112 ≤ 128 + l.val ∧ 128 + l.val < 112 + 80
  · rw [if_pos h1]
    exact o11_blk x0 x1 x2 x3 r _ h1 j (by dsimp only; omega)
  rw [if_neg h1]
  by_cases h2 : 32 ≤ 128 + l.val ∧ 128 + l.val < 32 + 80
  · rw [if_pos h2]
    exact o10_blk x0 x1 x2 x3 r _ h2 j (by dsimp only; omega)
  rw [if_neg h2]
  omega
theorem T8_apply (r l : Fin 128) (j : Fin 1280) (hj : j.val = 1024 + l.val) : T8 x0 x1 x2 x3 (ix2 r l) = blkS x0 x1 (k0_pay1 (View.ld x3 r0_0) (View.ld x2 r0_1)) r j := by
  unfold T8
  rw [tileA_apply 176 (by omega), tileA_apply 96 (by omega), tileA_apply 16 (by omega), tileB_apply 64 (by omega)]
  by_cases h0 : 176 ≤ l.val ∧ l.val < 176 + 80
  · rw [if_pos h0]
    exact o15_blk x0 x1 x2 x3 r _ h0 j (by dsimp only; omega)
  rw [if_neg h0]
  by_cases h1 : 96 ≤ l.val ∧ l.val < 96 + 80
  · rw [if_pos h1]
    exact o14_blk x0 x1 x2 x3 r _ h1 j (by dsimp only; omega)
  rw [if_neg h1]
  by_cases h2 : 16 ≤ l.val ∧ l.val < 16 + 80
  · rw [if_pos h2]
    exact o13_blk x0 x1 x2 x3 r _ h2 j (by dsimp only; omega)
  rw [if_neg h2]
  by_cases h3 : 64 ≤ 128 + l.val ∧ 128 + l.val < 64 + 80
  · rw [if_pos h3]
    exact o12_blk x0 x1 x2 x3 r _ h3 j (by dsimp only; omega)
  rw [if_neg h3]
  omega
theorem T9_apply (r l : Fin 128) (j : Fin 1280) (hj : j.val = 1152 + l.val) : T9 x0 x1 x2 x3 (ix2 r l) = blkS x0 x1 (k0_pay1 (View.ld x3 r0_0) (View.ld x2 r0_1)) r j := by
  unfold T9
  rw [tileB_apply 176 (by omega), tileB_apply 96 (by omega), tileB_apply 16 (by omega)]
  by_cases h0 : 176 ≤ 128 + l.val ∧ 128 + l.val < 176 + 80
  · rw [if_pos h0]
    exact o15_blk x0 x1 x2 x3 r _ h0 j (by dsimp only; omega)
  rw [if_neg h0]
  by_cases h1 : 96 ≤ 128 + l.val ∧ 128 + l.val < 96 + 80
  · rw [if_pos h1]
    exact o14_blk x0 x1 x2 x3 r _ h1 j (by dsimp only; omega)
  rw [if_neg h1]
  by_cases h2 : 16 ≤ 128 + l.val ∧ 128 + l.val < 16 + 80
  · rw [if_pos h2]
    exact o13_blk x0 x1 x2 x3 r _ h2 j (by dsimp only; omega)
  rw [if_neg h2]
  omega

/-- The attention a point computes, from its blocks. -/
abbrev attnP : FVec Ideal S128x1280 .f32 := k0_pay89 (F := Ideal) (k0_pay92 x0 x1 x2 x3 x4) (k0_pay98 x0 x1 x2 x3 x4) (k0_pay103 x0 x1 x2 x3 x4) (k0_pay104 x0 x1 x2 x3 x4)
  (k0_pay107 x0 x1 x2 x3 x4) (k0_pay110 x0 x1 x2 x3 x4) (k0_pay115 x0 x1 x2 x3 x4) (k0_pay123 x0 x1 x2 x3 x4) (k0_pay124 x0 x1 x2 x3 x4) (k0_pay127 x0 x1 x2 x3 x4)
  (k0_pay128 x0 x1 x2 x3 x4) (k0_pay129 x0 x1 x2 x3 x4) (k0_pay130 x0 x1 x2 x3 x4) (Scalar.ofBits .f32 0x00000000#32) (View.ld x1 r0_27) (View.ld x1 r0_28)

/-- The ten tiles side by side. -/
def joinT (t0 t1 t2 t3 t4 t5 t6 t7 t8 t9 : FVec Ideal S128x128 .f32) : FVec Ideal S128x1280 .f32 :=
  concatenate S128x1280 1 [⟨S128x128, t0⟩, ⟨S128x128, t1⟩, ⟨S128x128, t2⟩, ⟨S128x128, t3⟩, ⟨S128x128, t4⟩, ⟨S128x128, t5⟩, ⟨S128x128, t6⟩, ⟨S128x128, t7⟩, ⟨S128x128, t8⟩, ⟨S128x128, t9⟩]
    concatenates_S128x128_S128x128_S128x128_S128x128_S128x128_S128x128_S128x128_S128x128_S128x128_S128x128_S128x1280_d1

theorem join_pay (mk : IVec S128x1024 1) (t0 t1 t2 t3 t4 t5 t6 t7 t8 t9 : FVec Ideal S128x128 .f32) :
    k0_pay89 (F := Ideal) mk t0 t1 t2 t3 t4 t5 t6 t7 t8 t9 (k0_pay129 x0 x1 x2 x3 x4) (k0_pay130 x0 x1 x2 x3 x4) (Scalar.ofBits .f32 0x00000000#32) (View.ld x1 r0_27) (View.ld x1 r0_28)
      = joinT t0 t1 t2 t3 t4 t5 t6 t7
          (tileA (maskH (BitVec.ofNat 32 176) (BitVec.ofNat 32 (176 + 80))) (headH (BitVec.ofNat 32 176) (BitVec.ofNat 32 (176 + 80)) mk (View.ld x0 r0_26) (View.ld x1 r0_27) (View.ld x1 r0_28)) t8)
          (tileB (maskH (BitVec.ofNat 32 176) (BitVec.ofNat 32 (176 + 80))) (headH (BitVec.ofNat 32 176) (BitVec.ofNat 32 (176 + 80)) mk (View.ld x0 r0_26) (View.ld x1 r0_27) (View.ld x1 r0_28)) t9) := rfl

set_option maxHeartbeats 1000000 in
theorem join_apply (t0 t1 t2 t3 t4 t5 t6 t7 t8 t9 : FVec Ideal S128x128 .f32) (g : Fin 128 → Fin 1280 → EReal)
    (h0 : ∀ (r l : Fin 128) (j : Fin 1280), j.val = 0 + l.val → t0 (ix2 r l) = g r j)
    (h1 : ∀ (r l : Fin 128) (j : Fin 1280), j.val = 128 + l.val → t1 (ix2 r l) = g r j)
    (h2 : ∀ (r l : Fin 128) (j : Fin 1280), j.val = 256 + l.val → t2 (ix2 r l) = g r j)
    (h3 : ∀ (r l : Fin 128) (j : Fin 1280), j.val = 384 + l.val → t3 (ix2 r l) = g r j)
    (h4 : ∀ (r l : Fin 128) (j : Fin 1280), j.val = 512 + l.val → t4 (ix2 r l) = g r j)
    (h5 : ∀ (r l : Fin 128) (j : Fin 1280), j.val = 640 + l.val → t5 (ix2 r l) = g r j)
    (h6 : ∀ (r l : Fin 128) (j : Fin 1280), j.val = 768 + l.val → t6 (ix2 r l) = g r j)
    (h7 : ∀ (r l : Fin 128) (j : Fin 1280), j.val = 896 + l.val → t7 (ix2 r l) = g r j)
    (h8 : ∀ (r l : Fin 128) (j : Fin 1280), j.val = 1024 + l.val → t8 (ix2 r l) = g r j)
    (h9 : ∀ (r l : Fin 128) (j : Fin 1280), j.val = 1152 + l.val → t9 (ix2 r l) = g r j)
    (r : Fin 128) (j : Fin 1280) : joinT t0 t1 t2 t3 t4 t5 t6 t7 t8 t9 (ix2 r j) = g r j := by
  pointwise [joinT]
  by_cases c0 : j.val < 128
  · rw [dif_pos c0]
    exact h0 r _ j (by dsimp only; omega)
  rw [dif_neg c0]
  by_cases c1 : j.val - 128 < 128
  · rw [dif_pos c1]
    exact h1 r _ j (by dsimp only; omega)
  rw [dif_neg c1]
  by_cases c2 : j.val - 128 - 128 < 128
  · rw [dif_pos c2]
    exact h2 r _ j (by dsimp only; omega)
  rw [dif_neg c2]
  by_cases c3 : j.val - 128 - 128 - 128 < 128
  · rw [dif_pos c3]
    exact h3 r _ j (by dsimp only; omega)
  rw [dif_neg c3]
  by_cases c4 : j.val - 128 - 128 - 128 - 128 < 128
  · rw [dif_pos c4]
    exact h4 r _ j (by dsimp only; omega)
  rw [dif_neg c4]
  by_cases c5 : j.val - 128 - 128 - 128 - 128 - 128 < 128
  · rw [dif_pos c5]
    exact h5 r _ j (by dsimp only; omega)
  rw [dif_neg c5]
  by_cases c6 : j.val - 128 - 128 - 128 - 128 - 128 - 128 < 128
  · rw [dif_pos c6]
    exact h6 r _ j (by dsimp only; omega)
  rw [dif_neg c6]
  by_cases c7 : j.val - 128 - 128 - 128 - 128 - 128 - 128 - 128 < 128
  · rw [dif_pos c7]
    exact h7 r _ j (by dsimp only; omega)
  rw [dif_neg c7]
  by_cases c8 : j.val - 128 - 128 - 128 - 128 - 128 - 128 - 128 - 128 < 128
  · rw [dif_pos c8]
    exact h8 r _ j (by dsimp only; omega)
  rw [dif_neg c8]
  exact h9 r _ j (by dsimp only; omega)

/-- The attention a point computes is `joinT` of its ten tiles, -/
theorem attnP_eq : attnP x0 x1 x2 x3 x4 = joinT (T0 x0 x1 x2 x3) (T1 x0 x1 x2 x3) (T2 x0 x1 x2 x3) (T3 x0 x1 x2 x3) (T4 x0 x1 x2 x3) (T5 x0 x1 x2 x3)
    (T6 x0 x1 x2 x3) (T7 x0 x1 x2 x3) (T8 x0 x1 x2 x3) (T9 x0 x1 x2 x3) := by
  unfold attnP
  rw [join_pay, tile_0, tile_1, tile_2, tile_3, tile_4, tile_5, tile_6, tile_7, tile_8, tile_9]
  rfl

/-- so each entry is its head's. -/
theorem attnP_apply (r : Fin 128) (j : Fin 1280) : attnP x0 x1 x2 x3 x4 (ix2 r j) = blkS x0 x1 (k0_pay1 (View.ld x3 r0_0) (View.ld x2 r0_1)) r j := by
  rw [attnP_eq]
  exact join_apply _ _ _ _ _ _ _ _ _ _ (fun r j => blkS x0 x1 (k0_pay1 (View.ld x3 r0_0) (View.ld x2 r0_1)) r j) (T0_apply x0 x1 x2 x3) (T1_apply x0 x1 x2 x3) (T2_apply x0 x1 x2 x3) (T3_apply x0 x1 x2 x3) (T4_apply x0 x1 x2 x3)
    (T5_apply x0 x1 x2 x3) (T6_apply x0 x1 x2 x3) (T7_apply x0 x1 x2 x3) (T8_apply x0 x1 x2 x3) (T9_apply x0 x1 x2 x3) r j

end Cert.KernelAttnIdeal.Pay
-- ==== Proof.ValAttn.lean ====
/-
  What the image-attention kernel leaves in its two result arrays: the attention and the codes of the reference, block by
  block of 128 rows.
-/
module

public import proofs.«01_k».proof.Proof.AttnTile
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)
namespace Cert.KernelAttnIdeal.RefValue
open Cert.KernelAttnIdeal Cert.KernelAttnIdeal.Gen Cert.KernelAttnIdeal.Pay
open Cert.ReferenceAttnIdeal.RefValue (Attn Codes attnS Attn_apply)

variable (m : (ℓ : Loc nD τ sig) → Buf (Elt Ideal) ℓ)

/-- Which block of its array each window holds at grid point `t`: the queries, their segments and the results move down by
    128 rows a point, the rest is whole. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] :=
  (by decide +kernel : ∀ t : Fin grid0.N, _)

theorem pt (t : Fin cfg0.N) : t.val < 8 := lt_of_lt_of_eq t.isLt (by decide +kernel)

theorem V0_at (c : Dev nD) (r : Fin 1024) : V m c main_v0 (ix2 r 0) = m ((c : Thread nD τ).loc main_arg1) (ix1 r) := by
  unfold V
  after_reads_at
theorem V1_at (c : Dev nD) (r : Fin 1024) : V m c main_v1 (ix2 0 r) = m ((c : Thread nD τ).loc main_arg1) (ix1 r) := by
  unfold V
  after_reads_at
theorem V2_at (c : Dev nD) : V m c main_v2 (ix2 0 0) = m ((c : Thread nD τ).loc main_arg2) (ix1 0) := by
  unfold V
  after_reads_at

theorem b0 (c : Dev nD) (t : Fin cfg0.N) (r : Fin 128) (z : Fin 1280) :
    iblk m c 0 t (ix2 r z) = m ((c : Thread nD τ).loc main_arg0) (ix2 ⟨t.val * 128 + r.val, by have := pt t; omega⟩ ⟨z.val, by omega⟩) := by
  have := pt t
  blk_point [iblk, idx t]
theorem b1 (c : Dev nD) (t : Fin cfg0.N) (r : Fin 1024) (z : Fin 3840) :
    iblk m c 1 t (ix2 r z) = m ((c : Thread nD τ).loc main_arg0) (ix2 r z) := by
  have := pt t
  blk_point [iblk, idx t]
theorem b2 (c : Dev nD) (t : Fin cfg0.N) (r : Fin 128) :
    iblk m c 2 t (ix2 r 0) = m ((c : Thread nD τ).loc main_arg1) (ix1 ⟨t.val * 128 + r.val, by have := pt t; omega⟩) := by
  have := pt t
  refine Eq.trans (b := V m c main_v0 (ix2 ⟨t.val * 128 + r.val, by have := pt t; omega⟩ 0)) ?_ (V0_at m c _)
  blk_point [iblk, idx t]
theorem b3 (c : Dev nD) (t : Fin cfg0.N) (r : Fin 1024) :
    iblk m c 3 t (ix2 0 r) = m ((c : Thread nD τ).loc main_arg1) (ix1 r) := by
  refine Eq.trans (b := V m c main_v1 (ix2 0 r)) ?_ (V1_at m c _)
  blk_point [iblk, idx t]
theorem b4 (c : Dev nD) (t : Fin cfg0.N) :
    iblk m c 4 t (ix2 0 0) = m ((c : Thread nD τ).loc main_arg2) (ix1 0) := by
  refine Eq.trans (b := V m c main_v2 (ix2 0 0)) ?_ (V2_at m c)
  blk_point [iblk, idx t]

/-- Whether a query and a key lie in one segment. -/
theorem mask_at (x2 : Vec Ideal S128x1 .i32) (x3 : Vec Ideal S1x1024 .i32) (r : Fin 128) (n : Fin 1024) :
    k0_pay1 (F := Ideal) (View.ld x3 r0_0) (View.ld x2 r0_1) (ix2 r n) = IntOp.cmpi .eq (x2 (ix2 r 0)) (x3 (ix2 0 n)) := by
  pointwise [k0_pay1]

/-- A point's attention is the reference's, its rows those of the point's block. -/
theorem attn_at (c : Dev nD) (t : Fin cfg0.N) (r : Fin 128) (j : Fin 1280) :
    attnP (iblk m c 0 t) (iblk m c 1 t) (iblk m c 2 t) (iblk m c 3 t) (iblk m c 4 t) (ix2 r j)
      = Attn (m ((c : Thread nD τ).loc main_arg0)) (m ((c : Thread nD τ).loc main_arg1)) (ix2 ⟨t.val * 128 + r.val, by have := pt t; omega⟩ j) := by
  rw [attnP_apply, Attn_apply _ _ ⟨j.val / 80, by omega⟩ ⟨t.val * 128 + r.val, by have := pt t; omega⟩ ⟨j.val % 80, by omega⟩ j (by dsimp only; omega)]
  unfold blkS
  refine congr (congr (congr (congrArg attnS (funext fun e => ?_)) (funext fun n => funext fun e => ?_)) (funext fun n => ?_)) (funext fun n => ?_)
  · exact b0 m c t r _
  · exact b1 m c t n _
  · exact (b1 m c t n _).trans (congrArg (fun i => m ((c : Thread nD τ).loc main_arg0) (ix2 n i)) (Fin.ext (by show 2560 + j.val = 2560 + j.val / 80 * 80 + j.val % 80; omega)))
  · rw [mask_at, b2, b3]

/-- The codes of a block of attention. -/
def codesP (A : FVec Ideal S128x1280 .f32) (sa : FVec Ideal S1x1 .f32) : IVec S128x1280 8 :=
  fptosi 8 (minimumf (broadcast S128x1280 (Scalar.ofBits .f32 0x42FE0000#32)) (maximumf (broadcast S128x1280 (Scalar.ofBits .f32 0xC2FE0000#32))
    (roundeven (divf A (broadcastTo S128x1280 (shapeCast S1x1 sa shapeCasts_S1x1_S1x1) broadcasts_S1x1_S128x1280)))))

variable (x0 : Vec Ideal S128x1280 .bf16) (x1 : Vec Ideal S1024x3840 .bf16) (x2 : Vec Ideal S128x1 .i32) (x3 : Vec Ideal S1x1024 .i32) (x4 : Vec Ideal S1x1 .f32)

theorem out5_eq (y : S128x1280.Idx) : out0_5 x0 x1 x2 x3 x4 y = attnP x0 x1 x2 x3 x4 y := by
  show (View.canon [(⟨r0_29, attnP x0 x1 x2 x3 x4⟩ : View.Piece (Elt Ideal) S128x1280 .f32)] : Vec Ideal S128x1280 .f32) y = attnP x0 x1 x2 x3 x4 y
  generalize attnP x0 x1 x2 x3 x4 = X
  frame_out

theorem out6_eq (y : S128x1280.Idx) : out0_6 x0 x1 x2 x3 x4 y = codesP (attnP x0 x1 x2 x3 x4) (View.ld x4 r0_30) y := by
  show (View.canon [(⟨r0_29, codesP (attnP x0 x1 x2 x3 x4) (View.ld x4 r0_30)⟩ : View.Piece (Elt Ideal) S128x1280 .i8)] : Vec Ideal S128x1280 .i8) y = codesP (attnP x0 x1 x2 x3 x4) (View.ld x4 r0_30) y
  generalize codesP (attnP x0 x1 x2 x3 x4) (View.ld x4 r0_30) = X
  frame_out

/-- A code, from its attention and its scale: the same at a point as in the reference. -/
theorem codes_at (A : FVec Ideal S128x1280 .f32) (sa : Vec Ideal S1x1 .f32) (B : FVec Ideal S1024x1280 .f32) (sb : Vec Ideal S1 .f32)
    (r : Fin 128) (j : Fin 1280) (i : Fin 1024) (hA : A (ix2 r j) = B (ix2 i j)) (hs : sa (ix2 0 0) = sb (ix1 0)) :
    codesP A (View.ld sa r0_30) (ix2 r j)
      = Cert.ReferenceAttnIdeal.Gen.k0_pay1 (F := Ideal) B (Cert.ReferenceAttnIdeal.Gen.k0_pay3 (F := Ideal) (Cert.ReferenceAttnIdeal.RefValue.one sb)) (ix2 i j) := by
  pointwise [codesP, Cert.ReferenceAttnIdeal.Gen.k0_pay1, Cert.ReferenceAttnIdeal.Gen.k0_pay3, Cert.ReferenceAttnIdeal.RefValue.one]
  rw [hA, hs]

/-- Point `t`'s block of the first result is that block of `Attn`. -/
theorem final5 (c : Dev nD) : (dats m 0 c).arrAt 5 (cfgs 0).N
    = Attn (m ((c : Thread nD τ).loc main_arg0)) (m ((c : Thread nD τ).loc main_arg1)) := by
  refine (dats m 0 c).arrAt_eq_of_covers 5 _ (by decide +kernel) fun t _ y => ?_
  blk_simp
  rw [after0_5, out5_eq]
  obtain ⟨r, j, rfl⟩ : ∃ (r : Fin 128) (j : Fin 1280), y = ix2 r j := ⟨y 0, y 1, eq_ix2 y⟩
  rw [attn_at]
  have := pt t
  generalize Attn (m ((c : Thread nD τ).loc main_arg0)) (m ((c : Thread nD τ).loc main_arg1)) = X
  blk_point [idx t]

/-- Point `t`'s block of the second result is that block of `Codes`. -/
theorem final6 (c : Dev nD) : (dats m 0 c).arrAt 6 (cfgs 0).N
    = Codes (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6, out6_eq]
  obtain ⟨r, j, rfl⟩ : ∃ (r : Fin 128) (j : Fin 1280), y = ix2 r j := ⟨y 0, y 1, eq_ix2 y⟩
  refine (codes_at _ _ _ _ r j _ (attn_at m c t r j) (b4 m c t)).trans ?_
  have := pt t
  show Codes (m ((c : Thread nD τ).loc main_arg0)) (m ((c : Thread nD τ).loc main_arg1)) (m ((c : Thread nD τ).loc main_arg2)) _ = Codes (m ((c : Thread nD τ).loc main_arg0)) (m ((c : Thread nD τ).loc main_arg1)) (m ((c : Thread nD τ).loc main_arg2)) _
  generalize Codes (m ((c : Thread nD τ).loc main_arg0)) (m ((c : Thread nD τ).loc main_arg1)) (m ((c : Thread nD τ).loc main_arg2)) = X
  blk_point [idx t]

end Cert.KernelAttnIdeal.RefValue
-- ==== Proof.ClaimAttn.lean ====
module

public import proofs.«01_k».proof.Defs
public import proofs.«01_k».proof.Proof.Gen.KernelAttnIdeal.Value
public import proofs.«01_k».proof.Proof.Gen.ReferenceAttnIdeal.Value
public import proofs.«01_k».proof.Proof.ValAttn

@[expose] public section

set_option maxRecDepth 16384

noncomputable section

open Idealize.ShloMosaic Idealize.ShloMosaic.TcCoe Idealize.SL.Sem

namespace Cert.ClaimAttn

open Cert.ReferenceAttnIdeal.RefValue (Attn Codes)

/-- The image-attention call and its reference, from equal arguments, both run and end with equal results: the attention and
    the codes the output projection reads. -/
theorem algebraic : Cert.algebraic_KernelAttnIdeal_ReferenceAttnIdeal
    (hKernelAttnIdeal := Cert.KernelAttnIdeal.Gen.facts) (hReferenceAttnIdeal := Cert.ReferenceAttnIdeal.Gen.facts) := by
  intro m g m' g' _ hargs
  refine ⟨fun c => Attn (m (c.tc.loc Cert.KernelAttnIdeal.main_arg0)) (m (c.tc.loc Cert.KernelAttnIdeal.main_arg1)),
    fun c => Codes (m (c.tc.loc Cert.KernelAttnIdeal.main_arg0)) (m (c.tc.loc Cert.KernelAttnIdeal.main_arg1))
      (m (c.tc.loc Cert.KernelAttnIdeal.main_arg2)), ?_, ?_⟩
  · refine (θ_run Cert.KernelAttnIdeal.defs _ _).mono ?_ (Cert.KernelAttnIdeal.Value.run_blocks m g)
    intro r h c
    obtain ⟨h0, h1, h⟩ := h c
    exact ⟨h0.trans (Cert.KernelAttnIdeal.RefValue.final5 m c), h1.trans (Cert.KernelAttnIdeal.RefValue.final6 m c), h⟩
  · refine (θ_run Cert.ReferenceAttnIdeal.defs _ _).mono ?_ (Cert.ReferenceAttnIdeal.Value.run_blocks m' g')
    intro r h c
    obtain ⟨h0, h1, h⟩ := h c
    obtain ⟨a0, a1, a2⟩ := hargs c
    refine ⟨h0.trans ((Cert.ReferenceAttnIdeal.RefValue.final4 m' c).trans ?_),
      h1.trans ((Cert.ReferenceAttnIdeal.RefValue.final5 m' c).trans ?_), h⟩
    · rw [a0, a1]
    · rw [a0, a1, a2]

end Cert.ClaimAttn
-- ==== Proof.WinMath.lean ====
/-
  One row of one attention head over any number of keys, and that only the keys its mask keeps count: a masked key scores
  minus infinity, which neither moves the row's greatest score nor adds to its sums. So two lists of keys whose kept keys
  correspond give the same row.
-/
module

public import Idealize.ShloMosaic.Lib.Pipeline.ValueKit
public import Idealize.ShloMosaic.Lib.Pointwise

@[expose] public section
noncomputable section
open Idealize.ShloMosaic
namespace Cert.WinMath

/-- A score, masked, in units of one power of two. -/
def scS (b : BitVec 1) (a : EReal) : EReal :=
  Scalar.select b (a * Ideal.ofBits .f32 1038416174#32 * Ideal.ofBits .f32 1069066811#32) (Ideal.ofBits .f32 4286578688#32)

/-- The powers of two a row of scores gives. -/
def probS {K : Nat} (s : Fin K → EReal) (k : Fin K) : EReal :=
  FloatOps.exp2 (F := Ideal) (φ := .f32) (s k - Ideal.liftRound Int.ceil (Finset.fold max (Ideal.ofBits .f32 4286578688#32) s Finset.univ) : EReal)

/-- The powers' weighted sum of the values over their plain sum. -/
def outS {K : Nat} (p v : Fin K → EReal) : EReal := Ideal.div (∑ x, p x * v x) (∑ x, p x)

/-- One entry of the attention: from its query row, the keys and the values of its head, and the mask of its row. -/
def attnS {K : Nat} (q : Fin 80 → EReal) (k : Fin K → Fin 80 → EReal) (v : Fin K → EReal) (b : Fin K → BitVec 1) : EReal :=
  outS (probS fun n => scS (b n) (∑ d, q d * k n d)) v

theorem ninf : Ideal.ofBits .f32 4286578688#32 = (⊥ : EReal) := by
  simp [Ideal.ofBits, Ideal.ieee]

theorem scS_off {b : BitVec 1} (h : b ≠ 1#1) (a : EReal) : scS b a = ⊥ := by
  unfold scS
  rw [← ninf]
  have : b = 0#1 := by bv_omega
  subst this
  rfl

theorem exp2_bot : (FloatOps.exp2 (F := Ideal) (φ := .f32) (⊥ : EReal) : EReal) = 0 := by
  rfl

/-- The greatest of a row is the greatest of the terms that are not minus infinity. -/
theorem fold_kept {K : Nat} (s : Fin K → EReal) (P : Fin K → Prop) [DecidablePred P] (h : ∀ n, ¬P n → s n = ⊥) :
    Finset.fold max (Ideal.ofBits .f32 4286578688#32) s Finset.univ = (Finset.univ.filter P).sup s := by
  rw [ninf]
  show Finset.univ.sup s = _
  refine le_antisymm (Finset.sup_le fun n _ => ?_) (Finset.sup_mono (Finset.filter_subset _ _))
  by_cases hn : P n
  · exact Finset.le_sup (f := s) (Finset.mem_filter.2 ⟨Finset.mem_univ _, hn⟩)
  · rw [h n hn]; exact bot_le

/-- Two rows whose kept keys correspond are equal. -/
theorem attn_kept {K L : Nat} (q : Fin 80 → EReal) (k : Fin K → Fin 80 → EReal) (v : Fin K → EReal) (b : Fin K → BitVec 1)
    (k' : Fin L → Fin 80 → EReal) (v' : Fin L → EReal) (b' : Fin L → BitVec 1) (φ : Fin L → Fin K)
    (hinj : ∀ x y, b' x = 1#1 → b' y = 1#1 → φ x = φ y → x = y)
    (hon : ∀ x, b' x = 1#1 → b (φ x) = 1#1 ∧ k (φ x) = k' x ∧ v (φ x) = v' x)
    (hsur : ∀ n, b n = 1#1 → ∃ x, b' x = 1#1 ∧ φ x = n) :
    attnS q k v b = attnS q k' v' b' := by
  classical
  have himg : (Finset.univ.filter fun n => b n = 1#1) = (Finset.univ.filter fun x => b' x = 1#1).image φ := by
    ext n
    simp only [Finset.mem_filter, Finset.mem_univ, true_and, Finset.mem_image]
    constructor
    · exact hsur n
    · rintro ⟨x, hx, rfl⟩; exact (hon x hx).1
  have hio : Set.InjOn φ (Finset.univ.filter fun x => b' x = 1#1 : Finset (Fin L)) := by
    intro x hx y hy h
    simp only [Finset.coe_filter, Finset.mem_univ, true_and, Set.mem_setOf_eq] at hx hy
    exact hinj x y hx hy h
  have hsc : ∀ x, b' x = 1#1 → scS (b (φ x)) (∑ d, q d * k (φ x) d) = scS (b' x) (∑ d, q d * k' x d) := by
    intro x hx
    rw [(hon x hx).1, (hon x hx).2.1, hx]
  have hmax : Finset.fold max (Ideal.ofBits .f32 4286578688#32) (fun n => scS (b n) (∑ d, q d * k n d)) Finset.univ
      = Finset.fold max (Ideal.ofBits .f32 4286578688#32) (fun x => scS (b' x) (∑ d, q d * k' x d)) Finset.univ := by
    rw [fold_kept _ (fun n => b n = 1#1) (fun n hn => scS_off hn _), fold_kept _ (fun x => b' x = 1#1) (fun n hn => scS_off hn _),
      himg, Finset.sup_image]
    refine Finset.sup_congr rfl fun x hx => ?_
    exact hsc x (Finset.mem_filter.1 hx).2
  have hp : ∀ x, b' x = 1#1 → probS (fun n => scS (b n) (∑ d, q d * k n d)) (φ x) = probS (fun x => scS (b' x) (∑ d, q d * k' x d)) x := by
    intro x hx
    unfold probS
    dsimp only
    rw [hmax, hsc x hx]
  have h0 : ∀ n, ¬b n = 1#1 → probS (fun n => scS (b n) (∑ d, q d * k n d)) n = 0 := by
    intro n hn
    unfold probS
    dsimp only
    rw [scS_off hn, EReal.bot_sub]
    exact exp2_bot
  have h0' : ∀ n, ¬b' n = 1#1 → probS (fun x => scS (b' x) (∑ d, q d * k' x d)) n = 0 := by
    intro n hn
    unfold probS
    dsimp only
    rw [scS_off hn, EReal.bot_sub]
    exact exp2_bot
  have hsum : ∀ (w : Fin K → EReal) (w' : Fin L → EReal), (∀ x, b' x = 1#1 → w (φ x) = w' x) →
      (∀ n, ¬b n = 1#1 → w n = 0) → (∀ n, ¬b' n = 1#1 → w' n = 0) → ∑ n, w n = ∑ x, w' x := by
    intro w w' h1 h2 h3
    rw [← Finset.sum_filter_of_ne (p := fun n => b n = 1#1) (fun n _ h => by_contra fun hn => h (h2 n hn)),
      ← Finset.sum_filter_of_ne (p := fun n => b' n = 1#1) (fun n _ h => by_contra fun hn => h (h3 n hn)), himg, Finset.sum_image hio]
    exact Finset.sum_congr rfl fun x hx => h1 x (Finset.mem_filter.1 hx).2
  unfold attnS outS
  congr 1
  · refine hsum _ _ (fun x hx => ?_) (fun n hn => ?_) (fun n hn => ?_)
    · rw [hp x hx, (hon x hx).2.2]
    · rw [h0 n hn, zero_mul]
    · rw [h0' n hn, zero_mul]
  · exact hsum _ _ hp h0 h0'

end Cert.WinMath
-- ==== Proof.WinPay.lean ====
/-
  The values the window-attention kernel's body computes, over the extended reals. The body takes its sixteen heads one after
  another, each through a window of 256 lanes that starts at a multiple of 128. Every head is one and the same function of its
  window's first and last lane, the mask and the three windows it reads; every tile of 128 lanes of the result is a choice
  among the heads whose windows reach it.
-/
module

public import proofs.«01_k».proof.Proof.Gen.KernelWinIdeal.Frame
public import proofs.«01_k».proof.Proof.WinMath
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.KernelWinIdeal.Pay
open Cert.KernelWinIdeal Cert.KernelWinIdeal.Gen
open Cert.WinMath

/-- The lanes of a window from `lo` up to `hi`. -/
def maskH (lo hi : BitVec 32) : IVec S128x256 1 :=
  andi (cmpi .sge (iota .tc S128x256 32 [1] iota_S128x256_d1_w32) (broadcast S128x256 lo))
    (cmpi .slt (iota .tc S128x256 32 [1] iota_S128x256_d1_w32) (broadcast S128x256 hi))

/-- One head's masked scores, in units of one power of two. -/
def scoreH (lo hi : BitVec 32) (mk : IVec S128x256 1) (q : FVec Ideal S128x256 .bf16) (k : FVec Ideal S256x256 .bf16) : FVec Ideal S128x256 .f32 :=
  select mk
    (mulf (mulf (matmul dot_S128x256_S256x256_S128x256_1_1_0_0_n_n none
        (truncf .bf16 (select (maskH lo hi) (extf .f32 q bitsLt_bf16_f32) (broadcast S128x256 (Scalar.ofBits .f32 0x00000000#32))) bitsLt_bf16_f32) k
        (constant S128x256 .f32 0x00000000#32))
      (broadcast S128x256 (Scalar.ofBits .f32 0x3DE4F92E#32))) (broadcast S128x256 (Scalar.ofBits .f32 0x3FB8AA3B#32)))
    (broadcast S128x256 (Scalar.ofBits .f32 0xFF800000#32))

/-- The powers of two a row of scores gives, each score first lowered by the row's greatest, rounded up. -/
def probH (s : FVec Ideal S128x256 .f32) : FVec Ideal S128x256 .f32 :=
  exp2 (subf s (broadcastTo S128x256 (ceil (shapeCast S128x1
    (multiReduction .maximumf [1] S128 s 0xFF800000#32 reduces_S128x256_S128 (.inl rfl) rfl) shapeCasts_S128_S128x1)) broadcasts_S128x1_S128x256))

/-- The powers' weighted sums of the values over their plain sums. -/
def outH (p : FVec Ideal S128x256 .f32) (v : FVec Ideal S256x256 .bf16) : FVec Ideal S128x256 .f32 :=
  divf (matmul dot_S128x256_S256x256_S128x256_1_0_0_1_n_n none (truncf .bf16 p bitsLt_bf16_f32) v (constant S128x256 .f32 0x00000000#32))
    (broadcastTo S128x256 (shapeCast S128x1 (multiReduction .add [1] S128 p 0x00000000#32 reduces_S128x256_S128 (.inl rfl) rfl) shapeCasts_S128_S128x1)
      broadcasts_S128x1_S128x256)

/-- One head's output over its window. -/
def headH (lo hi : BitVec 32) (mk : IVec S128x256 1) (q : FVec Ideal S128x256 .bf16) (k v : FVec Ideal S256x256 .bf16) : FVec Ideal S128x256 .f32 :=
  outH (probH (scoreH lo hi mk q k)) v

/-- A tile after one head, when the tile is the window's first 128 lanes, -/
def tileA (mh : IVec S128x256 1) (o : FVec Ideal S128x256 .f32) (p : FVec Ideal S128x128 .f32) : FVec Ideal S128x128 .f32 :=
  select (extractStridedSlice S128x128 ![0, 0] mh slices_S128x256_o0_0_S128x128)
    (extractStridedSlice S128x128 ![0, 0] o slices_S128x256_o0_0_S128x128) p

/-- and when it is the window's last 128 lanes. -/
def tileB (mh : IVec S128x256 1) (o : FVec Ideal S128x256 .f32) (p : FVec Ideal S128x128 .f32) : FVec Ideal S128x128 .f32 :=
  select (extractStridedSlice S128x128 ![0, 128] mh slices_S128x256_o0_128_S128x128)
    (extractStridedSlice S128x128 ![0, 128] o slices_S128x256_o0_128_S128x128) p

/-- A tile of zeros. -/
def tile0 : FVec Ideal S128x128 .f32 := broadcast S128x128 (Scalar.ofBits .f32 0x00000000#32)

/-! Each of these at an index. -/

/-- Whether a lane lies between `lo` and `lo + 80`. -/
theorem lane_mask : ∀ (lo : Fin 177) (z : Fin 256), IntOp.andi (IntOp.cmpi CmpIPredicate.sge (BitVec.ofNat 32 z.val) (BitVec.ofNat 32 lo.val))
    (IntOp.cmpi CmpIPredicate.slt (BitVec.ofNat 32 z.val) (BitVec.ofNat 32 (lo.val + 80))) = BitVec.ofBool (decide (lo.val ≤ z.val ∧ z.val < lo.val + 80)) := by
  decide +kernel

theorem mask_apply (lo : Nat) (hlo : lo ≤ 176) (r : Fin 128) (z : Fin 256) :
    maskH (BitVec.ofNat 32 lo) (BitVec.ofNat 32 (lo + 80)) (ix2 r z) = BitVec.ofBool (decide (lo ≤ z.val ∧ z.val < lo + 80)) := by
  refine Eq.trans ?_ (lane_mask ⟨lo, by omega⟩ z)
  pointwise [maskH]

/-- A choice by a decided bit. -/
theorem select_bool (P : Prop) [Decidable P] (a b : EReal) : Scalar.select (BitVec.ofBool (decide P)) a b = if P then a else b := by
  by_cases h : P
  · rw [if_pos h, decide_eq_true h]; rfl
  · rw [if_neg h, decide_eq_false h]; rfl

/-- A sum over a window whose terms outside one head are zero is the sum over the head. -/
theorem sum_window (lo : Nat) (hlo : lo ≤ 176) (f : Fin 256 → EReal) :
    (∑ x : Fin 256, if lo ≤ x.val ∧ x.val < lo + 80 then f x else 0) = ∑ d : Fin 80, f ⟨lo + d.val, by omega⟩ := by
  symm
  refine Finset.sum_of_injOn (fun d : Fin 80 => (⟨lo + d.val, by omega⟩ : Fin 256)) ?_ ?_ ?_ ?_
  · intro a _ b _ h
    have := congrArg Fin.val h
    exact Fin.ext (by simpa using this)
  · intro a _
    exact Finset.mem_coe.2 (Finset.mem_univ _)
  · intro i _ hi
    refine if_neg fun h => hi ⟨⟨i.val - lo, by omega⟩, Finset.mem_coe.2 (Finset.mem_univ _), Fin.ext ?_⟩
    show lo + (i.val - lo) = i.val
    omega
  · intro d _
    exact (if_pos (by show lo ≤ lo + d.val ∧ lo + d.val < lo + 80; omega)).symm

variable (mk : IVec S128x256 1) (q : FVec Ideal S128x256 .bf16) (k v : FVec Ideal S256x256 .bf16) (s p : FVec Ideal S128x256 .f32)

theorem score_sum (lo hi : BitVec 32) (r : Fin 128) (n : Fin 256) : scoreH lo hi mk q k (ix2 r n)
    = scS (mk (ix2 r n)) (∑ x : Fin 256, Scalar.select (maskH lo hi (ix2 r x)) (q (ix2 r x) * k (ix2 n x) : EReal) 0) := by
  pointwise [scoreH, scS]

theorem score_apply (lo : Nat) (hlo : lo ≤ 176) (r : Fin 128) (n : Fin 256) :
    scoreH (BitVec.ofNat 32 lo) (BitVec.ofNat 32 (lo + 80)) mk q k (ix2 r n)
      = scS (mk (ix2 r n)) (∑ d : Fin 80, (q (ix2 r ⟨lo + d.val, by omega⟩) * k (ix2 n ⟨lo + d.val, by omega⟩) : EReal)) := by
  rw [score_sum, ← sum_window lo hlo (fun x => (q (ix2 r x) * k (ix2 n x) : EReal))]
  refine congrArg (scS _) (Finset.sum_congr rfl fun x _ => ?_)
  rw [mask_apply lo hlo, select_bool]

/-- The index a row's reduction reads. -/
theorem lift_eq (r : Fin 128) (n : Fin 256) : (reduces_S128x256_S128.lift (ix1 r) n) = ix2 r n := by
  refine (funext fun a => ?_)
  match a with
  | ⟨0, _⟩ => rfl
  | ⟨1, _⟩ => rfl

/-- The greatest score of each row, as a reduction reads it, -/
theorem max_lift (r : Fin 128) :
    multiReduction (F := Ideal) .maximumf [1] S128 s 0xFF800000#32 reduces_S128x256_S128 (.inl rfl) rfl (ix1 r)
      = Finset.fold max (Ideal.ofBits .f32 4286578688#32) (s ∘ reduces_S128x256_S128.lift (ix1 r)) Finset.univ :=
  Idealize.ShloMosaic.Ideal.multiReduction_maximumf_single s _ reduces_S128x256_S128 (.inl rfl) rfl (ix1 r)

/-- and from the row's scores. -/
theorem max_apply (r : Fin 128) (f : Fin 256 → EReal) (hf : ∀ k, s (ix2 r k) = f k) :
    multiReduction (F := Ideal) .maximumf [1] S128 s 0xFF800000#32 reduces_S128x256_S128 (.inl rfl) rfl (ix1 r)
      = Finset.fold max (Ideal.ofBits .f32 4286578688#32) f Finset.univ := by
  rw [max_lift]
  have e : (s ∘ reduces_S128x256_S128.lift (ix1 r)) = f := funext fun k => (congrArg s (lift_eq r k)).trans (hf k)
  exact congrArg (fun f : Fin 256 → EReal => Finset.fold max (Ideal.ofBits .f32 4286578688#32) f Finset.univ) e

theorem exp_apply (r : Fin 128) (n : Fin 256) (M : FVec Ideal S128 .f32) :
    exp2 (subf s (broadcastTo S128x256 (ceil (shapeCast S128x1 M shapeCasts_S128_S128x1)) broadcasts_S128x1_S128x256)) (ix2 r n)
      = FloatOps.exp2 (F := Ideal) (φ := .f32) (s (ix2 r n) - Ideal.liftRound Int.ceil (M (ix1 r)) : EReal) := by
  pointwise

theorem prob_apply (r : Fin 128) (n : Fin 256) (f : Fin 256 → EReal) (hf : ∀ k, s (ix2 r k) = f k) : probH s (ix2 r n) = probS f n := by
  unfold probH probS
  rw [exp_apply, max_apply s r f hf, hf n]

theorem out_apply (r : Fin 128) (z : Fin 256) : outH p v (ix2 r z) = outS (fun k => p (ix2 r k)) (fun k => v (ix2 k z)) := by
  pointwise [outH, outS]

/-- One head's output at a row and lane, from the row's queries and the head's keys and values. -/
theorem head_apply (lo : Nat) (hlo : lo ≤ 176) (r : Fin 128) (z : Fin 256) :
    headH (BitVec.ofNat 32 lo) (BitVec.ofNat 32 (lo + 80)) mk q k v (ix2 r z)
      = attnS (fun e => q (ix2 r ⟨lo + e.val, by omega⟩)) (fun n e => k (ix2 n ⟨lo + e.val, by omega⟩)) (fun n => v (ix2 n z)) (fun n => mk (ix2 r n)) := by
  unfold headH attnS
  rw [out_apply]
  exact congrArg (fun f => outS f _) (funext fun n => prob_apply _ r n _ fun n' => score_apply mk q k lo hlo r n')

theorem tileA_apply (lo : Nat) (hlo : lo ≤ 176) (o : FVec Ideal S128x256 .f32) (t : FVec Ideal S128x128 .f32) (r : Fin 128) (l : Fin 128) :
    tileA (maskH (BitVec.ofNat 32 lo) (BitVec.ofNat 32 (lo + 80))) o t (ix2 r l)
      = (if lo ≤ l.val ∧ l.val < lo + 80 then o (ix2 r ⟨l.val, by omega⟩) else t (ix2 r l) : EReal) := by
  rw [← select_bool, ← mask_apply lo hlo r ⟨l.val, by omega⟩]
  generalize maskH (BitVec.ofNat 32 lo) (BitVec.ofNat 32 (lo + 80)) = M
  pointwise [tileA]

theorem tileB_apply (lo : Nat) (hlo : lo ≤ 176) (o : FVec Ideal S128x256 .f32) (t : FVec Ideal S128x128 .f32) (r : Fin 128) (l : Fin 128) :
    tileB (maskH (BitVec.ofNat 32 lo) (BitVec.ofNat 32 (lo + 80))) o t (ix2 r l)
      = (if lo ≤ 128 + l.val ∧ 128 + l.val < lo + 80 then o (ix2 r ⟨128 + l.val, by omega⟩) else t (ix2 r l) : EReal) := by
  rw [← select_bool, ← mask_apply lo hlo r ⟨128 + l.val, by omega⟩]
  generalize maskH (BitVec.ofNat 32 lo) (BitVec.ofNat 32 (lo + 80)) = M
  pointwise [tileB]

end Cert.KernelWinIdeal.Pay
-- ==== Proof.WinTile.lean ====
/-
  The attention a point computes, entry by entry: every tile of 128 lanes takes each lane from the one head the lane belongs
  to, so lane `j` of the ten tiles side by side is head `j / 80`'s output.
-/
module

public import proofs.«01_k».proof.Proof.Gen.KernelWinIdeal.Frame
public import proofs.«01_k».proof.Proof.WinPay
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.KernelWinIdeal.Pay
open Cert.KernelWinIdeal Cert.KernelWinIdeal.Gen
open Cert.WinMath

variable (i : grid0.Coords) (x0 : Vec Ideal S128x1280 .bf16) (x1 : Vec Ideal S1024x3840 .bf16) (x2 : Vec Ideal S128x1 .i32) (x3 : Vec Ideal S8x1x256 .i32)

/-- The first key row of a point's keys. -/
abbrev k0 (i : grid0.Coords) : Nat := k0_off2 i 0

theorem k0_le : ∀ i : grid0.Coords, k0 i ≤ 768 := by decide +kernel

/-- One entry of a point's attention from its blocks: the queries of row `r`, and the keys and values of lane `j`'s head,
    the keys being the 256 rows from the point's first on. -/
def blkS (mk : IVec S128x256 1) (r : Fin 128) (j : Fin 1280) : EReal :=
  attnS (fun e => x0 (ix2 r ⟨j.val / 80 * 80 + e.val, by omega⟩))
    (fun (n : Fin 256) e => x1 (ix2 ⟨k0 i + n.val, by have := k0_le i; omega⟩ ⟨1280 + j.val / 80 * 80 + e.val, by omega⟩))
    (fun n => x1 (ix2 ⟨k0 i + n.val, by have := k0_le i; omega⟩ ⟨2560 + j.val, by omega⟩)) (fun n => mk (ix2 r n))

/-- A head's output is that entry, when its three windows are the lanes from `t` on of the queries, the keys and the values. -/
theorem head_blk (t lo h : Nat) (ht : t ≤ 1024) (hlo : lo ≤ 176) (hh : t + lo = h * 80) (q : FVec Ideal S128x256 .bf16) (k v : FVec Ideal S256x256 .bf16)
    (hq : ∀ (r : Fin 128) (z : Fin 256), q (ix2 r z) = x0 (ix2 r ⟨t + z.val, by omega⟩))
    (hk : ∀ (r : Fin 256) (z : Fin 256), k (ix2 r z) = x1 (ix2 ⟨k0 i + r.val, by have := k0_le i; omega⟩ ⟨1280 + t + z.val, by omega⟩))
    (hv : ∀ (r : Fin 256) (z : Fin 256), v (ix2 r z) = x1 (ix2 ⟨k0 i + r.val, by have := k0_le i; omega⟩ ⟨2560 + t + z.val, by omega⟩))
    (mk : IVec S128x256 1) (r : Fin 128) (z : Fin 256) (hz : lo ≤ z.val ∧ z.val < lo + 80) (j : Fin 1280) (hj : j.val = t + z.val) :
    headH (BitVec.ofNat 32 lo) (BitVec.ofNat 32 (lo + 80)) mk q k v (ix2 r z) = blkS i x0 x1 mk r j := by
  have hd : j.val / 80 = h := by omega
  rw [head_apply mk q k v lo hlo r z]
  unfold blkS
  have e1 : (fun e : Fin 80 => (q (ix2 r ⟨lo + e.val, by omega⟩) : EReal)) = fun e => x0 (ix2 r ⟨j.val / 80 * 80 + e.val, by omega⟩) :=
    funext fun e => (hq r _).trans (congrArg (fun i => x0 (ix2 r i)) (Fin.ext (by show t + (lo + e.val) = j.val / 80 * 80 + e.val; rw [hd]; omega)))
  have e2 : (fun (n : Fin 256) (e : Fin 80) => (k (ix2 n ⟨lo + e.val, by omega⟩) : EReal)) = fun n e => x1 (ix2 ⟨k0 i + n.val, by have := k0_le i; omega⟩ ⟨1280 + j.val / 80 * 80 + e.val, by omega⟩) :=
    funext fun n => funext fun e => (hk n _).trans (congrArg (fun y => x1 (ix2 ⟨k0 i + n.val, by have := k0_le i; omega⟩ y)) (Fin.ext (by show 1280 + t + (lo + e.val) = 1280 + j.val / 80 * 80 + e.val; rw [hd]; omega)))
  have e3 : (fun n : Fin 256 => (v (ix2 n z) : EReal)) = fun n => x1 (ix2 ⟨k0 i + n.val, by have := k0_le i; omega⟩ ⟨2560 + j.val, by omega⟩) :=
    funext fun n => (hv n z).trans (congrArg (fun y => x1 (ix2 ⟨k0 i + n.val, by have := k0_le i; omega⟩ y)) (Fin.ext (by show 2560 + t + z.val = 2560 + j.val; omega)))
  rw [e1, e2, e3]

/-! The offsets of the key and value windows. -/

theorem off_k0 (i : grid0.Coords) : k0_off2 i = ![k0 i, 1280] := by
  revert i; decide +kernel
theorem off_v0 (i : grid0.Coords) : k0_off3 i = ![k0 i, 2560] := by
  revert i; decide +kernel
theorem off_k1 (i : grid0.Coords) : k0_off4 i = ![k0 i, 1408] := by
  revert i; decide +kernel
theorem off_v1 (i : grid0.Coords) : k0_off5 i = ![k0 i, 2688] := by
  revert i; decide +kernel
theorem off_k2 (i : grid0.Coords) : k0_off6 i = ![k0 i, 1536] := by
  revert i; decide +kernel
theorem off_v2 (i : grid0.Coords) : k0_off7 i = ![k0 i, 2816] := by
  revert i; decide +kernel
theorem off_k3 (i : grid0.Coords) : k0_off8 i = ![k0 i, 1664] := by
  revert i; decide +kernel
theorem off_v3 (i : grid0.Coords) : k0_off9 i = ![k0 i, 2944] := by
  revert i; decide +kernel
theorem off_k4 (i : grid0.Coords) : k0_off10 i = ![k0 i, 1792] := by
  revert i; decide +kernel
theorem off_v4 (i : grid0.Coords) : k0_off11 i = ![k0 i, 3072] := by
  revert i; decide +kernel
theorem off_k5 (i : grid0.Coords) : k0_off12 i = ![k0 i, 1920] := by
  revert i; decide +kernel
theorem off_v5 (i : grid0.Coords) : k0_off13 i = ![k0 i, 3200] := by
  revert i; decide +kernel
theorem off_k6 (i : grid0.Coords) : k0_off14 i = ![k0 i, 2048] := by
  revert i; decide +kernel
theorem off_v6 (i : grid0.Coords) : k0_off15 i = ![k0 i, 3328] := by
  revert i; decide +kernel
theorem off_k7 (i : grid0.Coords) : k0_off16 i = ![k0 i, 2176] := by
  revert i; decide +kernel
theorem off_v7 (i : grid0.Coords) : k0_off17 i = ![k0 i, 3456] := by
  revert i; decide +kernel
theorem off_k8 (i : grid0.Coords) : k0_off18 i = ![k0 i, 2304] := by
  revert i; decide +kernel
theorem off_v8 (i : grid0.Coords) : k0_off19 i = ![k0 i, 3584] := by
  revert i; decide +kernel

/-- A window of 256 rows and lanes of the keys and values, at an index. -/
theorem ld_win (f : Fin 2 → Nat) (h : ∀ a, f a + S256x256.size a ≤ S1024x3840.size a) (p q : Nat) (hf : f = ![p, q]) (r z : Fin 256)
    (hp : p + r.val < 1024) (hq : q + z.val < 3840) :
    View.ld x1 (Rect.unit (s := S1024x3840) f S256x256.size h) (ix2 r z) = x1 (ix2 ⟨p + r.val, hp⟩ ⟨q + z.val, hq⟩) := by
  subst hf
  pointwise

abbrev lq0 : FVec Ideal S128x256 .bf16 := View.ld x0 (Rect.unit (s := S128x1280) ![0, 0] S128x256.size inb_S128x1280_S128x256_0_0)
abbrev lk0 : FVec Ideal S256x256 .bf16 := View.ld x1 (Rect.unit (s := S1024x3840) (k0_off2 i) S256x256.size (k0_off2_inb i))
abbrev lv0 : FVec Ideal S256x256 .bf16 := View.ld x1 (Rect.unit (s := S1024x3840) (k0_off3 i) S256x256.size (k0_off3_inb i))
theorem ldq_0 (r : Fin 128) (z : Fin 256) : lq0 x0 (ix2 r z) = x0 (ix2 r ⟨0 + z.val, by omega⟩) := by
  pointwise [lq0]
theorem ldk_0 (r : Fin 256) (z : Fin 256) : lk0 i x1 (ix2 r z) = x1 (ix2 ⟨k0 i + r.val, by have := k0_le i; omega⟩ ⟨1280 + 0 + z.val, by omega⟩) :=
  ld_win x1 _ _ _ _ (off_k0 i) r z _ _
theorem ldv_0 (r : Fin 256) (z : Fin 256) : lv0 i x1 (ix2 r z) = x1 (ix2 ⟨k0 i + r.val, by have := k0_le i; omega⟩ ⟨2560 + 0 + z.val, by omega⟩) :=
  ld_win x1 _ _ _ _ (off_v0 i) r z _ _
abbrev lq1 : FVec Ideal S128x256 .bf16 := View.ld x0 (Rect.unit (s := S128x1280) ![0, 128] S128x256.size inb_S128x1280_S128x256_0_128)
abbrev lk1 : FVec Ideal S256x256 .bf16 := View.ld x1 (Rect.unit (s := S1024x3840) (k0_off4 i) S256x256.size (k0_off4_inb i))
abbrev lv1 : FVec Ideal S256x256 .bf16 := View.ld x1 (Rect.unit (s := S1024x3840) (k0_off5 i) S256x256.size (k0_off5_inb i))
theorem ldq_1 (r : Fin 128) (z : Fin 256) : lq1 x0 (ix2 r z) = x0 (ix2 r ⟨128 + z.val, by omega⟩) := by
  pointwise [lq1]
theorem ldk_1 (r : Fin 256) (z : Fin 256) : lk1 i x1 (ix2 r z) = x1 (ix2 ⟨k0 i + r.val, by have := k0_le i; omega⟩ ⟨1280 + 128 + z.val, by omega⟩) :=
  ld_win x1 _ _ _ _ (off_k1 i) r z _ _
theorem ldv_1 (r : Fin 256) (z : Fin 256) : lv1 i x1 (ix2 r z) = x1 (ix2 ⟨k0 i + r.val, by have := k0_le i; omega⟩ ⟨2560 + 128 + z.val, by omega⟩) :=
  ld_win x1 _ _ _ _ (off_v1 i) r z _ _
abbrev lq2 : FVec Ideal S128x256 .bf16 := View.ld x0 (Rect.unit (s := S128x1280) ![0, 256] S128x256.size inb_S128x1280_S128x256_0_256)
abbrev lk2 : FVec Ideal S256x256 .bf16 := View.ld x1 (Rect.unit (s := S1024x3840) (k0_off6 i) S256x256.size (k0_off6_inb i))
abbrev lv2 : FVec Ideal S256x256 .bf16 := View.ld x1 (Rect.unit (s := S1024x3840) (k0_off7 i) S256x256.size (k0_off7_inb i))
theorem ldq_2 (r : Fin 128) (z : Fin 256) : lq2 x0 (ix2 r z) = x0 (ix2 r ⟨256 + z.val, by omega⟩) := by
  pointwise [lq2]
theorem ldk_2 (r : Fin 256) (z : Fin 256) : lk2 i x1 (ix2 r z) = x1 (ix2 ⟨k0 i + r.val, by have := k0_le i; omega⟩ ⟨1280 + 256 + z.val, by omega⟩) :=
  ld_win x1 _ _ _ _ (off_k2 i) r z _ _
theorem ldv_2 (r : Fin 256) (z : Fin 256) : lv2 i x1 (ix2 r z) = x1 (ix2 ⟨k0 i + r.val, by have := k0_le i; omega⟩ ⟨2560 + 256 + z.val, by omega⟩) :=
  ld_win x1 _ _ _ _ (off_v2 i) r z _ _
abbrev lq3 : FVec Ideal S128x256 .bf16 := View.ld x0 (Rect.unit (s := S128x1280) ![0, 384] S128x256.size inb_S128x1280_S128x256_0_384)
abbrev lk3 : FVec Ideal S256x256 .bf16 := View.ld x1 (Rect.unit (s := S1024x3840) (k0_off8 i) S256x256.size (k0_off8_inb i))
abbrev lv3 : FVec Ideal S256x256 .bf16 := View.ld x1 (Rect.unit (s := S1024x3840) (k0_off9 i) S256x256.size (k0_off9_inb i))
theorem ldq_3 (r : Fin 128) (z : Fin 256) : lq3 x0 (ix2 r z) = x0 (ix2 r ⟨384 + z.val, by omega⟩) := by
  pointwise [lq3]
theorem ldk_3 (r : Fin 256) (z : Fin 256) : lk3 i x1 (ix2 r z) = x1 (ix2 ⟨k0 i + r.val, by have := k0_le i; omega⟩ ⟨1280 + 384 + z.val, by omega⟩) :=
  ld_win x1 _ _ _ _ (off_k3 i) r z _ _
theorem ldv_3 (r : Fin 256) (z : Fin 256) : lv3 i x1 (ix2 r z) = x1 (ix2 ⟨k0 i + r.val, by have := k0_le i; omega⟩ ⟨2560 + 384 + z.val, by omega⟩) :=
  ld_win x1 _ _ _ _ (off_v3 i) r z _ _
abbrev lq4 : FVec Ideal S128x256 .bf16 := View.ld x0 (Rect.unit (s := S128x1280) ![0, 512] S128x256.size inb_S128x1280_S128x256_0_512)
abbrev lk4 : FVec Ideal S256x256 .bf16 := View.ld x1 (Rect.unit (s := S1024x3840) (k0_off10 i) S256x256.size (k0_off10_inb i))
abbrev lv4 : FVec Ideal S256x256 .bf16 := View.ld x1 (Rect.unit (s := S1024x3840) (k0_off11 i) S256x256.size (k0_off11_inb i))
theorem ldq_4 (r : Fin 128) (z : Fin 256) : lq4 x0 (ix2 r z) = x0 (ix2 r ⟨512 + z.val, by omega⟩) := by
  pointwise [lq4]
theorem ldk_4 (r : Fin 256) (z : Fin 256) : lk4 i x1 (ix2 r z) = x1 (ix2 ⟨k0 i + r.val, by have := k0_le i; omega⟩ ⟨1280 + 512 + z.val, by omega⟩) :=
  ld_win x1 _ _ _ _ (off_k4 i) r z _ _
theorem ldv_4 (r : Fin 256) (z : Fin 256) : lv4 i x1 (ix2 r z) = x1 (ix2 ⟨k0 i + r.val, by have := k0_le i; omega⟩ ⟨2560 + 512 + z.val, by omega⟩) :=
  ld_win x1 _ _ _ _ (off_v4 i) r z _ _
abbrev lq5 : FVec Ideal S128x256 .bf16 := View.ld x0 (Rect.unit (s := S128x1280) ![0, 640] S128x256.size inb_S128x1280_S128x256_0_640)
abbrev lk5 : FVec Ideal S256x256 .bf16 := View.ld x1 (Rect.unit (s := S1024x3840) (k0_off12 i) S256x256.size (k0_off12_inb i))
abbrev lv5 : FVec Ideal S256x256 .bf16 := View.ld x1 (Rect.unit (s := S1024x3840) (k0_off13 i) S256x256.size (k0_off13_inb i))
theorem ldq_5 (r : Fin 128) (z : Fin 256) : lq5 x0 (ix2 r z) = x0 (ix2 r ⟨640 + z.val, by omega⟩) := by
  pointwise [lq5]
theorem ldk_5 (r : Fin 256) (z : Fin 256) : lk5 i x1 (ix2 r z) = x1 (ix2 ⟨k0 i + r.val, by have := k0_le i; omega⟩ ⟨1280 + 640 + z.val, by omega⟩) :=
  ld_win x1 _ _ _ _ (off_k5 i) r z _ _
theorem ldv_5 (r : Fin 256) (z : Fin 256) : lv5 i x1 (ix2 r z) = x1 (ix2 ⟨k0 i + r.val, by have := k0_le i; omega⟩ ⟨2560 + 640 + z.val, by omega⟩) :=
  ld_win x1 _ _ _ _ (off_v5 i) r z _ _
abbrev lq6 : FVec Ideal S128x256 .bf16 := View.ld x0 (Rect.unit (s := S128x1280) ![0, 768] S128x256.size inb_S128x1280_S128x256_0_768)
abbrev lk6 : FVec Ideal S256x256 .bf16 := View.ld x1 (Rect.unit (s := S1024x3840) (k0_off14 i) S256x256.size (k0_off14_inb i))
abbrev lv6 : FVec Ideal S256x256 .bf16 := View.ld x1 (Rect.unit (s := S1024x3840) (k0_off15 i) S256x256.size (k0_off15_inb i))
theorem ldq_6 (r : Fin 128) (z : Fin 256) : lq6 x0 (ix2 r z) = x0 (ix2 r ⟨768 + z.val, by omega⟩) := by
  pointwise [lq6]
theorem ldk_6 (r : Fin 256) (z : Fin 256) : lk6 i x1 (ix2 r z) = x1 (ix2 ⟨k0 i + r.val, by have := k0_le i; omega⟩ ⟨1280 + 768 + z.val, by omega⟩) :=
  ld_win x1 _ _ _ _ (off_k6 i) r z _ _
theorem ldv_6 (r : Fin 256) (z : Fin 256) : lv6 i x1 (ix2 r z) = x1 (ix2 ⟨k0 i + r.val, by have := k0_le i; omega⟩ ⟨2560 + 768 + z.val, by omega⟩) :=
  ld_win x1 _ _ _ _ (off_v6 i) r z _ _
abbrev lq7 : FVec Ideal S128x256 .bf16 := View.ld x0 (Rect.unit (s := S128x1280) ![0, 896] S128x256.size inb_S128x1280_S128x256_0_896)
abbrev lk7 : FVec Ideal S256x256 .bf16 := View.ld x1 (Rect.unit (s := S1024x3840) (k0_off16 i) S256x256.size (k0_off16_inb i))
abbrev lv7 : FVec Ideal S256x256 .bf16 := View.ld x1 (Rect.unit (s := S1024x3840) (k0_off17 i) S256x256.size (k0_off17_inb i))
theorem ldq_7 (r : Fin 128) (z : Fin 256) : lq7 x0 (ix2 r z) = x0 (ix2 r ⟨896 + z.val, by omega⟩) := by
  pointwise [lq7]
theorem ldk_7 (r : Fin 256) (z : Fin 256) : lk7 i x1 (ix2 r z) = x1 (ix2 ⟨k0 i + r.val, by have := k0_le i; omega⟩ ⟨1280 + 896 + z.val, by omega⟩) :=
  ld_win x1 _ _ _ _ (off_k7 i) r z _ _
theorem ldv_7 (r : Fin 256) (z : Fin 256) : lv7 i x1 (ix2 r z) = x1 (ix2 ⟨k0 i + r.val, by have := k0_le i; omega⟩ ⟨2560 + 896 + z.val, by omega⟩) :=
  ld_win x1 _ _ _ _ (off_v7 i) r z _ _
abbrev lq8 : FVec Ideal S128x256 .bf16 := View.ld x0 (Rect.unit (s := S128x1280) ![0, 1024] S128x256.size inb_S128x1280_S128x256_0_1024)
abbrev lk8 : FVec Ideal S256x256 .bf16 := View.ld x1 (Rect.unit (s := S1024x3840) (k0_off18 i) S256x256.size (k0_off18_inb i))
abbrev lv8 : FVec Ideal S256x256 .bf16 := View.ld x1 (Rect.unit (s := S1024x3840) (k0_off19 i) S256x256.size (k0_off19_inb i))
theorem ldq_8 (r : Fin 128) (z : Fin 256) : lq8 x0 (ix2 r z) = x0 (ix2 r ⟨1024 + z.val, by omega⟩) := by
  pointwise [lq8]
theorem ldk_8 (r : Fin 256) (z : Fin 256) : lk8 i x1 (ix2 r z) = x1 (ix2 ⟨k0 i + r.val, by have := k0_le i; omega⟩ ⟨1280 + 1024 + z.val, by omega⟩) :=
  ld_win x1 _ _ _ _ (off_k8 i) r z _ _
theorem ldv_8 (r : Fin 256) (z : Fin 256) : lv8 i x1 (ix2 r z) = x1 (ix2 ⟨k0 i + r.val, by have := k0_le i; omega⟩ ⟨2560 + 1024 + z.val, by omega⟩) :=
  ld_win x1 _ _ _ _ (off_v8 i) r z _ _

/-- Which of the point's keys share the query row's window. -/
abbrev mkP : IVec S128x256 1 := k0_pay2 (F := Ideal) (View.ld x3 (Rect.unit (s := S8x1x256) (k0_off1 i) S1x1x256.size (k0_off1_inb i)))
  x2

/-! The sixteen heads, and what each gives. -/

abbrev o0 : FVec Ideal S128x256 .f32 := headH (BitVec.ofNat 32 0) (BitVec.ofNat 32 (0 + 80)) (mkP i x2 x3) (lq0 x0) (lk0 i x1) (lv0 i x1)
abbrev o1 : FVec Ideal S128x256 .f32 := headH (BitVec.ofNat 32 80) (BitVec.ofNat 32 (80 + 80)) (mkP i x2 x3) (lq0 x0) (lk0 i x1) (lv0 i x1)
abbrev o2 : FVec Ideal S128x256 .f32 := headH (BitVec.ofNat 32 32) (BitVec.ofNat 32 (32 + 80)) (mkP i x2 x3) (lq1 x0) (lk1 i x1) (lv1 i x1)
abbrev o3 : FVec Ideal S128x256 .f32 := headH (BitVec.ofNat 32 112) (BitVec.ofNat 32 (112 + 80)) (mkP i x2 x3) (lq1 x0) (lk1 i x1) (lv1 i x1)
abbrev o4 : FVec Ideal S128x256 .f32 := headH (BitVec.ofNat 32 64) (BitVec.ofNat 32 (64 + 80)) (mkP i x2 x3) (lq2 x0) (lk2 i x1) (lv2 i x1)
abbrev o5 : FVec Ideal S128x256 .f32 := headH (BitVec.ofNat 32 16) (BitVec.ofNat 32 (16 + 80)) (mkP i x2 x3) (lq3 x0) (lk3 i x1) (lv3 i x1)
abbrev o6 : FVec Ideal S128x256 .f32 := headH (BitVec.ofNat 32 96) (BitVec.ofNat 32 (96 + 80)) (mkP i x2 x3) (lq3 x0) (lk3 i x1) (lv3 i x1)
abbrev o7 : FVec Ideal S128x256 .f32 := headH (BitVec.ofNat 32 48) (BitVec.ofNat 32 (48 + 80)) (mkP i x2 x3) (lq4 x0) (lk4 i x1) (lv4 i x1)
abbrev o8 : FVec Ideal S128x256 .f32 := headH (BitVec.ofNat 32 0) (BitVec.ofNat 32 (0 + 80)) (mkP i x2 x3) (lq5 x0) (lk5 i x1) (lv5 i x1)
abbrev o9 : FVec Ideal S128x256 .f32 := headH (BitVec.ofNat 32 80) (BitVec.ofNat 32 (80 + 80)) (mkP i x2 x3) (lq5 x0) (lk5 i x1) (lv5 i x1)
abbrev o10 : FVec Ideal S128x256 .f32 := headH (BitVec.ofNat 32 32) (BitVec.ofNat 32 (32 + 80)) (mkP i x2 x3) (lq6 x0) (lk6 i x1) (lv6 i x1)
abbrev o11 : FVec Ideal S128x256 .f32 := headH (BitVec.ofNat 32 112) (BitVec.ofNat 32 (112 + 80)) (mkP i x2 x3) (lq6 x0) (lk6 i x1) (lv6 i x1)
abbrev o12 : FVec Ideal S128x256 .f32 := headH (BitVec.ofNat 32 64) (BitVec.ofNat 32 (64 + 80)) (mkP i x2 x3) (lq7 x0) (lk7 i x1) (lv7 i x1)
abbrev o13 : FVec Ideal S128x256 .f32 := headH (BitVec.ofNat 32 16) (BitVec.ofNat 32 (16 + 80)) (mkP i x2 x3) (lq8 x0) (lk8 i x1) (lv8 i x1)
abbrev o14 : FVec Ideal S128x256 .f32 := headH (BitVec.ofNat 32 96) (BitVec.ofNat 32 (96 + 80)) (mkP i x2 x3) (lq8 x0) (lk8 i x1) (lv8 i x1)
abbrev o15 : FVec Ideal S128x256 .f32 := headH (BitVec.ofNat 32 176) (BitVec.ofNat 32 (176 + 80)) (mkP i x2 x3) (lq8 x0) (lk8 i x1) (lv8 i x1)

theorem o0_blk (r : Fin 128) (z : Fin 256) (hz : 0 ≤ z.val ∧ z.val < 0 + 80) (j : Fin 1280) (hj : j.val = 0 + z.val) :
    o0 i x0 x1 x2 x3 (ix2 r z) = blkS i x0 x1 (mkP i x2 x3) r j :=
  head_blk i x0 x1 0 0 0 (by omega) (by omega) (by omega) _ _ _ (ldq_0 x0) (ldk_0 i x1) (ldv_0 i x1) _ r z hz j hj
theorem o1_blk (r : Fin 128) (z : Fin 256) (hz : 80 ≤ z.val ∧ z.val < 80 + 80) (j : Fin 1280) (hj : j.val = 0 + z.val) :
    o1 i x0 x1 x2 x3 (ix2 r z) = blkS i x0 x1 (mkP i x2 x3) r j :=
  head_blk i x0 x1 0 80 1 (by omega) (by omega) (by omega) _ _ _ (ldq_0 x0) (ldk_0 i x1) (ldv_0 i x1) _ r z hz j hj
theorem o2_blk (r : Fin 128) (z : Fin 256) (hz : 32 ≤ z.val ∧ z.val < 32 + 80) (j : Fin 1280) (hj : j.val = 128 + z.val) :
    o2 i x0 x1 x2 x3 (ix2 r z) = blkS i x0 x1 (mkP i x2 x3) r j :=
  head_blk i x0 x1 128 32 2 (by omega) (by omega) (by omega) _ _ _ (ldq_1 x0) (ldk_1 i x1) (ldv_1 i x1) _ r z hz j hj
theorem o3_blk (r : Fin 128) (z : Fin 256) (hz : 112 ≤ z.val ∧ z.val < 112 + 80) (j : Fin 1280) (hj : j.val = 128 + z.val) :
    o3 i x0 x1 x2 x3 (ix2 r z) = blkS i x0 x1 (mkP i x2 x3) r j :=
  head_blk i x0 x1 128 112 3 (by omega) (by omega) (by omega) _ _ _ (ldq_1 x0) (ldk_1 i x1) (ldv_1 i x1) _ r z hz j hj
theorem o4_blk (r : Fin 128) (z : Fin 256) (hz : 64 ≤ z.val ∧ z.val < 64 + 80) (j : Fin 1280) (hj : j.val = 256 + z.val) :
    o4 i x0 x1 x2 x3 (ix2 r z) = blkS i x0 x1 (mkP i x2 x3) r j :=
  head_blk i x0 x1 256 64 4 (by omega) (by omega) (by omega) _ _ _ (ldq_2 x0) (ldk_2 i x1) (ldv_2 i x1) _ r z hz j hj
theorem o5_blk (r : Fin 128) (z : Fin 256) (hz : 16 ≤ z.val ∧ z.val < 16 + 80) (j : Fin 1280) (hj : j.val = 384 + z.val) :
    o5 i x0 x1 x2 x3 (ix2 r z) = blkS i x0 x1 (mkP i x2 x3) r j :=
  head_blk i x0 x1 384 16 5 (by omega) (by omega) (by omega) _ _ _ (ldq_3 x0) (ldk_3 i x1) (ldv_3 i x1) _ r z hz j hj
theorem o6_blk (r : Fin 128) (z : Fin 256) (hz : 96 ≤ z.val ∧ z.val < 96 + 80) (j : Fin 1280) (hj : j.val = 384 + z.val) :
    o6 i x0 x1 x2 x3 (ix2 r z) = blkS i x0 x1 (mkP i x2 x3) r j :=
  head_blk i x0 x1 384 96 6 (by omega) (by omega) (by omega) _ _ _ (ldq_3 x0) (ldk_3 i x1) (ldv_3 i x1) _ r z hz j hj
theorem o7_blk (r : Fin 128) (z : Fin 256) (hz : 48 ≤ z.val ∧ z.val < 48 + 80) (j : Fin 1280) (hj : j.val = 512 + z.val) :
    o7 i x0 x1 x2 x3 (ix2 r z) = blkS i x0 x1 (mkP i x2 x3) r j :=
  head_blk i x0 x1 512 48 7 (by omega) (by omega) (by omega) _ _ _ (ldq_4 x0) (ldk_4 i x1) (ldv_4 i x1) _ r z hz j hj
theorem o8_blk (r : Fin 128) (z : Fin 256) (hz : 0 ≤ z.val ∧ z.val < 0 + 80) (j : Fin 1280) (hj : j.val = 640 + z.val) :
    o8 i x0 x1 x2 x3 (ix2 r z) = blkS i x0 x1 (mkP i x2 x3) r j :=
  head_blk i x0 x1 640 0 8 (by omega) (by omega) (by omega) _ _ _ (ldq_5 x0) (ldk_5 i x1) (ldv_5 i x1) _ r z hz j hj
theorem o9_blk (r : Fin 128) (z : Fin 256) (hz : 80 ≤ z.val ∧ z.val < 80 + 80) (j : Fin 1280) (hj : j.val = 640 + z.val) :
    o9 i x0 x1 x2 x3 (ix2 r z) = blkS i x0 x1 (mkP i x2 x3) r j :=
  head_blk i x0 x1 640 80 9 (by omega) (by omega) (by omega) _ _ _ (ldq_5 x0) (ldk_5 i x1) (ldv_5 i x1) _ r z hz j hj
theorem o10_blk (r : Fin 128) (z : Fin 256) (hz : 32 ≤ z.val ∧ z.val < 32 + 80) (j : Fin 1280) (hj : j.val = 768 + z.val) :
    o10 i x0 x1 x2 x3 (ix2 r z) = blkS i x0 x1 (mkP i x2 x3) r j :=
  head_blk i x0 x1 768 32 10 (by omega) (by omega) (by omega) _ _ _ (ldq_6 x0) (ldk_6 i x1) (ldv_6 i x1) _ r z hz j hj
theorem o11_blk (r : Fin 128) (z : Fin 256) (hz : 112 ≤ z.val ∧ z.val < 112 + 80) (j : Fin 1280) (hj : j.val = 768 + z.val) :
    o11 i x0 x1 x2 x3 (ix2 r z) = blkS i x0 x1 (mkP i x2 x3) r j :=
  head_blk i x0 x1 768 112 11 (by omega) (by omega) (by omega) _ _ _ (ldq_6 x0) (ldk_6 i x1) (ldv_6 i x1) _ r z hz j hj
theorem o12_blk (r : Fin 128) (z : Fin 256) (hz : 64 ≤ z.val ∧ z.val < 64 + 80) (j : Fin 1280) (hj : j.val = 896 + z.val) :
    o12 i x0 x1 x2 x3 (ix2 r z) = blkS i x0 x1 (mkP i x2 x3) r j :=
  head_blk i x0 x1 896 64 12 (by omega) (by omega) (by omega) _ _ _ (ldq_7 x0) (ldk_7 i x1) (ldv_7 i x1) _ r z hz j hj
theorem o13_blk (r : Fin 128) (z : Fin 256) (hz : 16 ≤ z.val ∧ z.val < 16 + 80) (j : Fin 1280) (hj : j.val = 1024 + z.val) :
    o13 i x0 x1 x2 x3 (ix2 r z) = blkS i x0 x1 (mkP i x2 x3) r j :=
  head_blk i x0 x1 1024 16 13 (by omega) (by omega) (by omega) _ _ _ (ldq_8 x0) (ldk_8 i x1) (ldv_8 i x1) _ r z hz j hj
theorem o14_blk (r : Fin 128) (z : Fin 256) (hz : 96 ≤ z.val ∧ z.val < 96 + 80) (j : Fin 1280) (hj : j.val = 1024 + z.val) :
    o14 i x0 x1 x2 x3 (ix2 r z) = blkS i x0 x1 (mkP i x2 x3) r j :=
  head_blk i x0 x1 1024 96 14 (by omega) (by omega) (by omega) _ _ _ (ldq_8 x0) (ldk_8 i x1) (ldv_8 i x1) _ r z hz j hj
theorem o15_blk (r : Fin 128) (z : Fin 256) (hz : 176 ≤ z.val ∧ z.val < 176 + 80) (j : Fin 1280) (hj : j.val = 1024 + z.val) :
    o15 i x0 x1 x2 x3 (ix2 r z) = blkS i x0 x1 (mkP i x2 x3) r j :=
  head_blk i x0 x1 1024 176 15 (by omega) (by omega) (by omega) _ _ _ (ldq_8 x0) (ldk_8 i x1) (ldv_8 i x1) _ r z hz j hj

/-! The ten tiles, over the heads that reach them. -/

abbrev T0 : FVec Ideal S128x128 .f32 := tileA (maskH (BitVec.ofNat 32 80) (BitVec.ofNat 32 (80 + 80))) (o1 i x0 x1 x2 x3) (tileA (maskH (BitVec.ofNat 32 0) (BitVec.ofNat 32 (0 + 80))) (o0 i x0 x1 x2 x3) tile0)
abbrev T1 : FVec Ideal S128x128 .f32 := tileA (maskH (BitVec.ofNat 32 112) (BitVec.ofNat 32 (112 + 80))) (o3 i x0 x1 x2 x3) (tileA (maskH (BitVec.ofNat 32 32) (BitVec.ofNat 32 (32 + 80))) (o2 i x0 x1 x2 x3) (tileB (maskH (BitVec.ofNat 32 80) (BitVec.ofNat 32 (80 + 80))) (o1 i x0 x1 x2 x3) (tileB (maskH (BitVec.ofNat 32 0) (BitVec.ofNat 32 (0 + 80))) (o0 i x0 x1 x2 x3) tile0)))
abbrev T2 : FVec Ideal S128x128 .f32 := tileA (maskH (BitVec.ofNat 32 64) (BitVec.ofNat 32 (64 + 80))) (o4 i x0 x1 x2 x3) (tileB (maskH (BitVec.ofNat 32 112) (BitVec.ofNat 32 (112 + 80))) (o3 i x0 x1 x2 x3) (tileB (maskH (BitVec.ofNat 32 32) (BitVec.ofNat 32 (32 + 80))) (o2 i x0 x1 x2 x3) tile0))
abbrev T3 : FVec Ideal S128x128 .f32 := tileA (maskH (BitVec.ofNat 32 96) (BitVec.ofNat 32 (96 + 80))) (o6 i x0 x1 x2 x3) (tileA (maskH (BitVec.ofNat 32 16) (BitVec.ofNat 32 (16 + 80))) (o5 i x0 x1 x2 x3) (tileB (maskH (BitVec.ofNat 32 64) (BitVec.ofNat 32 (64 + 80))) (o4 i x0 x1 x2 x3) tile0))
abbrev T4 : FVec Ideal S128x128 .f32 := tileA (maskH (BitVec.ofNat 32 48) (BitVec.ofNat 32 (48 + 80))) (o7 i x0 x1 x2 x3) (tileB (maskH (BitVec.ofNat 32 96) (BitVec.ofNat 32 (96 + 80))) (o6 i x0 x1 x2 x3) (tileB (maskH (BitVec.ofNat 32 16) (BitVec.ofNat 32 (16 + 80))) (o5 i x0 x1 x2 x3) tile0))
abbrev T5 : FVec Ideal S128x128 .f32 := tileA (maskH (BitVec.ofNat 32 80) (BitVec.ofNat 32 (80 + 80))) (o9 i x0 x1 x2 x3) (tileA (maskH (BitVec.ofNat 32 0) (BitVec.ofNat 32 (0 + 80))) (o8 i x0 x1 x2 x3) (tileB (maskH (BitVec.ofNat 32 48) (BitVec.ofNat 32 (48 + 80))) (o7 i x0 x1 x2 x3) tile0))
abbrev T6 : FVec Ideal S128x128 .f32 := tileA (maskH (BitVec.ofNat 32 112) (BitVec.ofNat 32 (112 + 80))) (o11 i x0 x1 x2 x3) (tileA (maskH (BitVec.ofNat 32 32) (BitVec.ofNat 32 (32 + 80))) (o10 i x0 x1 x2 x3) (tileB (maskH (BitVec.ofNat 32 80) (BitVec.ofNat 32 (80 + 80))) (o9 i x0 x1 x2 x3) (tileB (maskH (BitVec.ofNat 32 0) (BitVec.ofNat 32 (0 + 80))) (o8 i x0 x1 x2 x3) tile0)))
abbrev T7 : FVec Ideal S128x128 .f32 := tileA (maskH (BitVec.ofNat 32 64) (BitVec.ofNat 32 (64 + 80))) (o12 i x0 x1 x2 x3) (tileB (maskH (BitVec.ofNat 32 112) (BitVec.ofNat 32 (112 + 80))) (o11 i x0 x1 x2 x3) (tileB (maskH (BitVec.ofNat 32 32) (BitVec.ofNat 32 (32 + 80))) (o10 i x0 x1 x2 x3) tile0))
abbrev T8 : FVec Ideal S128x128 .f32 := tileA (maskH (BitVec.ofNat 32 176) (BitVec.ofNat 32 (176 + 80))) (o15 i x0 x1 x2 x3) (tileA (maskH (BitVec.ofNat 32 96) (BitVec.ofNat 32 (96 + 80))) (o14 i x0 x1 x2 x3) (tileA (maskH (BitVec.ofNat 32 16) (BitVec.ofNat 32 (16 + 80))) (o13 i x0 x1 x2 x3) (tileB (maskH (BitVec.ofNat 32 64) (BitVec.ofNat 32 (64 + 80))) (o12 i x0 x1 x2 x3) tile0)))
abbrev T9 : FVec Ideal S128x128 .f32 := tileB (maskH (BitVec.ofNat 32 176) (BitVec.ofNat 32 (176 + 80))) (o15 i x0 x1 x2 x3) (tileB (maskH (BitVec.ofNat 32 96) (BitVec.ofNat 32 (96 + 80))) (o14 i x0 x1 x2 x3) (tileB (maskH (BitVec.ofNat 32 16) (BitVec.ofNat 32 (16 + 80))) (o13 i x0 x1 x2 x3) tile0))

theorem T0_apply (r l : Fin 128) (j : Fin 1280) (hj : j.val = 0 + l.val) : T0 i x0 x1 x2 x3 (ix2 r l) = blkS i x0 x1 (mkP i x2 x3) r j := by
  unfold T0
  rw [tileA_apply 80 (by omega), tileA_apply 0 (by omega)]
  by_cases h0 : 80 ≤ l.val ∧ l.val < 80 + 80
  · rw [if_pos h0]
    exact o1_blk i x0 x1 x2 x3 r _ h0 j (by dsimp only; omega)
  rw [if_neg h0]
  by_cases h1 : 0 ≤ l.val ∧ l.val < 0 + 80
  · rw [if_pos h1]
    exact o0_blk i x0 x1 x2 x3 r _ h1 j (by dsimp only; omega)
  rw [if_neg h1]
  omega
theorem T1_apply (r l : Fin 128) (j : Fin 1280) (hj : j.val = 128 + l.val) : T1 i x0 x1 x2 x3 (ix2 r l) = blkS i x0 x1 (mkP i x2 x3) r j := by
  unfold T1
  rw [tileA_apply 112 (by omega), tileA_apply 32 (by omega), tileB_apply 80 (by omega), tileB_apply 0 (by omega)]
  by_cases h0 : 112 ≤ l.val ∧ l.val < 112 + 80
  · rw [if_pos h0]
    exact o3_blk i x0 x1 x2 x3 r _ h0 j (by dsimp only; omega)
  rw [if_neg h0]
  by_cases h1 : 32 ≤ l.val ∧ l.val < 32 + 80
  · rw [if_pos h1]
    exact o2_blk i x0 x1 x2 x3 r _ h1 j (by dsimp only; omega)
  rw [if_neg h1]
  by_cases h2 : 80 ≤ 128 + l.val ∧ 128 + l.val < 80 + 80
  · rw [if_pos h2]
    exact o1_blk i x0 x1 x2 x3 r _ h2 j (by dsimp only; omega)
  rw [if_neg h2]
  by_cases h3 : 0 ≤ 128 + l.val ∧ 128 + l.val < 0 + 80
  · rw [if_pos h3]
    exact o0_blk i x0 x1 x2 x3 r _ h3 j (by dsimp only; omega)
  rw [if_neg h3]
  omega
theorem T2_apply (r l : Fin 128) (j : Fin 1280) (hj : j.val = 256 + l.val) : T2 i x0 x1 x2 x3 (ix2 r l) = blkS i x0 x1 (mkP i x2 x3) r j := by
  unfold T2
  rw [tileA_apply 64 (by omega), tileB_apply 112 (by omega), tileB_apply 32 (by omega)]
  by_cases h0 : 64 ≤ l.val ∧ l.val < 64 + 80
  · rw [if_pos h0]
    exact o4_blk i x0 x1 x2 x3 r _ h0 j (by dsimp only; omega)
  rw [if_neg h0]
  by_cases h1 : 112 ≤ 128 + l.val ∧ 128 + l.val < 112 + 80
  · rw [if_pos h1]
    exact o3_blk i x0 x1 x2 x3 r _ h1 j (by dsimp only; omega)
  rw [if_neg h1]
  by_cases h2 : 32 ≤ 128 + l.val ∧ 128 + l.val < 32 + 80
  · rw [if_pos h2]
    exact o2_blk i x0 x1 x2 x3 r _ h2 j (by dsimp only; omega)
  rw [if_neg h2]
  omega
theorem T3_apply (r l : Fin 128) (j : Fin 1280) (hj : j.val = 384 + l.val) : T3 i x0 x1 x2 x3 (ix2 r l) = blkS i x0 x1 (mkP i x2 x3) r j := by
  unfold T3
  rw [tileA_apply 96 (by omega), tileA_apply 16 (by omega), tileB_apply 64 (by omega)]
  by_cases h0 : 96 ≤ l.val ∧ l.val < 96 + 80
  · rw [if_pos h0]
    exact o6_blk i x0 x1 x2 x3 r _ h0 j (by dsimp only; omega)
  rw [if_neg h0]
  by_cases h1 : 16 ≤ l.val ∧ l.val < 16 + 80
  · rw [if_pos h1]
    exact o5_blk i x0 x1 x2 x3 r _ h1 j (by dsimp only; omega)
  rw [if_neg h1]
  by_cases h2 : 64 ≤ 128 + l.val ∧ 128 + l.val < 64 + 80
  · rw [if_pos h2]
    exact o4_blk i x0 x1 x2 x3 r _ h2 j (by dsimp only; omega)
  rw [if_neg h2]
  omega
theorem T4_apply (r l : Fin 128) (j : Fin 1280) (hj : j.val = 512 + l.val) : T4 i x0 x1 x2 x3 (ix2 r l) = blkS i x0 x1 (mkP i x2 x3) r j := by
  unfold T4
  rw [tileA_apply 48 (by omega), tileB_apply 96 (by omega), tileB_apply 16 (by omega)]
  by_cases h0 : 48 ≤ l.val ∧ l.val < 48 + 80
  · rw [if_pos h0]
    exact o7_blk i x0 x1 x2 x3 r _ h0 j (by dsimp only; omega)
  rw [if_neg h0]
  by_cases h1 : 96 ≤ 128 + l.val ∧ 128 + l.val < 96 + 80
  · rw [if_pos h1]
    exact o6_blk i x0 x1 x2 x3 r _ h1 j (by dsimp only; omega)
  rw [if_neg h1]
  by_cases h2 : 16 ≤ 128 + l.val ∧ 128 + l.val < 16 + 80
  · rw [if_pos h2]
    exact o5_blk i x0 x1 x2 x3 r _ h2 j (by dsimp only; omega)
  rw [if_neg h2]
  omega
theorem T5_apply (r l : Fin 128) (j : Fin 1280) (hj : j.val = 640 + l.val) : T5 i x0 x1 x2 x3 (ix2 r l) = blkS i x0 x1 (mkP i x2 x3) r j := by
  unfold T5
  rw [tileA_apply 80 (by omega), tileA_apply 0 (by omega), tileB_apply 48 (by omega)]
  by_cases h0 : 80 ≤ l.val ∧ l.val < 80 + 80
  · rw [if_pos h0]
    exact o9_blk i x0 x1 x2 x3 r _ h0 j (by dsimp only; omega)
  rw [if_neg h0]
  by_cases h1 : 0 ≤ l.val ∧ l.val < 0 + 80
  · rw [if_pos h1]
    exact o8_blk i x0 x1 x2 x3 r _ h1 j (by dsimp only; omega)
  rw [if_neg h1]
  by_cases h2 : 48 ≤ 128 + l.val ∧ 128 + l.val < 48 + 80
  · rw [if_pos h2]
    exact o7_blk i x0 x1 x2 x3 r _ h2 j (by dsimp only; omega)
  rw [if_neg h2]
  omega
theorem T6_apply (r l : Fin 128) (j : Fin 1280) (hj : j.val = 768 + l.val) : T6 i x0 x1 x2 x3 (ix2 r l) = blkS i x0 x1 (mkP i x2 x3) r j := by
  unfold T6
  rw [tileA_apply 112 (by omega), tileA_apply 32 (by omega), tileB_apply 80 (by omega), tileB_apply 0 (by omega)]
  by_cases h0 : 112 ≤ l.val ∧ l.val < 112 + 80
  · rw [if_pos h0]
    exact o11_blk i x0 x1 x2 x3 r _ h0 j (by dsimp only; omega)
  rw [if_neg h0]
  by_cases h1 : 32 ≤ l.val ∧ l.val < 32 + 80
  · rw [if_pos h1]
    exact o10_blk i x0 x1 x2 x3 r _ h1 j (by dsimp only; omega)
  rw [if_neg h1]
  by_cases h2 : 80 ≤ 128 + l.val ∧ 128 + l.val < 80 + 80
  · rw [if_pos h2]
    exact o9_blk i x0 x1 x2 x3 r _ h2 j (by dsimp only; omega)
  rw [if_neg h2]
  by_cases h3 : 0 ≤ 128 + l.val ∧ 128 + l.val < 0 + 80
  · rw [if_pos h3]
    exact o8_blk i x0 x1 x2 x3 r _ h3 j (by dsimp only; omega)
  rw [if_neg h3]
  omega
theorem T7_apply (r l : Fin 128) (j : Fin 1280) (hj : j.val = 896 + l.val) : T7 i x0 x1 x2 x3 (ix2 r l) = blkS i x0 x1 (mkP i x2 x3) r j := by
  unfold T7
  rw [tileA_apply 64 (by omega), tileB_apply 112 (by omega), tileB_apply 32 (by omega)]
  by_cases h0 : 64 ≤ l.val ∧ l.val < 64 + 80
  · rw [if_pos h0]
    exact o12_blk i x0 x1 x2 x3 r _ h0 j (by dsimp only; omega)
  rw [if_neg h0]
  by_cases h1 : 112 ≤ 128 + l.val ∧ 128 + l.val < 112 + 80
  · rw [if_pos h1]
    exact o11_blk i x0 x1 x2 x3 r _ h1 j (by dsimp only; omega)
  rw [if_neg h1]
  by_cases h2 : 32 ≤ 128 + l.val ∧ 128 + l.val < 32 + 80
  · rw [if_pos h2]
    exact o10_blk i x0 x1 x2 x3 r _ h2 j (by dsimp only; omega)
  rw [if_neg h2]
  omega
theorem T8_apply (r l : Fin 128) (j : Fin 1280) (hj : j.val = 1024 + l.val) : T8 i x0 x1 x2 x3 (ix2 r l) = blkS i x0 x1 (mkP i x2 x3) r j := by
  unfold T8
  rw [tileA_apply 176 (by omega), tileA_apply 96 (by omega), tileA_apply 16 (by omega), tileB_apply 64 (by omega)]
  by_cases h0 : 176 ≤ l.val ∧ l.val < 176 + 80
  · rw [if_pos h0]
    exact o15_blk i x0 x1 x2 x3 r _ h0 j (by dsimp only; omega)
  rw [if_neg h0]
  by_cases h1 : 96 ≤ l.val ∧ l.val < 96 + 80
  · rw [if_pos h1]
    exact o14_blk i x0 x1 x2 x3 r _ h1 j (by dsimp only; omega)
  rw [if_neg h1]
  by_cases h2 : 16 ≤ l.val ∧ l.val < 16 + 80
  · rw [if_pos h2]
    exact o13_blk i x0 x1 x2 x3 r _ h2 j (by dsimp only; omega)
  rw [if_neg h2]
  by_cases h3 : 64 ≤ 128 + l.val ∧ 128 + l.val < 64 + 80
  · rw [if_pos h3]
    exact o12_blk i x0 x1 x2 x3 r _ h3 j (by dsimp only; omega)
  rw [if_neg h3]
  omega
theorem T9_apply (r l : Fin 128) (j : Fin 1280) (hj : j.val = 1152 + l.val) : T9 i x0 x1 x2 x3 (ix2 r l) = blkS i x0 x1 (mkP i x2 x3) r j := by
  unfold T9
  rw [tileB_apply 176 (by omega), tileB_apply 96 (by omega), tileB_apply 16 (by omega)]
  by_cases h0 : 176 ≤ 128 + l.val ∧ 128 + l.val < 176 + 80
  · rw [if_pos h0]
    exact o15_blk i x0 x1 x2 x3 r _ h0 j (by dsimp only; omega)
  rw [if_neg h0]
  by_cases h1 : 96 ≤ 128 + l.val ∧ 128 + l.val < 96 + 80
  · rw [if_pos h1]
    exact o14_blk i x0 x1 x2 x3 r _ h1 j (by dsimp only; omega)
  rw [if_neg h1]
  by_cases h2 : 16 ≤ 128 + l.val ∧ 128 + l.val < 16 + 80
  · rw [if_pos h2]
    exact o13_blk i x0 x1 x2 x3 r _ h2 j (by dsimp only; omega)
  rw [if_neg h2]
  omega

/-- The ten tiles side by side. -/
def joinT (t0 t1 t2 t3 t4 t5 t6 t7 t8 t9 : FVec Ideal S128x128 .f32) : FVec Ideal S128x1280 .f32 :=
  concatenate S128x1280 1 [⟨S128x128, t0⟩, ⟨S128x128, t1⟩, ⟨S128x128, t2⟩, ⟨S128x128, t3⟩, ⟨S128x128, t4⟩, ⟨S128x128, t5⟩, ⟨S128x128, t6⟩, ⟨S128x128, t7⟩, ⟨S128x128, t8⟩, ⟨S128x128, t9⟩]
    concatenates_S128x128_S128x128_S128x128_S128x128_S128x128_S128x128_S128x128_S128x128_S128x128_S128x128_S128x1280_d1

set_option maxHeartbeats 1000000 in
theorem join_apply (t0 t1 t2 t3 t4 t5 t6 t7 t8 t9 : FVec Ideal S128x128 .f32) (g : Fin 128 → Fin 1280 → EReal)
    (h0 : ∀ (r l : Fin 128) (j : Fin 1280), j.val = 0 + l.val → t0 (ix2 r l) = g r j)
    (h1 : ∀ (r l : Fin 128) (j : Fin 1280), j.val = 128 + l.val → t1 (ix2 r l) = g r j)
    (h2 : ∀ (r l : Fin 128) (j : Fin 1280), j.val = 256 + l.val → t2 (ix2 r l) = g r j)
    (h3 : ∀ (r l : Fin 128) (j : Fin 1280), j.val = 384 + l.val → t3 (ix2 r l) = g r j)
    (h4 : ∀ (r l : Fin 128) (j : Fin 1280), j.val = 512 + l.val → t4 (ix2 r l) = g r j)
    (h5 : ∀ (r l : Fin 128) (j : Fin 1280), j.val = 640 + l.val → t5 (ix2 r l) = g r j)
    (h6 : ∀ (r l : Fin 128) (j : Fin 1280), j.val = 768 + l.val → t6 (ix2 r l) = g r j)
    (h7 : ∀ (r l : Fin 128) (j : Fin 1280), j.val = 896 + l.val → t7 (ix2 r l) = g r j)
    (h8 : ∀ (r l : Fin 128) (j : Fin 1280), j.val = 1024 + l.val → t8 (ix2 r l) = g r j)
    (h9 : ∀ (r l : Fin 128) (j : Fin 1280), j.val = 1152 + l.val → t9 (ix2 r l) = g r j)
    (r : Fin 128) (j : Fin 1280) : joinT t0 t1 t2 t3 t4 t5 t6 t7 t8 t9 (ix2 r j) = g r j := by
  pointwise [joinT]
  by_cases c0 : j.val < 128
  · rw [dif_pos c0]
    exact h0 r _ j (by dsimp only; omega)
  rw [dif_neg c0]
  by_cases c1 : j.val - 128 < 128
  · rw [dif_pos c1]
    exact h1 r _ j (by dsimp only; omega)
  rw [dif_neg c1]
  by_cases c2 : j.val - 128 - 128 < 128
  · rw [dif_pos c2]
    exact h2 r _ j (by dsimp only; omega)
  rw [dif_neg c2]
  by_cases c3 : j.val - 128 - 128 - 128 < 128
  · rw [dif_pos c3]
    exact h3 r _ j (by dsimp only; omega)
  rw [dif_neg c3]
  by_cases c4 : j.val - 128 - 128 - 128 - 128 < 128
  · rw [dif_pos c4]
    exact h4 r _ j (by dsimp only; omega)
  rw [dif_neg c4]
  by_cases c5 : j.val - 128 - 128 - 128 - 128 - 128 < 128
  · rw [dif_pos c5]
    exact h5 r _ j (by dsimp only; omega)
  rw [dif_neg c5]
  by_cases c6 : j.val - 128 - 128 - 128 - 128 - 128 - 128 < 128
  · rw [dif_pos c6]
    exact h6 r _ j (by dsimp only; omega)
  rw [dif_neg c6]
  by_cases c7 : j.val - 128 - 128 - 128 - 128 - 128 - 128 - 128 < 128
  · rw [dif_pos c7]
    exact h7 r _ j (by dsimp only; omega)
  rw [dif_neg c7]
  by_cases c8 : j.val - 128 - 128 - 128 - 128 - 128 - 128 - 128 - 128 < 128
  · rw [dif_pos c8]
    exact h8 r _ j (by dsimp only; omega)
  rw [dif_neg c8]
  exact h9 r _ j (by dsimp only; omega)

/-- The attention a point computes, from its blocks. -/
def attnP : FVec Ideal S128x1280 .f32 := joinT (T0 i x0 x1 x2 x3) (T1 i x0 x1 x2 x3) (T2 i x0 x1 x2 x3) (T3 i x0 x1 x2 x3) (T4 i x0 x1 x2 x3) (T5 i x0 x1 x2 x3)
    (T6 i x0 x1 x2 x3) (T7 i x0 x1 x2 x3) (T8 i x0 x1 x2 x3) (T9 i x0 x1 x2 x3)

/-- Each of its entries is its head's. -/
theorem attnP_apply (r : Fin 128) (j : Fin 1280) : attnP i x0 x1 x2 x3 (ix2 r j) = blkS i x0 x1 (mkP i x2 x3) r j :=
  join_apply _ _ _ _ _ _ _ _ _ _ (fun r j => blkS i x0 x1 (mkP i x2 x3) r j) (T0_apply i x0 x1 x2 x3) (T1_apply i x0 x1 x2 x3) (T2_apply i x0 x1 x2 x3) (T3_apply i x0 x1 x2 x3) (T4_apply i x0 x1 x2 x3)
    (T5_apply i x0 x1 x2 x3) (T6_apply i x0 x1 x2 x3) (T7_apply i x0 x1 x2 x3) (T8_apply i x0 x1 x2 x3) (T9_apply i x0 x1 x2 x3) r j

end Cert.KernelWinIdeal.Pay
-- ==== Proof.WinVal.lean ====
/-
  What the window-attention kernel leaves in its two result arrays, block by block of 128 rows.
-/
module

public import proofs.«01_k».proof.Proof.WinTile
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)
namespace Cert.KernelWinIdeal.RefValue
open Cert.KernelWinIdeal Cert.KernelWinIdeal.Gen Cert.KernelWinIdeal.Pay
open Cert.WinMath

theorem joinT_congr {t0 t1 t2 t3 t4 t5 t6 t7 t8 t9 u0 u1 u2 u3 u4 u5 u6 u7 u8 u9 : FVec Ideal S128x128 .f32}
    (h0 : t0 = u0) (h1 : t1 = u1) (h2 : t2 = u2) (h3 : t3 = u3) (h4 : t4 = u4) (h5 : t5 = u5) (h6 : t6 = u6) (h7 : t7 = u7) (h8 : t8 = u8) (h9 : t9 = u9) :
    joinT t0 t1 t2 t3 t4 t5 t6 t7 t8 t9 = joinT u0 u1 u2 u3 u4 u5 u6 u7 u8 u9 := by
  rw [h0, h1, h2, h3, h4, h5, h6, h7, h8, h9]

set_option maxHeartbeats 1000000 in
theorem out5_eq (c : Dev nD) (t : Fin cfg0.N) (x0 : Vec Ideal S128x1280 .bf16) (x1 : Vec Ideal S1024x3840 .bf16) (x2 : Vec Ideal S128x1 .i32) (x3 : Vec Ideal S8x1x256 .i32) (x4 : Vec Ideal S1x1 .f32) (y : S128x1280.Idx) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4 y
      = attnP (grid0.coords t) x0 x1 x2 x3 y := by
  unfold out0_A_5 kernelRun0_A
  frame_out
  refine congrFun ?_ y
  unfold attnP
  unfold k0_pay91
  refine joinT_congr ?_ ?_ ?_ ?_ ?_ ?_ ?_ ?_ ?_ ?_
  · rfl
  · rfl
  · rfl
  · rfl
  · rfl
  · rfl
  · rfl
  · rfl
  · rfl
  · rfl

theorem out6_eq (c : Dev nD) (t : Fin cfg0.N) (x0 : Vec Ideal S128x1280 .bf16) (x1 : Vec Ideal S1024x3840 .bf16) (x2 : Vec Ideal S128x1 .i32) (x3 : Vec Ideal S8x1x256 .i32) (x4 : Vec Ideal S1x1 .f32) (y : S128x1280.Idx) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4 y
      = k0_pay1 (F := Ideal) (attnP (grid0.coords t) x0 x1 x2 x3) (k0_pay92 (F := Ideal) x4) y := by
  unfold out0_A_6 kernelRun0_A
  frame_out
  refine congrFun (congrArg (fun A => k0_pay1 (F := Ideal) A _) ?_) y
  unfold attnP
  unfold k0_pay91
  refine joinT_congr ?_ ?_ ?_ ?_ ?_ ?_ ?_ ?_ ?_ ?_ <;> rfl

/-- Which block of its array each window holds at grid point `t`: the queries, their windows and the results move down by
    128 rows a point, the rest is whole. -/
theorem idx : ∀ t : Fin cfg0.N, win0_0.index t = ![t.val, 0] ∧ win0_1.index t = ![0, 0] ∧ win0_2.index t = ![t.val, 0] ∧ win0_3.index t = ![0, 0, 0]
    ∧ win0_4.index t = ![0, 0] ∧ win0_5.index t = ![t.val, 0] ∧ win0_6.index t = ![t.val, 0] :=
  (by decide +kernel : ∀ t : Fin grid0.N, _)

theorem pt (t : Fin cfg0.N) : t.val < 8 := lt_of_lt_of_eq t.isLt (by decide +kernel)

theorem k0_eq : ∀ t : Fin cfg0.N, k0 (grid0.coords t) = min (128 * t.val - 64) 768 :=
  (by decide +kernel : ∀ t : Fin grid0.N, _)
theorem off1_eq : ∀ t : Fin cfg0.N, k0_off1 (grid0.coords t) = ![t.val, 0, 0] :=
  (by decide +kernel : ∀ t : Fin grid0.N, _)

variable (m : (ℓ : Loc nD τ sig) → Buf (Elt Ideal) ℓ)

/-- The window of each row: its place divided by sixty-four. -/
def wid (iv : IVec S1024 32) (r : Fin 1024) : BitVec 32 := IntOp.shrui .host (iv (ix1 r)) 6#32

theorem V20_at (c : Dev nD) (r : Fin 1024) : V m c main_v20 (ix2 r 0) = wid (m ((c : Thread nD τ).loc main_arg3)) r := by
  unfold V wid
  after_reads_at
theorem V21_at (c : Dev nD) : V m c main_v21 (ix2 0 0) = m ((c : Thread nD τ).loc main_arg4) (ix1 0) := by
  unfold V
  after_reads_at

set_option maxHeartbeats 1000000 in
theorem V19_at (c : Dev nD) (t : Fin 8) (n : Fin 256) :
    V m c main_v19 (ix3 t 0 n) = wid (m ((c : Thread nD τ).loc main_arg3)) ⟨min (128 * t.val - 64) 768 + n.val, by omega⟩ := by
  unfold V wid
  after_reads_simp
  match t with
  | ⟨0, _⟩ => pointwise; after_reads_simp; pointwise; exact congrArg (fun i => IntOp.shrui .host (m (c, Proc.tc.devRef main_arg3) (ix1 i)) 6#32) (Fin.ext (by dsimp only; omega))
  | ⟨1, _⟩ => pointwise; after_reads_simp; pointwise; exact congrArg (fun i => IntOp.shrui .host (m (c, Proc.tc.devRef main_arg3) (ix1 i)) 6#32) (Fin.ext (by dsimp only; omega))
  | ⟨2, _⟩ => pointwise; after_reads_simp; pointwise; exact congrArg (fun i => IntOp.shrui .host (m (c, Proc.tc.devRef main_arg3) (ix1 i)) 6#32) (Fin.ext (by dsimp only; omega))
  | ⟨3, _⟩ => pointwise; after_reads_simp; pointwise; exact congrArg (fun i => IntOp.shrui .host (m (c, Proc.tc.devRef main_arg3) (ix1 i)) 6#32) (Fin.ext (by dsimp only; omega))
  | ⟨4, _⟩ => pointwise; after_reads_simp; pointwise; exact congrArg (fun i => IntOp.shrui .host (m (c, Proc.tc.devRef main_arg3) (ix1 i)) 6#32) (Fin.ext (by dsimp only; omega))
  | ⟨5, _⟩ => pointwise; after_reads_simp; pointwise; exact congrArg (fun i => IntOp.shrui .host (m (c, Proc.tc.devRef main_arg3) (ix1 i)) 6#32) (Fin.ext (by dsimp only; omega))
  | ⟨6, _⟩ => pointwise; after_reads_simp; pointwise; exact congrArg (fun i => IntOp.shrui .host (m (c, Proc.tc.devRef main_arg3) (ix1 i)) 6#32) (Fin.ext (by dsimp only; omega))
  | ⟨7, _⟩ => pointwise; after_reads_simp; pointwise; exact congrArg (fun i => IntOp.shrui .host (m (c, Proc.tc.devRef main_arg3) (ix1 i)) 6#32) (Fin.ext (by dsimp only; omega))

set_option maxHeartbeats 400000 in
theorem b0 (c : Dev nD) (t : Fin cfg0.N) (r : Fin 128) (z : Fin 1280) :
    iblk m c 0 t (ix2 r z) = m ((c : Thread nD τ).loc main_arg0) (ix2 ⟨t.val * 128 + r.val, by have := pt t; omega⟩ ⟨z.val, by omega⟩) := by
  have := pt t
  blk_point [iblk, idx t]
theorem b1 (c : Dev nD) (t : Fin cfg0.N) (r : Fin 1024) (z : Fin 3840) :
    iblk m c 1 t (ix2 r z) = m ((c : Thread nD τ).loc main_arg0) (ix2 r z) := by
  have := pt t
  blk_point [iblk, idx t]
theorem b2 (c : Dev nD) (t : Fin cfg0.N) (r : Fin 128) :
    iblk m c 2 t (ix2 r 0) = wid (m ((c : Thread nD τ).loc main_arg3)) ⟨t.val * 128 + r.val, by have := pt t; omega⟩ := by
  have := pt t
  refine Eq.trans (b := V m c main_v20 (ix2 ⟨t.val * 128 + r.val, by have := pt t; omega⟩ 0)) ?_ (V20_at m c _)
  blk_point [iblk, idx t]
theorem b3 (c : Dev nD) (t : Fin cfg0.N) (u : Fin 8) (n : Fin 256) :
    iblk m c 3 t (ix3 u 0 n) = wid (m ((c : Thread nD τ).loc main_arg3)) ⟨min (128 * u.val - 64) 768 + n.val, by omega⟩ := by
  refine Eq.trans (b := V m c main_v19 (ix3 u 0 n)) ?_ (V19_at m c u n)
  blk_point [iblk, idx t]
theorem b4 (c : Dev nD) (t : Fin cfg0.N) :
    iblk m c 4 t (ix2 0 0) = m ((c : Thread nD τ).loc main_arg4) (ix1 0) := by
  refine Eq.trans (b := V m c main_v21 (ix2 0 0)) ?_ (V21_at m c)
  blk_point [iblk, idx t]

/-- Whether a query and a key lie in one window. -/
theorem mask_at (t : Fin cfg0.N) (x2 : Vec Ideal S128x1 .i32) (x3 : Vec Ideal S8x1x256 .i32) (r : Fin 128) (n : Fin 256) :
    mkP (grid0.coords t) x2 x3 (ix2 r n) = IntOp.cmpi .eq (x2 (ix2 r 0)) (x3 (ix3 ⟨t.val, pt t⟩ 0 n)) := by
  have key : ∀ (f : Fin 3 → Nat) (h : ∀ a, f a + S1x1x256.size a ≤ S8x1x256.size a) (hf : f = ![t.val, 0, 0]),
      k0_pay2 (F := Ideal) (View.ld x3 (Rect.unit (s := S8x1x256) f S1x1x256.size h)) x2 (ix2 r n)
        = IntOp.cmpi .eq (x2 (ix2 r 0)) (x3 (ix3 ⟨t.val, pt t⟩ 0 n)) := by
    intro f h hf
    subst hf
    have := pt t
    pointwise [k0_pay2]
  exact key _ _ (off1_eq t)

/-- One entry of the attention, over the 256 keys from `k` on. -/
def entry (x : FVec Ideal S1024x3840 .bf16) (iv : IVec S1024 32) (k : Nat) (hk : k ≤ 768) (R : Fin 1024) (j : Fin 1280) : EReal :=
  attnS (fun e => x (ix2 R ⟨j.val / 80 * 80 + e.val, by omega⟩))
    (fun (n : Fin 256) e => x (ix2 ⟨k + n.val, by omega⟩ ⟨1280 + j.val / 80 * 80 + e.val, by omega⟩))
    (fun n => x (ix2 ⟨k + n.val, by omega⟩ ⟨2560 + j.val, by omega⟩)) (fun n => IntOp.cmpi .eq (wid iv R) (wid iv ⟨k + n.val, by omega⟩))

/-- A point's attention is that, its rows those of the point's block. -/
theorem attn_at (c : Dev nD) (t : Fin cfg0.N) (r : Fin 128) (j : Fin 1280) :
    attnP (grid0.coords t) (iblk m c 0 t) (iblk m c 1 t) (iblk m c 2 t) (iblk m c 3 t) (ix2 r j)
      = entry (m ((c : Thread nD τ).loc main_arg0)) (m ((c : Thread nD τ).loc main_arg3)) (min (128 * t.val - 64) 768) (by omega)
          ⟨t.val * 128 + r.val, by have := pt t; omega⟩ j := by
  rw [attnP_apply]
  unfold blkS entry
  refine congr (congr (congr (congrArg attnS (funext fun e => ?_)) (funext fun n => funext fun e => ?_)) (funext fun n => ?_)) (funext fun n => ?_)
  · exact b0 m c t r _
  · exact (b1 m c t _ _).trans (congrArg (fun i => m ((c : Thread nD τ).loc main_arg0) (ix2 i _)) (Fin.ext (congrArg (· + n.val) (k0_eq t))))
  · exact (b1 m c t _ _).trans (congrArg (fun i => m ((c : Thread nD τ).loc main_arg0) (ix2 i _)) (Fin.ext (congrArg (· + n.val) (k0_eq t))))
  · rw [mask_at, b2, b3]

/-- A code, from its attention and its scale. -/
def code (a sa : EReal) : BitVec 8 :=
  FloatOps.fptosi (F := Ideal) (φ := .f32) 8 (min (Ideal.ofBits .f32 0x42FE0000#32) (max (Ideal.ofBits .f32 0xC2FE0000#32) (Ideal.liftRound Ideal.roundHalfEven (Ideal.div a sa))))

theorem codes_at (A : FVec Ideal S128x1280 .f32) (sa : Vec Ideal S1x1 .f32) (r : Fin 128) (j : Fin 1280) :
    k0_pay1 (F := Ideal) A (k0_pay92 (F := Ideal) sa) (ix2 r j) = code (A (ix2 r j)) (sa (ix2 0 0)) := by
  pointwise [k0_pay1, k0_pay92, code]

end Cert.KernelWinIdeal.RefValue
-- ==== Proof.RefWin.lean ====
/-
  What the reference of the window-attention call computes: its two results as functions of its arguments, and an entry of
  the attention in terms of one query row, and the keys and values of the sixty-four places of its window.
-/
module

public import proofs.«01_k».proof.Proof.Gen.ReferenceWinIdeal.Run
public import proofs.«01_k».proof.Proof.WinMath
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ReferenceWinIdeal.RefValue

open Cert.ReferenceWinIdeal Cert.ReferenceWinIdeal.Gen
open Cert.WinMath

variable (m : (ℓ : Loc nD τ sig) → Buf (Elt Ideal) ℓ)

/-- The rows of the windows as a gather takes them, a negative one counted from the end. -/
abbrev rowsW (wr : IVec S22x64 32) : IVec S22x64x1 32 :=
  broadcastInDim S22x64x1 ![0, 1] bcast_S22x64_S22x64x1_0_1
    (select (cmpi .slt wr (broadcastInDim S22x64 ![] bcast_S_S22x64 (constantI S_ 32 0#32)))
      (addi wr (broadcastInDim S22x64 ![] bcast_S_S22x64 (constantI S_ 32 1024#32))) wr)

/-- The rows gathered into their windows. -/
def gat (x : FVec Ideal S1024x3840 .bf16) (wr : IVec S22x64 32) : FVec Ideal S22x64x3x16x80 .bf16 :=
  Host.gather gather_S1024x3x16x80_S22x64x1_S22x64x3x16x80_234_0_n_n_0_2_131680
    (shapeCast S1024x3x16x80 x shapeCasts_S1024x3840_S1024x3x16x80) (rowsW wr)

/-- The windows' queries, -/
def gq (x : FVec Ideal S1024x3840 .bf16) (wr : IVec S22x64 32) : FVec Ideal S22x64x16x80 .bf16 :=
  shapeCast S22x64x16x80 (extractStridedSlice S22x64x1x16x80 ![0, 0, 0, 0, 0] (gat x wr) slices_S22x64x3x16x80_S22x64x1x16x80_0_0_0_0_0) shapeCasts_S22x64x1x16x80_S22x64x16x80
/-- keys, -/
def gk (x : FVec Ideal S1024x3840 .bf16) (wr : IVec S22x64 32) : FVec Ideal S22x64x16x80 .bf16 :=
  shapeCast S22x64x16x80 (extractStridedSlice S22x64x1x16x80 ![0, 0, 1, 0, 0] (gat x wr) slices_S22x64x3x16x80_S22x64x1x16x80_0_0_1_0_0) shapeCasts_S22x64x1x16x80_S22x64x16x80
/-- and values. -/
def gv (x : FVec Ideal S1024x3840 .bf16) (wr : IVec S22x64 32) : FVec Ideal S22x64x16x80 .bf16 :=
  shapeCast S22x64x16x80 (extractStridedSlice S22x64x1x16x80 ![0, 0, 2, 0, 0] (gat x wr) slices_S22x64x3x16x80_S22x64x1x16x80_0_0_2_0_0) shapeCasts_S22x64x1x16x80_S22x64x16x80

/-- The row a place of a window reads. -/
def rho (wr : IVec S22x64 32) (w : Fin 22) (s : Fin 64) : Fin 1024 := ⟨min (rowsW wr (ix3 w s 0)).toInt.toNat 1023, by omega⟩

section Gather
variable {α : Type}

/-- The gather of rows into windows, at an index. -/
theorem gather5 (x : S1024x3x16x80.Idx → α) (i : IVec S22x64x1 32) (w : Fin 22) (s : Fin 64) (z : Fin 3) (h : Fin 16) (d : Fin 80) :
    Host.gather gather_S1024x3x16x80_S22x64x1_S22x64x3x16x80_234_0_n_n_0_2_131680 x i (ix5 w s z h d)
      = x (ix4 ⟨min (i (ix3 w s 0)).toInt.toNat 1023, by omega⟩ z h d) := by
  unfold Host.gather
  congr 1
  funext a
  refine Fin.ext ?_
  have h01 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h01 with rfl | rfl | rfl | rfl
  · show gather_S1024x3x16x80_S22x64x1_S22x64x3x16x80_234_0_n_n_0_2_131680.start (ix5 w s z h d) i 0 + gather_S1024x3x16x80_S22x64x1_S22x64x3x16x80_234_0_n_n_0_2_131680.batchCoord (ix5 w s z h d) 0 + gather_S1024x3x16x80_S22x64x1_S22x64x3x16x80_234_0_n_n_0_2_131680.offCoord (ix5 w s z h d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 4) ∈ gather_S1024x3x16x80_S22x64x1_S22x64x3x16x80_234_0_n_n_0_2_131680.startIndexMap from List.mem_singleton.mpr rfl)]
    have hsi : gather_S1024x3x16x80_S22x64x1_S22x64x3x16x80_234_0_n_n_0_2_131680.siIdx (ix5 w s z h d) ⟨List.idxOf (0 : Fin 4) gather_S1024x3x16x80_S22x64x1_S22x64x3x16x80_234_0_n_n_0_2_131680.startIndexMap,
        List.idxOf_lt_length_iff.2 (List.mem_singleton.mpr rfl)⟩ = ix3 w s 0 := by
      funext b; refine Fin.ext ?_
      match b with
      | ⟨0, _⟩ => rfl
      | ⟨1, _⟩ => rfl
      | ⟨2, _⟩ => rfl
    rw [hsi]
    rfl
  · show gather_S1024x3x16x80_S22x64x1_S22x64x3x16x80_234_0_n_n_0_2_131680.start (ix5 w s z h d) i 1 + gather_S1024x3x16x80_S22x64x1_S22x64x3x16x80_234_0_n_n_0_2_131680.batchCoord (ix5 w s z h d) 1 + gather_S1024x3x16x80_S22x64x1_S22x64x3x16x80_234_0_n_n_0_2_131680.offCoord (ix5 w s z h d) 1 = _
    rw [GatherDims.batchCoord_eq_zero _ _ _ List.not_mem_nil]
    unfold GatherDims.start
    rw [dif_neg (show (1 : Fin 4) ∉ gather_S1024x3x16x80_S22x64x1_S22x64x3x16x80_234_0_n_n_0_2_131680.startIndexMap from fun h => absurd (List.mem_singleton.1 h) (by decide))]
    simp only [Nat.zero_add]
    unfold GatherDims.offCoord
    rw [dif_pos ((GatherDims.mem_sKept _ _).2 ⟨fun h => absurd (List.mem_singleton.1 h) (by decide), List.not_mem_nil⟩)]
    rfl
  · show gather_S1024x3x16x80_S22x64x1_S22x64x3x16x80_234_0_n_n_0_2_131680.start (ix5 w s z h d) i 2 + gather_S1024x3x16x80_S22x64x1_S22x64x3x16x80_234_0_n_n_0_2_131680.batchCoord (ix5 w s z h d) 2 + gather_S1024x3x16x80_S22x64x1_S22x64x3x16x80_234_0_n_n_0_2_131680.offCoord (ix5 w s z h d) 2 = _
    rw [GatherDims.batchCoord_eq_zero _ _ _ List.not_mem_nil]
    unfold GatherDims.start
    rw [dif_neg (show (2 : Fin 4) ∉ gather_S1024x3x16x80_S22x64x1_S22x64x3x16x80_234_0_n_n_0_2_131680.startIndexMap from fun h => absurd (List.mem_singleton.1 h) (by decide))]
    simp only [Nat.zero_add]
    unfold GatherDims.offCoord
    rw [dif_pos ((GatherDims.mem_sKept _ _).2 ⟨fun h => absurd (List.mem_singleton.1 h) (by decide), List.not_mem_nil⟩)]
    rfl
  · show gather_S1024x3x16x80_S22x64x1_S22x64x3x16x80_234_0_n_n_0_2_131680.start (ix5 w s z h d) i 3 + gather_S1024x3x16x80_S22x64x1_S22x64x3x16x80_234_0_n_n_0_2_131680.batchCoord (ix5 w s z h d) 3 + gather_S1024x3x16x80_S22x64x1_S22x64x3x16x80_234_0_n_n_0_2_131680.offCoord (ix5 w s z h d) 3 = _
    rw [GatherDims.batchCoord_eq_zero _ _ _ List.not_mem_nil]
    unfold GatherDims.start
    rw [dif_neg (show (3 : Fin 4) ∉ gather_S1024x3x16x80_S22x64x1_S22x64x3x16x80_234_0_n_n_0_2_131680.startIndexMap from fun h => absurd (List.mem_singleton.1 h) (by decide))]
    simp only [Nat.zero_add]
    unfold GatherDims.offCoord
    rw [dif_pos ((GatherDims.mem_sKept _ _).2 ⟨fun h => absurd (List.mem_singleton.1 h) (by decide), List.not_mem_nil⟩)]
    rfl

/-- The gather of rows out of the windows, at an index. -/
theorem gather2 (x : S1408x1280.Idx → α) (i : IVec S1024x1 32) (r : Fin 1024) (j : Fin 1280) :
    Host.gather gather_S1408x1280_S1024x1_S1024x1280_1_0_n_n_0_1_11280 x i (ix2 r j)
      = x (ix2 ⟨min (i (ix2 r 0)).toInt.toNat 1407, by omega⟩ j) := by
  unfold Host.gather
  congr 1
  funext a
  refine Fin.ext ?_
  have h01 : a = 0 ∨ a = 1 := by
    match a with
    | ⟨0, _⟩ => exact Or.inl rfl
    | ⟨1, _⟩ => exact Or.inr rfl
  rcases h01 with rfl | rfl
  · show gather_S1408x1280_S1024x1_S1024x1280_1_0_n_n_0_1_11280.start (ix2 r j) i 0 + gather_S1408x1280_S1024x1_S1024x1280_1_0_n_n_0_1_11280.batchCoord (ix2 r j) 0 + gather_S1408x1280_S1024x1_S1024x1280_1_0_n_n_0_1_11280.offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1408x1280_S1024x1_S1024x1280_1_0_n_n_0_1_11280.startIndexMap from List.mem_singleton.mpr rfl)]
    have hsi : gather_S1408x1280_S1024x1_S1024x1280_1_0_n_n_0_1_11280.siIdx (ix2 r j) ⟨List.idxOf (0 : Fin 2) gather_S1408x1280_S1024x1_S1024x1280_1_0_n_n_0_1_11280.startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  · show gather_S1408x1280_S1024x1_S1024x1280_1_0_n_n_0_1_11280.start (ix2 r j) i 1 + gather_S1408x1280_S1024x1_S1024x1280_1_0_n_n_0_1_11280.batchCoord (ix2 r j) 1 + gather_S1408x1280_S1024x1_S1024x1280_1_0_n_n_0_1_11280.offCoord (ix2 r j) 1 = _
    rw [GatherDims.batchCoord_eq_zero _ _ _ List.not_mem_nil]
    unfold GatherDims.start
    rw [dif_neg (show (1 : Fin 2) ∉ gather_S1408x1280_S1024x1_S1024x1280_1_0_n_n_0_1_11280.startIndexMap from fun h => absurd (List.mem_singleton.1 h) (by decide))]
    simp only [Nat.zero_add]
    unfold GatherDims.offCoord
    rw [dif_pos ((GatherDims.mem_sKept _ _).2 ⟨fun h => absurd (List.mem_singleton.1 h) (by decide), List.not_mem_nil⟩)]
    rfl
end Gather

theorem gat_apply (x : FVec Ideal S1024x3840 .bf16) (wr : IVec S22x64 32) (w : Fin 22) (s : Fin 64) (z : Fin 3) (h : Fin 16) (d : Fin 80) :
    gat x wr (ix5 w s z h d) = x (ix2 (rho wr w s) ⟨z.val * 1280 + h.val * 80 + d.val, by omega⟩) := by
  unfold gat
  rw [gather5]
  refine Eq.trans (b := shapeCast S1024x3x16x80 x shapeCasts_S1024x3840_S1024x3x16x80 (ix4 (rho wr w s) z h d)) rfl ?_
  generalize rho wr w s = r
  pointwise

theorem gq_apply (x : FVec Ideal S1024x3840 .bf16) (wr : IVec S22x64 32) (w : Fin 22) (s : Fin 64) (h : Fin 16) (d : Fin 80) :
    gq x wr (ix4 w s h d) = x (ix2 (rho wr w s) ⟨h.val * 80 + d.val, by omega⟩) := by
  refine Eq.trans (b := gat x wr (ix5 w s 0 h d)) ?_ ((gat_apply x wr w s 0 h d).trans (congrArg (fun z => x (ix2 _ z)) (Fin.ext (by simp))))
  unfold gq
  generalize gat x wr = g
  pointwise
theorem gk_apply (x : FVec Ideal S1024x3840 .bf16) (wr : IVec S22x64 32) (w : Fin 22) (s : Fin 64) (h : Fin 16) (d : Fin 80) :
    gk x wr (ix4 w s h d) = x (ix2 (rho wr w s) ⟨1280 + h.val * 80 + d.val, by omega⟩) := by
  refine Eq.trans (b := gat x wr (ix5 w s 1 h d)) ?_ ((gat_apply x wr w s 1 h d).trans (congrArg (fun z => x (ix2 _ z)) (Fin.ext (by simp))))
  unfold gk
  generalize gat x wr = g
  pointwise
theorem gv_apply (x : FVec Ideal S1024x3840 .bf16) (wr : IVec S22x64 32) (w : Fin 22) (s : Fin 64) (h : Fin 16) (d : Fin 80) :
    gv x wr (ix4 w s h d) = x (ix2 (rho wr w s) ⟨2560 + h.val * 80 + d.val, by omega⟩) := by
  refine Eq.trans (b := gat x wr (ix5 w s 2 h d)) ?_ ((gat_apply x wr w s 2 h d).trans (congrArg (fun z => x (ix2 _ z)) (Fin.ext (by simp))))
  unfold gv
  generalize gat x wr = g
  pointwise

/-- The windows' filled places as a column. -/
abbrev lenc (x : IVec S22 32) : IVec S22x1 32 := broadcastInDim S22x1 ![0] bcast_S22_S22x1_0 x

/-- One number as an array of one. -/
abbrev one (x : Vec Ideal S1 .f32) : Vec Ideal S1x1x1x1 .f32 := broadcastInDim S1x1x1x1 ![3] bcast_S1_S1x1x1x1_3 x

/-! Each input's one block is its whole array. -/

theorem idx : ∀ t : Fin cfg0.N, win0_0.index t = ![0, 0, 0, 0] ∧ win0_1.index t = ![0, 0, 0, 0] ∧ win0_2.index t = ![0, 0, 0, 0] ∧ win0_3.index t = ![0, 0]
    ∧ win0_4.index t = ![0, 0, 0, 0] ∧ win0_5.index t = ![0, 0, 0, 0] ∧ win0_6.index t = ![0, 0, 0, 0] :=
  (by decide +kernel : ∀ t : Fin grid0.N, _)

theorem V9 (c : Dev nD) : V m c main_v9 = gq (m ((c : Thread nD τ).loc main_arg0)) (m ((c : Thread nD τ).loc main_arg1)) := by
  unfold V V0
  simp only [hostOps0, List.flatten_cons, List.flatten_nil, List.append_nil, List.cons_append, List.nil_append]
  after_results <;> rfl
theorem V11 (c : Dev nD) : V m c main_v11 = gk (m ((c : Thread nD τ).loc main_arg0)) (m ((c : Thread nD τ).loc main_arg1)) := by
  unfold V V0
  simp only [hostOps0, List.flatten_cons, List.flatten_nil, List.append_nil, List.cons_append, List.nil_append]
  after_results <;> rfl
theorem V13 (c : Dev nD) : V m c main_v13 = gv (m ((c : Thread nD τ).loc main_arg0)) (m ((c : Thread nD τ).loc main_arg1)) := by
  unfold V V0
  simp only [hostOps0, List.flatten_cons, List.flatten_nil, List.append_nil, List.cons_append, List.nil_append]
  after_results <;> rfl
theorem V14 (c : Dev nD) : V m c main_v14 = lenc (m ((c : Thread nD τ).loc main_arg2)) := by
  unfold V V0
  simp only [hostOps0, List.flatten_cons, List.flatten_nil, List.append_nil, List.cons_append, List.nil_append]
  after_results <;> rfl
theorem V15 (c : Dev nD) : V m c main_v15 = one (m ((c : Thread nD τ).loc main_arg4)) := by
  unfold V V0
  simp only [hostOps0, List.flatten_cons, List.flatten_nil, List.append_nil, List.cons_append, List.nil_append]
  after_results <;> rfl

theorem ib0 (c : Dev nD) : iblk m c 0 t0_0 = gq (m ((c : Thread nD τ).loc main_arg0)) (m ((c : Thread nD τ).loc main_arg1)) := by
  refine Eq.trans (b := V m c main_v9) ?_ (V9 m c)
  funext y
  blk_point [iblk, idx t0_0]
theorem ib1 (c : Dev nD) : iblk m c 1 t0_0 = gk (m ((c : Thread nD τ).loc main_arg0)) (m ((c : Thread nD τ).loc main_arg1)) := by
  refine Eq.trans (b := V m c main_v11) ?_ (V11 m c)
  funext y
  blk_point [iblk, idx t0_0]
theorem ib2 (c : Dev nD) : iblk m c 2 t0_0 = gv (m ((c : Thread nD τ).loc main_arg0)) (m ((c : Thread nD τ).loc main_arg1)) := by
  refine Eq.trans (b := V m c main_v13) ?_ (V13 m c)
  funext y
  blk_point [iblk, idx t0_0]
theorem ib3 (c : Dev nD) : iblk m c 3 t0_0 = lenc (m ((c : Thread nD τ).loc main_arg2)) := by
  refine Eq.trans (b := V m c main_v14) ?_ (V14 m c)
  funext y
  blk_point [iblk, idx t0_0]
theorem ib4 (c : Dev nD) : iblk m c 4 t0_0 = one (m ((c : Thread nD τ).loc main_arg4)) := by
  refine Eq.trans (b := V m c main_v15) ?_ (V15 m c)
  funext y
  blk_point [iblk, idx t0_0]

/-- The scores of every window and head, masked, in units of one power of two. -/
def scoreR (q k : FVec Ideal S22x64x16x80 .bf16) (l : Vec Ideal S22x1 .i32) : FVec Ideal S22x16x64x64 .f32 :=
  select
    (broadcastTo S22x16x64x64 (shapeCast S22x1x1x64 (shapeCast S22x1x1x64 (cmpi .slt (iota .tc S22x64 32 [1] iota_S22x64_d1_w32)
      (broadcastTo S22x64 (shapeCast S22x1 l shapeCasts_S22x1_S22x1) broadcasts_S22x1_S22x64)) shapeCasts_S22x64_S22x1x1x64) shapeCasts_S22x1x1x64_S22x1x1x64)
      broadcasts_S22x1x1x64_S22x16x64x64)
    (mulf (mulf (matmul dot_S22x64x16x80_S22x64x16x80_S22x16x64x64_3_3_1_1_02_02 none
        (shapeCast S22x64x16x80 q shapeCasts_S22x64x16x80_S22x64x16x80) (shapeCast S22x64x16x80 k shapeCasts_S22x64x16x80_S22x64x16x80)
        (constant S22x16x64x64 .f32 0x00000000#32)) (broadcast S22x16x64x64 (Scalar.ofBits .f32 0x3DE4F92E#32)))
      (broadcast S22x16x64x64 (Scalar.ofBits .f32 0x3FB8AA3B#32)))
    (broadcast S22x16x64x64 (Scalar.ofBits .f32 0xFF800000#32))

/-- The powers of two the scores give, each score first lowered by its row's greatest, rounded up. -/
def probR (s : FVec Ideal S22x16x64x64 .f32) : FVec Ideal S22x16x64x64 .f32 :=
  exp2 (subf s (broadcastTo S22x16x64x64 (ceil (shapeCast S22x16x64x1
    (multiReduction .maximumf [3] S22x16x64 s 0xFF800000#32 reduces_S22x16x64x64_S22x16x64 (.inl rfl) rfl) shapeCasts_S22x16x64_S22x16x64x1))
    broadcasts_S22x16x64x1_S22x16x64x64))

/-- The powers' weighted sums of the values over their plain sums. -/
def outR (p : FVec Ideal S22x16x64x64 .f32) (v : FVec Ideal S22x64x16x80 .bf16) : FVec Ideal S22x16x64x80 .f32 :=
  divf (matmul dot_S22x16x64x64_S22x64x16x80_S22x16x64x80_3_1_2_3_01_02 none (truncf .bf16 p bitsLt_bf16_f32)
      (shapeCast S22x64x16x80 v shapeCasts_S22x64x16x80_S22x64x16x80) (constant S22x16x64x80 .f32 0x00000000#32))
    (broadcastTo S22x16x64x80 (shapeCast S22x16x64x1 (multiReduction .add [3] S22x16x64 p 0x00000000#32 reduces_S22x16x64x64_S22x16x64 (.inl rfl) rfl)
      shapeCasts_S22x16x64_S22x16x64x1) broadcasts_S22x16x64x1_S22x16x64x80)

theorem pay2_eq (q k : FVec Ideal S22x64x16x80 .bf16) (l : Vec Ideal S22x1 .i32) (v : FVec Ideal S22x64x16x80 .bf16) :
    k0_pay2 (F := Ideal) q k l v
      = transpose S22x64x16x80 [0, 2, 1, 3] (outR (probR (scoreR q k l)) v) transposes_S22x16x64x80_p0_2_1_3_S22x64x16x80 := rfl

variable (q k v : FVec Ideal S22x64x16x80 .bf16) (l : IVec S22 32) (s p : FVec Ideal S22x16x64x64 .f32)

/-- The index a row's reduction reads. -/
theorem lift_eq (w : Fin 22) (h : Fin 16) (r n : Fin 64) :
    (reduces_S22x16x64x64_S22x16x64.lift (ix3 w h r) n) = ix4 w h r n := by
  refine (funext fun a => ?_)
  match a with
  | ⟨0, _⟩ => rfl
  | ⟨1, _⟩ => rfl
  | ⟨2, _⟩ => rfl
  | ⟨3, _⟩ => rfl

/-- The greatest score of each row, as a reduction reads it, -/
theorem max_lift (w : Fin 22) (h : Fin 16) (r : Fin 64) :
    multiReduction (F := Ideal) .maximumf [3] S22x16x64 s 0xFF800000#32 reduces_S22x16x64x64_S22x16x64 (.inl rfl) rfl (ix3 w h r)
      = Finset.fold max (Ideal.ofBits .f32 4286578688#32) (s ∘ reduces_S22x16x64x64_S22x16x64.lift (ix3 w h r)) Finset.univ :=
  Idealize.ShloMosaic.Ideal.multiReduction_maximumf_single s _ reduces_S22x16x64x64_S22x16x64 (.inl rfl) rfl (ix3 w h r)

/-- and from the row's scores. -/
theorem max_apply (w : Fin 22) (h : Fin 16) (r : Fin 64) (f : Fin 64 → EReal) (hf : ∀ k, s (ix4 w h r k) = f k) :
    multiReduction (F := Ideal) .maximumf [3] S22x16x64 s 0xFF800000#32 reduces_S22x16x64x64_S22x16x64 (.inl rfl) rfl (ix3 w h r)
      = Finset.fold max (Ideal.ofBits .f32 4286578688#32) f Finset.univ := by
  rw [max_lift]
  have e : (s ∘ reduces_S22x16x64x64_S22x16x64.lift (ix3 w h r)) = f := funext fun k => (congrArg s (lift_eq w h r k)).trans (hf k)
  exact congrArg (fun f : Fin 64 → EReal => Finset.fold max (Ideal.ofBits .f32 4286578688#32) f Finset.univ) e

theorem exp_apply (w : Fin 22) (h : Fin 16) (r n : Fin 64) (M : FVec Ideal S22x16x64 .f32) :
    exp2 (subf s (broadcastTo S22x16x64x64 (ceil (shapeCast S22x16x64x1 M shapeCasts_S22x16x64_S22x16x64x1)) broadcasts_S22x16x64x1_S22x16x64x64)) (ix4 w h r n)
      = FloatOps.exp2 (F := Ideal) (φ := .f32) (s (ix4 w h r n) - Ideal.liftRound Int.ceil (M (ix3 w h r)) : EReal) := by
  pointwise

theorem prob_apply (w : Fin 22) (h : Fin 16) (r n : Fin 64) (f : Fin 64 → EReal) (hf : ∀ k, s (ix4 w h r k) = f k) :
    probR s (ix4 w h r n) = probS f n := by
  unfold probR probS
  rw [exp_apply, max_apply s w h r f hf, hf n]

theorem score_apply (w : Fin 22) (h : Fin 16) (r n : Fin 64) : scoreR q k (lenc l) (ix4 w h r n)
    = scS (IntOp.cmpi .slt (BitVec.ofNat 32 n.val) (l (ix1 w))) (∑ d : Fin 80, (q (ix4 w r h d) * k (ix4 w n h d) : EReal)) := by
  pointwise [scoreR, scS, lenc]

theorem out_apply (w : Fin 22) (h : Fin 16) (r : Fin 64) (d : Fin 80) :
    outR p v (ix4 w h r d) = outS (fun n => p (ix4 w h r n)) (fun n => v (ix4 w n h d)) := by
  pointwise [outR, outS]

/-- An entry of the windows' attention: component `d` of head `h` at place `r` of window `w`. -/
theorem pay2_apply (w : Fin 22) (h : Fin 16) (r : Fin 64) (d : Fin 80) :
    k0_pay2 (F := Ideal) q k (lenc l) v (ix4 w r h d)
      = attnS (fun e => q (ix4 w r h e)) (fun n e => k (ix4 w n h e)) (fun n => v (ix4 w n h d))
          (fun n : Fin 64 => IntOp.cmpi .slt (BitVec.ofNat 32 n.val) (l (ix1 w))) := by
  rw [pay2_eq]
  refine Eq.trans (b := outR (probR (scoreR q k (lenc l))) v (ix4 w h r d)) ?_ ?_
  · generalize outR (probR (scoreR q k (lenc l))) v = o
    pointwise
  rw [out_apply]
  unfold attnS
  exact congrArg (fun f => outS f _) (funext fun n => prob_apply _ w h r n _ fun n' => score_apply q k l w h r n')

/-- The windows' attention, -/
abbrev AttnW (x : FVec Ideal S1024x3840 .bf16) (wr : IVec S22x64 32) (l : IVec S22 32) : FVec Ideal S22x64x16x80 .f32 :=
  k0_pay2 (F := Ideal) (gq x wr) (gk x wr) (lenc l) (gv x wr)

/-- and the rows taken back out of an array of windows. -/
abbrev back {α : Type} (a : S22x64x16x80.Idx → α) (iv : IVec S1024 32) : S1024x1280.Idx → α :=
  Host.gather gather_S1408x1280_S1024x1_S1024x1280_1_0_n_n_0_1_11280 (shapeCast S1408x1280 a shapeCasts_S22x64x16x80_S1408x1280)
    (broadcastInDim S1024x1 ![0] bcast_S1024_S1024x1_0 (select (cmpi .slt iv (broadcastInDim S1024 ![] bcast_S_S1024 (constantI S_ 32 0#32)))
      (addi iv (broadcastInDim S1024 ![] bcast_S_S1024 (constantI S_ 32 1408#32))) iv))

/-- A row whose place is `64 w + s` is taken from there. -/
theorem back_apply {α : Type} (a : S22x64x16x80.Idx → α) (iv : IVec S1024 32) (R : Fin 1024) (w : Fin 22) (r : Fin 64) (h : Fin 16) (d : Fin 80) (j : Fin 1280)
    (hj : j.val = 80 * h.val + d.val) (hiv : iv (ix1 R) = BitVec.ofNat 32 (64 * w.val + r.val)) : back a iv (ix2 R j) = a (ix4 w r h d) := by
  unfold back
  rw [gather2]
  have e : (broadcastInDim S1024x1 ![0] bcast_S1024_S1024x1_0 (select (cmpi .slt iv (broadcastInDim S1024 ![] bcast_S_S1024 (constantI S_ 32 0#32)))
      (addi iv (broadcastInDim S1024 ![] bcast_S_S1024 (constantI S_ 32 1408#32))) iv)) (ix2 R 0) = BitVec.ofNat 32 (64 * w.val + r.val) := by
    refine Eq.trans (b := Scalar.select (IntOp.cmpi .slt (iv (ix1 R)) 0#32) (IntOp.addi (iv (ix1 R)) 1408#32) (iv (ix1 R))) ?_ ?_
    · pointwise
    rw [hiv]
    have hw := w.isLt
    have hr := r.isLt
    generalize hn : 64 * w.val + r.val = n
    have : n < 1408 := by omega
    have key : ∀ n : Fin 1408, Scalar.select (IntOp.cmpi .slt (BitVec.ofNat 32 n.val) 0#32) (IntOp.addi (BitVec.ofNat 32 n.val) 1408#32) (BitVec.ofNat 32 n.val) = BitVec.ofNat 32 n.val := by
      decide +kernel
    exact key ⟨n, this⟩
  have hw := w.isLt
  have hr := r.isLt
  have key : ∀ n : Fin 1408, (BitVec.ofNat 32 n.val).toInt.toNat = n.val := by decide +kernel
  have hk := key ⟨64 * w.val + r.val, by omega⟩
  dsimp only at hk
  refine Eq.trans (b := shapeCast S1408x1280 a shapeCasts_S22x64x16x80_S1408x1280 (ix2 ⟨64 * w.val + r.val, by omega⟩ j)) ?_ ?_
  · refine congrArg (fun z => shapeCast S1408x1280 a shapeCasts_S22x64x16x80_S1408x1280 (ix2 z j)) (Fin.ext ?_)
    show min (_ : BitVec 32).toInt.toNat 1407 = 64 * w.val + r.val
    rw [e, hk]
    omega
  · pointwise
    congr 1
    refine congr (congr (congr (congrArg ix4 ?_) ?_) ?_) ?_ <;> apply Fin.ext <;> simp <;> omega

theorem ld4 {e : EltTy} (x : Vec Ideal S22x64x16x80 e) : View.ld x r0_0 = x := by
  funext y
  pointwise [r0_0]
theorem ld2 (x : Vec Ideal S22x1 .i32) : View.ld x r0_1 = x := by
  funext y
  pointwise [r0_1]
  exact congrArg x ((eq_ix2 y).trans (congrArg (ix2 _) (Subsingleton.elim _ _))).symm
theorem pay3_eq (x0 x1 x2 : Vec Ideal S22x64x16x80 .bf16) (x3 : Vec Ideal S22x1 .i32) (x4 : Vec Ideal S1x1x1x1 .f32) :
    k0_pay3 (F := Ideal) x0 x1 x2 x3 x4 = k0_pay2 (F := Ideal) x0 x1 x3 x2 := by
  unfold k0_pay3
  rw [ld4 x0, ld4 x1, ld4 x2, ld2 x3]

/-- After the reference's run its region's first array is `AttnW` of the arguments, -/
theorem final5 (c : Dev nD) : Value.reg_main_v16_0 m c
    = AttnW (m ((c : Thread nD τ).loc main_arg0)) (m ((c : Thread nD τ).loc main_arg1)) (m ((c : Thread nD τ).loc main_arg2)) := by
  unfold Value.reg_main_v16_0
  refine (dats m 0 c).arrAt_eq_of_after_last 5 t0_0 (by decide +kernel) _ fun j => ?_
  blk_simp
  rw [after0_5]
  frame_out
  rw [ib0, ib1, ib2, ib3, pay3_eq]

/-- and its second the codes of that. -/
theorem final6 (c : Dev nD) : Value.reg_main_v16_1 m c
    = k0_pay1 (F := Ideal) (AttnW (m ((c : Thread nD τ).loc main_arg0)) (m ((c : Thread nD τ).loc main_arg1)) (m ((c : Thread nD τ).loc main_arg2)))
        (one (m ((c : Thread nD τ).loc main_arg4))) := by
  unfold Value.reg_main_v16_1
  refine (dats m 0 c).arrAt_eq_of_after_last 6 t0_0 (by decide +kernel) _ fun j => ?_
  blk_simp
  rw [after0_6]
  frame_out
  rw [ib0, ib1, ib2, ib3, ib4, pay3_eq]

end Cert.ReferenceWinIdeal.RefValue
-- ==== Proof.WinEq.lean ====
/-
  The window attention over the 256 keys around a block of rows, masked by window, is the attention of each window over
  its own tokens, when the windows are runs of whole rows as `windows` states.
-/
module

public import proofs.«01_k».proof.Proof.WinVal
public import proofs.«01_k».proof.Proof.RefWin
public import proofs.«01_k».proof.Pre_windows

@[expose] public section
set_option maxRecDepth 16384
noncomputable section
open Idealize.ShloMosaic
namespace Cert.WinEq
open Cert.WinMath
open Cert.KernelWinIdeal.RefValue (wid entry)
open Cert.ReferenceWinIdeal.RefValue (rowsW rho)

/-- Slot `s` of a window of `n` tokens is filled. -/
def filled (n : BitVec 32) (s : Fin 64) : Prop := IntOp.cmpi .slt (BitVec.ofNat 32 s.val) n = 1#1

theorem bits_of (a p l s W R W0 : BitVec 32)
    (h : IntOp.andi (IntOp.andi (IntOp.cmpi .eq (IntOp.cmpi .eq a p) (IntOp.andi (IntOp.cmpi .slt s l) (IntOp.cmpi .eq W R)))
          (IntOp.andi (IntOp.cmpi .sge a 0#32) (IntOp.cmpi .slt a 1408#32)))
        (IntOp.ori (~~~(IntOp.cmpi .slt s l)) (IntOp.andi (IntOp.andi (IntOp.cmpi .sge W 0#32) (IntOp.cmpi .slt W 1024#32)) (IntOp.cmpi .eq W (IntOp.addi W0 s)))) = 1#1) :
    (a = p ↔ (IntOp.cmpi .slt s l = 1#1 ∧ W = R)) ∧ (a.toNat < 1408) ∧ (IntOp.cmpi .slt s l = 1#1 → W.toNat < 1024 ∧ W = W0 + s) := by
  have e : ∀ x y : BitVec 32, (IntOp.cmpi .eq x y = 1#1) ↔ x = y := by
    intro x y
    show BitVec.ofBool (x == y) = 1#1 ↔ x = y
    by_cases hxy : x = y
    · simp [hxy]
    · rw [beq_false_of_ne hxy]
      exact ⟨fun h => absurd h (by decide), fun h => absurd h hxy⟩
  have e1 : ∀ x y : BitVec 1, (IntOp.cmpi .eq x y = 1#1) ↔ (x = 1#1 ↔ y = 1#1) := by decide +kernel
  have an : ∀ x y : BitVec 1, (IntOp.andi x y = 1#1) ↔ (x = 1#1 ∧ y = 1#1) := by decide +kernel
  have orr : ∀ x y : BitVec 1, (IntOp.ori (~~~x) y = 1#1) ↔ (x = 1#1 → y = 1#1) := by decide +kernel
  have rng : ∀ (x : BitVec 32) (n : Nat), n < 2 ^ 31 → IntOp.cmpi .sge x 0#32 = 1#1 → IntOp.cmpi .slt x (BitVec.ofNat 32 n) = 1#1 → x.toNat < n := by
    intro x n hn h0 h1
    have h0' : BitVec.ofBool ((0#32).sle x) = 1#1 := h0
    have h1' : BitVec.ofBool (x.slt (BitVec.ofNat 32 n)) = 1#1 := h1
    have g0 : (0#32).sle x = true := by
      cases hh : (0#32).sle x
      · rw [hh] at h0'; exact absurd h0' (by decide)
      · rfl
    have g1 : x.slt (BitVec.ofNat 32 n) = true := by
      cases hh : x.slt (BitVec.ofNat 32 n)
      · rw [hh] at h1'; exact absurd h1' (by decide)
      · rfl
    rw [BitVec.sle_iff_toInt_le] at g0
    rw [BitVec.slt_iff_toInt_lt] at g1
    have i0 : (0#32).toInt = 0 := by decide
    have i1 : (BitVec.ofNat 32 n).toInt = n := by
      rw [BitVec.toInt_eq_toNat_of_lt (by rw [BitVec.toNat_ofNat]; omega), BitVec.toNat_ofNat]; omega
    rw [i0] at g0
    rw [i1] at g1
    have := BitVec.toInt_eq_toNat_cond x
    split at this <;> omega
  rw [an, an, an, orr, an, an, e1, an, e, e, e] at h
  obtain ⟨⟨h1, h2, h3⟩, h4⟩ := h
  exact ⟨h1, rng a 1408 (by omega) h2 h3, fun hf => ⟨rng W 1024 (by omega) (h4 hf).1.1 (h4 hf).1.2, (h4 hf).2⟩⟩

/-- What `windows` says of a row, a window and a slot. -/
theorem unpack [Cert.Pre_windows.Facts] (x : FVec Ideal ⟨2, ![1024, 3840]⟩ .bf16) (wr : IVec ⟨2, ![22, 64]⟩ 32) (l : IVec ⟨1, ![22]⟩ 32) (iv : IVec ⟨1, ![1024]⟩ 32) (sa : FVec Ideal ⟨1, ![1]⟩ .f32)
    (h : Cert.Pre_windows.fn (F := Ideal) x wr l iv sa = fun _ => 1#1) (r : Fin 1024) (w : Fin 22) (s : Fin 64) :
    (iv (ix1 r) = BitVec.ofNat 32 (64 * w.val + s.val) ↔ (filled (l (ix1 w)) s ∧ wr (ix2 w s) = BitVec.ofNat 32 r.val))
      ∧ (iv (ix1 r)).toNat < 1408 ∧ (filled (l (ix1 w)) s → (wr (ix2 w s)).toNat < 1024 ∧ wr (ix2 w s) = wr (ix2 w 0) + BitVec.ofNat 32 s.val) := by
  have key := congrFun h (ix3 r w s)
  have e : Cert.Pre_windows.fn (F := Ideal) x wr l iv sa (ix3 r w s)
      = IntOp.andi (IntOp.andi (IntOp.cmpi .eq (IntOp.cmpi .eq (iv (ix1 r)) (IntOp.addi (IntOp.muli 64#32 (BitVec.ofNat 32 w.val)) (BitVec.ofNat 32 s.val)))
              (IntOp.andi (IntOp.cmpi .slt (BitVec.ofNat 32 s.val) (l (ix1 w))) (IntOp.cmpi .eq (wr (ix2 w s)) (BitVec.ofNat 32 r.val))))
          (IntOp.andi (IntOp.cmpi .sge (iv (ix1 r)) 0#32) (IntOp.cmpi .slt (iv (ix1 r)) 1408#32)))
        (IntOp.ori (~~~(IntOp.cmpi .slt (BitVec.ofNat 32 s.val) (l (ix1 w)))) (IntOp.andi (IntOp.andi (IntOp.cmpi .sge (wr (ix2 w s)) 0#32) (IntOp.cmpi .slt (wr (ix2 w s)) 1024#32)) (IntOp.cmpi .eq (wr (ix2 w s)) (IntOp.addi (wr (ix2 w 0)) (BitVec.ofNat 32 s.val))))) := by
    pointwise [Cert.Pre_windows.fn, Cert.Pre_windows.fn_part1, Cert.Pre_windows.fn_part2]
  have hb := bits_of _ _ _ _ _ _ _ (e.symm.trans key)
  have hp : IntOp.addi (IntOp.muli 64#32 (BitVec.ofNat 32 w.val)) (BitVec.ofNat 32 s.val) = BitVec.ofNat 32 (64 * w.val + s.val) := by
    show 64#32 * BitVec.ofNat 32 w.val + BitVec.ofNat 32 s.val = _
    apply BitVec.eq_of_toNat_eq
    simp only [BitVec.toNat_add, BitVec.toNat_mul, BitVec.toNat_ofNat]
    omega
  rw [hp] at hb
  exact hb

/-- The window of a row placed at `n`. -/
theorem wid_of (iv : IVec ⟨1, ![1024]⟩ 32) (r : Fin 1024) (n : Nat) (hn : n < 1408) (h : iv (ix1 r) = BitVec.ofNat 32 n) :
    wid iv r = BitVec.ofNat 32 (n / 64) := by
  have key : ∀ n : Fin 1408, IntOp.shrui .host (BitVec.ofNat 32 n.val) 6#32 = BitVec.ofNat 32 (n.val / 64) := by decide +kernel
  unfold wid
  rw [h]
  exact key ⟨n, hn⟩

/-- The row a slot reads, its row index a row. -/
theorem rho_of (wr : IVec ⟨2, ![22, 64]⟩ 32) (w : Fin 22) (s : Fin 64) (r : Fin 1024) (h : wr (ix2 w s) = BitVec.ofNat 32 r.val) : rho wr w s = r := by
  have e : rowsW wr (ix3 w s 0) = BitVec.ofNat 32 r.val := by
    have key : ∀ r : Fin 1024, Scalar.select (IntOp.cmpi .slt (BitVec.ofNat 32 r.val) 0#32) (IntOp.addi (BitVec.ofNat 32 r.val) 1024#32) (BitVec.ofNat 32 r.val) = BitVec.ofNat 32 r.val := by decide +kernel
    pointwise [rowsW]
    rw [h]
    exact key r
  have key : ∀ r : Fin 1024, min (BitVec.ofNat 32 r.val).toInt.toNat 1023 = r.val := by decide +kernel
  unfold rho
  refine Fin.ext ?_
  show min (rowsW wr (ix3 w s 0)).toInt.toNat 1023 = r.val
  rw [e]
  exact key r

theorem cmp_eq (x y : BitVec 32) : IntOp.cmpi .eq x y = 1#1 ↔ x = y := by
  show BitVec.ofBool (x == y) = 1#1 ↔ x = y
  by_cases hxy : x = y
  · simp [hxy]
  · rw [beq_false_of_ne hxy]
    exact ⟨fun h => absurd h (by decide), fun h => absurd h hxy⟩

theorem ofNat_inj (a b : Nat) (ha : a < 2 ^ 32) (hb : b < 2 ^ 32) (h : BitVec.ofNat 32 a = BitVec.ofNat 32 b) : a = b := by
  have := congrArg BitVec.toNat h
  simp only [BitVec.toNat_ofNat] at this
  omega

/-- One entry of the attention is the window's own. -/
theorem entry_eq [Cert.Pre_windows.Facts] (x : FVec Ideal ⟨2, ![1024, 3840]⟩ .bf16) (wr : IVec ⟨2, ![22, 64]⟩ 32) (l : IVec ⟨1, ![22]⟩ 32) (iv : IVec ⟨1, ![1024]⟩ 32) (sa : FVec Ideal ⟨1, ![1]⟩ .f32)
    (hp : Cert.Pre_windows.fn (F := Ideal) x wr l iv sa = fun _ => 1#1) (k : Nat) (hk : k ≤ 768) (t : Nat) (ht : t < 8) (hkt : k = min (128 * t - 64) 768) (R : Fin 1024) (hR : R.val / 128 = t)
    (w : Fin 22) (s0 : Fin 64) (hiv : iv (ix1 R) = BitVec.ofNat 32 (64 * w.val + s0.val)) (h : Fin 16) (d : Fin 80) (j : Fin 1280) (hj : j.val = 80 * h.val + d.val) :
    entry x iv k hk R j = Cert.ReferenceWinIdeal.RefValue.AttnW x wr l (ix4 w s0 h d) := by
  have U := unpack x wr l iv sa hp
  obtain ⟨f0, w0⟩ := (U R w s0).1.1 hiv
  have hd : j.val / 80 * 80 = h.val * 80 := by omega
  have row : ∀ s : Fin 64, filled (l (ix1 w)) s → ∃ p : Fin 1024, wr (ix2 w s) = BitVec.ofNat 32 p.val ∧ p.val + s0.val = R.val + s.val := by
    intro s fs
    obtain ⟨a1, a2⟩ := (U R w s).2.2 fs
    obtain ⟨b1, b2⟩ := (U R w s0).2.2 f0
    refine ⟨⟨_, a1⟩, BitVec.eq_of_toNat_eq (by simp), ?_⟩
    · have h1 := congrArg BitVec.toNat a2
      have h2 := congrArg BitVec.toNat b2
      have h3 := congrArg BitVec.toNat w0
      simp only [BitVec.toNat_add, BitVec.toNat_ofNat] at h1 h2 h3
      have := (wr (ix2 w 0)).isLt
      show (wr (ix2 w s)).toNat + s0.val = R.val + s.val
      omega
  have widR : wid iv R = BitVec.ofNat 32 w.val := by
    rw [wid_of iv R _ (by omega) hiv]
    congr 1
    omega
  unfold Cert.ReferenceWinIdeal.RefValue.AttnW
  rw [Cert.ReferenceWinIdeal.RefValue.pay2_apply]
  simp only [Cert.ReferenceWinIdeal.RefValue.gq_apply, Cert.ReferenceWinIdeal.RefValue.gk_apply, Cert.ReferenceWinIdeal.RefValue.gv_apply]
  rw [rho_of wr w s0 R w0]
  unfold entry
  have hq : (fun e : Fin 80 => x (ix2 R ⟨j.val / 80 * 80 + e.val, by omega⟩)) = fun e : Fin 80 => x (ix2 R ⟨h.val * 80 + e.val, by omega⟩) := by
    funext e
    exact congrArg (fun i => x (ix2 R i)) (Fin.ext (by dsimp only; omega))
  rw [hq]
  refine attn_kept _ _ _ _ _ _ _ (fun s : Fin 64 => (⟨min (R.val + s.val - s0.val - k) 255, by omega⟩ : Fin 256)) ?_ ?_ ?_
  · intro s s' fs fs' hss
    obtain ⟨p, p1, p2⟩ := row s fs
    obtain ⟨p', p1', p2'⟩ := row s' fs'
    have := congrArg Fin.val hss
    dsimp only at this
    refine Fin.ext ?_
    have := p.isLt
    have := p'.isLt
    omega
  · intro s fs
    obtain ⟨p, p1, p2⟩ := row s fs
    have hp' := p.isLt
    have hkp : k + min (R.val + s.val - s0.val - k) 255 = p.val := by omega
    have hrow : (⟨k + min (R.val + s.val - s0.val - k) 255, by omega⟩ : Fin 1024) = p := Fin.ext hkp
    have hip := (U p w s).1.2 ⟨fs, p1⟩
    have widp : wid iv p = BitVec.ofNat 32 w.val := by
      rw [wid_of iv p _ (by omega) hip]
      congr 1
      omega
    refine ⟨?_, ?_, ?_⟩
    · dsimp only
      rw [hrow, cmp_eq, widR, widp]
    · funext e
      dsimp only
      rw [hrow, rho_of wr w s p p1]
      exact congrArg (fun i => x (ix2 p i)) (Fin.ext (by dsimp only; omega))
    · dsimp only
      rw [hrow, rho_of wr w s p p1]
      exact congrArg (fun i => x (ix2 p i)) (Fin.ext (by dsimp only; omega))
  · intro n hn
    rw [cmp_eq, widR] at hn
    have q := (U ⟨k + n.val, by omega⟩ w s0).2.1
    have hiv' : iv (ix1 ⟨k + n.val, by omega⟩) = BitVec.ofNat 32 (iv (ix1 ⟨k + n.val, by omega⟩)).toNat := (BitVec.ofNat_toNat _ _ |>.trans (by simp)).symm
    rw [wid_of iv _ _ q hiv'] at hn
    have hw := ofNat_inj _ _ (by omega) (by omega) hn
    obtain ⟨g1, g2⟩ := (U ⟨k + n.val, by omega⟩ w ⟨(iv (ix1 ⟨k + n.val, by omega⟩)).toNat % 64, by omega⟩).1.1 (hiv'.trans (congrArg (BitVec.ofNat 32) (by dsimp only; omega)))
    refine ⟨⟨(iv (ix1 ⟨k + n.val, by omega⟩)).toNat % 64, by omega⟩, g1, ?_⟩
    obtain ⟨p, p1, p2⟩ := row _ g1
    have hpn := ofNat_inj _ _ (by omega) (by omega) (p1.symm.trans g2)
    refine Fin.ext ?_
    dsimp only at p2 hpn ⊢
    omega

open Cert.KernelWinIdeal Cert.KernelWinIdeal.Gen Cert.KernelWinIdeal.RefValue Idealize.ShloMosaic.TcCoe Idealize.SL.Sem
open Idealize.ShloMosaic.Pipeline (Dat)
open Cert.ReferenceWinIdeal.RefValue (AttnW back back_apply one)

variable [Cert.Pre_windows.Facts] (m : (ℓ : Loc nD τ sig) → Buf (Elt Ideal) ℓ)

/-- `windows` of the arguments. -/
abbrev Win (c : Dev nD) : Prop :=
  Cert.Pre_windows.fn (F := Ideal) (m ((c : Thread nD τ).loc main_arg0)) (m ((c : Thread nD τ).loc main_arg1)) (m ((c : Thread nD τ).loc main_arg2))
    (m ((c : Thread nD τ).loc main_arg3)) (m ((c : Thread nD τ).loc main_arg4)) = fun _ => 1#1

/-- The first result: each window's attention, its tokens put back in their rows. -/
def Res0 (c : Dev nD) : FVec Ideal S1024x1280 .f32 :=
  back (AttnW (m ((c : Thread nD τ).loc main_arg0)) (m ((c : Thread nD τ).loc main_arg1)) (m ((c : Thread nD τ).loc main_arg2))) (m ((c : Thread nD τ).loc main_arg3))
/-- The second result: its codes, their tokens put back in their rows. -/
def Res1 (c : Dev nD) : IVec S1024x1280 8 :=
  back (Cert.ReferenceWinIdeal.Gen.k0_pay1 (F := Ideal) (AttnW (m ((c : Thread nD τ).loc main_arg0)) (m ((c : Thread nD τ).loc main_arg1)) (m ((c : Thread nD τ).loc main_arg2)))
    (one (m ((c : Thread nD τ).loc main_arg4)))) (m ((c : Thread nD τ).loc main_arg3))

theorem res0_at (c : Dev nD) (hp : Win m c) (t : Fin cfg0.N) (r : Fin 128) (j : Fin 1280) :
    entry (m ((c : Thread nD τ).loc main_arg0)) (m ((c : Thread nD τ).loc main_arg3)) (min (128 * t.val - 64) 768) (by omega)
          ⟨t.val * 128 + r.val, by have := pt t; omega⟩ j = Res0 m c (ix2 ⟨t.val * 128 + r.val, by have := pt t; omega⟩ j) := by
  have := pt t
  generalize hR : (⟨t.val * 128 + r.val, by have := pt t; omega⟩ : Fin 1024) = R
  have hRv := congrArg Fin.val hR
  dsimp only at hRv
  have q := (unpack _ _ _ _ _ hp R 0 0).2.1
  generalize hn : ((m ((c : Thread nD τ).loc main_arg3) : IVec S1024 32) (ix1 R)).toNat = n at q
  have hiv : (m ((c : Thread nD τ).loc main_arg3) : IVec S1024 32) (ix1 R) = BitVec.ofNat 32 (64 * (⟨n / 64, by omega⟩ : Fin 22).val + (⟨n % 64, by omega⟩ : Fin 64).val) := by
    apply BitVec.eq_of_toNat_eq
    rw [hn, BitVec.toNat_ofNat]
    dsimp only
    omega
  have hj : j.val = 80 * (⟨j.val / 80, by omega⟩ : Fin 16).val + (⟨j.val % 80, by omega⟩ : Fin 80).val := by dsimp only; omega
  refine (entry_eq _ _ _ _ _ hp _ _ t.val (pt t) rfl R (by omega) _ _ hiv _ _ j hj).trans ?_
  exact (back_apply _ _ R _ _ _ _ j hj hiv).symm

theorem res1_at (c : Dev nD) (hp : Win m c) (R : Fin 1024) (j : Fin 1280) :
    Res1 m c (ix2 R j) = code (Res0 m c (ix2 R j)) ((m ((c : Thread nD τ).loc main_arg4)) (ix1 0)) := by
  have q := (unpack _ _ _ _ _ hp R 0 0).2.1
  generalize hn : ((m ((c : Thread nD τ).loc main_arg3) : IVec S1024 32) (ix1 R)).toNat = n at q
  have hiv : (m ((c : Thread nD τ).loc main_arg3) : IVec S1024 32) (ix1 R) = BitVec.ofNat 32 (64 * (⟨n / 64, by omega⟩ : Fin 22).val + (⟨n % 64, by omega⟩ : Fin 64).val) := by
    apply BitVec.eq_of_toNat_eq
    rw [hn, BitVec.toNat_ofNat]
    dsimp only
    omega
  have hj : j.val = 80 * (⟨j.val / 80, by omega⟩ : Fin 16).val + (⟨j.val % 80, by omega⟩ : Fin 80).val := by dsimp only; omega
  refine (back_apply _ _ R _ _ _ _ j hj hiv).trans ?_
  refine Eq.trans ?_ (congrArg (fun a => code a _) (back_apply _ _ R _ _ _ _ j hj hiv).symm)
  generalize AttnW (m ((c : Thread nD τ).loc main_arg0)) (m ((c : Thread nD τ).loc main_arg1)) (m ((c : Thread nD τ).loc main_arg2)) = A
  pointwise [Cert.ReferenceWinIdeal.Gen.k0_pay1, one, code]

theorem final5 (c : Dev nD) (hp : Win m c) : (dats m 0 c).arrAt 5 (cfgs 0).N = Res0 m c := by
  refine (dats m 0 c).arrAt_eq_of_covers 5 _ (by decide +kernel) fun t _ y => ?_
  blk_simp
  rw [after0_5]
  unfold outsAt0
  rw [show ∀ (a : Vec Ideal S128x1280 .f32) (b : Vec Ideal S128x1280 .i8), (a, b).1 = a from fun _ _ => rfl, out5_eq]
  obtain ⟨r, j, rfl⟩ : ∃ (r : Fin 128) (j : Fin 1280), y = ix2 r j := ⟨y 0, y 1, eq_ix2 y⟩
  rw [attn_at, res0_at m c hp t r j]
  have := pt t
  generalize Res0 m c = X
  blk_point [idx t]

theorem final6 (c : Dev nD) (hp : Win m c) : (dats m 0 c).arrAt 6 (cfgs 0).N = Res1 m c := by
  refine (dats m 0 c).arrAt_eq_of_covers 6 _ (by decide +kernel) fun t _ y => ?_
  blk_simp
  rw [after0_6]
  unfold outsAt0
  rw [show ∀ (a : Vec Ideal S128x1280 .f32) (b : Vec Ideal S128x1280 .i8), (a, b).2 = b from fun _ _ => rfl, out6_eq]
  obtain ⟨r, j, rfl⟩ : ∃ (r : Fin 128) (j : Fin 1280), y = ix2 r j := ⟨y 0, y 1, eq_ix2 y⟩
  rw [codes_at, attn_at, b4, res0_at m c hp t r j, ← res1_at m c hp]
  have := pt t
  generalize Res1 m c = X
  blk_point [idx t]

end Cert.WinEq
end
-- ==== Proof.ClaimWin.lean ====
module

public import proofs.«01_k».proof.Defs
public import proofs.«01_k».proof.Proof.Gen.KernelWinIdeal.Value
public import proofs.«01_k».proof.Proof.Gen.ReferenceWinIdeal.Run
public import proofs.«01_k».proof.Proof.WinEq

@[expose] public section

set_option maxRecDepth 16384

noncomputable section

open Idealize.ShloMosaic Idealize.ShloMosaic.TcCoe Idealize.SL.Sem

namespace Cert.ClaimWin

open Cert.WinEq (Res0 Res1)

theorem preFacts : Cert.Pre_windows.Facts := by constructor <;> decide

/-- The window-attention call and its reference, from equal arguments whose windows are as `windows` states, both run and
    end with equal results: the attention and the codes the output projection reads. -/
theorem algebraic : Cert.algebraic_KernelWinIdeal_ReferenceWinIdeal_pre_windows
    (hKernelWinIdeal := Cert.KernelWinIdeal.Gen.facts) (hReferenceWinIdeal := Cert.ReferenceWinIdeal.Gen.facts) (hPre_windows := preFacts) := by
  intro m g m' g' hp hargs
  have := preFacts
  refine ⟨fun c => Res0 m c, fun c => Res1 m c, ?_, ?_⟩
  · refine (θ_run Cert.KernelWinIdeal.defs _ _).mono ?_ (Cert.KernelWinIdeal.Value.run_blocks m g)
    intro r h c
    obtain ⟨h0, h1, h⟩ := h c
    exact ⟨h0.trans (Cert.WinEq.final5 m c (hp c)), h1.trans (Cert.WinEq.final6 m c (hp c)), h⟩
  · refine (θ_run Cert.ReferenceWinIdeal.defs _ _).mono ?_ (Cert.ReferenceWinIdeal.Value.run m' g')
    intro r h c
    obtain ⟨h0, h1, h⟩ := h c
    obtain ⟨a0, a1, a2, a3, a4⟩ := hargs c
    refine ⟨h0.trans ?_, h1.trans ?_, h⟩
    · rw [Cert.ReferenceWinIdeal.RefValue.final5, a0, a1, a2, a3]
      rfl
    · rw [Cert.ReferenceWinIdeal.RefValue.final6, a0, a1, a2, a3, a4]
      rfl

end Cert.ClaimWin
-- ==== Proof.lean ====
/- The certificate's claims, assembled: per call the three frames, the idealisation and the value claim. -/
module

public import proofs.«01_k».proof.Defs
public import proofs.«01_k».proof.Proof.ClaimO
public import proofs.«01_k».proof.Proof.Gen.KernelO.Frame
public import proofs.«01_k».proof.Proof.ClaimMlp
public import proofs.«01_k».proof.Proof.ClaimQkv
public import proofs.«01_k».proof.Proof.ClaimAttn
public import proofs.«01_k».proof.Proof.Gen.KernelAttn.Frame
public import proofs.«01_k».proof.Proof.ClaimWin
public import proofs.«01_k».proof.Proof.Gen.KernelWin.Frame
public import Idealize.ShloMosaic.Adequacy
public import Idealize.ShloMosaic.Init

@[expose] public section

noncomputable section

namespace Cert.Proof

open Idealize.ShloMosaic Idealize.SL.Sem

/-- Everything the certificate claims: for each call every run of kernel, idealised kernel and idealised reference ends
    with its arguments unchanged and its counters at zero, the idealised kernel is the kernel's own text, and kernel and
    reference end with equal results. -/
theorem claim : Cert.Claim := ⟨Cert.KernelO.Gen.facts, Cert.KernelOIdeal.Gen.facts, Cert.ReferenceOIdeal.Gen.facts, Cert.KernelMlp.Gen.facts, Cert.KernelMlpIdeal.Gen.facts, Cert.ReferenceMlpIdeal.Gen.facts, Cert.KernelQkv.Gen.facts, Cert.KernelQkvIdeal.Gen.facts, Cert.ReferenceQkvIdeal.Gen.facts, Cert.KernelAttn.Gen.facts, Cert.KernelAttnIdeal.Gen.facts, Cert.ReferenceAttnIdeal.Gen.facts, Cert.KernelWin.Gen.facts, Cert.KernelWinIdeal.Gen.facts, Cert.ReferenceWinIdeal.Gen.facts, Cert.ClaimWin.preFacts,
  fun m ρ _ => Cert.KernelO.Gen.frame m ρ, fun m ρ _ => Cert.KernelOIdeal.Gen.frame m ρ, fun m ρ _ => Cert.ReferenceOIdeal.Gen.frame m ρ,
  fun m ρ _ => Cert.KernelMlp.Body.frame m ρ, fun m ρ _ => Cert.KernelMlpIdeal.Body.frame m ρ, fun m ρ _ => Cert.ReferenceMlpIdeal.Gen.frame m ρ,
  fun m ρ _ => Cert.KernelQkv.Body.frame m ρ, fun m ρ _ => Cert.KernelQkvIdeal.Body.frame m ρ, fun m ρ _ => Cert.ReferenceQkvIdeal.Gen.frame m ρ,
  fun m ρ _ => Cert.KernelAttn.Gen.frame m ρ, fun m ρ _ => Cert.KernelAttnIdeal.Gen.frame m ρ, fun m ρ _ => Cert.ReferenceAttnIdeal.Gen.frame m ρ,
  fun m ρ _ => Cert.KernelWin.Gen.frame m ρ, fun m ρ _ => Cert.KernelWinIdeal.Gen.frame m ρ, fun m ρ _ => Cert.KernelWinIdeal.Gen.frame m ρ,
  fun m ρ _ => Cert.ReferenceWinIdeal.Gen.frame m ρ, fun m ρ _ => Cert.ReferenceWinIdeal.Gen.frame m ρ,
  trivial, Cert.ClaimO.algebraic, trivial, Cert.ClaimMlp.algebraic, trivial, Cert.ClaimQkv.algebraic, trivial, Cert.ClaimAttn.algebraic, trivial, Cert.ClaimWin.algebraic⟩

end Cert.Proof

end
